-- ==== Defs.lean ====
def Pre_ParamsKernel (m : (ℓ : Loc Cert.ParamsKernel.nD Cert.ParamsKernel.τ Cert.ParamsKernel.sig) → Buf (Elt Bits) ℓ) : Prop :=
  True

def Pre_ParamsKernelIdeal (m : (ℓ : Loc Cert.ParamsKernelIdeal.nD Cert.ParamsKernelIdeal.τ Cert.ParamsKernelIdeal.sig) → Buf (Elt Ideal) ℓ) : Prop :=
  True

def Pre_ParamsReferenceIdeal (m : (ℓ : Loc Cert.ParamsReferenceIdeal.nD Cert.ParamsReferenceIdeal.τ Cert.ParamsReferenceIdeal.sig) → Buf (Elt Ideal) ℓ) : Prop :=
  True

def Pre_S5Kernel (m : (ℓ : Loc Cert.S5Kernel.nD Cert.S5Kernel.τ Cert.S5Kernel.sig) → Buf (Elt Bits) ℓ) : Prop :=
  True

def Pre_S5KernelIdeal (m : (ℓ : Loc Cert.S5KernelIdeal.nD Cert.S5KernelIdeal.τ Cert.S5KernelIdeal.sig) → Buf (Elt Ideal) ℓ) : Prop :=
  True

def Pre_S5ReferenceIdeal (m : (ℓ : Loc Cert.S5ReferenceIdeal.nD Cert.S5ReferenceIdeal.τ Cert.S5ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnsKernel (m : (ℓ : Loc Cert.FfnsKernel.nD Cert.FfnsKernel.τ Cert.FfnsKernel.sig) → Buf (Elt Bits) ℓ) : Prop :=
  True

def Pre_FfnsKernelIdeal (m : (ℓ : Loc Cert.FfnsKernelIdeal.nD Cert.FfnsKernelIdeal.τ Cert.FfnsKernelIdeal.sig) → Buf (Elt Ideal) ℓ) : Prop :=
  True

def Pre_FfnsReferenceIdeal (m : (ℓ : Loc Cert.FfnsReferenceIdeal.nD Cert.FfnsReferenceIdeal.τ Cert.FfnsReferenceIdeal.sig) → Buf (Elt Ideal) ℓ) : Prop :=
  True

def Pre_MlapKernel (m : (ℓ : Loc Cert.MlapKernel.nD Cert.MlapKernel.τ Cert.MlapKernel.sig) → Buf (Elt Bits) ℓ) : Prop :=
  True

def Pre_MlapKernelIdeal (m : (ℓ : Loc Cert.MlapKernelIdeal.nD Cert.MlapKernelIdeal.τ Cert.MlapKernelIdeal.sig) → Buf (Elt Ideal) ℓ) : Prop :=
  True

def Pre_MlapReferenceIdeal (m : (ℓ : Loc Cert.MlapReferenceIdeal.nD Cert.MlapReferenceIdeal.τ Cert.MlapReferenceIdeal.sig) → Buf (Elt Ideal) ℓ) : Prop :=
  True

def Pre_MlasKernel (m : (ℓ : Loc Cert.MlasKernel.nD Cert.MlasKernel.τ Cert.MlasKernel.sig) → Buf (Elt Bits) ℓ) : Prop :=
  True

def Pre_MlasKernelIdeal (m : (ℓ : Loc Cert.MlasKernelIdeal.nD Cert.MlasKernelIdeal.τ Cert.MlasKernelIdeal.sig) → Buf (Elt Ideal) ℓ) : Prop :=
  True

def Pre_MlasReferenceIdeal (m : (ℓ : Loc Cert.MlasReferenceIdeal.nD Cert.MlasReferenceIdeal.τ Cert.MlasReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_MlaOutKernel (m : (ℓ : Loc Cert.MlaOutKernel.nD Cert.MlaOutKernel.τ Cert.MlaOutKernel.sig) → Buf (Elt Bits) ℓ) : Prop :=
  True

def Pre_MlaOutKernelIdeal (m : (ℓ : Loc Cert.MlaOutKernelIdeal.nD Cert.MlaOutKernelIdeal.τ Cert.MlaOutKernelIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def quiescent_ParamsKernel [hParamsKernel : Cert.ParamsKernel.Facts] : Prop :=
  ∀ (m : (ℓ : Loc Cert.ParamsKernel.nD Cert.ParamsKernel.τ Cert.ParamsKernel.sig) → Buf (Elt Bits) ℓ) (g : Dev Cert.ParamsKernel.nD → PrngReg), Pre_ParamsKernel m →
    θ_run (Cert.ParamsKernel.defs (F := Bits)) (onTc (τ := Cert.ParamsKernel.τ) (Cert.ParamsKernel.main (F := Bits))) ⟨m, fun _ => 0, g⟩ (fun r => (∀ c : Dev Cert.ParamsKernel.nD,
      r.2.mem ((c.tc : Thread Cert.ParamsKernel.nD Cert.ParamsKernel.τ).loc Cert.ParamsKernel.main_arg0) = m ((c.tc : Thread Cert.ParamsKernel.nD Cert.ParamsKernel.τ).loc Cert.ParamsKernel.main_arg0)
      ∧ r.2.mem ((c.tc : Thread Cert.ParamsKernel.nD Cert.ParamsKernel.τ).loc Cert.ParamsKernel.main_arg1) = m ((c.tc : Thread Cert.ParamsKernel.nD Cert.ParamsKernel.τ).loc Cert.ParamsKernel.main_arg1)
      ∧ r.2.mem ((c.tc : Thread Cert.ParamsKernel.nD Cert.ParamsKernel.τ).loc Cert.ParamsKernel.main_arg2) = m ((c.tc : Thread Cert.ParamsKernel.nD Cert.ParamsKernel.τ).loc Cert.ParamsKernel.main_arg2)
      ∧ r.2.mem ((c.tc : Thread Cert.ParamsKernel.nD Cert.ParamsKernel.τ).loc Cert.ParamsKernel.main_arg3) = m ((c.tc : Thread Cert.ParamsKernel.nD Cert.ParamsKernel.τ).loc Cert.ParamsKernel.main_arg3)
      ∧ r.2.mem ((c.tc : Thread Cert.ParamsKernel.nD Cert.ParamsKernel.τ).loc Cert.ParamsKernel.main_arg4) = m ((c.tc : Thread Cert.ParamsKernel.nD Cert.ParamsKernel.τ).loc Cert.ParamsKernel.main_arg4))
      ∧ r.2.sem = fun _ => 0)

def quiescent_ParamsKernelIdeal [hParamsKernelIdeal : Cert.ParamsKernelIdeal.Facts] : Prop :=
  ∀ (m : (ℓ : Loc Cert.ParamsKernelIdeal.nD Cert.ParamsKernelIdeal.τ Cert.ParamsKernelIdeal.sig) → Buf (Elt Ideal) ℓ) (g : Dev Cert.ParamsKernelIdeal.nD → PrngReg), Pre_ParamsKernelIdeal m →
    θ_run (Cert.ParamsKernelIdeal.defs (F := Ideal)) (onTc (τ := Cert.ParamsKernelIdeal.τ) (Cert.ParamsKernelIdeal.main (F := Ideal))) ⟨m, fun _ => 0, g⟩ (fun r => (∀ c : Dev Cert.ParamsKernelIdeal.nD,
      r.2.mem ((c.tc : Thread Cert.ParamsKernelIdeal.nD Cert.ParamsKernelIdeal.τ).loc Cert.ParamsKernelIdeal.main_arg0) = m ((c.tc : Thread Cert.ParamsKernelIdeal.nD Cert.ParamsKernelIdeal.τ).loc Cert.ParamsKernelIdeal.main_arg0)
      ∧ r.2.mem ((c.tc : Thread Cert.ParamsKernelIdeal.nD Cert.ParamsKernelIdeal.τ).loc Cert.ParamsKernelIdeal.main_arg1) = m ((c.tc : Thread Cert.ParamsKernelIdeal.nD Cert.ParamsKernelIdeal.τ).loc Cert.ParamsKernelIdeal.main_arg1)
      ∧ r.2.mem ((c.tc : Thread Cert.ParamsKernelIdeal.nD Cert.ParamsKernelIdeal.τ).loc Cert.ParamsKernelIdeal.main_arg2) = m ((c.tc : Thread Cert.ParamsKernelIdeal.nD Cert.ParamsKernelIdeal.τ).loc Cert.ParamsKernelIdeal.main_arg2)
      ∧ r.2.mem ((c.tc : Thread Cert.ParamsKernelIdeal.nD Cert.ParamsKernelIdeal.τ).loc Cert.ParamsKernelIdeal.main_arg3) = m ((c.tc : Thread Cert.ParamsKernelIdeal.nD Cert.ParamsKernelIdeal.τ).loc Cert.ParamsKernelIdeal.main_arg3)
      ∧ r.2.mem ((c.tc : Thread Cert.ParamsKernelIdeal.nD Cert.ParamsKernelIdeal.τ).loc Cert.ParamsKernelIdeal.main_arg4) = m ((c.tc : Thread Cert.ParamsKernelIdeal.nD Cert.ParamsKernelIdeal.τ).loc Cert.ParamsKernelIdeal.main_arg4))
      ∧ r.2.sem = fun _ => 0)

def quiescent_ParamsReferenceIdeal [hParamsReferenceIdeal : Cert.ParamsReferenceIdeal.Facts] : Prop :=
  ∀ (m : (ℓ : Loc Cert.ParamsReferenceIdeal.nD Cert.ParamsReferenceIdeal.τ Cert.ParamsReferenceIdeal.sig) → Buf (Elt Ideal) ℓ) (g : Dev Cert.ParamsReferenceIdeal.nD → PrngReg), Pre_ParamsReferenceIdeal m →
    θ_run (Cert.ParamsReferenceIdeal.defs (F := Ideal)) (onTc (τ := Cert.ParamsReferenceIdeal.τ) (Cert.ParamsReferenceIdeal.main (F := Ideal))) ⟨m, fun _ => 0, g⟩ (fun r => (∀ c : Dev Cert.ParamsReferenceIdeal.nD,
      r.2.mem ((c.tc : Thread Cert.ParamsReferenceIdeal.nD Cert.ParamsReferenceIdeal.τ).loc Cert.ParamsReferenceIdeal.main_arg0) = m ((c.tc : Thread Cert.ParamsReferenceIdeal.nD Cert.ParamsReferenceIdeal.τ).loc Cert.ParamsReferenceIdeal.main_arg0)
      ∧ r.2.mem ((c.tc : Thread Cert.ParamsReferenceIdeal.nD Cert.ParamsReferenceIdeal.τ).loc Cert.ParamsReferenceIdeal.main_arg1) = m ((c.tc : Thread Cert.ParamsReferenceIdeal.nD Cert.ParamsReferenceIdeal.τ).loc Cert.ParamsReferenceIdeal.main_arg1)
      ∧ r.2.mem ((c.tc : Thread Cert.ParamsReferenceIdeal.nD Cert.ParamsReferenceIdeal.τ).loc Cert.ParamsReferenceIdeal.main_arg2) = m ((c.tc : Thread Cert.ParamsReferenceIdeal.nD Cert.ParamsReferenceIdeal.τ).loc Cert.ParamsReferenceIdeal.main_arg2)
      ∧ r.2.mem ((c.tc : Thread Cert.ParamsReferenceIdeal.nD Cert.ParamsReferenceIdeal.τ).loc Cert.ParamsReferenceIdeal.main_arg3) = m ((c.tc : Thread Cert.ParamsReferenceIdeal.nD Cert.ParamsReferenceIdeal.τ).loc Cert.ParamsReferenceIdeal.main_arg3)
      ∧ r.2.mem ((c.tc : Thread Cert.ParamsReferenceIdeal.nD Cert.ParamsReferenceIdeal.τ).loc Cert.ParamsReferenceIdeal.main_arg4) = m ((c.tc : Thread Cert.ParamsReferenceIdeal.nD Cert.ParamsReferenceIdeal.τ).loc Cert.ParamsReferenceIdeal.main_arg4))
      ∧ r.2.sem = fun _ => 0)

def quiescent_S5Kernel [hS5Kernel : Cert.S5Kernel.Facts] : Prop :=
  ∀ (m : (ℓ : Loc Cert.S5Kernel.nD Cert.S5Kernel.τ Cert.S5Kernel.sig) → Buf (Elt Bits) ℓ) (g : Dev Cert.S5Kernel.nD → PrngReg), Pre_S5Kernel m →
    θ_run (Cert.S5Kernel.defs (F := Bits)) (onTc (τ := Cert.S5Kernel.τ) (Cert.S5Kernel.main (F := Bits))) ⟨m, fun _ => 0, g⟩ (fun r => (∀ c : Dev Cert.S5Kernel.nD,
      r.2.mem ((c.tc : Thread Cert.S5Kernel.nD Cert.S5Kernel.τ).loc Cert.S5Kernel.main_arg0) = m ((c.tc : Thread Cert.S5Kernel.nD Cert.S5Kernel.τ).loc Cert.S5Kernel.main_arg0)
      ∧ r.2.mem ((c.tc : Thread Cert.S5Kernel.nD Cert.S5Kernel.τ).loc Cert.S5Kernel.main_arg1) = m ((c.tc : Thread Cert.S5Kernel.nD Cert.S5Kernel.τ).loc Cert.S5Kernel.main_arg1)
      ∧ r.2.mem ((c.tc : Thread Cert.S5Kernel.nD Cert.S5Kernel.τ).loc Cert.S5Kernel.main_arg2) = m ((c.tc : Thread Cert.S5Kernel.nD Cert.S5Kernel.τ).loc Cert.S5Kernel.main_arg2)
      ∧ r.2.mem ((c.tc : Thread Cert.S5Kernel.nD Cert.S5Kernel.τ).loc Cert.S5Kernel.main_arg3) = m ((c.tc : Thread Cert.S5Kernel.nD Cert.S5Kernel.τ).loc Cert.S5Kernel.main_arg3)
      ∧ r.2.mem ((c.tc : Thread Cert.S5Kernel.nD Cert.S5Kernel.τ).loc Cert.S5Kernel.main_arg4) = m ((c.tc : Thread Cert.S5Kernel.nD Cert.S5Kernel.τ).loc Cert.S5Kernel.main_arg4)
      ∧ r.2.mem ((c.tc : Thread Cert.S5Kernel.nD Cert.S5Kernel.τ).loc Cert.S5Kernel.main_arg5) = m ((c.tc : Thread Cert.S5Kernel.nD Cert.S5Kernel.τ).loc Cert.S5Kernel.main_arg5)
      ∧ r.2.mem ((c.tc : Thread Cert.S5Kernel.nD Cert.S5Kernel.τ).loc Cert.S5Kernel.main_arg6) = m ((c.tc : Thread Cert.S5Kernel.nD Cert.S5Kernel.τ).loc Cert.S5Kernel.main_arg6)
      ∧ r.2.mem ((c.tc : Thread Cert.S5Kernel.nD Cert.S5Kernel.τ).loc Cert.S5Kernel.main_arg7) = m ((c.tc : Thread Cert.S5Kernel.nD Cert.S5Kernel.τ).loc Cert.S5Kernel.main_arg7)
      ∧ r.2.mem ((c.tc : Thread Cert.S5Kernel.nD Cert.S5Kernel.τ).loc Cert.S5Kernel.main_arg8) = m ((c.tc : Thread Cert.S5Kernel.nD Cert.S5Kernel.τ).loc Cert.S5Kernel.main_arg8)
      ∧ r.2.mem ((c.tc : Thread Cert.S5Kernel.nD Cert.S5Kernel.τ).loc Cert.S5Kernel.main_arg9) = m ((c.tc : Thread Cert.S5Kernel.nD Cert.S5Kernel.τ).loc Cert.S5Kernel.main_arg9))
      ∧ r.2.sem = fun _ => 0)

def quiescent_S5KernelIdeal [hS5KernelIdeal : Cert.S5KernelIdeal.Facts] : Prop :=
  ∀ (m : (ℓ : Loc Cert.S5KernelIdeal.nD Cert.S5KernelIdeal.τ Cert.S5KernelIdeal.sig) → Buf (Elt Ideal) ℓ) (g : Dev Cert.S5KernelIdeal.nD → PrngReg), Pre_S5KernelIdeal m →
    θ_run (Cert.S5KernelIdeal.defs (F := Ideal)) (onTc (τ := Cert.S5KernelIdeal.τ) (Cert.S5KernelIdeal.main (F := Ideal))) ⟨m, fun _ => 0, g⟩ (fun r => (∀ c : Dev Cert.S5KernelIdeal.nD,
      r.2.mem ((c.tc : Thread Cert.S5KernelIdeal.nD Cert.S5KernelIdeal.τ).loc Cert.S5KernelIdeal.main_arg0) = m ((c.tc : Thread Cert.S5KernelIdeal.nD Cert.S5KernelIdeal.τ).loc Cert.S5KernelIdeal.main_arg0)
      ∧ r.2.mem ((c.tc : Thread Cert.S5KernelIdeal.nD Cert.S5KernelIdeal.τ).loc Cert.S5KernelIdeal.main_arg1) = m ((c.tc : Thread Cert.S5KernelIdeal.nD Cert.S5KernelIdeal.τ).loc Cert.S5KernelIdeal.main_arg1)
      ∧ r.2.mem ((c.tc : Thread Cert.S5KernelIdeal.nD Cert.S5KernelIdeal.τ).loc Cert.S5KernelIdeal.main_arg2) = m ((c.tc : Thread Cert.S5KernelIdeal.nD Cert.S5KernelIdeal.τ).loc Cert.S5KernelIdeal.main_arg2)
      ∧ r.2.mem ((c.tc : Thread Cert.S5KernelIdeal.nD Cert.S5KernelIdeal.τ).loc Cert.S5KernelIdeal.main_arg3) = m ((c.tc : Thread Cert.S5KernelIdeal.nD Cert.S5KernelIdeal.τ).loc Cert.S5KernelIdeal.main_arg3)
      ∧ r.2.mem ((c.tc : Thread Cert.S5KernelIdeal.nD Cert.S5KernelIdeal.τ).loc Cert.S5KernelIdeal.main_arg4) = m ((c.tc : Thread Cert.S5KernelIdeal.nD Cert.S5KernelIdeal.τ).loc Cert.S5KernelIdeal.main_arg4)
      ∧ r.2.mem ((c.tc : Thread Cert.S5KernelIdeal.nD Cert.S5KernelIdeal.τ).loc Cert.S5KernelIdeal.main_arg5) = m ((c.tc : Thread Cert.S5KernelIdeal.nD Cert.S5KernelIdeal.τ).loc Cert.S5KernelIdeal.main_arg5)
      ∧ r.2.mem ((c.tc : Thread Cert.S5KernelIdeal.nD Cert.S5KernelIdeal.τ).loc Cert.S5KernelIdeal.main_arg6) = m ((c.tc : Thread Cert.S5KernelIdeal.nD Cert.S5KernelIdeal.τ).loc Cert.S5KernelIdeal.main_arg6)
      ∧ r.2.mem ((c.tc : Thread Cert.S5KernelIdeal.nD Cert.S5KernelIdeal.τ).loc Cert.S5KernelIdeal.main_arg7) = m ((c.tc : Thread Cert.S5KernelIdeal.nD Cert.S5KernelIdeal.τ).loc Cert.S5KernelIdeal.main_arg7)
      ∧ r.2.mem ((c.tc : Thread Cert.S5KernelIdeal.nD Cert.S5KernelIdeal.τ).loc Cert.S5KernelIdeal.main_arg8) = m ((c.tc : Thread Cert.S5KernelIdeal.nD Cert.S5KernelIdeal.τ).loc Cert.S5KernelIdeal.main_arg8)
      ∧ r.2.mem ((c.tc : Thread Cert.S5KernelIdeal.nD Cert.S5KernelIdeal.τ).loc Cert.S5KernelIdeal.main_arg9) = m ((c.tc : Thread Cert.S5KernelIdeal.nD Cert.S5KernelIdeal.τ).loc Cert.S5KernelIdeal.main_arg9))
      ∧ r.2.sem = fun _ => 0)

def quiescent_S5ReferenceIdeal [hS5ReferenceIdeal : Cert.S5ReferenceIdeal.Facts] : Prop :=
  ∀ (m : (ℓ : Loc Cert.S5ReferenceIdeal.nD Cert.S5ReferenceIdeal.τ Cert.S5ReferenceIdeal.sig) → Buf (Elt Ideal) ℓ) (g : Dev Cert.S5ReferenceIdeal.nD → PrngReg), Pre_S5ReferenceIdeal m →
    θ_run (Cert.S5ReferenceIdeal.defs (F := Ideal)) (onTc (τ := Cert.S5ReferenceIdeal.τ) (Cert.S5ReferenceIdeal.main (F := Ideal))) ⟨m, fun _ => 0, g⟩ (fun r => (∀ c : Dev Cert.S5ReferenceIdeal.nD,
      r.2.mem ((c.tc : Thread Cert.S5ReferenceIdeal.nD Cert.S5ReferenceIdeal.τ).loc Cert.S5ReferenceIdeal.main_arg0) = m ((c.tc : Thread Cert.S5ReferenceIdeal.nD Cert.S5ReferenceIdeal.τ).loc Cert.S5ReferenceIdeal.main_arg0)
      ∧ r.2.mem ((c.tc : Thread Cert.S5ReferenceIdeal.nD Cert.S5ReferenceIdeal.τ).loc Cert.S5ReferenceIdeal.main_arg1) = m ((c.tc : Thread Cert.S5ReferenceIdeal.nD Cert.S5ReferenceIdeal.τ).loc Cert.S5ReferenceIdeal.main_arg1)
      ∧ r.2.mem ((c.tc : Thread Cert.S5ReferenceIdeal.nD Cert.S5ReferenceIdeal.τ).loc Cert.S5ReferenceIdeal.main_arg2) = m ((c.tc : Thread Cert.S5ReferenceIdeal.nD Cert.S5ReferenceIdeal.τ).loc Cert.S5ReferenceIdeal.main_arg2)
      ∧ r.2.mem ((c.tc : Thread Cert.S5ReferenceIdeal.nD Cert.S5ReferenceIdeal.τ).loc Cert.S5ReferenceIdeal.main_arg3) = m ((c.tc : Thread Cert.S5ReferenceIdeal.nD Cert.S5ReferenceIdeal.τ).loc Cert.S5ReferenceIdeal.main_arg3)
      ∧ r.2.mem ((c.tc : Thread Cert.S5ReferenceIdeal.nD Cert.S5ReferenceIdeal.τ).loc Cert.S5ReferenceIdeal.main_arg4) = m ((c.tc : Thread Cert.S5ReferenceIdeal.nD Cert.S5ReferenceIdeal.τ).loc Cert.S5ReferenceIdeal.main_arg4)
      ∧ r.2.mem ((c.tc : Thread Cert.S5ReferenceIdeal.nD Cert.S5ReferenceIdeal.τ).loc Cert.S5ReferenceIdeal.main_arg5) = m ((c.tc : Thread Cert.S5ReferenceIdeal.nD Cert.S5ReferenceIdeal.τ).loc Cert.S5ReferenceIdeal.main_arg5)
      ∧ r.2.mem ((c.tc : Thread Cert.S5ReferenceIdeal.nD Cert.S5ReferenceIdeal.τ).loc Cert.S5ReferenceIdeal.main_arg6) = m ((c.tc : Thread Cert.S5ReferenceIdeal.nD Cert.S5ReferenceIdeal.τ).loc Cert.S5ReferenceIdeal.main_arg6)
      ∧ r.2.mem ((c.tc : Thread Cert.S5ReferenceIdeal.nD Cert.S5ReferenceIdeal.τ).loc Cert.S5ReferenceIdeal.main_arg7) = m ((c.tc : Thread Cert.S5ReferenceIdeal.nD Cert.S5ReferenceIdeal.τ).loc Cert.S5ReferenceIdeal.main_arg7)
      ∧ r.2.mem ((c.tc : Thread Cert.S5ReferenceIdeal.nD Cert.S5ReferenceIdeal.τ).loc Cert.S5ReferenceIdeal.main_arg8) = m ((c.tc : Thread Cert.S5ReferenceIdeal.nD Cert.S5ReferenceIdeal.τ).loc Cert.S5ReferenceIdeal.main_arg8)
      ∧ r.2.mem ((c.tc : Thread Cert.S5ReferenceIdeal.nD Cert.S5ReferenceIdeal.τ).loc Cert.S5ReferenceIdeal.main_arg9) = m ((c.tc : Thread Cert.S5ReferenceIdeal.nD Cert.S5ReferenceIdeal.τ).loc Cert.S5ReferenceIdeal.main_arg9))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnsKernel [hFfnsKernel : Cert.FfnsKernel.Facts] : Prop :=
  ∀ (m : (ℓ : Loc Cert.FfnsKernel.nD Cert.FfnsKernel.τ Cert.FfnsKernel.sig) → Buf (Elt Bits) ℓ) (g : Dev Cert.FfnsKernel.nD → PrngReg), Pre_FfnsKernel m →
    θ_run (Cert.FfnsKernel.defs (F := Bits)) (onTc (τ := Cert.FfnsKernel.τ) (Cert.FfnsKernel.main (F := Bits))) ⟨m, fun _ => 0, g⟩ (fun r => (∀ c : Dev Cert.FfnsKernel.nD,
      r.2.mem ((c.tc : Thread Cert.FfnsKernel.nD Cert.FfnsKernel.τ).loc Cert.FfnsKernel.main_arg0) = m ((c.tc : Thread Cert.FfnsKernel.nD Cert.FfnsKernel.τ).loc Cert.FfnsKernel.main_arg0)
      ∧ r.2.mem ((c.tc : Thread Cert.FfnsKernel.nD Cert.FfnsKernel.τ).loc Cert.FfnsKernel.main_arg1) = m ((c.tc : Thread Cert.FfnsKernel.nD Cert.FfnsKernel.τ).loc Cert.FfnsKernel.main_arg1)
      ∧ r.2.mem ((c.tc : Thread Cert.FfnsKernel.nD Cert.FfnsKernel.τ).loc Cert.FfnsKernel.main_arg2) = m ((c.tc : Thread Cert.FfnsKernel.nD Cert.FfnsKernel.τ).loc Cert.FfnsKernel.main_arg2)
      ∧ r.2.mem ((c.tc : Thread Cert.FfnsKernel.nD Cert.FfnsKernel.τ).loc Cert.FfnsKernel.main_arg3) = m ((c.tc : Thread Cert.FfnsKernel.nD Cert.FfnsKernel.τ).loc Cert.FfnsKernel.main_arg3)
      ∧ r.2.mem ((c.tc : Thread Cert.FfnsKernel.nD Cert.FfnsKernel.τ).loc Cert.FfnsKernel.main_arg4) = m ((c.tc : Thread Cert.FfnsKernel.nD Cert.FfnsKernel.τ).loc Cert.FfnsKernel.main_arg4)
      ∧ r.2.mem ((c.tc : Thread Cert.FfnsKernel.nD Cert.FfnsKernel.τ).loc Cert.FfnsKernel.main_arg5) = m ((c.tc : Thread Cert.FfnsKernel.nD Cert.FfnsKernel.τ).loc Cert.FfnsKernel.main_arg5)
      ∧ r.2.mem ((c.tc : Thread Cert.FfnsKernel.nD Cert.FfnsKernel.τ).loc Cert.FfnsKernel.main_arg6) = m ((c.tc : Thread Cert.FfnsKernel.nD Cert.FfnsKernel.τ).loc Cert.FfnsKernel.main_arg6)
      ∧ r.2.mem ((c.tc : Thread Cert.FfnsKernel.nD Cert.FfnsKernel.τ).loc Cert.FfnsKernel.main_arg7) = m ((c.tc : Thread Cert.FfnsKernel.nD Cert.FfnsKernel.τ).loc Cert.FfnsKernel.main_arg7)
      ∧ r.2.mem ((c.tc : Thread Cert.FfnsKernel.nD Cert.FfnsKernel.τ).loc Cert.FfnsKernel.main_arg8) = m ((c.tc : Thread Cert.FfnsKernel.nD Cert.FfnsKernel.τ).loc Cert.FfnsKernel.main_arg8))
      ∧ r.2.sem = fun _ => 0)

def quiescent_FfnsKernelIdeal [hFfnsKernelIdeal : Cert.FfnsKernelIdeal.Facts] : Prop :=
  ∀ (m : (ℓ : Loc Cert.FfnsKernelIdeal.nD Cert.FfnsKernelIdeal.τ Cert.FfnsKernelIdeal.sig) → Buf (Elt Ideal) ℓ) (g : Dev Cert.FfnsKernelIdeal.nD → PrngReg), Pre_FfnsKernelIdeal m →
    θ_run (Cert.FfnsKernelIdeal.defs (F := Ideal)) (onTc (τ := Cert.FfnsKernelIdeal.τ) (Cert.FfnsKernelIdeal.main (F := Ideal))) ⟨m, fun _ => 0, g⟩ (fun r => (∀ c : Dev Cert.FfnsKernelIdeal.nD,
      r.2.mem ((c.tc : Thread Cert.FfnsKernelIdeal.nD Cert.FfnsKernelIdeal.τ).loc Cert.FfnsKernelIdeal.main_arg0) = m ((c.tc : Thread Cert.FfnsKernelIdeal.nD Cert.FfnsKernelIdeal.τ).loc Cert.FfnsKernelIdeal.main_arg0)
      ∧ r.2.mem ((c.tc : Thread Cert.FfnsKernelIdeal.nD Cert.FfnsKernelIdeal.τ).loc Cert.FfnsKernelIdeal.main_arg1) = m ((c.tc : Thread Cert.FfnsKernelIdeal.nD Cert.FfnsKernelIdeal.τ).loc Cert.FfnsKernelIdeal.main_arg1)
      ∧ r.2.mem ((c.tc : Thread Cert.FfnsKernelIdeal.nD Cert.FfnsKernelIdeal.τ).loc Cert.FfnsKernelIdeal.main_arg2) = m ((c.tc : Thread Cert.FfnsKernelIdeal.nD Cert.FfnsKernelIdeal.τ).loc Cert.FfnsKernelIdeal.main_arg2)
      ∧ r.2.mem ((c.tc : Thread Cert.FfnsKernelIdeal.nD Cert.FfnsKernelIdeal.τ).loc Cert.FfnsKernelIdeal.main_arg3) = m ((c.tc : Thread Cert.FfnsKernelIdeal.nD Cert.FfnsKernelIdeal.τ).loc Cert.FfnsKernelIdeal.main_arg3)
      ∧ r.2.mem ((c.tc : Thread Cert.FfnsKernelIdeal.nD Cert.FfnsKernelIdeal.τ).loc Cert.FfnsKernelIdeal.main_arg4) = m ((c.tc : Thread Cert.FfnsKernelIdeal.nD Cert.FfnsKernelIdeal.τ).loc Cert.FfnsKernelIdeal.main_arg4)
      ∧ r.2.mem ((c.tc : Thread Cert.FfnsKernelIdeal.nD Cert.FfnsKernelIdeal.τ).loc Cert.FfnsKernelIdeal.main_arg5) = m ((c.tc : Thread Cert.FfnsKernelIdeal.nD Cert.FfnsKernelIdeal.τ).loc Cert.FfnsKernelIdeal.main_arg5)
      ∧ r.2.mem ((c.tc : Thread Cert.FfnsKernelIdeal.nD Cert.FfnsKernelIdeal.τ).loc Cert.FfnsKernelIdeal.main_arg6) = m ((c.tc : Thread Cert.FfnsKernelIdeal.nD Cert.FfnsKernelIdeal.τ).loc Cert.FfnsKernelIdeal.main_arg6)
      ∧ r.2.mem ((c.tc : Thread Cert.FfnsKernelIdeal.nD Cert.FfnsKernelIdeal.τ).loc Cert.FfnsKernelIdeal.main_arg7) = m ((c.tc : Thread Cert.FfnsKernelIdeal.nD Cert.FfnsKernelIdeal.τ).loc Cert.FfnsKernelIdeal.main_arg7)
      ∧ r.2.mem ((c.tc : Thread Cert.FfnsKernelIdeal.nD Cert.FfnsKernelIdeal.τ).loc Cert.FfnsKernelIdeal.main_arg8) = m ((c.tc : Thread Cert.FfnsKernelIdeal.nD Cert.FfnsKernelIdeal.τ).loc Cert.FfnsKernelIdeal.main_arg8))
      ∧ r.2.sem = fun _ => 0)

def quiescent_FfnsReferenceIdeal [hFfnsReferenceIdeal : Cert.FfnsReferenceIdeal.Facts] : Prop :=
  ∀ (m : (ℓ : Loc Cert.FfnsReferenceIdeal.nD Cert.FfnsReferenceIdeal.τ Cert.FfnsReferenceIdeal.sig) → Buf (Elt Ideal) ℓ) (g : Dev Cert.FfnsReferenceIdeal.nD → PrngReg), Pre_FfnsReferenceIdeal m →
    θ_run (Cert.FfnsReferenceIdeal.defs (F := Ideal)) (onTc (τ := Cert.FfnsReferenceIdeal.τ) (Cert.FfnsReferenceIdeal.main (F := Ideal))) ⟨m, fun _ => 0, g⟩ (fun r => (∀ c : Dev Cert.FfnsReferenceIdeal.nD,
      r.2.mem ((c.tc : Thread Cert.FfnsReferenceIdeal.nD Cert.FfnsReferenceIdeal.τ).loc Cert.FfnsReferenceIdeal.main_arg0) = m ((c.tc : Thread Cert.FfnsReferenceIdeal.nD Cert.FfnsReferenceIdeal.τ).loc Cert.FfnsReferenceIdeal.main_arg0)
      ∧ r.2.mem ((c.tc : Thread Cert.FfnsReferenceIdeal.nD Cert.FfnsReferenceIdeal.τ).loc Cert.FfnsReferenceIdeal.main_arg1) = m ((c.tc : Thread Cert.FfnsReferenceIdeal.nD Cert.FfnsReferenceIdeal.τ).loc Cert.FfnsReferenceIdeal.main_arg1)
      ∧ r.2.mem ((c.tc : Thread Cert.FfnsReferenceIdeal.nD Cert.FfnsReferenceIdeal.τ).loc Cert.FfnsReferenceIdeal.main_arg2) = m ((c.tc : Thread Cert.FfnsReferenceIdeal.nD Cert.FfnsReferenceIdeal.τ).loc Cert.FfnsReferenceIdeal.main_arg2)
      ∧ r.2.mem ((c.tc : Thread Cert.FfnsReferenceIdeal.nD Cert.FfnsReferenceIdeal.τ).loc Cert.FfnsReferenceIdeal.main_arg3) = m ((c.tc : Thread Cert.FfnsReferenceIdeal.nD Cert.FfnsReferenceIdeal.τ).loc Cert.FfnsReferenceIdeal.main_arg3)
      ∧ r.2.mem ((c.tc : Thread Cert.FfnsReferenceIdeal.nD Cert.FfnsReferenceIdeal.τ).loc Cert.FfnsReferenceIdeal.main_arg4) = m ((c.tc : Thread Cert.FfnsReferenceIdeal.nD Cert.FfnsReferenceIdeal.τ).loc Cert.FfnsReferenceIdeal.main_arg4)
      ∧ r.2.mem ((c.tc : Thread Cert.FfnsReferenceIdeal.nD Cert.FfnsReferenceIdeal.τ).loc Cert.FfnsReferenceIdeal.main_arg5) = m ((c.tc : Thread Cert.FfnsReferenceIdeal.nD Cert.FfnsReferenceIdeal.τ).loc Cert.FfnsReferenceIdeal.main_arg5)
      ∧ r.2.mem ((c.tc : Thread Cert.FfnsReferenceIdeal.nD Cert.FfnsReferenceIdeal.τ).loc Cert.FfnsReferenceIdeal.main_arg6) = m ((c.tc : Thread Cert.FfnsReferenceIdeal.nD Cert.FfnsReferenceIdeal.τ).loc Cert.FfnsReferenceIdeal.main_arg6)
      ∧ r.2.mem ((c.tc : Thread Cert.FfnsReferenceIdeal.nD Cert.FfnsReferenceIdeal.τ).loc Cert.FfnsReferenceIdeal.main_arg7) = m ((c.tc : Thread Cert.FfnsReferenceIdeal.nD Cert.FfnsReferenceIdeal.τ).loc Cert.FfnsReferenceIdeal.main_arg7)
      ∧ r.2.mem ((c.tc : Thread Cert.FfnsReferenceIdeal.nD Cert.FfnsReferenceIdeal.τ).loc Cert.FfnsReferenceIdeal.main_arg8) = m ((c.tc : Thread Cert.FfnsReferenceIdeal.nD Cert.FfnsReferenceIdeal.τ).loc Cert.FfnsReferenceIdeal.main_arg8))
      ∧ r.2.sem = fun _ => 0)

def quiescent_MlapKernel [hMlapKernel : Cert.MlapKernel.Facts] : Prop :=
  ∀ (m : (ℓ : Loc Cert.MlapKernel.nD Cert.MlapKernel.τ Cert.MlapKernel.sig) → Buf (Elt Bits) ℓ) (g : Dev Cert.MlapKernel.nD → PrngReg), Pre_MlapKernel m →
    θ_run (Cert.MlapKernel.defs (F := Bits)) (onTc (τ := Cert.MlapKernel.τ) (Cert.MlapKernel.main (F := Bits))) ⟨m, fun _ => 0, g⟩ (fun r => (∀ c : Dev Cert.MlapKernel.nD,
      r.2.mem ((c.tc : Thread Cert.MlapKernel.nD Cert.MlapKernel.τ).loc Cert.MlapKernel.main_arg0) = m ((c.tc : Thread Cert.MlapKernel.nD Cert.MlapKernel.τ).loc Cert.MlapKernel.main_arg0)
      ∧ r.2.mem ((c.tc : Thread Cert.MlapKernel.nD Cert.MlapKernel.τ).loc Cert.MlapKernel.main_arg1) = m ((c.tc : Thread Cert.MlapKernel.nD Cert.MlapKernel.τ).loc Cert.MlapKernel.main_arg1)
      ∧ r.2.mem ((c.tc : Thread Cert.MlapKernel.nD Cert.MlapKernel.τ).loc Cert.MlapKernel.main_arg2) = m ((c.tc : Thread Cert.MlapKernel.nD Cert.MlapKernel.τ).loc Cert.MlapKernel.main_arg2)
      ∧ r.2.mem ((c.tc : Thread Cert.MlapKernel.nD Cert.MlapKernel.τ).loc Cert.MlapKernel.main_arg3) = m ((c.tc : Thread Cert.MlapKernel.nD Cert.MlapKernel.τ).loc Cert.MlapKernel.main_arg3)
      ∧ r.2.mem ((c.tc : Thread Cert.MlapKernel.nD Cert.MlapKernel.τ).loc Cert.MlapKernel.main_arg4) = m ((c.tc : Thread Cert.MlapKernel.nD Cert.MlapKernel.τ).loc Cert.MlapKernel.main_arg4))
      ∧ r.2.sem = fun _ => 0)

def quiescent_MlapKernelIdeal [hMlapKernelIdeal : Cert.MlapKernelIdeal.Facts] : Prop :=
  ∀ (m : (ℓ : Loc Cert.MlapKernelIdeal.nD Cert.MlapKernelIdeal.τ Cert.MlapKernelIdeal.sig) → Buf (Elt Ideal) ℓ) (g : Dev Cert.MlapKernelIdeal.nD → PrngReg), Pre_MlapKernelIdeal m →
    θ_run (Cert.MlapKernelIdeal.defs (F := Ideal)) (onTc (τ := Cert.MlapKernelIdeal.τ) (Cert.MlapKernelIdeal.main (F := Ideal))) ⟨m, fun _ => 0, g⟩ (fun r => (∀ c : Dev Cert.MlapKernelIdeal.nD,
      r.2.mem ((c.tc : Thread Cert.MlapKernelIdeal.nD Cert.MlapKernelIdeal.τ).loc Cert.MlapKernelIdeal.main_arg0) = m ((c.tc : Thread Cert.MlapKernelIdeal.nD Cert.MlapKernelIdeal.τ).loc Cert.MlapKernelIdeal.main_arg0)
      ∧ r.2.mem ((c.tc : Thread Cert.MlapKernelIdeal.nD Cert.MlapKernelIdeal.τ).loc Cert.MlapKernelIdeal.main_arg1) = m ((c.tc : Thread Cert.MlapKernelIdeal.nD Cert.MlapKernelIdeal.τ).loc Cert.MlapKernelIdeal.main_arg1)
      ∧ r.2.mem ((c.tc : Thread Cert.MlapKernelIdeal.nD Cert.MlapKernelIdeal.τ).loc Cert.MlapKernelIdeal.main_arg2) = m ((c.tc : Thread Cert.MlapKernelIdeal.nD Cert.MlapKernelIdeal.τ).loc Cert.MlapKernelIdeal.main_arg2)
      ∧ r.2.mem ((c.tc : Thread Cert.MlapKernelIdeal.nD Cert.MlapKernelIdeal.τ).loc Cert.MlapKernelIdeal.main_arg3) = m ((c.tc : Thread Cert.MlapKernelIdeal.nD Cert.MlapKernelIdeal.τ).loc Cert.MlapKernelIdeal.main_arg3)
      ∧ r.2.mem ((c.tc : Thread Cert.MlapKernelIdeal.nD Cert.MlapKernelIdeal.τ).loc Cert.MlapKernelIdeal.main_arg4) = m ((c.tc : Thread Cert.MlapKernelIdeal.nD Cert.MlapKernelIdeal.τ).loc Cert.MlapKernelIdeal.main_arg4))
      ∧ r.2.sem = fun _ => 0)

def quiescent_MlapReferenceIdeal [hMlapReferenceIdeal : Cert.MlapReferenceIdeal.Facts] : Prop :=
  ∀ (m : (ℓ : Loc Cert.MlapReferenceIdeal.nD Cert.MlapReferenceIdeal.τ Cert.MlapReferenceIdeal.sig) → Buf (Elt Ideal) ℓ) (g : Dev Cert.MlapReferenceIdeal.nD → PrngReg), Pre_MlapReferenceIdeal m →
    θ_run (Cert.MlapReferenceIdeal.defs (F := Ideal)) (onTc (τ := Cert.MlapReferenceIdeal.τ) (Cert.MlapReferenceIdeal.main (F := Ideal))) ⟨m, fun _ => 0, g⟩ (fun r => (∀ c : Dev Cert.MlapReferenceIdeal.nD,
      r.2.mem ((c.tc : Thread Cert.MlapReferenceIdeal.nD Cert.MlapReferenceIdeal.τ).loc Cert.MlapReferenceIdeal.main_arg0) = m ((c.tc : Thread Cert.MlapReferenceIdeal.nD Cert.MlapReferenceIdeal.τ).loc Cert.MlapReferenceIdeal.main_arg0)
      ∧ r.2.mem ((c.tc : Thread Cert.MlapReferenceIdeal.nD Cert.MlapReferenceIdeal.τ).loc Cert.MlapReferenceIdeal.main_arg1) = m ((c.tc : Thread Cert.MlapReferenceIdeal.nD Cert.MlapReferenceIdeal.τ).loc Cert.MlapReferenceIdeal.main_arg1)
      ∧ r.2.mem ((c.tc : Thread Cert.MlapReferenceIdeal.nD Cert.MlapReferenceIdeal.τ).loc Cert.MlapReferenceIdeal.main_arg2) = m ((c.tc : Thread Cert.MlapReferenceIdeal.nD Cert.MlapReferenceIdeal.τ).loc Cert.MlapReferenceIdeal.main_arg2)
      ∧ r.2.mem ((c.tc : Thread Cert.MlapReferenceIdeal.nD Cert.MlapReferenceIdeal.τ).loc Cert.MlapReferenceIdeal.main_arg3) = m ((c.tc : Thread Cert.MlapReferenceIdeal.nD Cert.MlapReferenceIdeal.τ).loc Cert.MlapReferenceIdeal.main_arg3)
      ∧ r.2.mem ((c.tc : Thread Cert.MlapReferenceIdeal.nD Cert.MlapReferenceIdeal.τ).loc Cert.MlapReferenceIdeal.main_arg4) = m ((c.tc : Thread Cert.MlapReferenceIdeal.nD Cert.MlapReferenceIdeal.τ).loc Cert.MlapReferenceIdeal.main_arg4))
      ∧ r.2.sem = fun _ => 0)

def quiescent_MlasKernel [hMlasKernel : Cert.MlasKernel.Facts] : Prop :=
  ∀ (m : (ℓ : Loc Cert.MlasKernel.nD Cert.MlasKernel.τ Cert.MlasKernel.sig) → Buf (Elt Bits) ℓ) (g : Dev Cert.MlasKernel.nD → PrngReg), Pre_MlasKernel m →
    θ_run (Cert.MlasKernel.defs (F := Bits)) (onTc (τ := Cert.MlasKernel.τ) (Cert.MlasKernel.main (F := Bits))) ⟨m, fun _ => 0, g⟩ (fun r => (∀ c : Dev Cert.MlasKernel.nD,
      r.2.mem ((c.tc : Thread Cert.MlasKernel.nD Cert.MlasKernel.τ).loc Cert.MlasKernel.main_arg0) = m ((c.tc : Thread Cert.MlasKernel.nD Cert.MlasKernel.τ).loc Cert.MlasKernel.main_arg0)
      ∧ r.2.mem ((c.tc : Thread Cert.MlasKernel.nD Cert.MlasKernel.τ).loc Cert.MlasKernel.main_arg1) = m ((c.tc : Thread Cert.MlasKernel.nD Cert.MlasKernel.τ).loc Cert.MlasKernel.main_arg1)
      ∧ r.2.mem ((c.tc : Thread Cert.MlasKernel.nD Cert.MlasKernel.τ).loc Cert.MlasKernel.main_arg2) = m ((c.tc : Thread Cert.MlasKernel.nD Cert.MlasKernel.τ).loc Cert.MlasKernel.main_arg2)
      ∧ r.2.mem ((c.tc : Thread Cert.MlasKernel.nD Cert.MlasKernel.τ).loc Cert.MlasKernel.main_arg3) = m ((c.tc : Thread Cert.MlasKernel.nD Cert.MlasKernel.τ).loc Cert.MlasKernel.main_arg3)
      ∧ r.2.mem ((c.tc : Thread Cert.MlasKernel.nD Cert.MlasKernel.τ).loc Cert.MlasKernel.main_arg4) = m ((c.tc : Thread Cert.MlasKernel.nD Cert.MlasKernel.τ).loc Cert.MlasKernel.main_arg4))
      ∧ r.2.sem = fun _ => 0)

def quiescent_MlasKernelIdeal [hMlasKernelIdeal : Cert.MlasKernelIdeal.Facts] : Prop :=
  ∀ (m : (ℓ : Loc Cert.MlasKernelIdeal.nD Cert.MlasKernelIdeal.τ Cert.MlasKernelIdeal.sig) → Buf (Elt Ideal) ℓ) (g : Dev Cert.MlasKernelIdeal.nD → PrngReg), Pre_MlasKernelIdeal m →
    θ_run (Cert.MlasKernelIdeal.defs (F := Ideal)) (onTc (τ := Cert.MlasKernelIdeal.τ) (Cert.MlasKernelIdeal.main (F := Ideal))) ⟨m, fun _ => 0, g⟩ (fun r => (∀ c : Dev Cert.MlasKernelIdeal.nD,
      r.2.mem ((c.tc : Thread Cert.MlasKernelIdeal.nD Cert.MlasKernelIdeal.τ).loc Cert.MlasKernelIdeal.main_arg0) = m ((c.tc : Thread Cert.MlasKernelIdeal.nD Cert.MlasKernelIdeal.τ).loc Cert.MlasKernelIdeal.main_arg0)
      ∧ r.2.mem ((c.tc : Thread Cert.MlasKernelIdeal.nD Cert.MlasKernelIdeal.τ).loc Cert.MlasKernelIdeal.main_arg1) = m ((c.tc : Thread Cert.MlasKernelIdeal.nD Cert.MlasKernelIdeal.τ).loc Cert.MlasKernelIdeal.main_arg1)
      ∧ r.2.mem ((c.tc : Thread Cert.MlasKernelIdeal.nD Cert.MlasKernelIdeal.τ).loc Cert.MlasKernelIdeal.main_arg2) = m ((c.tc : Thread Cert.MlasKernelIdeal.nD Cert.MlasKernelIdeal.τ).loc Cert.MlasKernelIdeal.main_arg2)
      ∧ r.2.mem ((c.tc : Thread Cert.MlasKernelIdeal.nD Cert.MlasKernelIdeal.τ).loc Cert.MlasKernelIdeal.main_arg3) = m ((c.tc : Thread Cert.MlasKernelIdeal.nD Cert.MlasKernelIdeal.τ).loc Cert.MlasKernelIdeal.main_arg3)
      ∧ r.2.mem ((c.tc : Thread Cert.MlasKernelIdeal.nD Cert.MlasKernelIdeal.τ).loc Cert.MlasKernelIdeal.main_arg4) = m ((c.tc : Thread Cert.MlasKernelIdeal.nD Cert.MlasKernelIdeal.τ).loc Cert.MlasKernelIdeal.main_arg4))
      ∧ r.2.sem = fun _ => 0)

def quiescent_MlasReferenceIdeal [hMlasReferenceIdeal : Cert.MlasReferenceIdeal.Facts] : Prop :=
  ∀ (m : (ℓ : Loc Cert.MlasReferenceIdeal.nD Cert.MlasReferenceIdeal.τ Cert.MlasReferenceIdeal.sig) → Buf (Elt Ideal) ℓ) (g : Dev Cert.MlasReferenceIdeal.nD → PrngReg), Pre_MlasReferenceIdeal m →
    θ_run (Cert.MlasReferenceIdeal.defs (F := Ideal)) (onTc (τ := Cert.MlasReferenceIdeal.τ) (Cert.MlasReferenceIdeal.main (F := Ideal))) ⟨m, fun _ => 0, g⟩ (fun r => (∀ c : Dev Cert.MlasReferenceIdeal.nD,
      r.2.mem ((c.tc : Thread Cert.MlasReferenceIdeal.nD Cert.MlasReferenceIdeal.τ).loc Cert.MlasReferenceIdeal.main_arg0) = m ((c.tc : Thread Cert.MlasReferenceIdeal.nD Cert.MlasReferenceIdeal.τ).loc Cert.MlasReferenceIdeal.main_arg0)
      ∧ r.2.mem ((c.tc : Thread Cert.MlasReferenceIdeal.nD Cert.MlasReferenceIdeal.τ).loc Cert.MlasReferenceIdeal.main_arg1) = m ((c.tc : Thread Cert.MlasReferenceIdeal.nD Cert.MlasReferenceIdeal.τ).loc Cert.MlasReferenceIdeal.main_arg1)
      ∧ r.2.mem ((c.tc : Thread Cert.MlasReferenceIdeal.nD Cert.MlasReferenceIdeal.τ).loc Cert.MlasReferenceIdeal.main_arg2) = m ((c.tc : Thread Cert.MlasReferenceIdeal.nD Cert.MlasReferenceIdeal.τ).loc Cert.MlasReferenceIdeal.main_arg2)
      ∧ r.2.mem ((c.tc : Thread Cert.MlasReferenceIdeal.nD Cert.MlasReferenceIdeal.τ).loc Cert.MlasReferenceIdeal.main_arg3) = m ((c.tc : Thread Cert.MlasReferenceIdeal.nD Cert.MlasReferenceIdeal.τ).loc Cert.MlasReferenceIdeal.main_arg3)
      ∧ r.2.mem ((c.tc : Thread Cert.MlasReferenceIdeal.nD Cert.MlasReferenceIdeal.τ).loc Cert.MlasReferenceIdeal.main_arg4) = m ((c.tc : Thread Cert.MlasReferenceIdeal.nD Cert.MlasReferenceIdeal.τ).loc Cert.MlasReferenceIdeal.main_arg4))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3)
      ∧ r.2.mem ((c.tc : Thread Cert.MixOutKernel.nD Cert.MixOutKernel.τ).loc Cert.MixOutKernel.main_arg4) = m ((c.tc : Thread Cert.MixOutKernel.nD Cert.MixOutKernel.τ).loc Cert.MixOutKernel.main_arg4)
      ∧ r.2.mem ((c.tc : Thread Cert.MixOutKernel.nD Cert.MixOutKernel.τ).loc Cert.MixOutKernel.main_arg5) = m ((c.tc : Thread Cert.MixOutKernel.nD Cert.MixOutKernel.τ).loc Cert.MixOutKernel.main_arg5))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_MlaOutKernel [hMlaOutKernel : Cert.MlaOutKernel.Facts] : Prop :=
  ∀ (m : (ℓ : Loc Cert.MlaOutKernel.nD Cert.MlaOutKernel.τ Cert.MlaOutKernel.sig) → Buf (Elt Bits) ℓ) (g : Dev Cert.MlaOutKernel.nD → PrngReg), Pre_MlaOutKernel m →
    θ_run (Cert.MlaOutKernel.defs (F := Bits)) (onTc (τ := Cert.MlaOutKernel.τ) (Cert.MlaOutKernel.main (F := Bits))) ⟨m, fun _ => 0, g⟩ (fun r => (∀ c : Dev Cert.MlaOutKernel.nD,
      r.2.mem ((c.tc : Thread Cert.MlaOutKernel.nD Cert.MlaOutKernel.τ).loc Cert.MlaOutKernel.main_arg0) = m ((c.tc : Thread Cert.MlaOutKernel.nD Cert.MlaOutKernel.τ).loc Cert.MlaOutKernel.main_arg0)
      ∧ r.2.mem ((c.tc : Thread Cert.MlaOutKernel.nD Cert.MlaOutKernel.τ).loc Cert.MlaOutKernel.main_arg1) = m ((c.tc : Thread Cert.MlaOutKernel.nD Cert.MlaOutKernel.τ).loc Cert.MlaOutKernel.main_arg1)
      ∧ r.2.mem ((c.tc : Thread Cert.MlaOutKernel.nD Cert.MlaOutKernel.τ).loc Cert.MlaOutKernel.main_arg2) = m ((c.tc : Thread Cert.MlaOutKernel.nD Cert.MlaOutKernel.τ).loc Cert.MlaOutKernel.main_arg2)
      ∧ r.2.mem ((c.tc : Thread Cert.MlaOutKernel.nD Cert.MlaOutKernel.τ).loc Cert.MlaOutKernel.main_arg3) = m ((c.tc : Thread Cert.MlaOutKernel.nD Cert.MlaOutKernel.τ).loc Cert.MlaOutKernel.main_arg3)
      ∧ r.2.mem ((c.tc : Thread Cert.MlaOutKernel.nD Cert.MlaOutKernel.τ).loc Cert.MlaOutKernel.main_arg4) = m ((c.tc : Thread Cert.MlaOutKernel.nD Cert.MlaOutKernel.τ).loc Cert.MlaOutKernel.main_arg4))
      ∧ r.2.sem = fun _ => 0)

def quiescent_MlaOutKernelIdeal [hMlaOutKernelIdeal : Cert.MlaOutKernelIdeal.Facts] : Prop :=
  ∀ (m : (ℓ : Loc Cert.MlaOutKernelIdeal.nD Cert.MlaOutKernelIdeal.τ Cert.MlaOutKernelIdeal.sig) → Buf (Elt Ideal) ℓ) (g : Dev Cert.MlaOutKernelIdeal.nD → PrngReg), Pre_MlaOutKernelIdeal m →
    θ_run (Cert.MlaOutKernelIdeal.defs (F := Ideal)) (onTc (τ := Cert.MlaOutKernelIdeal.τ) (Cert.MlaOutKernelIdeal.main (F := Ideal))) ⟨m, fun _ => 0, g⟩ (fun r => (∀ c : Dev Cert.MlaOutKernelIdeal.nD,
      r.2.mem ((c.tc : Thread Cert.MlaOutKernelIdeal.nD Cert.MlaOutKernelIdeal.τ).loc Cert.MlaOutKernelIdeal.main_arg0) = m ((c.tc : Thread Cert.MlaOutKernelIdeal.nD Cert.MlaOutKernelIdeal.τ).loc Cert.MlaOutKernelIdeal.main_arg0)
      ∧ r.2.mem ((c.tc : Thread Cert.MlaOutKernelIdeal.nD Cert.MlaOutKernelIdeal.τ).loc Cert.MlaOutKernelIdeal.main_arg1) = m ((c.tc : Thread Cert.MlaOutKernelIdeal.nD Cert.MlaOutKernelIdeal.τ).loc Cert.MlaOutKernelIdeal.main_arg1)
      ∧ r.2.mem ((c.tc : Thread Cert.MlaOutKernelIdeal.nD Cert.MlaOutKernelIdeal.τ).loc Cert.MlaOutKernelIdeal.main_arg2) = m ((c.tc : Thread Cert.MlaOutKernelIdeal.nD Cert.MlaOutKernelIdeal.τ).loc Cert.MlaOutKernelIdeal.main_arg2)
      ∧ r.2.mem ((c.tc : Thread Cert.MlaOutKernelIdeal.nD Cert.MlaOutKernelIdeal.τ).loc Cert.MlaOutKernelIdeal.main_arg3) = m ((c.tc : Thread Cert.MlaOutKernelIdeal.nD Cert.MlaOutKernelIdeal.τ).loc Cert.MlaOutKernelIdeal.main_arg3)
      ∧ r.2.mem ((c.tc : Thread Cert.MlaOutKernelIdeal.nD Cert.MlaOutKernelIdeal.τ).loc Cert.MlaOutKernelIdeal.main_arg4) = m ((c.tc : Thread Cert.MlaOutKernelIdeal.nD Cert.MlaOutKernelIdeal.τ).loc Cert.MlaOutKernelIdeal.main_arg4))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1)
      ∧ r.2.mem ((c.tc : Thread Cert.MlaOutReferenceIdeal.nD Cert.MlaOutReferenceIdeal.τ).loc Cert.MlaOutReferenceIdeal.main_arg2) = m ((c.tc : Thread Cert.MlaOutReferenceIdeal.nD Cert.MlaOutReferenceIdeal.τ).loc Cert.MlaOutReferenceIdeal.main_arg2)
      ∧ r.2.mem ((c.tc : Thread Cert.MlaOutReferenceIdeal.nD Cert.MlaOutReferenceIdeal.τ).loc Cert.MlaOutReferenceIdeal.main_arg3) = m ((c.tc : Thread Cert.MlaOutReferenceIdeal.nD Cert.MlaOutReferenceIdeal.τ).loc Cert.MlaOutReferenceIdeal.main_arg3)
      ∧ r.2.mem ((c.tc : Thread Cert.MlaOutReferenceIdeal.nD Cert.MlaOutReferenceIdeal.τ).loc Cert.MlaOutReferenceIdeal.main_arg4) = m ((c.tc : Thread Cert.MlaOutReferenceIdeal.nD Cert.MlaOutReferenceIdeal.τ).loc Cert.MlaOutReferenceIdeal.main_arg4))
      ∧ r.2.sem = fun _ => 0)

def preserves_ParamsKernel_ParamsKernelIdeal : Prop :=
  True

def algebraic_ParamsKernelIdeal_ParamsReferenceIdeal [hParamsKernelIdeal : Cert.ParamsKernelIdeal.Facts] [hParamsReferenceIdeal : Cert.ParamsReferenceIdeal.Facts] : Prop :=
  ∀ (m : (ℓ : Loc Cert.ParamsKernelIdeal.nD Cert.ParamsKernelIdeal.τ Cert.ParamsKernelIdeal.sig) → Buf (Elt Ideal) ℓ) (g : Dev Cert.ParamsKernelIdeal.nD → PrngReg)
    (m' : (ℓ : Loc Cert.ParamsReferenceIdeal.nD Cert.ParamsReferenceIdeal.τ Cert.ParamsReferenceIdeal.sig) → Buf (Elt Ideal) ℓ) (g' : Dev Cert.ParamsReferenceIdeal.nD → PrngReg), Pre_ParamsKernelIdeal m →
    (∀ c : Dev Cert.ParamsKernelIdeal.nD,
      m' ((c.tc : Thread Cert.ParamsReferenceIdeal.nD Cert.ParamsReferenceIdeal.τ).loc Cert.ParamsReferenceIdeal.main_arg0) = m ((c.tc : Thread Cert.ParamsKernelIdeal.nD Cert.ParamsKernelIdeal.τ).loc Cert.ParamsKernelIdeal.main_arg0)
      ∧ m' ((c.tc : Thread Cert.ParamsReferenceIdeal.nD Cert.ParamsReferenceIdeal.τ).loc Cert.ParamsReferenceIdeal.main_arg1) = m ((c.tc : Thread Cert.ParamsKernelIdeal.nD Cert.ParamsKernelIdeal.τ).loc Cert.ParamsKernelIdeal.main_arg1)
      ∧ m' ((c.tc : Thread Cert.ParamsReferenceIdeal.nD Cert.ParamsReferenceIdeal.τ).loc Cert.ParamsReferenceIdeal.main_arg2) = m ((c.tc : Thread Cert.ParamsKernelIdeal.nD Cert.ParamsKernelIdeal.τ).loc Cert.ParamsKernelIdeal.main_arg2)
      ∧ m' ((c.tc : Thread Cert.ParamsReferenceIdeal.nD Cert.ParamsReferenceIdeal.τ).loc Cert.ParamsReferenceIdeal.main_arg3) = m ((c.tc : Thread Cert.ParamsKernelIdeal.nD Cert.ParamsKernelIdeal.τ).loc Cert.ParamsKernelIdeal.main_arg3)
      ∧ m' ((c.tc : Thread Cert.ParamsReferenceIdeal.nD Cert.ParamsReferenceIdeal.τ).loc Cert.ParamsReferenceIdeal.main_arg4) = m ((c.tc : Thread Cert.ParamsKernelIdeal.nD Cert.ParamsKernelIdeal.τ).loc Cert.ParamsKernelIdeal.main_arg4)) →
    ∃ (v0 : (c : Dev Cert.ParamsKernelIdeal.nD) → Buf (Elt Ideal) ((c.tc : Thread Cert.ParamsKernelIdeal.nD Cert.ParamsKernelIdeal.τ).loc Cert.ParamsKernelIdeal.main_v7_0)) (v1 : (c : Dev Cert.ParamsKernelIdeal.nD) → Buf (Elt Ideal) ((c.tc : Thread Cert.ParamsKernelIdeal.nD Cert.ParamsKernelIdeal.τ).loc Cert.ParamsKernelIdeal.main_v7_1)) (v2 : (c : Dev Cert.ParamsKernelIdeal.nD) → Buf (Elt Ideal) ((c.tc : Thread Cert.ParamsKernelIdeal.nD Cert.ParamsKernelIdeal.τ).loc Cert.ParamsKernelIdeal.main_v7_2)) (v3 : (c : Dev Cert.ParamsKernelIdeal.nD) → Buf (Elt Ideal) ((c.tc : Thread Cert.ParamsKernelIdeal.nD Cert.ParamsKernelIdeal.τ).loc Cert.ParamsKernelIdeal.main_v7_3)),
      θ_run (Cert.ParamsKernelIdeal.defs (F := Ideal)) (onTc (τ := Cert.ParamsKernelIdeal.τ) (Cert.ParamsKernelIdeal.main (F := Ideal))) ⟨m, fun _ => 0, g⟩ (fun r => ∀ c : Dev Cert.ParamsKernelIdeal.nD,
          r.2.mem ((c.tc : Thread Cert.ParamsKernelIdeal.nD Cert.ParamsKernelIdeal.τ).loc Cert.ParamsKernelIdeal.main_v7_0) = v0 c
          ∧ r.2.mem ((c.tc : Thread Cert.ParamsKernelIdeal.nD Cert.ParamsKernelIdeal.τ).loc Cert.ParamsKernelIdeal.main_v7_1) = v1 c
          ∧ r.2.mem ((c.tc : Thread Cert.ParamsKernelIdeal.nD Cert.ParamsKernelIdeal.τ).loc Cert.ParamsKernelIdeal.main_v7_2) = v2 c
          ∧ r.2.mem ((c.tc : Thread Cert.ParamsKernelIdeal.nD Cert.ParamsKernelIdeal.τ).loc Cert.ParamsKernelIdeal.main_v7_3) = v3 c
          ∧ r.2.mem ((c.tc : Thread Cert.ParamsKernelIdeal.nD Cert.ParamsKernelIdeal.τ).loc Cert.ParamsKernelIdeal.main_arg0) = m ((c.tc : Thread Cert.ParamsKernelIdeal.nD Cert.ParamsKernelIdeal.τ).loc Cert.ParamsKernelIdeal.main_arg0)
          ∧ r.2.mem ((c.tc : Thread Cert.ParamsKernelIdeal.nD Cert.ParamsKernelIdeal.τ).loc Cert.ParamsKernelIdeal.main_arg1) = m ((c.tc : Thread Cert.ParamsKernelIdeal.nD Cert.ParamsKernelIdeal.τ).loc Cert.ParamsKernelIdeal.main_arg1)
          ∧ r.2.mem ((c.tc : Thread Cert.ParamsKernelIdeal.nD Cert.ParamsKernelIdeal.τ).loc Cert.ParamsKernelIdeal.main_arg2) = m ((c.tc : Thread Cert.ParamsKernelIdeal.nD Cert.ParamsKernelIdeal.τ).loc Cert.ParamsKernelIdeal.main_arg2)
          ∧ r.2.mem ((c.tc : Thread Cert.ParamsKernelIdeal.nD Cert.ParamsKernelIdeal.τ).loc Cert.ParamsKernelIdeal.main_arg3) = m ((c.tc : Thread Cert.ParamsKernelIdeal.nD Cert.ParamsKernelIdeal.τ).loc Cert.ParamsKernelIdeal.main_arg3)
          ∧ r.2.mem ((c.tc : Thread Cert.ParamsKernelIdeal.nD Cert.ParamsKernelIdeal.τ).loc Cert.ParamsKernelIdeal.main_arg4) = m ((c.tc : Thread Cert.ParamsKernelIdeal.nD Cert.ParamsKernelIdeal.τ).loc Cert.ParamsKernelIdeal.main_arg4))
      ∧ θ_run (Cert.ParamsReferenceIdeal.defs (F := Ideal)) (onTc (τ := Cert.ParamsReferenceIdeal.τ) (Cert.ParamsReferenceIdeal.main (F := Ideal))) ⟨m', fun _ => 0, g'⟩ (fun r => ∀ c : Dev Cert.ParamsReferenceIdeal.nD,
          r.2.mem ((c.tc : Thread Cert.ParamsReferenceIdeal.nD Cert.ParamsReferenceIdeal.τ).loc Cert.ParamsReferenceIdeal.main_v42) = v0 c
          ∧ r.2.mem ((c.tc : Thread Cert.ParamsReferenceIdeal.nD Cert.ParamsReferenceIdeal.τ).loc Cert.ParamsReferenceIdeal.main_v43) = v1 c
          ∧ r.2.mem ((c.tc : Thread Cert.ParamsReferenceIdeal.nD Cert.ParamsReferenceIdeal.τ).loc Cert.ParamsReferenceIdeal.main_v44) = v2 c
          ∧ r.2.mem ((c.tc : Thread Cert.ParamsReferenceIdeal.nD Cert.ParamsReferenceIdeal.τ).loc Cert.ParamsReferenceIdeal.main_v45) = v3 c
          ∧ r.2.mem ((c.tc : Thread Cert.ParamsReferenceIdeal.nD Cert.ParamsReferenceIdeal.τ).loc Cert.ParamsReferenceIdeal.main_arg0) = m' ((c.tc : Thread Cert.ParamsReferenceIdeal.nD Cert.ParamsReferenceIdeal.τ).loc Cert.ParamsReferenceIdeal.main_arg0)
          ∧ r.2.mem ((c.tc : Thread Cert.ParamsReferenceIdeal.nD Cert.ParamsReferenceIdeal.τ).loc Cert.ParamsReferenceIdeal.main_arg1) = m' ((c.tc : Thread Cert.ParamsReferenceIdeal.nD Cert.ParamsReferenceIdeal.τ).loc Cert.ParamsReferenceIdeal.main_arg1)
          ∧ r.2.mem ((c.tc : Thread Cert.ParamsReferenceIdeal.nD Cert.ParamsReferenceIdeal.τ).loc Cert.ParamsReferenceIdeal.main_arg2) = m' ((c.tc : Thread Cert.ParamsReferenceIdeal.nD Cert.ParamsReferenceIdeal.τ).loc Cert.ParamsReferenceIdeal.main_arg2)
          ∧ r.2.mem ((c.tc : Thread Cert.ParamsReferenceIdeal.nD Cert.ParamsReferenceIdeal.τ).loc Cert.ParamsReferenceIdeal.main_arg3) = m' ((c.tc : Thread Cert.ParamsReferenceIdeal.nD Cert.ParamsReferenceIdeal.τ).loc Cert.ParamsReferenceIdeal.main_arg3)
          ∧ r.2.mem ((c.tc : Thread Cert.ParamsReferenceIdeal.nD Cert.ParamsReferenceIdeal.τ).loc Cert.ParamsReferenceIdeal.main_arg4) = m' ((c.tc : Thread Cert.ParamsReferenceIdeal.nD Cert.ParamsReferenceIdeal.τ).loc Cert.ParamsReferenceIdeal.main_arg4))

def preserves_S5Kernel_S5KernelIdeal : Prop :=
  True

def algebraic_S5KernelIdeal_S5ReferenceIdeal [hS5KernelIdeal : Cert.S5KernelIdeal.Facts] [hS5ReferenceIdeal : Cert.S5ReferenceIdeal.Facts] : Prop :=
  ∀ (m : (ℓ : Loc Cert.S5KernelIdeal.nD Cert.S5KernelIdeal.τ Cert.S5KernelIdeal.sig) → Buf (Elt Ideal) ℓ) (g : Dev Cert.S5KernelIdeal.nD → PrngReg)
    (m' : (ℓ : Loc Cert.S5ReferenceIdeal.nD Cert.S5ReferenceIdeal.τ Cert.S5ReferenceIdeal.sig) → Buf (Elt Ideal) ℓ) (g' : Dev Cert.S5ReferenceIdeal.nD → PrngReg), Pre_S5KernelIdeal m →
    (∀ c : Dev Cert.S5KernelIdeal.nD,
      m' ((c.tc : Thread Cert.S5ReferenceIdeal.nD Cert.S5ReferenceIdeal.τ).loc Cert.S5ReferenceIdeal.main_arg0) = m ((c.tc : Thread Cert.S5KernelIdeal.nD Cert.S5KernelIdeal.τ).loc Cert.S5KernelIdeal.main_arg0)
      ∧ m' ((c.tc : Thread Cert.S5ReferenceIdeal.nD Cert.S5ReferenceIdeal.τ).loc Cert.S5ReferenceIdeal.main_arg1) = m ((c.tc : Thread Cert.S5KernelIdeal.nD Cert.S5KernelIdeal.τ).loc Cert.S5KernelIdeal.main_arg1)
      ∧ m' ((c.tc : Thread Cert.S5ReferenceIdeal.nD Cert.S5ReferenceIdeal.τ).loc Cert.S5ReferenceIdeal.main_arg2) = m ((c.tc : Thread Cert.S5KernelIdeal.nD Cert.S5KernelIdeal.τ).loc Cert.S5KernelIdeal.main_arg2)
      ∧ m' ((c.tc : Thread Cert.S5ReferenceIdeal.nD Cert.S5ReferenceIdeal.τ).loc Cert.S5ReferenceIdeal.main_arg3) = m ((c.tc : Thread Cert.S5KernelIdeal.nD Cert.S5KernelIdeal.τ).loc Cert.S5KernelIdeal.main_arg3)
      ∧ m' ((c.tc : Thread Cert.S5ReferenceIdeal.nD Cert.S5ReferenceIdeal.τ).loc Cert.S5ReferenceIdeal.main_arg4) = m ((c.tc : Thread Cert.S5KernelIdeal.nD Cert.S5KernelIdeal.τ).loc Cert.S5KernelIdeal.main_arg4)
      ∧ m' ((c.tc : Thread Cert.S5ReferenceIdeal.nD Cert.S5ReferenceIdeal.τ).loc Cert.S5ReferenceIdeal.main_arg5) = m ((c.tc : Thread Cert.S5KernelIdeal.nD Cert.S5KernelIdeal.τ).loc Cert.S5KernelIdeal.main_arg5)
      ∧ m' ((c.tc : Thread Cert.S5ReferenceIdeal.nD Cert.S5ReferenceIdeal.τ).loc Cert.S5ReferenceIdeal.main_arg6) = m ((c.tc : Thread Cert.S5KernelIdeal.nD Cert.S5KernelIdeal.τ).loc Cert.S5KernelIdeal.main_arg6)
      ∧ m' ((c.tc : Thread Cert.S5ReferenceIdeal.nD Cert.S5ReferenceIdeal.τ).loc Cert.S5ReferenceIdeal.main_arg7) = m ((c.tc : Thread Cert.S5KernelIdeal.nD Cert.S5KernelIdeal.τ).loc Cert.S5KernelIdeal.main_arg7)
      ∧ m' ((c.tc : Thread Cert.S5ReferenceIdeal.nD Cert.S5ReferenceIdeal.τ).loc Cert.S5ReferenceIdeal.main_arg8) = m ((c.tc : Thread Cert.S5KernelIdeal.nD Cert.S5KernelIdeal.τ).loc Cert.S5KernelIdeal.main_arg8)
      ∧ m' ((c.tc : Thread Cert.S5ReferenceIdeal.nD Cert.S5ReferenceIdeal.τ).loc Cert.S5ReferenceIdeal.main_arg9) = m ((c.tc : Thread Cert.S5KernelIdeal.nD Cert.S5KernelIdeal.τ).loc Cert.S5KernelIdeal.main_arg9)) →
    ∃ (v0 : (c : Dev Cert.S5KernelIdeal.nD) → Buf (Elt Ideal) ((c.tc : Thread Cert.S5KernelIdeal.nD Cert.S5KernelIdeal.τ).loc Cert.S5KernelIdeal.main_v58_0)) (v1 : (c : Dev Cert.S5KernelIdeal.nD) → Buf (Elt Ideal) ((c.tc : Thread Cert.S5KernelIdeal.nD Cert.S5KernelIdeal.τ).loc Cert.S5KernelIdeal.main_v58_1)) (v2 : (c : Dev Cert.S5KernelIdeal.nD) → Buf (Elt Ideal) ((c.tc : Thread Cert.S5KernelIdeal.nD Cert.S5KernelIdeal.τ).loc Cert.S5KernelIdeal.main_v58_2)),
      θ_run (Cert.S5KernelIdeal.defs (F := Ideal)) (onTc (τ := Cert.S5KernelIdeal.τ) (Cert.S5KernelIdeal.main (F := Ideal))) ⟨m, fun _ => 0, g⟩ (fun r => ∀ c : Dev Cert.S5KernelIdeal.nD,
          r.2.mem ((c.tc : Thread Cert.S5KernelIdeal.nD Cert.S5KernelIdeal.τ).loc Cert.S5KernelIdeal.main_v58_0) = v0 c
          ∧ r.2.mem ((c.tc : Thread Cert.S5KernelIdeal.nD Cert.S5KernelIdeal.τ).loc Cert.S5KernelIdeal.main_v58_1) = v1 c
          ∧ r.2.mem ((c.tc : Thread Cert.S5KernelIdeal.nD Cert.S5KernelIdeal.τ).loc Cert.S5KernelIdeal.main_v58_2) = v2 c
          ∧ r.2.mem ((c.tc : Thread Cert.S5KernelIdeal.nD Cert.S5KernelIdeal.τ).loc Cert.S5KernelIdeal.main_arg0) = m ((c.tc : Thread Cert.S5KernelIdeal.nD Cert.S5KernelIdeal.τ).loc Cert.S5KernelIdeal.main_arg0)
          ∧ r.2.mem ((c.tc : Thread Cert.S5KernelIdeal.nD Cert.S5KernelIdeal.τ).loc Cert.S5KernelIdeal.main_arg1) = m ((c.tc : Thread Cert.S5KernelIdeal.nD Cert.S5KernelIdeal.τ).loc Cert.S5KernelIdeal.main_arg1)
          ∧ r.2.mem ((c.tc : Thread Cert.S5KernelIdeal.nD Cert.S5KernelIdeal.τ).loc Cert.S5KernelIdeal.main_arg2) = m ((c.tc : Thread Cert.S5KernelIdeal.nD Cert.S5KernelIdeal.τ).loc Cert.S5KernelIdeal.main_arg2)
          ∧ r.2.mem ((c.tc : Thread Cert.S5KernelIdeal.nD Cert.S5KernelIdeal.τ).loc Cert.S5KernelIdeal.main_arg3) = m ((c.tc : Thread Cert.S5KernelIdeal.nD Cert.S5KernelIdeal.τ).loc Cert.S5KernelIdeal.main_arg3)
          ∧ r.2.mem ((c.tc : Thread Cert.S5KernelIdeal.nD Cert.S5KernelIdeal.τ).loc Cert.S5KernelIdeal.main_arg4) = m ((c.tc : Thread Cert.S5KernelIdeal.nD Cert.S5KernelIdeal.τ).loc Cert.S5KernelIdeal.main_arg4)
          ∧ r.2.mem ((c.tc : Thread Cert.S5KernelIdeal.nD Cert.S5KernelIdeal.τ).loc Cert.S5KernelIdeal.main_arg5) = m ((c.tc : Thread Cert.S5KernelIdeal.nD Cert.S5KernelIdeal.τ).loc Cert.S5KernelIdeal.main_arg5)
          ∧ r.2.mem ((c.tc : Thread Cert.S5KernelIdeal.nD Cert.S5KernelIdeal.τ).loc Cert.S5KernelIdeal.main_arg6) = m ((c.tc : Thread Cert.S5KernelIdeal.nD Cert.S5KernelIdeal.τ).loc Cert.S5KernelIdeal.main_arg6)
          ∧ r.2.mem ((c.tc : Thread Cert.S5KernelIdeal.nD Cert.S5KernelIdeal.τ).loc Cert.S5KernelIdeal.main_arg7) = m ((c.tc : Thread Cert.S5KernelIdeal.nD Cert.S5KernelIdeal.τ).loc Cert.S5KernelIdeal.main_arg7)
          ∧ r.2.mem ((c.tc : Thread Cert.S5KernelIdeal.nD Cert.S5KernelIdeal.τ).loc Cert.S5KernelIdeal.main_arg8) = m ((c.tc : Thread Cert.S5KernelIdeal.nD Cert.S5KernelIdeal.τ).loc Cert.S5KernelIdeal.main_arg8)
          ∧ r.2.mem ((c.tc : Thread Cert.S5KernelIdeal.nD Cert.S5KernelIdeal.τ).loc Cert.S5KernelIdeal.main_arg9) = m ((c.tc : Thread Cert.S5KernelIdeal.nD Cert.S5KernelIdeal.τ).loc Cert.S5KernelIdeal.main_arg9))
      ∧ θ_run (Cert.S5ReferenceIdeal.defs (F := Ideal)) (onTc (τ := Cert.S5ReferenceIdeal.τ) (Cert.S5ReferenceIdeal.main (F := Ideal))) ⟨m', fun _ => 0, g'⟩ (fun r => ∀ c : Dev Cert.S5ReferenceIdeal.nD,
          r.2.mem ((c.tc : Thread Cert.S5ReferenceIdeal.nD Cert.S5ReferenceIdeal.τ).loc Cert.S5ReferenceIdeal.main_v107) = v0 c
          ∧ r.2.mem ((c.tc : Thread Cert.S5ReferenceIdeal.nD Cert.S5ReferenceIdeal.τ).loc Cert.S5ReferenceIdeal.main_v108) = v1 c
          ∧ r.2.mem ((c.tc : Thread Cert.S5ReferenceIdeal.nD Cert.S5ReferenceIdeal.τ).loc Cert.S5ReferenceIdeal.main_v109) = v2 c
          ∧ r.2.mem ((c.tc : Thread Cert.S5ReferenceIdeal.nD Cert.S5ReferenceIdeal.τ).loc Cert.S5ReferenceIdeal.main_arg0) = m' ((c.tc : Thread Cert.S5ReferenceIdeal.nD Cert.S5ReferenceIdeal.τ).loc Cert.S5ReferenceIdeal.main_arg0)
          ∧ r.2.mem ((c.tc : Thread Cert.S5ReferenceIdeal.nD Cert.S5ReferenceIdeal.τ).loc Cert.S5ReferenceIdeal.main_arg1) = m' ((c.tc : Thread Cert.S5ReferenceIdeal.nD Cert.S5ReferenceIdeal.τ).loc Cert.S5ReferenceIdeal.main_arg1)
          ∧ r.2.mem ((c.tc : Thread Cert.S5ReferenceIdeal.nD Cert.S5ReferenceIdeal.τ).loc Cert.S5ReferenceIdeal.main_arg2) = m' ((c.tc : Thread Cert.S5ReferenceIdeal.nD Cert.S5ReferenceIdeal.τ).loc Cert.S5ReferenceIdeal.main_arg2)
          ∧ r.2.mem ((c.tc : Thread Cert.S5ReferenceIdeal.nD Cert.S5ReferenceIdeal.τ).loc Cert.S5ReferenceIdeal.main_arg3) = m' ((c.tc : Thread Cert.S5ReferenceIdeal.nD Cert.S5ReferenceIdeal.τ).loc Cert.S5ReferenceIdeal.main_arg3)
          ∧ r.2.mem ((c.tc : Thread Cert.S5ReferenceIdeal.nD Cert.S5ReferenceIdeal.τ).loc Cert.S5ReferenceIdeal.main_arg4) = m' ((c.tc : Thread Cert.S5ReferenceIdeal.nD Cert.S5ReferenceIdeal.τ).loc Cert.S5ReferenceIdeal.main_arg4)
          ∧ r.2.mem ((c.tc : Thread Cert.S5ReferenceIdeal.nD Cert.S5ReferenceIdeal.τ).loc Cert.S5ReferenceIdeal.main_arg5) = m' ((c.tc : Thread Cert.S5ReferenceIdeal.nD Cert.S5ReferenceIdeal.τ).loc Cert.S5ReferenceIdeal.main_arg5)
          ∧ r.2.mem ((c.tc : Thread Cert.S5ReferenceIdeal.nD Cert.S5ReferenceIdeal.τ).loc Cert.S5ReferenceIdeal.main_arg6) = m' ((c.tc : Thread Cert.S5ReferenceIdeal.nD Cert.S5ReferenceIdeal.τ).loc Cert.S5ReferenceIdeal.main_arg6)
          ∧ r.2.mem ((c.tc : Thread Cert.S5ReferenceIdeal.nD Cert.S5ReferenceIdeal.τ).loc Cert.S5ReferenceIdeal.main_arg7) = m' ((c.tc : Thread Cert.S5ReferenceIdeal.nD Cert.S5ReferenceIdeal.τ).loc Cert.S5ReferenceIdeal.main_arg7)
          ∧ r.2.mem ((c.tc : Thread Cert.S5ReferenceIdeal.nD Cert.S5ReferenceIdeal.τ).loc Cert.S5ReferenceIdeal.main_arg8) = m' ((c.tc : Thread Cert.S5ReferenceIdeal.nD Cert.S5ReferenceIdeal.τ).loc Cert.S5ReferenceIdeal.main_arg8)
          ∧ r.2.mem ((c.tc : Thread Cert.S5ReferenceIdeal.nD Cert.S5ReferenceIdeal.τ).loc Cert.S5ReferenceIdeal.main_arg9) = m' ((c.tc : Thread Cert.S5ReferenceIdeal.nD Cert.S5ReferenceIdeal.τ).loc Cert.S5ReferenceIdeal.main_arg9))

def preserves_FfnKernel_FfnKernelIdeal : Prop :=
  True

def algebraic_FfnKernelIdeal_FfnReferenceIdeal_on_real_rows [hFfnKernelIdeal : Cert.FfnKernelIdeal.Facts] [hFfnReferenceIdeal : Cert.FfnReferenceIdeal.Facts] [hOn_real_rows : Cert.On_real_rows.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v11)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          (∀ i : (⟨2, ![8448, 2048]⟩ : Shape).Idx, (Cert.On_real_rows.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) i = 1#1 → r.2.mem ((c.tc : Thread Cert.FfnKernelIdeal.nD Cert.FfnKernelIdeal.τ).loc Cert.FfnKernelIdeal.main_v11) i = v0 c i)
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          (∀ i : (⟨2, ![8448, 2048]⟩ : Shape).Idx, (Cert.On_real_rows.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) i = 1#1 → r.2.mem ((c.tc : Thread Cert.FfnReferenceIdeal.nD Cert.FfnReferenceIdeal.τ).loc Cert.FfnReferenceIdeal.main_v72) i = v0 c i)
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_FfnsKernel_FfnsKernelIdeal : Prop :=
  True

def algebraic_FfnsKernelIdeal_FfnsReferenceIdeal [hFfnsKernelIdeal : Cert.FfnsKernelIdeal.Facts] [hFfnsReferenceIdeal : Cert.FfnsReferenceIdeal.Facts] : Prop :=
  ∀ (m : (ℓ : Loc Cert.FfnsKernelIdeal.nD Cert.FfnsKernelIdeal.τ Cert.FfnsKernelIdeal.sig) → Buf (Elt Ideal) ℓ) (g : Dev Cert.FfnsKernelIdeal.nD → PrngReg)
    (m' : (ℓ : Loc Cert.FfnsReferenceIdeal.nD Cert.FfnsReferenceIdeal.τ Cert.FfnsReferenceIdeal.sig) → Buf (Elt Ideal) ℓ) (g' : Dev Cert.FfnsReferenceIdeal.nD → PrngReg), Pre_FfnsKernelIdeal m →
    (∀ c : Dev Cert.FfnsKernelIdeal.nD,
      m' ((c.tc : Thread Cert.FfnsReferenceIdeal.nD Cert.FfnsReferenceIdeal.τ).loc Cert.FfnsReferenceIdeal.main_arg0) = m ((c.tc : Thread Cert.FfnsKernelIdeal.nD Cert.FfnsKernelIdeal.τ).loc Cert.FfnsKernelIdeal.main_arg0)
      ∧ m' ((c.tc : Thread Cert.FfnsReferenceIdeal.nD Cert.FfnsReferenceIdeal.τ).loc Cert.FfnsReferenceIdeal.main_arg1) = m ((c.tc : Thread Cert.FfnsKernelIdeal.nD Cert.FfnsKernelIdeal.τ).loc Cert.FfnsKernelIdeal.main_arg1)
      ∧ m' ((c.tc : Thread Cert.FfnsReferenceIdeal.nD Cert.FfnsReferenceIdeal.τ).loc Cert.FfnsReferenceIdeal.main_arg2) = m ((c.tc : Thread Cert.FfnsKernelIdeal.nD Cert.FfnsKernelIdeal.τ).loc Cert.FfnsKernelIdeal.main_arg2)
      ∧ m' ((c.tc : Thread Cert.FfnsReferenceIdeal.nD Cert.FfnsReferenceIdeal.τ).loc Cert.FfnsReferenceIdeal.main_arg3) = m ((c.tc : Thread Cert.FfnsKernelIdeal.nD Cert.FfnsKernelIdeal.τ).loc Cert.FfnsKernelIdeal.main_arg3)
      ∧ m' ((c.tc : Thread Cert.FfnsReferenceIdeal.nD Cert.FfnsReferenceIdeal.τ).loc Cert.FfnsReferenceIdeal.main_arg4) = m ((c.tc : Thread Cert.FfnsKernelIdeal.nD Cert.FfnsKernelIdeal.τ).loc Cert.FfnsKernelIdeal.main_arg4)
      ∧ m' ((c.tc : Thread Cert.FfnsReferenceIdeal.nD Cert.FfnsReferenceIdeal.τ).loc Cert.FfnsReferenceIdeal.main_arg5) = m ((c.tc : Thread Cert.FfnsKernelIdeal.nD Cert.FfnsKernelIdeal.τ).loc Cert.FfnsKernelIdeal.main_arg5)
      ∧ m' ((c.tc : Thread Cert.FfnsReferenceIdeal.nD Cert.FfnsReferenceIdeal.τ).loc Cert.FfnsReferenceIdeal.main_arg6) = m ((c.tc : Thread Cert.FfnsKernelIdeal.nD Cert.FfnsKernelIdeal.τ).loc Cert.FfnsKernelIdeal.main_arg6)
      ∧ m' ((c.tc : Thread Cert.FfnsReferenceIdeal.nD Cert.FfnsReferenceIdeal.τ).loc Cert.FfnsReferenceIdeal.main_arg7) = m ((c.tc : Thread Cert.FfnsKernelIdeal.nD Cert.FfnsKernelIdeal.τ).loc Cert.FfnsKernelIdeal.main_arg7)
      ∧ m' ((c.tc : Thread Cert.FfnsReferenceIdeal.nD Cert.FfnsReferenceIdeal.τ).loc Cert.FfnsReferenceIdeal.main_arg8) = m ((c.tc : Thread Cert.FfnsKernelIdeal.nD Cert.FfnsKernelIdeal.τ).loc Cert.FfnsKernelIdeal.main_arg8)) →
    ∃ (v0 : (c : Dev Cert.FfnsKernelIdeal.nD) → Buf (Elt Ideal) ((c.tc : Thread Cert.FfnsKernelIdeal.nD Cert.FfnsKernelIdeal.τ).loc Cert.FfnsKernelIdeal.main_v17_0)) (v1 : (c : Dev Cert.FfnsKernelIdeal.nD) → Buf (Elt Ideal) ((c.tc : Thread Cert.FfnsKernelIdeal.nD Cert.FfnsKernelIdeal.τ).loc Cert.FfnsKernelIdeal.main_v17_1)) (v2 : (c : Dev Cert.FfnsKernelIdeal.nD) → Buf (Elt Ideal) ((c.tc : Thread Cert.FfnsKernelIdeal.nD Cert.FfnsKernelIdeal.τ).loc Cert.FfnsKernelIdeal.main_v17_2)),
      θ_run (Cert.FfnsKernelIdeal.defs (F := Ideal)) (onTc (τ := Cert.FfnsKernelIdeal.τ) (Cert.FfnsKernelIdeal.main (F := Ideal))) ⟨m, fun _ => 0, g⟩ (fun r => ∀ c : Dev Cert.FfnsKernelIdeal.nD,
          r.2.mem ((c.tc : Thread Cert.FfnsKernelIdeal.nD Cert.FfnsKernelIdeal.τ).loc Cert.FfnsKernelIdeal.main_v17_0) = v0 c
          ∧ r.2.mem ((c.tc : Thread Cert.FfnsKernelIdeal.nD Cert.FfnsKernelIdeal.τ).loc Cert.FfnsKernelIdeal.main_v17_1) = v1 c
          ∧ r.2.mem ((c.tc : Thread Cert.FfnsKernelIdeal.nD Cert.FfnsKernelIdeal.τ).loc Cert.FfnsKernelIdeal.main_v17_2) = v2 c
          ∧ r.2.mem ((c.tc : Thread Cert.FfnsKernelIdeal.nD Cert.FfnsKernelIdeal.τ).loc Cert.FfnsKernelIdeal.main_arg0) = m ((c.tc : Thread Cert.FfnsKernelIdeal.nD Cert.FfnsKernelIdeal.τ).loc Cert.FfnsKernelIdeal.main_arg0)
          ∧ r.2.mem ((c.tc : Thread Cert.FfnsKernelIdeal.nD Cert.FfnsKernelIdeal.τ).loc Cert.FfnsKernelIdeal.main_arg1) = m ((c.tc : Thread Cert.FfnsKernelIdeal.nD Cert.FfnsKernelIdeal.τ).loc Cert.FfnsKernelIdeal.main_arg1)
          ∧ r.2.mem ((c.tc : Thread Cert.FfnsKernelIdeal.nD Cert.FfnsKernelIdeal.τ).loc Cert.FfnsKernelIdeal.main_arg2) = m ((c.tc : Thread Cert.FfnsKernelIdeal.nD Cert.FfnsKernelIdeal.τ).loc Cert.FfnsKernelIdeal.main_arg2)
          ∧ r.2.mem ((c.tc : Thread Cert.FfnsKernelIdeal.nD Cert.FfnsKernelIdeal.τ).loc Cert.FfnsKernelIdeal.main_arg3) = m ((c.tc : Thread Cert.FfnsKernelIdeal.nD Cert.FfnsKernelIdeal.τ).loc Cert.FfnsKernelIdeal.main_arg3)
          ∧ r.2.mem ((c.tc : Thread Cert.FfnsKernelIdeal.nD Cert.FfnsKernelIdeal.τ).loc Cert.FfnsKernelIdeal.main_arg4) = m ((c.tc : Thread Cert.FfnsKernelIdeal.nD Cert.FfnsKernelIdeal.τ).loc Cert.FfnsKernelIdeal.main_arg4)
          ∧ r.2.mem ((c.tc : Thread Cert.FfnsKernelIdeal.nD Cert.FfnsKernelIdeal.τ).loc Cert.FfnsKernelIdeal.main_arg5) = m ((c.tc : Thread Cert.FfnsKernelIdeal.nD Cert.FfnsKernelIdeal.τ).loc Cert.FfnsKernelIdeal.main_arg5)
          ∧ r.2.mem ((c.tc : Thread Cert.FfnsKernelIdeal.nD Cert.FfnsKernelIdeal.τ).loc Cert.FfnsKernelIdeal.main_arg6) = m ((c.tc : Thread Cert.FfnsKernelIdeal.nD Cert.FfnsKernelIdeal.τ).loc Cert.FfnsKernelIdeal.main_arg6)
          ∧ r.2.mem ((c.tc : Thread Cert.FfnsKernelIdeal.nD Cert.FfnsKernelIdeal.τ).loc Cert.FfnsKernelIdeal.main_arg7) = m ((c.tc : Thread Cert.FfnsKernelIdeal.nD Cert.FfnsKernelIdeal.τ).loc Cert.FfnsKernelIdeal.main_arg7)
          ∧ r.2.mem ((c.tc : Thread Cert.FfnsKernelIdeal.nD Cert.FfnsKernelIdeal.τ).loc Cert.FfnsKernelIdeal.main_arg8) = m ((c.tc : Thread Cert.FfnsKernelIdeal.nD Cert.FfnsKernelIdeal.τ).loc Cert.FfnsKernelIdeal.main_arg8))
      ∧ θ_run (Cert.FfnsReferenceIdeal.defs (F := Ideal)) (onTc (τ := Cert.FfnsReferenceIdeal.τ) (Cert.FfnsReferenceIdeal.main (F := Ideal))) ⟨m', fun _ => 0, g'⟩ (fun r => ∀ c : Dev Cert.FfnsReferenceIdeal.nD,
          r.2.mem ((c.tc : Thread Cert.FfnsReferenceIdeal.nD Cert.FfnsReferenceIdeal.τ).loc Cert.FfnsReferenceIdeal.main_v77) = v0 c
          ∧ r.2.mem ((c.tc : Thread Cert.FfnsReferenceIdeal.nD Cert.FfnsReferenceIdeal.τ).loc Cert.FfnsReferenceIdeal.main_v79) = v1 c
          ∧ r.2.mem ((c.tc : Thread Cert.FfnsReferenceIdeal.nD Cert.FfnsReferenceIdeal.τ).loc Cert.FfnsReferenceIdeal.main_v82) = v2 c
          ∧ r.2.mem ((c.tc : Thread Cert.FfnsReferenceIdeal.nD Cert.FfnsReferenceIdeal.τ).loc Cert.FfnsReferenceIdeal.main_arg0) = m' ((c.tc : Thread Cert.FfnsReferenceIdeal.nD Cert.FfnsReferenceIdeal.τ).loc Cert.FfnsReferenceIdeal.main_arg0)
          ∧ r.2.mem ((c.tc : Thread Cert.FfnsReferenceIdeal.nD Cert.FfnsReferenceIdeal.τ).loc Cert.FfnsReferenceIdeal.main_arg1) = m' ((c.tc : Thread Cert.FfnsReferenceIdeal.nD Cert.FfnsReferenceIdeal.τ).loc Cert.FfnsReferenceIdeal.main_arg1)
          ∧ r.2.mem ((c.tc : Thread Cert.FfnsReferenceIdeal.nD Cert.FfnsReferenceIdeal.τ).loc Cert.FfnsReferenceIdeal.main_arg2) = m' ((c.tc : Thread Cert.FfnsReferenceIdeal.nD Cert.FfnsReferenceIdeal.τ).loc Cert.FfnsReferenceIdeal.main_arg2)
          ∧ r.2.mem ((c.tc : Thread Cert.FfnsReferenceIdeal.nD Cert.FfnsReferenceIdeal.τ).loc Cert.FfnsReferenceIdeal.main_arg3) = m' ((c.tc : Thread Cert.FfnsReferenceIdeal.nD Cert.FfnsReferenceIdeal.τ).loc Cert.FfnsReferenceIdeal.main_arg3)
          ∧ r.2.mem ((c.tc : Thread Cert.FfnsReferenceIdeal.nD Cert.FfnsReferenceIdeal.τ).loc Cert.FfnsReferenceIdeal.main_arg4) = m' ((c.tc : Thread Cert.FfnsReferenceIdeal.nD Cert.FfnsReferenceIdeal.τ).loc Cert.FfnsReferenceIdeal.main_arg4)
          ∧ r.2.mem ((c.tc : Thread Cert.FfnsReferenceIdeal.nD Cert.FfnsReferenceIdeal.τ).loc Cert.FfnsReferenceIdeal.main_arg5) = m' ((c.tc : Thread Cert.FfnsReferenceIdeal.nD Cert.FfnsReferenceIdeal.τ).loc Cert.FfnsReferenceIdeal.main_arg5)
          ∧ r.2.mem ((c.tc : Thread Cert.FfnsReferenceIdeal.nD Cert.FfnsReferenceIdeal.τ).loc Cert.FfnsReferenceIdeal.main_arg6) = m' ((c.tc : Thread Cert.FfnsReferenceIdeal.nD Cert.FfnsReferenceIdeal.τ).loc Cert.FfnsReferenceIdeal.main_arg6)
          ∧ r.2.mem ((c.tc : Thread Cert.FfnsReferenceIdeal.nD Cert.FfnsReferenceIdeal.τ).loc Cert.FfnsReferenceIdeal.main_arg7) = m' ((c.tc : Thread Cert.FfnsReferenceIdeal.nD Cert.FfnsReferenceIdeal.τ).loc Cert.FfnsReferenceIdeal.main_arg7)
          ∧ r.2.mem ((c.tc : Thread Cert.FfnsReferenceIdeal.nD Cert.FfnsReferenceIdeal.τ).loc Cert.FfnsReferenceIdeal.main_arg8) = m' ((c.tc : Thread Cert.FfnsReferenceIdeal.nD Cert.FfnsReferenceIdeal.τ).loc Cert.FfnsReferenceIdeal.main_arg8))

def preserves_MlapKernel_MlapKernelIdeal : Prop :=
  True

def algebraic_MlapKernelIdeal_MlapReferenceIdeal [hMlapKernelIdeal : Cert.MlapKernelIdeal.Facts] [hMlapReferenceIdeal : Cert.MlapReferenceIdeal.Facts] : Prop :=
  ∀ (m : (ℓ : Loc Cert.MlapKernelIdeal.nD Cert.MlapKernelIdeal.τ Cert.MlapKernelIdeal.sig) → Buf (Elt Ideal) ℓ) (g : Dev Cert.MlapKernelIdeal.nD → PrngReg)
    (m' : (ℓ : Loc Cert.MlapReferenceIdeal.nD Cert.MlapReferenceIdeal.τ Cert.MlapReferenceIdeal.sig) → Buf (Elt Ideal) ℓ) (g' : Dev Cert.MlapReferenceIdeal.nD → PrngReg), Pre_MlapKernelIdeal m →
    (∀ c : Dev Cert.MlapKernelIdeal.nD,
      m' ((c.tc : Thread Cert.MlapReferenceIdeal.nD Cert.MlapReferenceIdeal.τ).loc Cert.MlapReferenceIdeal.main_arg0) = m ((c.tc : Thread Cert.MlapKernelIdeal.nD Cert.MlapKernelIdeal.τ).loc Cert.MlapKernelIdeal.main_arg0)
      ∧ m' ((c.tc : Thread Cert.MlapReferenceIdeal.nD Cert.MlapReferenceIdeal.τ).loc Cert.MlapReferenceIdeal.main_arg1) = m ((c.tc : Thread Cert.MlapKernelIdeal.nD Cert.MlapKernelIdeal.τ).loc Cert.MlapKernelIdeal.main_arg1)
      ∧ m' ((c.tc : Thread Cert.MlapReferenceIdeal.nD Cert.MlapReferenceIdeal.τ).loc Cert.MlapReferenceIdeal.main_arg2) = m ((c.tc : Thread Cert.MlapKernelIdeal.nD Cert.MlapKernelIdeal.τ).loc Cert.MlapKernelIdeal.main_arg2)
      ∧ m' ((c.tc : Thread Cert.MlapReferenceIdeal.nD Cert.MlapReferenceIdeal.τ).loc Cert.MlapReferenceIdeal.main_arg3) = m ((c.tc : Thread Cert.MlapKernelIdeal.nD Cert.MlapKernelIdeal.τ).loc Cert.MlapKernelIdeal.main_arg3)
      ∧ m' ((c.tc : Thread Cert.MlapReferenceIdeal.nD Cert.MlapReferenceIdeal.τ).loc Cert.MlapReferenceIdeal.main_arg4) = m ((c.tc : Thread Cert.MlapKernelIdeal.nD Cert.MlapKernelIdeal.τ).loc Cert.MlapKernelIdeal.main_arg4)) →
    ∃ (v0 : (c : Dev Cert.MlapKernelIdeal.nD) → Buf (Elt Ideal) ((c.tc : Thread Cert.MlapKernelIdeal.nD Cert.MlapKernelIdeal.τ).loc Cert.MlapKernelIdeal.main_v47_0)) (v1 : (c : Dev Cert.MlapKernelIdeal.nD) → Buf (Elt Ideal) ((c.tc : Thread Cert.MlapKernelIdeal.nD Cert.MlapKernelIdeal.τ).loc Cert.MlapKernelIdeal.main_v47_1)) (v2 : (c : Dev Cert.MlapKernelIdeal.nD) → Buf (Elt Ideal) ((c.tc : Thread Cert.MlapKernelIdeal.nD Cert.MlapKernelIdeal.τ).loc Cert.MlapKernelIdeal.main_v47_2)) (v3 : (c : Dev Cert.MlapKernelIdeal.nD) → Buf (Elt Ideal) ((c.tc : Thread Cert.MlapKernelIdeal.nD Cert.MlapKernelIdeal.τ).loc Cert.MlapKernelIdeal.main_v47_3)),
      θ_run (Cert.MlapKernelIdeal.defs (F := Ideal)) (onTc (τ := Cert.MlapKernelIdeal.τ) (Cert.MlapKernelIdeal.main (F := Ideal))) ⟨m, fun _ => 0, g⟩ (fun r => ∀ c : Dev Cert.MlapKernelIdeal.nD,
          r.2.mem ((c.tc : Thread Cert.MlapKernelIdeal.nD Cert.MlapKernelIdeal.τ).loc Cert.MlapKernelIdeal.main_v47_0) = v0 c
          ∧ r.2.mem ((c.tc : Thread Cert.MlapKernelIdeal.nD Cert.MlapKernelIdeal.τ).loc Cert.MlapKernelIdeal.main_v47_1) = v1 c
          ∧ r.2.mem ((c.tc : Thread Cert.MlapKernelIdeal.nD Cert.MlapKernelIdeal.τ).loc Cert.MlapKernelIdeal.main_v47_2) = v2 c
          ∧ r.2.mem ((c.tc : Thread Cert.MlapKernelIdeal.nD Cert.MlapKernelIdeal.τ).loc Cert.MlapKernelIdeal.main_v47_3) = v3 c
          ∧ r.2.mem ((c.tc : Thread Cert.MlapKernelIdeal.nD Cert.MlapKernelIdeal.τ).loc Cert.MlapKernelIdeal.main_arg0) = m ((c.tc : Thread Cert.MlapKernelIdeal.nD Cert.MlapKernelIdeal.τ).loc Cert.MlapKernelIdeal.main_arg0)
          ∧ r.2.mem ((c.tc : Thread Cert.MlapKernelIdeal.nD Cert.MlapKernelIdeal.τ).loc Cert.MlapKernelIdeal.main_arg1) = m ((c.tc : Thread Cert.MlapKernelIdeal.nD Cert.MlapKernelIdeal.τ).loc Cert.MlapKernelIdeal.main_arg1)
          ∧ r.2.mem ((c.tc : Thread Cert.MlapKernelIdeal.nD Cert.MlapKernelIdeal.τ).loc Cert.MlapKernelIdeal.main_arg2) = m ((c.tc : Thread Cert.MlapKernelIdeal.nD Cert.MlapKernelIdeal.τ).loc Cert.MlapKernelIdeal.main_arg2)
          ∧ r.2.mem ((c.tc : Thread Cert.MlapKernelIdeal.nD Cert.MlapKernelIdeal.τ).loc Cert.MlapKernelIdeal.main_arg3) = m ((c.tc : Thread Cert.MlapKernelIdeal.nD Cert.MlapKernelIdeal.τ).loc Cert.MlapKernelIdeal.main_arg3)
          ∧ r.2.mem ((c.tc : Thread Cert.MlapKernelIdeal.nD Cert.MlapKernelIdeal.τ).loc Cert.MlapKernelIdeal.main_arg4) = m ((c.tc : Thread Cert.MlapKernelIdeal.nD Cert.MlapKernelIdeal.τ).loc Cert.MlapKernelIdeal.main_arg4))
      ∧ θ_run (Cert.MlapReferenceIdeal.defs (F := Ideal)) (onTc (τ := Cert.MlapReferenceIdeal.τ) (Cert.MlapReferenceIdeal.main (F := Ideal))) ⟨m', fun _ => 0, g'⟩ (fun r => ∀ c : Dev Cert.MlapReferenceIdeal.nD,
          r.2.mem ((c.tc : Thread Cert.MlapReferenceIdeal.nD Cert.MlapReferenceIdeal.τ).loc Cert.MlapReferenceIdeal.main_v113) = v0 c
          ∧ r.2.mem ((c.tc : Thread Cert.MlapReferenceIdeal.nD Cert.MlapReferenceIdeal.τ).loc Cert.MlapReferenceIdeal.main_v115) = v1 c
          ∧ r.2.mem ((c.tc : Thread Cert.MlapReferenceIdeal.nD Cert.MlapReferenceIdeal.τ).loc Cert.MlapReferenceIdeal.main_v117) = v2 c
          ∧ r.2.mem ((c.tc : Thread Cert.MlapReferenceIdeal.nD Cert.MlapReferenceIdeal.τ).loc Cert.MlapReferenceIdeal.main_v119) = v3 c
          ∧ r.2.mem ((c.tc : Thread Cert.MlapReferenceIdeal.nD Cert.MlapReferenceIdeal.τ).loc Cert.MlapReferenceIdeal.main_arg0) = m' ((c.tc : Thread Cert.MlapReferenceIdeal.nD Cert.MlapReferenceIdeal.τ).loc Cert.MlapReferenceIdeal.main_arg0)
          ∧ r.2.mem ((c.tc : Thread Cert.MlapReferenceIdeal.nD Cert.MlapReferenceIdeal.τ).loc Cert.MlapReferenceIdeal.main_arg1) = m' ((c.tc : Thread Cert.MlapReferenceIdeal.nD Cert.MlapReferenceIdeal.τ).loc Cert.MlapReferenceIdeal.main_arg1)
          ∧ r.2.mem ((c.tc : Thread Cert.MlapReferenceIdeal.nD Cert.MlapReferenceIdeal.τ).loc Cert.MlapReferenceIdeal.main_arg2) = m' ((c.tc : Thread Cert.MlapReferenceIdeal.nD Cert.MlapReferenceIdeal.τ).loc Cert.MlapReferenceIdeal.main_arg2)
          ∧ r.2.mem ((c.tc : Thread Cert.MlapReferenceIdeal.nD Cert.MlapReferenceIdeal.τ).loc Cert.MlapReferenceIdeal.main_arg3) = m' ((c.tc : Thread Cert.MlapReferenceIdeal.nD Cert.MlapReferenceIdeal.τ).loc Cert.MlapReferenceIdeal.main_arg3)
          ∧ r.2.mem ((c.tc : Thread Cert.MlapReferenceIdeal.nD Cert.MlapReferenceIdeal.τ).loc Cert.MlapReferenceIdeal.main_arg4) = m' ((c.tc : Thread Cert.MlapReferenceIdeal.nD Cert.MlapReferenceIdeal.τ).loc Cert.MlapReferenceIdeal.main_arg4))

def preserves_MlasKernel_MlasKernelIdeal : Prop :=
  True

def algebraic_MlasKernelIdeal_MlasReferenceIdeal [hMlasKernelIdeal : Cert.MlasKernelIdeal.Facts] [hMlasReferenceIdeal : Cert.MlasReferenceIdeal.Facts] : Prop :=
  ∀ (m : (ℓ : Loc Cert.MlasKernelIdeal.nD Cert.MlasKernelIdeal.τ Cert.MlasKernelIdeal.sig) → Buf (Elt Ideal) ℓ) (g : Dev Cert.MlasKernelIdeal.nD → PrngReg)
    (m' : (ℓ : Loc Cert.MlasReferenceIdeal.nD Cert.MlasReferenceIdeal.τ Cert.MlasReferenceIdeal.sig) → Buf (Elt Ideal) ℓ) (g' : Dev Cert.MlasReferenceIdeal.nD → PrngReg), Pre_MlasKernelIdeal m →
    (∀ c : Dev Cert.MlasKernelIdeal.nD,
      m' ((c.tc : Thread Cert.MlasReferenceIdeal.nD Cert.MlasReferenceIdeal.τ).loc Cert.MlasReferenceIdeal.main_arg0) = m ((c.tc : Thread Cert.MlasKernelIdeal.nD Cert.MlasKernelIdeal.τ).loc Cert.MlasKernelIdeal.main_arg0)
      ∧ m' ((c.tc : Thread Cert.MlasReferenceIdeal.nD Cert.MlasReferenceIdeal.τ).loc Cert.MlasReferenceIdeal.main_arg1) = m ((c.tc : Thread Cert.MlasKernelIdeal.nD Cert.MlasKernelIdeal.τ).loc Cert.MlasKernelIdeal.main_arg1)
      ∧ m' ((c.tc : Thread Cert.MlasReferenceIdeal.nD Cert.MlasReferenceIdeal.τ).loc Cert.MlasReferenceIdeal.main_arg2) = m ((c.tc : Thread Cert.MlasKernelIdeal.nD Cert.MlasKernelIdeal.τ).loc Cert.MlasKernelIdeal.main_arg2)
      ∧ m' ((c.tc : Thread Cert.MlasReferenceIdeal.nD Cert.MlasReferenceIdeal.τ).loc Cert.MlasReferenceIdeal.main_arg3) = m ((c.tc : Thread Cert.MlasKernelIdeal.nD Cert.MlasKernelIdeal.τ).loc Cert.MlasKernelIdeal.main_arg3)
      ∧ m' ((c.tc : Thread Cert.MlasReferenceIdeal.nD Cert.MlasReferenceIdeal.τ).loc Cert.MlasReferenceIdeal.main_arg4) = m ((c.tc : Thread Cert.MlasKernelIdeal.nD Cert.MlasKernelIdeal.τ).loc Cert.MlasKernelIdeal.main_arg4)) →
    ∃ (v0 : (c : Dev Cert.MlasKernelIdeal.nD) → Buf (Elt Ideal) ((c.tc : Thread Cert.MlasKernelIdeal.nD Cert.MlasKernelIdeal.τ).loc Cert.MlasKernelIdeal.main_v51_0)) (v1 : (c : Dev Cert.MlasKernelIdeal.nD) → Buf (Elt Ideal) ((c.tc : Thread Cert.MlasKernelIdeal.nD Cert.MlasKernelIdeal.τ).loc Cert.MlasKernelIdeal.main_v51_1)) (v2 : (c : Dev Cert.MlasKernelIdeal.nD) → Buf (Elt Ideal) ((c.tc : Thread Cert.MlasKernelIdeal.nD Cert.MlasKernelIdeal.τ).loc Cert.MlasKernelIdeal.main_v51_2)) (v3 : (c : Dev Cert.MlasKernelIdeal.nD) → Buf (Elt Ideal) ((c.tc : Thread Cert.MlasKernelIdeal.nD Cert.MlasKernelIdeal.τ).loc Cert.MlasKernelIdeal.main_v51_3)),
      θ_run (Cert.MlasKernelIdeal.defs (F := Ideal)) (onTc (τ := Cert.MlasKernelIdeal.τ) (Cert.MlasKernelIdeal.main (F := Ideal))) ⟨m, fun _ => 0, g⟩ (fun r => ∀ c : Dev Cert.MlasKernelIdeal.nD,
          r.2.mem ((c.tc : Thread Cert.MlasKernelIdeal.nD Cert.MlasKernelIdeal.τ).loc Cert.MlasKernelIdeal.main_v51_0) = v0 c
          ∧ r.2.mem ((c.tc : Thread Cert.MlasKernelIdeal.nD Cert.MlasKernelIdeal.τ).loc Cert.MlasKernelIdeal.main_v51_1) = v1 c
          ∧ r.2.mem ((c.tc : Thread Cert.MlasKernelIdeal.nD Cert.MlasKernelIdeal.τ).loc Cert.MlasKernelIdeal.main_v51_2) = v2 c
          ∧ r.2.mem ((c.tc : Thread Cert.MlasKernelIdeal.nD Cert.MlasKernelIdeal.τ).loc Cert.MlasKernelIdeal.main_v51_3) = v3 c
          ∧ r.2.mem ((c.tc : Thread Cert.MlasKernelIdeal.nD Cert.MlasKernelIdeal.τ).loc Cert.MlasKernelIdeal.main_arg0) = m ((c.tc : Thread Cert.MlasKernelIdeal.nD Cert.MlasKernelIdeal.τ).loc Cert.MlasKernelIdeal.main_arg0)
          ∧ r.2.mem ((c.tc : Thread Cert.MlasKernelIdeal.nD Cert.MlasKernelIdeal.τ).loc Cert.MlasKernelIdeal.main_arg1) = m ((c.tc : Thread Cert.MlasKernelIdeal.nD Cert.MlasKernelIdeal.τ).loc Cert.MlasKernelIdeal.main_arg1)
          ∧ r.2.mem ((c.tc : Thread Cert.MlasKernelIdeal.nD Cert.MlasKernelIdeal.τ).loc Cert.MlasKernelIdeal.main_arg2) = m ((c.tc : Thread Cert.MlasKernelIdeal.nD Cert.MlasKernelIdeal.τ).loc Cert.MlasKernelIdeal.main_arg2)
          ∧ r.2.mem ((c.tc : Thread Cert.MlasKernelIdeal.nD Cert.MlasKernelIdeal.τ).loc Cert.MlasKernelIdeal.main_arg3) = m ((c.tc : Thread Cert.MlasKernelIdeal.nD Cert.MlasKernelIdeal.τ).loc Cert.MlasKernelIdeal.main_arg3)
          ∧ r.2.mem ((c.tc : Thread Cert.MlasKernelIdeal.nD Cert.MlasKernelIdeal.τ).loc Cert.MlasKernelIdeal.main_arg4) = m ((c.tc : Thread Cert.MlasKernelIdeal.nD Cert.MlasKernelIdeal.τ).loc Cert.MlasKernelIdeal.main_arg4))
      ∧ θ_run (Cert.MlasReferenceIdeal.defs (F := Ideal)) (onTc (τ := Cert.MlasReferenceIdeal.τ) (Cert.MlasReferenceIdeal.main (F := Ideal))) ⟨m', fun _ => 0, g'⟩ (fun r => ∀ c : Dev Cert.MlasReferenceIdeal.nD,
          r.2.mem ((c.tc : Thread Cert.MlasReferenceIdeal.nD Cert.MlasReferenceIdeal.τ).loc Cert.MlasReferenceIdeal.main_v115) = v0 c
          ∧ r.2.mem ((c.tc : Thread Cert.MlasReferenceIdeal.nD Cert.MlasReferenceIdeal.τ).loc Cert.MlasReferenceIdeal.main_v117) = v1 c
          ∧ r.2.mem ((c.tc : Thread Cert.MlasReferenceIdeal.nD Cert.MlasReferenceIdeal.τ).loc Cert.MlasReferenceIdeal.main_v119) = v2 c
          ∧ r.2.mem ((c.tc : Thread Cert.MlasReferenceIdeal.nD Cert.MlasReferenceIdeal.τ).loc Cert.MlasReferenceIdeal.main_v121) = v3 c
          ∧ r.2.mem ((c.tc : Thread Cert.MlasReferenceIdeal.nD Cert.MlasReferenceIdeal.τ).loc Cert.MlasReferenceIdeal.main_arg0) = m' ((c.tc : Thread Cert.MlasReferenceIdeal.nD Cert.MlasReferenceIdeal.τ).loc Cert.MlasReferenceIdeal.main_arg0)
          ∧ r.2.mem ((c.tc : Thread Cert.MlasReferenceIdeal.nD Cert.MlasReferenceIdeal.τ).loc Cert.MlasReferenceIdeal.main_arg1) = m' ((c.tc : Thread Cert.MlasReferenceIdeal.nD Cert.MlasReferenceIdeal.τ).loc Cert.MlasReferenceIdeal.main_arg1)
          ∧ r.2.mem ((c.tc : Thread Cert.MlasReferenceIdeal.nD Cert.MlasReferenceIdeal.τ).loc Cert.MlasReferenceIdeal.main_arg2) = m' ((c.tc : Thread Cert.MlasReferenceIdeal.nD Cert.MlasReferenceIdeal.τ).loc Cert.MlasReferenceIdeal.main_arg2)
          ∧ r.2.mem ((c.tc : Thread Cert.MlasReferenceIdeal.nD Cert.MlasReferenceIdeal.τ).loc Cert.MlasReferenceIdeal.main_arg3) = m' ((c.tc : Thread Cert.MlasReferenceIdeal.nD Cert.MlasReferenceIdeal.τ).loc Cert.MlasReferenceIdeal.main_arg3)
          ∧ r.2.mem ((c.tc : Thread Cert.MlasReferenceIdeal.nD Cert.MlasReferenceIdeal.τ).loc Cert.MlasReferenceIdeal.main_arg4) = m' ((c.tc : Thread Cert.MlasReferenceIdeal.nD Cert.MlasReferenceIdeal.τ).loc Cert.MlasReferenceIdeal.main_arg4))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v4)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v4) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v28) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_MixOutKernel_MixOutKernelIdeal : Prop :=
  True

def algebraic_MixOutKernelIdeal_MixOutReferenceIdeal [hMixOutKernelIdeal : Cert.MixOutKernelIdeal.Facts] [hMixOutReferenceIdeal : Cert.MixOutReferenceIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutKernelIdeal m →
    (∀ c : Dev Cert.MixOutKernelIdeal.nD,
      m' ((c.tc : Thread Cert.MixOutReferenceIdeal.nD Cert.MixOutReferenceIdeal.τ).loc Cert.MixOutReferenceIdeal.main_arg0) = m ((c.tc : Thread Cert.MixOutKernelIdeal.nD Cert.MixOutKernelIdeal.τ).loc Cert.MixOutKernelIdeal.main_arg0)
      ∧ m' ((c.tc : Thread Cert.MixOutReferenceIdeal.nD Cert.MixOutReferenceIdeal.τ).loc Cert.MixOutReferenceIdeal.main_arg1) = m ((c.tc : Thread Cert.MixOutKernelIdeal.nD Cert.MixOutKernelIdeal.τ).loc Cert.MixOutKernelIdeal.main_arg1)
      ∧ m' ((c.tc : Thread Cert.MixOutReferenceIdeal.nD Cert.MixOutReferenceIdeal.τ).loc Cert.MixOutReferenceIdeal.main_arg2) = m ((c.tc : Thread Cert.MixOutKernelIdeal.nD Cert.MixOutKernelIdeal.τ).loc Cert.MixOutKernelIdeal.main_arg2)
      ∧ m' ((c.tc : Thread Cert.MixOutReferenceIdeal.nD Cert.MixOutReferenceIdeal.τ).loc Cert.MixOutReferenceIdeal.main_arg3) = m ((c.tc : Thread Cert.MixOutKernelIdeal.nD Cert.MixOutKernelIdeal.τ).loc Cert.MixOutKernelIdeal.main_arg3)
      ∧ m' ((c.tc : Thread Cert.MixOutReferenceIdeal.nD Cert.MixOutReferenceIdeal.τ).loc Cert.MixOutReferenceIdeal.main_arg4) = m ((c.tc : Thread Cert.MixOutKernelIdeal.nD Cert.MixOutKernelIdeal.τ).loc Cert.MixOutKernelIdeal.main_arg4)
      ∧ m' ((c.tc : Thread Cert.MixOutReferenceIdeal.nD Cert.MixOutReferenceIdeal.τ).loc Cert.MixOutReferenceIdeal.main_arg5) = m ((c.tc : Thread Cert.MixOutKernelIdeal.nD Cert.MixOutKernelIdeal.τ).loc Cert.MixOutKernelIdeal.main_arg5)) →
    ∃ (v0 : (c : Dev Cert.MixOutKernelIdeal.nD) → Buf (Elt Ideal) ((c.tc : Thread Cert.MixOutKernelIdeal.nD Cert.MixOutKernelIdeal.τ).loc Cert.MixOutKernelIdeal.main_v7)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v7) = v0 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
          ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
          ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v35) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)) →
    ∃ (v0 : (c : Dev Cert.KvKernelIdeal.nD) → Buf (Elt Ideal) ((c.tc : Thread Cert.KvKernelIdeal.nD Cert.KvKernelIdeal.τ).loc Cert.KvKernelIdeal.main_v2)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v2) = v0 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v4) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_MlaOutKernel_MlaOutKernelIdeal : Prop :=
  True

def algebraic_MlaOutKernelIdeal_MlaOutReferenceIdeal [hMlaOutKernelIdeal : Cert.MlaOutKernelIdeal.Facts] [hMlaOutReferenceIdeal : Cert.MlaOutReferenceIdeal.Facts] : Prop :=
  ∀ (m : (ℓ : Loc Cert.MlaOutKernelIdeal.nD Cert.MlaOutKernelIdeal.τ Cert.MlaOutKernelIdeal.sig) → Buf (Elt Ideal) ℓ) (g : Dev Cert.MlaOutKernelIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutKernelIdeal m →
    (∀ c : Dev Cert.MlaOutKernelIdeal.nD,
      m' ((c.tc : Thread Cert.MlaOutReferenceIdeal.nD Cert.MlaOutReferenceIdeal.τ).loc Cert.MlaOutReferenceIdeal.main_arg0) = m ((c.tc : Thread Cert.MlaOutKernelIdeal.nD Cert.MlaOutKernelIdeal.τ).loc Cert.MlaOutKernelIdeal.main_arg0)
      ∧ m' ((c.tc : Thread Cert.MlaOutReferenceIdeal.nD Cert.MlaOutReferenceIdeal.τ).loc Cert.MlaOutReferenceIdeal.main_arg1) = m ((c.tc : Thread Cert.MlaOutKernelIdeal.nD Cert.MlaOutKernelIdeal.τ).loc Cert.MlaOutKernelIdeal.main_arg1)
      ∧ m' ((c.tc : Thread Cert.MlaOutReferenceIdeal.nD Cert.MlaOutReferenceIdeal.τ).loc Cert.MlaOutReferenceIdeal.main_arg2) = m ((c.tc : Thread Cert.MlaOutKernelIdeal.nD Cert.MlaOutKernelIdeal.τ).loc Cert.MlaOutKernelIdeal.main_arg2)
      ∧ m' ((c.tc : Thread Cert.MlaOutReferenceIdeal.nD Cert.MlaOutReferenceIdeal.τ).loc Cert.MlaOutReferenceIdeal.main_arg3) = m ((c.tc : Thread Cert.MlaOutKernelIdeal.nD Cert.MlaOutKernelIdeal.τ).loc Cert.MlaOutKernelIdeal.main_arg3)
      ∧ m' ((c.tc : Thread Cert.MlaOutReferenceIdeal.nD Cert.MlaOutReferenceIdeal.τ).loc Cert.MlaOutReferenceIdeal.main_arg4) = m ((c.tc : Thread Cert.MlaOutKernelIdeal.nD Cert.MlaOutKernelIdeal.τ).loc Cert.MlaOutKernelIdeal.main_arg4)) →
    ∃ (v0 : (c : Dev Cert.MlaOutKernelIdeal.nD) → Buf (Elt Ideal) ((c.tc : Thread Cert.MlaOutKernelIdeal.nD Cert.MlaOutKernelIdeal.τ).loc Cert.MlaOutKernelIdeal.main_v7)),
      θ_run (Cert.MlaOutKernelIdeal.defs (F := Ideal)) (onTc (τ := Cert.MlaOutKernelIdeal.τ) (Cert.MlaOutKernelIdeal.main (F := Ideal))) ⟨m, fun _ => 0, g⟩ (fun r => ∀ c : Dev Cert.MlaOutKernelIdeal.nD,
          r.2.mem ((c.tc : Thread Cert.MlaOutKernelIdeal.nD Cert.MlaOutKernelIdeal.τ).loc Cert.MlaOutKernelIdeal.main_v7) = v0 c
          ∧ r.2.mem ((c.tc : Thread Cert.MlaOutKernelIdeal.nD Cert.MlaOutKernelIdeal.τ).loc Cert.MlaOutKernelIdeal.main_arg0) = m ((c.tc : Thread Cert.MlaOutKernelIdeal.nD Cert.MlaOutKernelIdeal.τ).loc Cert.MlaOutKernelIdeal.main_arg0)
          ∧ r.2.mem ((c.tc : Thread Cert.MlaOutKernelIdeal.nD Cert.MlaOutKernelIdeal.τ).loc Cert.MlaOutKernelIdeal.main_arg1) = m ((c.tc : Thread Cert.MlaOutKernelIdeal.nD Cert.MlaOutKernelIdeal.τ).loc Cert.MlaOutKernelIdeal.main_arg1)
          ∧ r.2.mem ((c.tc : Thread Cert.MlaOutKernelIdeal.nD Cert.MlaOutKernelIdeal.τ).loc Cert.MlaOutKernelIdeal.main_arg2) = m ((c.tc : Thread Cert.MlaOutKernelIdeal.nD Cert.MlaOutKernelIdeal.τ).loc Cert.MlaOutKernelIdeal.main_arg2)
          ∧ r.2.mem ((c.tc : Thread Cert.MlaOutKernelIdeal.nD Cert.MlaOutKernelIdeal.τ).loc Cert.MlaOutKernelIdeal.main_arg3) = m ((c.tc : Thread Cert.MlaOutKernelIdeal.nD Cert.MlaOutKernelIdeal.τ).loc Cert.MlaOutKernelIdeal.main_arg3)
          ∧ r.2.mem ((c.tc : Thread Cert.MlaOutKernelIdeal.nD Cert.MlaOutKernelIdeal.τ).loc Cert.MlaOutKernelIdeal.main_arg4) = m ((c.tc : Thread Cert.MlaOutKernelIdeal.nD Cert.MlaOutKernelIdeal.τ).loc Cert.MlaOutKernelIdeal.main_arg4))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v34) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1)
          ∧ r.2.mem ((c.tc : Thread Cert.MlaOutReferenceIdeal.nD Cert.MlaOutReferenceIdeal.τ).loc Cert.MlaOutReferenceIdeal.main_arg2) = m' ((c.tc : Thread Cert.MlaOutReferenceIdeal.nD Cert.MlaOutReferenceIdeal.τ).loc Cert.MlaOutReferenceIdeal.main_arg2)
          ∧ r.2.mem ((c.tc : Thread Cert.MlaOutReferenceIdeal.nD Cert.MlaOutReferenceIdeal.τ).loc Cert.MlaOutReferenceIdeal.main_arg3) = m' ((c.tc : Thread Cert.MlaOutReferenceIdeal.nD Cert.MlaOutReferenceIdeal.τ).loc Cert.MlaOutReferenceIdeal.main_arg3)
          ∧ r.2.mem ((c.tc : Thread Cert.MlaOutReferenceIdeal.nD Cert.MlaOutReferenceIdeal.τ).loc Cert.MlaOutReferenceIdeal.main_arg4) = m' ((c.tc : Thread Cert.MlaOutReferenceIdeal.nD Cert.MlaOutReferenceIdeal.τ).loc Cert.MlaOutReferenceIdeal.main_arg4))

def Claim : Prop :=
  ∃ (hParamsKernel : Cert.ParamsKernel.Facts) (hParamsKernelIdeal : Cert.ParamsKernelIdeal.Facts) (hParamsReferenceIdeal : Cert.ParamsReferenceIdeal.Facts) (hS5Kernel : Cert.S5Kernel.Facts) (hS5KernelIdeal : Cert.S5KernelIdeal.Facts) (hS5ReferenceIdeal : Cert.S5ReferenceIdeal.Facts) (hFfnKernel : Cert.FfnKernel.Facts) (hFfnKernelIdeal : Cert.FfnKernelIdeal.Facts) (hFfnReferenceIdeal : Cert.FfnReferenceIdeal.Facts) (hFfnsKernel : Cert.FfnsKernel.Facts) (hFfnsKernelIdeal : Cert.FfnsKernelIdeal.Facts) (hFfnsReferenceIdeal : Cert.FfnsReferenceIdeal.Facts) (hMlapKernel : Cert.MlapKernel.Facts) (hMlapKernelIdeal : Cert.MlapKernelIdeal.Facts) (hMlapReferenceIdeal : Cert.MlapReferenceIdeal.Facts) (hMlasKernel : Cert.MlasKernel.Facts) (hMlasKernelIdeal : Cert.MlasKernelIdeal.Facts) (hMlasReferenceIdeal : Cert.MlasReferenceIdeal.Facts) (hGluKernel : Cert.GluKernel.Facts) (hGluKernelIdeal : Cert.GluKernelIdeal.Facts) (hGluReferenceIdeal : Cert.GluReferenceIdeal.Facts) (hMixOutKernel : Cert.MixOutKernel.Facts) (hMixOutKernelIdeal : Cert.MixOutKernelIdeal.Facts) (hMixOutReferenceIdeal : Cert.MixOutReferenceIdeal.Facts) (hKvKernel : Cert.KvKernel.Facts) (hKvKernelIdeal : Cert.KvKernelIdeal.Facts) (hKvReferenceIdeal : Cert.KvReferenceIdeal.Facts) (hMlaOutKernel : Cert.MlaOutKernel.Facts) (hMlaOutKernelIdeal : Cert.MlaOutKernelIdeal.Facts) (hMlaOutReferenceIdeal : Cert.MlaOutReferenceIdeal.Facts) (hOn_real_rows : Cert.On_real_rows.Facts),
    quiescent_ParamsKernel (hParamsKernel := hParamsKernel)
    ∧ quiescent_ParamsKernelIdeal (hParamsKernelIdeal := hParamsKernelIdeal)
    ∧ quiescent_ParamsReferenceIdeal (hParamsReferenceIdeal := hParamsReferenceIdeal)
    ∧ quiescent_S5Kernel (hS5Kernel := hS5Kernel)
    ∧ quiescent_S5KernelIdeal (hS5KernelIdeal := hS5KernelIdeal)
    ∧ quiescent_S5ReferenceIdeal (hS5ReferenceIdeal := hS5ReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_FfnsKernel (hFfnsKernel := hFfnsKernel)
    ∧ quiescent_FfnsKernelIdeal (hFfnsKernelIdeal := hFfnsKernelIdeal)
    ∧ quiescent_FfnsReferenceIdeal (hFfnsReferenceIdeal := hFfnsReferenceIdeal)
    ∧ quiescent_MlapKernel (hMlapKernel := hMlapKernel)
    ∧ quiescent_MlapKernelIdeal (hMlapKernelIdeal := hMlapKernelIdeal)
    ∧ quiescent_MlapReferenceIdeal (hMlapReferenceIdeal := hMlapReferenceIdeal)
    ∧ quiescent_MlasKernel (hMlasKernel := hMlasKernel)
    ∧ quiescent_MlasKernelIdeal (hMlasKernelIdeal := hMlasKernelIdeal)
    ∧ quiescent_MlasReferenceIdeal (hMlasReferenceIdeal := hMlasReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_MixOutKernel (hMixOutKernel := hMixOutKernel)
    ∧ quiescent_MixOutKernelIdeal (hMixOutKernelIdeal := hMixOutKernelIdeal)
    ∧ quiescent_MixOutReferenceIdeal (hMixOutReferenceIdeal := hMixOutReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_MlaOutKernel (hMlaOutKernel := hMlaOutKernel)
    ∧ quiescent_MlaOutKernelIdeal (hMlaOutKernelIdeal := hMlaOutKernelIdeal)
    ∧ quiescent_MlaOutReferenceIdeal (hMlaOutReferenceIdeal := hMlaOutReferenceIdeal)
    ∧ preserves_ParamsKernel_ParamsKernelIdeal
    ∧ algebraic_ParamsKernelIdeal_ParamsReferenceIdeal (hParamsKernelIdeal := hParamsKernelIdeal) (hParamsReferenceIdeal := hParamsReferenceIdeal)
    ∧ preserves_S5Kernel_S5KernelIdeal
    ∧ algebraic_S5KernelIdeal_S5ReferenceIdeal (hS5KernelIdeal := hS5KernelIdeal) (hS5ReferenceIdeal := hS5ReferenceIdeal)
    ∧ preserves_FfnKernel_FfnKernelIdeal
    ∧ algebraic_FfnKernelIdeal_FfnReferenceIdeal_on_real_rows (hFfnKernelIdeal := hFfnKernelIdeal) (hFfnReferenceIdeal := hFfnReferenceIdeal) (hOn_real_rows := hOn_real_rows)
    ∧ preserves_FfnsKernel_FfnsKernelIdeal
    ∧ algebraic_FfnsKernelIdeal_FfnsReferenceIdeal (hFfnsKernelIdeal := hFfnsKernelIdeal) (hFfnsReferenceIdeal := hFfnsReferenceIdeal)
    ∧ preserves_MlapKernel_MlapKernelIdeal
    ∧ algebraic_MlapKernelIdeal_MlapReferenceIdeal (hMlapKernelIdeal := hMlapKernelIdeal) (hMlapReferenceIdeal := hMlapReferenceIdeal)
    ∧ preserves_MlasKernel_MlasKernelIdeal
    ∧ algebraic_MlasKernelIdeal_MlasReferenceIdeal (hMlasKernelIdeal := hMlasKernelIdeal) (hMlasReferenceIdeal := hMlasReferenceIdeal)
    ∧ preserves_GluKernel_GluKernelIdeal
    ∧ algebraic_GluKernelIdeal_GluReferenceIdeal (hGluKernelIdeal := hGluKernelIdeal) (hGluReferenceIdeal := hGluReferenceIdeal)
    ∧ preserves_MixOutKernel_MixOutKernelIdeal
    ∧ algebraic_MixOutKernelIdeal_MixOutReferenceIdeal (hMixOutKernelIdeal := hMixOutKernelIdeal) (hMixOutReferenceIdeal := hMixOutReferenceIdeal)
    ∧ preserves_KvKernel_KvKernelIdeal
    ∧ algebraic_KvKernelIdeal_KvReferenceIdeal (hKvKernelIdeal := hKvKernelIdeal) (hKvReferenceIdeal := hKvReferenceIdeal)
    ∧ preserves_MlaOutKernel_MlaOutKernelIdeal
    ∧ algebraic_MlaOutKernelIdeal_MlaOutReferenceIdeal (hMlaOutKernelIdeal := hMlaOutKernelIdeal) (hMlaOutReferenceIdeal := hMlaOutReferenceIdeal)
-- ==== On_real_rows.lean ====
abbrev S2x4112x2048 : Shape := ⟨3, ![2, 4112, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S8448x2048 : Shape := ⟨2, ![8448, 2048]⟩
abbrev S_ : Shape := ⟨0, ![]⟩

class Facts : Prop where
  bcast_S_S8448x2048 : S_.BroadcastsInDim S8448x2048 (![] : Fin 0 → Fin S8448x2048.rank)

variable [Facts]

def fn {F : FTy → Type} [FloatOps F] (main_arg0 : FVec F S2x4112x2048 .f32) (main_arg1 : FVec F S4x2048x11264 .f32) (main_arg2 : FVec F S4x3x11264 .f32) (main_arg3 : FVec F S4x11264 .f32) (main_arg4 : FVec F S4x5632x2048 .f32) (main_arg5 : FVec F S4x2048 .f32) (main_arg6 : FVec F S4x2048 .f32) : IVec S8448x2048 1 :=
  let main_v0 : IVec S8448x2048 32 := iotaInDim S8448x2048 32 0
  let main_c : IVec S_ 32 := constantI S_ 32 4224#32
  let main_v1 : IVec S8448x2048 32 := broadcastInDim S8448x2048 ![] bcast_S_S8448x2048 main_c
  let main_v2 : IVec S8448x2048 32 := Host.remsi main_v0 main_v1
  let main_c_0 : IVec S_ 32 := constantI S_ 32 4112#32
  let main_v3 : IVec S8448x2048 32 := broadcastInDim S8448x2048 ![] bcast_S_S8448x2048 main_c_0
  let main_v4 : IVec S8448x2048 1 := cmpi .slt main_v2 main_v3
  main_v4
-- ==== ParamsKernel.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S4096x1 : Shape := ⟨2, ![4096, 1]⟩
abbrev S4096x16 : Shape := ⟨2, ![4096, 16]⟩

abbrev nBuf : Space → Nat
  | .hbm => 16
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S4096x1, .f32⟩
  | .hbm, ⟨13, _⟩ => ⟨S4096x1, .f32⟩
  | .hbm, ⟨14, _⟩ => ⟨S4096x16, .f32⟩
  | .hbm, ⟨15, _⟩ => ⟨S4096x16, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x16, .f32⟩
  | .local _ .vmem, ⟨4, _⟩ => ⟨S4096x16, .f32⟩
  | .local _ .vmem, ⟨5, _⟩ => ⟨S4096x1, .f32⟩
  | .local _ .vmem, ⟨6, _⟩ => ⟨S4096x1, .f32⟩
  | .local _ .vmem, ⟨7, _⟩ => ⟨S4096x16, .f32⟩
  | .local _ .vmem, ⟨8, _⟩ => ⟨S4096x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ParamsReferenceIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S4096x1 : Shape := ⟨2, ![4096, 1]⟩
abbrev S4096x16 : Shape := ⟨2, ![4096, 16]⟩

abbrev nBuf : Space → Nat
  | .hbm => 53
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S4096x1, .f32⟩
  | .hbm, ⟨50, _⟩ => ⟨S4096x1, .f32⟩
  | .hbm, ⟨51, _⟩ => ⟨S4096x16, .f32⟩
  | .hbm, ⟨52, _⟩ => ⟨S4096x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== S5Kernel.lean ====
abbrev S128x4x5136 : Shape := ⟨3, ![128, 4, 5136]⟩
abbrev S128x64x64 : Shape := ⟨3, ![128, 64, 64]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S128x4x5120 : Shape := ⟨3, ![128, 4, 5120]⟩
abbrev S4x128x5120 : Shape := ⟨3, ![4, 128, 5120]⟩
abbrev S512x5120 : Shape := ⟨2, ![512, 5120]⟩
abbrev S4096x16 : Shape := ⟨2, ![4096, 16]⟩
abbrev S8x8x64x16 : Shape := ⟨4, ![8, 8, 64, 16]⟩
abbrev S8x8x16x64 : Shape := ⟨4, ![8, 8, 16, 64]⟩
abbrev S8x8 : Shape := ⟨2, ![8, 8]⟩
abbrev S_ : Shape := ⟨0, ![]⟩
abbrev S1x8x1x8x1 : Shape := ⟨5, ![1, 8, 1, 8, 1]⟩
abbrev S8x8x16x1x64 : Shape := ⟨5, ![8, 8, 16, 1, 64]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x1024 : Shape := ⟨2, ![1, 1024]⟩
abbrev S1x4096 : Shape := ⟨2, ![1, 4096]⟩
abbrev S128x4096 : Shape := ⟨2, ![128, 4096]⟩
abbrev S512x1024 : Shape := ⟨2, ![512, 1024]⟩
abbrev S512x128 : Shape := ⟨2, ![512, 128]⟩
abbrev S128x512 : Shape := ⟨2, ![128, 512]⟩
abbrev S1x128x512 : Shape := ⟨3, ![1, 128, 512]⟩
abbrev S1x512x128 : Shape := ⟨3, ![1, 512, 128]⟩
abbrev S1x128 : Shape := ⟨2, ![1, 128]⟩
abbrev S1x512 : Shape := ⟨2, ![1, 512]⟩
abbrev S512x512 : Shape := ⟨2, ![512, 512]⟩

abbrev nBuf : Space → Nat
  | .hbm => 95
  | .vmem => 26
  | .smem => 0
  | _ => 0

abbrev bufTy : (tb : Table) → Fin (tcTables nBuf tb) → BufTy
  | .hbm, ⟨0, _⟩ => ⟨S128x4x5136, .f32⟩
  | .hbm, ⟨1, _⟩ => ⟨S128x64x64, .f32⟩
  | .hbm, ⟨2, _⟩ => ⟨S128x64x64, .f32⟩
  | .hbm, ⟨3, _⟩ => ⟨S64x64, .f32⟩
  | .hbm, ⟨4, _⟩ => ⟨S64x64, .f32⟩
  | .hbm, ⟨5, _⟩ => ⟨S64x64x16, .f32⟩
  | .hbm, ⟨6, _⟩ => ⟨S64x64x16, .f32⟩
  | .hbm, ⟨7, _⟩ => ⟨S64x16x64, .f32⟩
  | .hbm, ⟨8, _⟩ => ⟨S64x16x64, .f32⟩
  | .hbm, ⟨9, _⟩ => ⟨S64x16, .f32⟩
  | .hbm, ⟨10, _⟩ => ⟨S128x4x5120, .f32⟩
  | .hbm, ⟨11, _⟩ => ⟨S4x128x5120, .f32⟩
  | .hbm, ⟨12, _⟩ => ⟨S512x5120, .f32⟩
  | .hbm, ⟨13, _⟩ => ⟨S4096x16, .f32⟩
  | .hbm, ⟨14, _⟩ => ⟨S8x8x64x16, .f32⟩
  | .hbm, ⟨15, _⟩ => ⟨S8x8x16x64, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S1x8x1x8x1, .i1⟩
  | .hbm, ⟨23, _⟩ => ⟨S8x8x16x1x64, .f32⟩
  | .hbm, ⟨24, _⟩ => ⟨S_, .f32⟩
  | .hbm, ⟨25, _⟩ => ⟨S_, .f32⟩
  | .hbm, ⟨26, _⟩ => ⟨S8x8x16x8x64, .i1⟩
  | .hbm, ⟨27, _⟩ => ⟨S8x8x16x8x64, .f32⟩
  | .hbm, ⟨28, _⟩ => ⟨S8x8x16x8x64, .f32⟩
  | .hbm, ⟨29, _⟩ => ⟨S8x8x16x8x64, .f32⟩
  | .hbm, ⟨30, _⟩ => ⟨S8x128x512, .f32⟩
  | .hbm, ⟨31, _⟩ => ⟨S8x128x512, .bf16⟩
  | .hbm, ⟨32, _⟩ => ⟨S4096x16, .f32⟩
  | .hbm, ⟨33, _⟩ => ⟨S8x8x64x16, .f32⟩
  | .hbm, ⟨34, _⟩ => ⟨S8x8x16x64, .f32⟩
  | .hbm, ⟨35, _⟩ => ⟨S8x8, .i32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i1⟩
  | .hbm, ⟨41, _⟩ => ⟨S1x8x1x8x1, .i1⟩
  | .hbm, ⟨42, _⟩ => ⟨S8x8x16x1x64, .f32⟩
  | .hbm, ⟨43, _⟩ => ⟨S_, .f32⟩
  | .hbm, ⟨44, _⟩ => ⟨S_, .f32⟩
  | .hbm, ⟨45, _⟩ => ⟨S8x8x16x8x64, .i1⟩
  | .hbm, ⟨46, _⟩ => ⟨S8x8x16x8x64, .f32⟩
  | .hbm, ⟨47, _⟩ => ⟨S8x8x16x8x64, .f32⟩
  | .hbm, ⟨48, _⟩ => ⟨S8x8x16x8x64, .f32⟩
  | .hbm, ⟨49, _⟩ => ⟨S8x128x512, .f32⟩
  | .hbm, ⟨50, _⟩ => ⟨S8x128x512, .bf16⟩
  | .hbm, ⟨51, _⟩ => ⟨S8x8x16x64, .f32⟩
  | .hbm, ⟨52, _⟩ => ⟨S8x8x64x16, .f32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S1x8x1x8x1, .i1⟩
  | .hbm, ⟨60, _⟩ => ⟨S8x8x64x1x16, .f32⟩
  | .hbm, ⟨61, _⟩ => ⟨S_, .f32⟩
  | .hbm, ⟨62, _⟩ => ⟨S_, .f32⟩
  | .hbm, ⟨63, _⟩ => ⟨S8x8x64x8x16, .i1⟩
  | .hbm, ⟨64, _⟩ => ⟨S8x8x64x8x16, .f32⟩
  | .hbm, ⟨65, _⟩ => ⟨S8x8x64x8x16, .f32⟩
  | .hbm, ⟨66, _⟩ => ⟨S8x8x64x8x16, .f32⟩
  | .hbm, ⟨67, _⟩ => ⟨S8x512x128, .f32⟩
  | .hbm, ⟨68, _⟩ => ⟨S8x512x128, .bf16⟩
  | .hbm, ⟨69, _⟩ => ⟨S8x8x16x64, .f32⟩
  | .hbm, ⟨70, _⟩ => ⟨S8x8x64x16, .f32⟩
  | .hbm, ⟨71, _⟩ => ⟨S8x8, .i32⟩
  | .hbm, ⟨72, _⟩ => ⟨S8x8, .i32⟩
  | .hbm, ⟨73, _⟩ => ⟨S_, .i32⟩
  | .hbm, ⟨74, _⟩ => ⟨S8x8, .i32⟩
  | .hbm, ⟨75, _⟩ => ⟨S8x8, .i32⟩
  | .hbm, ⟨76, _⟩ => ⟨S8x8, .i1⟩
  | .hbm, ⟨77, _⟩ => ⟨S1x8x1x8x1, .i1⟩
  | .hbm, ⟨78, _⟩ => ⟨S8x8x64x1x16, .f32⟩
  | .hbm, ⟨79, _⟩ => ⟨S_, .f32⟩
  | .hbm, ⟨80, _⟩ => ⟨S_, .f32⟩
  | .hbm, ⟨81, _⟩ => ⟨S8x8x64x8x16, .i1⟩
  | .hbm, ⟨82, _⟩ => ⟨S8x8x64x8x16, .f32⟩
  | .hbm, ⟨83, _⟩ => ⟨S8x8x64x8x16, .f32⟩
  | .hbm, ⟨84, _⟩ => ⟨S8x8x64x8x16, .f32⟩
  | .hbm, ⟨85, _⟩ => ⟨S8x512x128, .f32⟩
  | .hbm, ⟨86, _⟩ => ⟨S8x512x128, .bf16⟩
  | .hbm, ⟨87, _⟩ => ⟨S1x1024, .f32⟩
  | .hbm, ⟨88, _⟩ => ⟨S1x4096, .f32⟩
  | .hbm, ⟨89, _⟩ => ⟨S1x4096, .f32⟩
  | .hbm, ⟨90, _⟩ => ⟨S128x4096, .f32⟩
  | .hbm, ⟨91, _⟩ => ⟨S128x4096, .f32⟩
  | .hbm, ⟨92, _⟩ => ⟨S512x1024, .f32⟩
  | .hbm, ⟨93, _⟩ => ⟨S128x4096, .f32⟩
  | .hbm, ⟨94, _⟩ => ⟨S128x4096, .f32⟩
  | .local _ .vmem, ⟨0, _⟩ => ⟨S512x128, .f32⟩
  | .local _ .vmem, ⟨1, _⟩ => ⟨S512x128, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x128, .f32⟩
  | .local _ .vmem, ⟨15, _⟩ => ⟨S1x128, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x128, .f32⟩
  | .local _ .vmem, ⟨21, _⟩ => ⟨S512x128, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | _, _ => ⟨S128x4x5136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58_0 : Ref sig .tc := ⟨.hbm, 92, rfl⟩
abbrev main_v58_1 : Ref sig .tc := ⟨.hbm, 93, rfl⟩
abbrev main_v58_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== S5ReferenceIdeal.lean ====
abbrev S128x4x5136 : Shape := ⟨3, ![128, 4, 5136]⟩
abbrev S128x64x64 : Shape := ⟨3, ![128, 64, 64]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S128x4x1024 : Shape := ⟨3, ![128, 4, 1024]⟩
abbrev S128x4x64x16 : Shape := ⟨4, ![128, 4, 64, 16]⟩
abbrev S64x64x128x4 : Shape := ⟨4, ![64, 64, 128, 4]⟩
abbrev S128x4x64x64 : Shape := ⟨4, ![128, 4, 64, 64]⟩
abbrev S1x64x64 : Shape := ⟨3, ![1, 64, 64]⟩
abbrev S128x1x64x64 : Shape := ⟨4, ![128, 1, 64, 64]⟩
abbrev S64x16x128x4 : Shape := ⟨4, ![64, 16, 128, 4]⟩
abbrev S1x1x64x16 : Shape := ⟨4, ![1, 1, 64, 16]⟩
abbrev S4x128x1024 : Shape := ⟨3, ![4, 128, 1024]⟩
abbrev S512x1024 : Shape := ⟨2, ![512, 1024]⟩
abbrev S128x4096 : Shape := ⟨2, ![128, 4096]⟩

abbrev nBuf : Space → Nat
  | .hbm => 120
  | .vmem => 0
  | .smem => 0
  | _ => 0

abbrev bufTy : (tb : Table) → Fin (tcTables nBuf tb) → BufTy
  | .hbm, ⟨0, _⟩ => ⟨S128x4x5136, .f32⟩
  | .hbm, ⟨1, _⟩ => ⟨S128x64x64, .f32⟩
  | .hbm, ⟨2, _⟩ => ⟨S128x64x64, .f32⟩
  | .hbm, ⟨3, _⟩ => ⟨S64x64, .f32⟩
  | .hbm, ⟨4, _⟩ => ⟨S64x64, .f32⟩
  | .hbm, ⟨5, _⟩ => ⟨S64x64x16, .f32⟩
  | .hbm, ⟨6, _⟩ => ⟨S64x64x16, .f32⟩
  | .hbm, ⟨7, _⟩ => ⟨S64x16x64, .f32⟩
  | .hbm, ⟨8, _⟩ => ⟨S64x16x64, .f32⟩
  | .hbm, ⟨9, _⟩ => ⟨S64x16, .f32⟩
  | .hbm, ⟨10, _⟩ => ⟨S128x4x1024, .f32⟩
  | .hbm, ⟨11, _⟩ => ⟨S128x4x64x16, .f32⟩
  | .hbm, ⟨12, _⟩ => ⟨S64x64x128x4, .f32⟩
  | .hbm, ⟨13, _⟩ => ⟨S128x4x64x64, .f32⟩
  | .hbm, ⟨14, _⟩ => ⟨S64x64x128x4, .f32⟩
  | .hbm, ⟨15, _⟩ => ⟨S128x4x64x64, .f32⟩
  | .hbm, ⟨16, _⟩ => ⟨S1x64x64, .f32⟩
  | .hbm, ⟨17, _⟩ => ⟨S128x64x64, .f32⟩
  | .hbm, ⟨18, _⟩ => ⟨S128x64x64, .f32⟩
  | .hbm, ⟨19, _⟩ => ⟨S1x64x64, .f32⟩
  | .hbm, ⟨20, _⟩ => ⟨S128x64x64, .f32⟩
  | .hbm, ⟨21, _⟩ => ⟨S128x64x64, .f32⟩
  | .hbm, ⟨22, _⟩ => ⟨S128x64x64, .f32⟩
  | .hbm, ⟨23, _⟩ => ⟨S128x1x64x64, .f32⟩
  | .hbm, ⟨24, _⟩ => ⟨S128x64x64, .f32⟩
  | .hbm, ⟨25, _⟩ => ⟨S128x64x64, .f32⟩
  | .hbm, ⟨26, _⟩ => ⟨S1x64x64, .f32⟩
  | .hbm, ⟨27, _⟩ => ⟨S128x64x64, .f32⟩
  | .hbm, ⟨28, _⟩ => ⟨S128x64x64, .f32⟩
  | .hbm, ⟨29, _⟩ => ⟨S1x64x64, .f32⟩
  | .hbm, ⟨30, _⟩ => ⟨S128x64x64, .f32⟩
  | .hbm, ⟨31, _⟩ => ⟨S128x64x64, .f32⟩
  | .hbm, ⟨32, _⟩ => ⟨S128x64x64, .f32⟩
  | .hbm, ⟨33, _⟩ => ⟨S128x1x64x64, .f32⟩
  | .hbm, ⟨34, _⟩ => ⟨S128x64x64, .f32⟩
  | .hbm, ⟨35, _⟩ => ⟨S128x64x64, .f32⟩
  | .hbm, ⟨36, _⟩ => ⟨S1x64x64, .f32⟩
  | .hbm, ⟨37, _⟩ => ⟨S128x64x64, .f32⟩
  | .hbm, ⟨38, _⟩ => ⟨S128x64x64, .f32⟩
  | .hbm, ⟨39, _⟩ => ⟨S1x64x64, .f32⟩
  | .hbm, ⟨40, _⟩ => ⟨S128x64x64, .f32⟩
  | .hbm, ⟨41, _⟩ => ⟨S128x64x64, .f32⟩
  | .hbm, ⟨42, _⟩ => ⟨S128x64x64, .f32⟩
  | .hbm, ⟨43, _⟩ => ⟨S128x1x64x64, .f32⟩
  | .hbm, ⟨44, _⟩ => ⟨S128x64x64, .f32⟩
  | .hbm, ⟨45, _⟩ => ⟨S128x64x64, .f32⟩
  | .hbm, ⟨46, _⟩ => ⟨S1x64x64, .f32⟩
  | .hbm, ⟨47, _⟩ => ⟨S128x64x64, .f32⟩
  | .hbm, ⟨48, _⟩ => ⟨S128x64x64, .f32⟩
  | .hbm, ⟨49, _⟩ => ⟨S1x64x64, .f32⟩
  | .hbm, ⟨50, _⟩ => ⟨S128x64x64, .f32⟩
  | .hbm, ⟨51, _⟩ => ⟨S128x64x64, .f32⟩
  | .hbm, ⟨52, _⟩ => ⟨S128x64x64, .f32⟩
  | .hbm, ⟨53, _⟩ => ⟨S128x1x64x64, .f32⟩
  | .hbm, ⟨54, _⟩ => ⟨S128x64x64, .f32⟩
  | .hbm, ⟨55, _⟩ => ⟨S128x64x64, .f32⟩
  | .hbm, ⟨56, _⟩ => ⟨S1x64x64, .f32⟩
  | .hbm, ⟨57, _⟩ => ⟨S128x64x64, .f32⟩
  | .hbm, ⟨58, _⟩ => ⟨S128x64x64, .f32⟩
  | .hbm, ⟨59, _⟩ => ⟨S1x64x64, .f32⟩
  | .hbm, ⟨60, _⟩ => ⟨S128x64x64, .f32⟩
  | .hbm, ⟨61, _⟩ => ⟨S128x64x64, .f32⟩
  | .hbm, ⟨62, _⟩ => ⟨S128x64x64, .f32⟩
  | .hbm, ⟨63, _⟩ => ⟨S128x1x64x64, .f32⟩
  | .hbm, ⟨64, _⟩ => ⟨S128x64x64, .f32⟩
  | .hbm, ⟨65, _⟩ => ⟨S128x64x64, .f32⟩
  | .hbm, ⟨66, _⟩ => ⟨S1x64x64, .f32⟩
  | .hbm, ⟨67, _⟩ => ⟨S128x64x64, .f32⟩
  | .hbm, ⟨68, _⟩ => ⟨S128x64x64, .f32⟩
  | .hbm, ⟨69, _⟩ => ⟨S1x64x64, .f32⟩
  | .hbm, ⟨70, _⟩ => ⟨S128x64x64, .f32⟩
  | .hbm, ⟨71, _⟩ => ⟨S128x64x64, .f32⟩
  | .hbm, ⟨72, _⟩ => ⟨S128x64x64, .f32⟩
  | .hbm, ⟨73, _⟩ => ⟨S128x1x64x64, .f32⟩
  | .hbm, ⟨74, _⟩ => ⟨S128x64x64, .f32⟩
  | .hbm, ⟨75, _⟩ => ⟨S128x64x64, .f32⟩
  | .hbm, ⟨76, _⟩ => ⟨S1x64x64, .f32⟩
  | .hbm, ⟨77, _⟩ => ⟨S128x64x64, .f32⟩
  | .hbm, ⟨78, _⟩ => ⟨S128x64x64, .f32⟩
  | .hbm, ⟨79, _⟩ => ⟨S1x64x64, .f32⟩
  | .hbm, ⟨80, _⟩ => ⟨S128x64x64, .f32⟩
  | .hbm, ⟨81, _⟩ => ⟨S128x64x64, .f32⟩
  | .hbm, ⟨82, _⟩ => ⟨S128x64x64, .f32⟩
  | .hbm, ⟨83, _⟩ => ⟨S128x1x64x64, .f32⟩
  | .hbm, ⟨84, _⟩ => ⟨S128x64x64, .f32⟩
  | .hbm, ⟨85, _⟩ => ⟨S128x64x64, .f32⟩
  | .hbm, ⟨86, _⟩ => ⟨S1x64x64, .f32⟩
  | .hbm, ⟨87, _⟩ => ⟨S128x64x64, .f32⟩
  | .hbm, ⟨88, _⟩ => ⟨S128x64x64, .f32⟩
  | .hbm, ⟨89, _⟩ => ⟨S1x64x64, .f32⟩
  | .hbm, ⟨90, _⟩ => ⟨S128x64x64, .f32⟩
  | .hbm, ⟨91, _⟩ => ⟨S128x64x64, .f32⟩
  | .hbm, ⟨92, _⟩ => ⟨S128x64x64, .f32⟩
  | .hbm, ⟨93, _⟩ => ⟨S128x1x64x64, .f32⟩
  | .hbm, ⟨94, _⟩ => ⟨S128x64x64, .f32⟩
  | .hbm, ⟨95, _⟩ => ⟨S128x64x64, .f32⟩
  | .hbm, ⟨96, _⟩ => ⟨S128x1x64x64, .f32⟩
  | .hbm, ⟨97, _⟩ => ⟨S128x1x64x64, .f32⟩
  | .hbm, ⟨98, _⟩ => ⟨S128x1x64x64, .f32⟩
  | .hbm, ⟨99, _⟩ => ⟨S128x1x64x64, .f32⟩
  | .hbm, ⟨100, _⟩ => ⟨S128x4x64x64, .f32⟩
  | .hbm, ⟨101, _⟩ => ⟨S64x16x128x4, .f32⟩
  | .hbm, ⟨102, _⟩ => ⟨S128x4x64x16, .f32⟩
  | .hbm, ⟨103, _⟩ => ⟨S128x1x64x64, .f32⟩
  | .hbm, ⟨104, _⟩ => ⟨S128x1x64x64, .f32⟩
  | .hbm, ⟨105, _⟩ => ⟨S128x1x64x64, .f32⟩
  | .hbm, ⟨106, _⟩ => ⟨S128x1x64x64, .f32⟩
  | .hbm, ⟨107, _⟩ => ⟨S128x4x64x64, .f32⟩
  | .hbm, ⟨108, _⟩ => ⟨S64x16x128x4, .f32⟩
  | .hbm, ⟨109, _⟩ => ⟨S128x4x64x16, .f32⟩
  | .hbm, ⟨110, _⟩ => ⟨S128x4x64x16, .f32⟩
  | .hbm, ⟨111, _⟩ => ⟨S1x1x64x16, .f32⟩
  | .hbm, ⟨112, _⟩ => ⟨S128x4x64x16, .f32⟩
  | .hbm, ⟨113, _⟩ => ⟨S128x4x64x16, .f32⟩
  | .hbm, ⟨114, _⟩ => ⟨S128x4x64x16, .f32⟩
  | .hbm, ⟨115, _⟩ => ⟨S128x4x1024, .f32⟩
  | .hbm, ⟨116, _⟩ => ⟨S4x128x1024, .f32⟩
  | .hbm, ⟨117, _⟩ => ⟨S512x1024, .f32⟩
  | .hbm, ⟨118, _⟩ => ⟨S128x4096, .f32⟩
  | .hbm, ⟨119, _⟩ => ⟨S128x4096, .f32⟩
  | _, _ => ⟨S128x4x5136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩

abbrev nD : Nat := 1
abbrev τ : Topo := Topo.v7x

variable {F : FTy → Type} [FloatOps F]
-- ==== FfnKernel.lean ====
abbrev S2x4112x2048 : Shape := ⟨3, ![2, 4112, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S_ : Shape := ⟨0, ![]⟩
abbrev S2x4224x2048 : Shape := ⟨3, ![2, 4224, 2048]⟩
abbrev S8448x2048 : Shape := ⟨2, ![8448, 2048]⟩
abbrev S4x1x11264 : Shape := ⟨3, ![4, 1, 11264]⟩
abbrev S1x2048 : Shape := ⟨2, ![1, 2048]⟩
abbrev S2048 : Shape := ⟨1, ![2048]⟩
abbrev S704x2048 : Shape := ⟨2, ![704, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S720x2048 : Shape := ⟨2, ![720, 2048]⟩
abbrev S2048x512 : Shape := ⟨2, ![2048, 512]⟩
abbrev S720x512 : Shape := ⟨2, ![720, 512]⟩
abbrev S3x512 : Shape := ⟨2, ![3, 512]⟩
abbrev S1x512 : Shape := ⟨2, ![1, 512]⟩
abbrev S704x512 : Shape := ⟨2, ![704, 512]⟩
abbrev S512x2048 : Shape := ⟨2, ![512, 2048]⟩
abbrev S704 : Shape := ⟨1, ![704]⟩
abbrev S704x1 : Shape := ⟨2, ![704, 1]⟩

abbrev nBuf : Space → Nat
  | .hbm => 21
  | .vmem => 24
  | .smem => 0
  | _ => 0

abbrev bufTy : (tb : Table) → Fin (tcTables nBuf tb) → BufTy
  | .hbm, ⟨0, _⟩ => ⟨S2x4112x2048, .f32⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S4x5632x2048, .f32⟩
  | .hbm, ⟨5, _⟩ => ⟨S4x2048, .f32⟩
  | .hbm, ⟨6, _⟩ => ⟨S4x2048, .f32⟩
  | .hbm, ⟨7, _⟩ => ⟨S_, .i32⟩
  | .hbm, ⟨8, _⟩ => ⟨S_, .f32⟩
  | .hbm, ⟨9, _⟩ => ⟨S2x4224x2048, .f32⟩
  | .hbm, ⟨10, _⟩ => ⟨S8448x2048, .f32⟩
  | .hbm, ⟨11, _⟩ => ⟨S4x2048x11264, .bf16⟩
  | .hbm, ⟨12, _⟩ => ⟨S4x1x11264, .f32⟩
  | .hbm, ⟨13, _⟩ => ⟨S4x5632x2048, .bf16⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8448x2048, .f32⟩
  | .local _ .vmem, ⟨0, _⟩ => ⟨S704x2048, .f32⟩
  | .local _ .vmem, ⟨1, _⟩ => ⟨S704x2048, .f32⟩
  | .local _ .vmem, ⟨2, _⟩ => ⟨S16x2048, .f32⟩
  | .local _ .vmem, ⟨3, _⟩ => ⟨S16x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x512x2048, .bf16⟩
  | .local _ .vmem, ⟨17, _⟩ => ⟨S1x512x2048, .bf16⟩
  | .local _ .vmem, ⟨18, _⟩ => ⟨S1x2048, .f32⟩
  | .local _ .vmem, ⟨19, _⟩ => ⟨S1x2048, .f32⟩
  | .local _ .vmem, ⟨20, _⟩ => ⟨S704x2048, .f32⟩
  | .local _ .vmem, ⟨21, _⟩ => ⟨S704x2048, .f32⟩
  | .local _ .vmem, ⟨22, _⟩ => ⟨S720x2048, .bf16⟩
  | .local _ .vmem, ⟨23, _⟩ => ⟨S704x2048, .f32⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c10_i32 : BitVec 32 := 10#32
  let v72 : BitVec 1 := Scalar.cmpi .eq arg1 c10_i32
  let v73 : BitVec 32 := Scalar.extui v72
  let c0_i32_34 : BitVec 32 := 0#32
  let v74 : BitVec 1 := Scalar.cmpi .ne v73 c0_i32_34
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.muli arg0 c44_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S704x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S704x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnReferenceIdeal.lean ====
abbrev S2x4112x2048 : Shape := ⟨3, ![2, 4112, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S_ : Shape := ⟨0, ![]⟩
abbrev S2x2x11264 : Shape := ⟨3, ![2, 2, 11264]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x5632x2048 : Shape := ⟨3, ![1, 5632, 2048]⟩
abbrev S5632x2048 : Shape := ⟨2, ![5632, 2048]⟩
abbrev S2x4112x11264 : Shape := ⟨3, ![2, 4112, 11264]⟩
abbrev S2x4114x11264 : Shape := ⟨3, ![2, 4114, 11264]⟩
abbrev S1x1x11264 : Shape := ⟨3, ![1, 1, 11264]⟩
abbrev S2x4112x5632 : Shape := ⟨3, ![2, 4112, 5632]⟩
abbrev S1x2048 : Shape := ⟨2, ![1, 2048]⟩
abbrev S2048 : Shape := ⟨1, ![2048]⟩
abbrev S2x4112 : Shape := ⟨2, ![2, 4112]⟩
abbrev S2x4112x1 : Shape := ⟨3, ![2, 4112, 1]⟩
abbrev S1x1x2048 : Shape := ⟨3, ![1, 1, 2048]⟩
abbrev S2x4224x2048 : Shape := ⟨3, ![2, 4224, 2048]⟩
abbrev S8448x2048 : Shape := ⟨2, ![8448, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S4x5632x2048, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S2x2x11264, .f32⟩
  | .hbm, ⟨9, _⟩ => ⟨S1x2048x11264, .f32⟩
  | .hbm, ⟨10, _⟩ => ⟨S2048x11264, .f32⟩
  | .hbm, ⟨11, _⟩ => ⟨S1x3x11264, .f32⟩
  | .hbm, ⟨12, _⟩ => ⟨S3x11264, .f32⟩
  | .hbm, ⟨13, _⟩ => ⟨S1x11264, .f32⟩
  | .hbm, ⟨14, _⟩ => ⟨S11264, .f32⟩
  | .hbm, ⟨15, _⟩ => ⟨S1x5632x2048, .f32⟩
  | .hbm, ⟨16, _⟩ => ⟨S5632x2048, .f32⟩
  | .hbm, ⟨17, _⟩ => ⟨S2x4112x11264, .f32⟩
  | .hbm, ⟨18, _⟩ => ⟨S2x4114x11264, .f32⟩
  | .hbm, ⟨19, _⟩ => ⟨S2x4112x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S2x4112x11264, .f32⟩
  | .hbm, ⟨24, _⟩ => ⟨S2x4112x11264, .f32⟩
  | .hbm, ⟨25, _⟩ => ⟨S1x1x11264, .f32⟩
  | .hbm, ⟨26, _⟩ => ⟨S2x4112x11264, .f32⟩
  | .hbm, ⟨27, _⟩ => ⟨S2x4112x11264, .f32⟩
  | .hbm, ⟨28, _⟩ => ⟨S2x4112x11264, .f32⟩
  | .hbm, ⟨29, _⟩ => ⟨S1x11264, .f32⟩
  | .hbm, ⟨30, _⟩ => ⟨S11264, .f32⟩
  | .hbm, ⟨31, _⟩ => ⟨S1x1x11264, .f32⟩
  | .hbm, ⟨32, _⟩ => ⟨S2x4112x11264, .f32⟩
  | .hbm, ⟨33, _⟩ => ⟨S2x4112x11264, .f32⟩
  | .hbm, ⟨34, _⟩ => ⟨S2x4112x11264, .f32⟩
  | .hbm, ⟨35, _⟩ => ⟨S2x4112x11264, .f32⟩
  | .hbm, ⟨36, _⟩ => ⟨S1x11264, .f32⟩
  | .hbm, ⟨37, _⟩ => ⟨S11264, .f32⟩
  | .hbm, ⟨38, _⟩ => ⟨S1x1x11264, .f32⟩
  | .hbm, ⟨39, _⟩ => ⟨S2x4112x11264, .f32⟩
  | .hbm, ⟨40, _⟩ => ⟨S2x4112x11264, .f32⟩
  | .hbm, ⟨41, _⟩ => ⟨S2x4112x11264, .f32⟩
  | .hbm, ⟨42, _⟩ => ⟨S2x4112x5632, .f32⟩
  | .hbm, ⟨43, _⟩ => ⟨S2x4112x5632, .f32⟩
  | .hbm, ⟨44, _⟩ => ⟨S2x4112x5632, .f32⟩
  | .hbm, ⟨45, _⟩ => ⟨S_, .f32⟩
  | .hbm, ⟨46, _⟩ => ⟨S2x4112x5632, .f32⟩
  | .hbm, ⟨47, _⟩ => ⟨S2x4112x5632, .f32⟩
  | .hbm, ⟨48, _⟩ => ⟨S_, .f32⟩
  | .hbm, ⟨49, _⟩ => ⟨S2x4112x5632, .f32⟩
  | .hbm, ⟨50, _⟩ => ⟨S2x4112x5632, .f32⟩
  | .hbm, ⟨51, _⟩ => ⟨S2x4112x5632, .f32⟩
  | .hbm, ⟨52, _⟩ => ⟨S2x4112x5632, .f32⟩
  | .hbm, ⟨53, _⟩ => ⟨S2x4112x5632, .f32⟩
  | .hbm, ⟨54, _⟩ => ⟨S2x4112x2048, .f32⟩
  | .hbm, ⟨55, _⟩ => ⟨S2x2x11264, .f32⟩
  | .hbm, ⟨56, _⟩ => ⟨S_, .f32⟩
  | .hbm, ⟨57, _⟩ => ⟨S2x4112x2048, .f32⟩
  | .hbm, ⟨58, _⟩ => ⟨S2x4112x2048, .f32⟩
  | .hbm, ⟨59, _⟩ => ⟨S2x4112x2048, .f32⟩
  | .hbm, ⟨60, _⟩ => ⟨S1x2048, .f32⟩
  | .hbm, ⟨61, _⟩ => ⟨S2048, .f32⟩
  | .hbm, ⟨62, _⟩ => ⟨S1x2048, .f32⟩
  | .hbm, ⟨63, _⟩ => ⟨S2048, .f32⟩
  | .hbm, ⟨64, _⟩ => ⟨S_, .f32⟩
  | .hbm, ⟨65, _⟩ => ⟨S2x4112, .f32⟩
  | .hbm, ⟨66, _⟩ => ⟨S2x4112x1, .f32⟩
  | .hbm, ⟨67, _⟩ => ⟨S_, .f32⟩
  | .hbm, ⟨68, _⟩ => ⟨S2x4112x1, .f32⟩
  | .hbm, ⟨69, _⟩ => ⟨S2x4112x1, .f32⟩
  | .hbm, ⟨70, _⟩ => ⟨S2x4112x2048, .f32⟩
  | .hbm, ⟨71, _⟩ => ⟨S2x4112x2048, .f32⟩
  | .hbm, ⟨72, _⟩ => ⟨S2x4112x2048, .f32⟩
  | .hbm, ⟨73, _⟩ => ⟨S_, .f32⟩
  | .hbm, ⟨74, _⟩ => ⟨S2x4112, .f32⟩
  | .hbm, ⟨75, _⟩ => ⟨S2x4112x1, .f32⟩
  | .hbm, ⟨76, _⟩ => ⟨S_, .f32⟩
  | .hbm, ⟨77, _⟩ => ⟨S2x4112x1, .f32⟩
  | .hbm, ⟨78, _⟩ => ⟨S2x4112x1, .f32⟩
  | .hbm, ⟨79, _⟩ => ⟨S2x4112x2048, .f32⟩
  | .hbm, ⟨80, _⟩ => ⟨S2x4112x2048, .f32⟩
  | .hbm, ⟨81, _⟩ => ⟨S_, .f32⟩
  | .hbm, ⟨82, _⟩ => ⟨S2x4112x1, .f32⟩
  | .hbm, ⟨83, _⟩ => ⟨S2x4112x1, .f32⟩
  | .hbm, ⟨84, _⟩ => ⟨S2x4112x1, .f32⟩
  | .hbm, ⟨85, _⟩ => ⟨S2x4112x2048, .f32⟩
  | .hbm, ⟨86, _⟩ => ⟨S2x4112x2048, .f32⟩
  | .hbm, ⟨87, _⟩ => ⟨S1x1x2048, .f32⟩
  | .hbm, ⟨88, _⟩ => ⟨S2x4112x2048, .f32⟩
  | .hbm, ⟨89, _⟩ => ⟨S2x4112x2048, .f32⟩
  | .hbm, ⟨90, _⟩ => ⟨S1x1x2048, .f32⟩
  | .hbm, ⟨91, _⟩ => ⟨S2x4112x2048, .f32⟩
  | .hbm, ⟨92, _⟩ => ⟨S2x4112x2048, .f32⟩
  | .hbm, ⟨93, _⟩ => ⟨S_, .i32⟩
  | .hbm, ⟨94, _⟩ => ⟨S_, .f32⟩
  | .hbm, ⟨95, _⟩ => ⟨S2x4224x2048, .f32⟩
  | .hbm, ⟨96, _⟩ => ⟨S8448x2048, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c : Ref sig .tc := ⟨.hbm, 93, rfl⟩
abbrev main_call1_v0 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== FfnsKernel.lean ====
abbrev S128x4x2048 : Shape := ⟨3, ![128, 4, 2048]⟩
abbrev S2x4112x2048 : Shape := ⟨3, ![2, 4112, 2048]⟩
abbrev S4x128x2x11264 : Shape := ⟨4, ![4, 128, 2, 11264]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S4x128x2048 : Shape := ⟨3, ![4, 128, 2048]⟩
abbrev S512x2048 : Shape := ⟨2, ![512, 2048]⟩
abbrev S2x2x2048 : Shape := ⟨3, ![2, 2, 2048]⟩
abbrev S_ : Shape := ⟨0, ![]⟩
abbrev S8x2048 : Shape := ⟨2, ![8, 2048]⟩
abbrev S520x2048 : Shape := ⟨2, ![520, 2048]⟩
abbrev S4x128x22528 : Shape := ⟨3, ![4, 128, 22528]⟩
abbrev S4x1x11264 : Shape := ⟨3, ![4, 1, 11264]⟩
abbrev S1x2048 : Shape := ⟨2, ![1, 2048]⟩
abbrev S2048 : Shape := ⟨1, ![2048]⟩
abbrev S4x128x5632 : Shape := ⟨3, ![4, 128, 5632]⟩
abbrev S2x8x5632 : Shape := ⟨3, ![2, 8, 5632]⟩
abbrev S1x128x512 : Shape := ⟨3, ![1, 128, 512]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S4x128x512 : Shape := ⟨3, ![4, 128, 512]⟩
abbrev S2x8x512 : Shape := ⟨3, ![2, 8, 512]⟩
abbrev S2048x512 : Shape := ⟨2, ![2048, 512]⟩
abbrev S520x512 : Shape := ⟨2, ![520, 512]⟩
abbrev S3x512 : Shape := ⟨2, ![3, 512]⟩
abbrev S128x512 : Shape := ⟨2, ![128, 512]⟩
abbrev S512x512 : Shape := ⟨2, ![512, 512]⟩
abbrev S768x512 : Shape := ⟨2, ![768, 512]⟩
abbrev S1x512 : Shape := ⟨2, ![1, 512]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩

abbrev nBuf : Space → Nat
  | .hbm => 30
  | .vmem => 32
  | .smem => 0
  | _ => 0

abbrev bufTy : (tb : Table) → Fin (tcTables nBuf tb) → BufTy
  | .hbm, ⟨0, _⟩ => ⟨S128x4x2048, .f32⟩
  | .hbm, ⟨1, _⟩ => ⟨S2x4112x2048, .f32⟩
  | .hbm, ⟨2, _⟩ => ⟨S4x128x2x11264, .f32⟩
  | .hbm, ⟨3, _⟩ => ⟨S4x2048x11264, .f32⟩
  | .hbm, ⟨4, _⟩ => ⟨S4x3x11264, .f32⟩
  | .hbm, ⟨5, _⟩ => ⟨S4x11264, .f32⟩
  | .hbm, ⟨6, _⟩ => ⟨S4x5632x2048, .f32⟩
  | .hbm, ⟨7, _⟩ => ⟨S4x2048, .f32⟩
  | .hbm, ⟨8, _⟩ => ⟨S4x2048, .f32⟩
  | .hbm, ⟨9, _⟩ => ⟨S4x128x2048, .f32⟩
  | .hbm, ⟨10, _⟩ => ⟨S512x2048, .f32⟩
  | .hbm, ⟨11, _⟩ => ⟨S2x2x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S8x2048, .f32⟩
  | .hbm, ⟨16, _⟩ => ⟨S520x2048, .f32⟩
  | .hbm, ⟨17, _⟩ => ⟨S4x128x22528, .f32⟩
  | .hbm, ⟨18, _⟩ => ⟨S4x2048x11264, .bf16⟩
  | .hbm, ⟨19, _⟩ => ⟨S4x1x11264, .f32⟩
  | .hbm, ⟨20, _⟩ => ⟨S4x5632x2048, .bf16⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S512x2048, .f32⟩
  | .hbm, ⟨28, _⟩ => ⟨S4x128x5632, .f32⟩
  | .hbm, ⟨29, _⟩ => ⟨S2x8x5632, .f32⟩
  | .local _ .vmem, ⟨0, _⟩ => ⟨S520x2048, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x3x512, .f32⟩
  | .local _ .vmem, ⟨14, _⟩ => ⟨S1x3x512, .f32⟩
  | .local _ .vmem, ⟨15, _⟩ => ⟨S1x3x512, .f32⟩
  | .local _ .vmem, ⟨16, _⟩ => ⟨S1x3x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x512x2048, .bf16⟩
  | .local _ .vmem, ⟨22, _⟩ => ⟨S1x512x2048, .bf16⟩
  | .local _ .vmem, ⟨23, _⟩ => ⟨S1x2048, .f32⟩
  | .local _ .vmem, ⟨24, _⟩ => ⟨S1x2048, .f32⟩
  | .local _ .vmem, ⟨25, _⟩ => ⟨S512x2048, .f32⟩
  | .local _ .vmem, ⟨26, _⟩ => ⟨S4x128x512, .f32⟩
  | .local _ .vmem, ⟨27, _⟩ => ⟨S4x128x512, .f32⟩
  | .local _ .vmem, ⟨28, _⟩ => ⟨S2x8x512, .f32⟩
  | .local _ .vmem, ⟨29, _⟩ => ⟨S2x8x512, .f32⟩
  | .local _ .vmem, ⟨30, _⟩ => ⟨S520x2048, .bf16⟩
  | .local _ .vmem, ⟨31, _⟩ => ⟨S512x2048, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v104 : BitVec 1 := Scalar.cmpi .eq arg0 c10_i32
  let v105 : BitVec 32 := Scalar.extui v104
  let c0_i32_59 : BitVec 32 := 0#32
  let v106 : BitVec 1 := Scalar.cmpi .ne v105 c0_i32_59
  v106

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 3 → Nat :=
  let arg0 : BitVec 32 := BitVec.ofNat 32 (i 0).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_3 (i : grid0.Coords) : Fin 3 → Nat :=
  let arg0 : BitVec 32 := BitVec.ofNat 32 (i 0).val
  let c22_i32 : BitVec 32 := 22#32
  let v0 : BitVec 32 := Scalar.addi arg0 c22_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let c33_i32 : BitVec 32 := 33#32
  let v0 : BitVec 32 := Scalar.addi arg0 c33_i32
  let c3_i32 : BitVec 32 := 3#32
  let c0_i32 : BitVec 32 := 0#32
  let c0_i32_0 : BitVec 32 := 0#32
  ![c3_i32.toNat, c0_i32.toNat, v0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_6 (i : grid0.Coords) : Fin 3 → Nat :=
  let arg0 : BitVec 32 := BitVec.ofNat 32 (i 0).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_8 (i : grid0.Coords) : Fin 3 → Nat :=
  let arg0 : BitVec 32 := BitVec.ofNat 32 (i 0).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_10 (i : grid0.Coords) : Fin 3 → Nat :=
  let arg0 : BitVec 32 := BitVec.ofNat 32 (i 0).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S520x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnsReferenceIdeal.lean ====
abbrev S128x4x2048 : Shape := ⟨3, ![128, 4, 2048]⟩
abbrev S2x4112x2048 : Shape := ⟨3, ![2, 4112, 2048]⟩
abbrev S4x128x2x11264 : Shape := ⟨4, ![4, 128, 2, 11264]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x5632x2048 : Shape := ⟨3, ![1, 5632, 2048]⟩
abbrev S5632x2048 : Shape := ⟨2, ![5632, 2048]⟩
abbrev S1x128x2x11264 : Shape := ⟨4, ![1, 128, 2, 11264]⟩
abbrev S128x2x11264 : Shape := ⟨3, ![128, 2, 11264]⟩
abbrev S128x4x11264 : Shape := ⟨3, ![128, 4, 11264]⟩
abbrev S128x6x11264 : Shape := ⟨3, ![128, 6, 11264]⟩
abbrev S1x1x11264 : Shape := ⟨3, ![1, 1, 11264]⟩
abbrev S128x4x5632 : Shape := ⟨3, ![128, 4, 5632]⟩
abbrev S_ : Shape := ⟨0, ![]⟩
abbrev S1x2048 : Shape := ⟨2, ![1, 2048]⟩
abbrev S2048 : Shape := ⟨1, ![2048]⟩
abbrev S128x4 : Shape := ⟨2, ![128, 4]⟩
abbrev S128x4x1 : Shape := ⟨3, ![128, 4, 1]⟩
abbrev S1x1x2048 : Shape := ⟨3, ![1, 1, 2048]⟩
abbrev S2x2x2048 : Shape := ⟨3, ![2, 2, 2048]⟩
abbrev S2x2x11264 : Shape := ⟨3, ![2, 2, 11264]⟩
abbrev S4x128x2048 : Shape := ⟨3, ![4, 128, 2048]⟩
abbrev S512x2048 : Shape := ⟨2, ![512, 2048]⟩
abbrev S4x128x5632 : Shape := ⟨3, ![4, 128, 5632]⟩
abbrev S4x2x5632 : Shape := ⟨3, ![4, 2, 5632]⟩
abbrev S2x4x5632 : Shape := ⟨3, ![2, 4, 5632]⟩
abbrev S2x8x5632 : Shape := ⟨3, ![2, 8, 5632]⟩

abbrev nBuf : Space → Nat
  | .hbm => 108
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S2x4112x2048, .f32⟩
  | .hbm, ⟨2, _⟩ => ⟨S4x128x2x11264, .f32⟩
  | .hbm, ⟨3, _⟩ => ⟨S4x2048x11264, .f32⟩
  | .hbm, ⟨4, _⟩ => ⟨S4x3x11264, .f32⟩
  | .hbm, ⟨5, _⟩ => ⟨S4x11264, .f32⟩
  | .hbm, ⟨6, _⟩ => ⟨S4x5632x2048, .f32⟩
  | .hbm, ⟨7, _⟩ => ⟨S4x2048, .f32⟩
  | .hbm, ⟨8, _⟩ => ⟨S4x2048, .f32⟩
  | .hbm, ⟨9, _⟩ => ⟨S1x2048x11264, .f32⟩
  | .hbm, ⟨10, _⟩ => ⟨S2048x11264, .f32⟩
  | .hbm, ⟨11, _⟩ => ⟨S1x3x11264, .f32⟩
  | .hbm, ⟨12, _⟩ => ⟨S3x11264, .f32⟩
  | .hbm, ⟨13, _⟩ => ⟨S1x11264, .f32⟩
  | .hbm, ⟨14, _⟩ => ⟨S11264, .f32⟩
  | .hbm, ⟨15, _⟩ => ⟨S1x5632x2048, .f32⟩
  | .hbm, ⟨16, _⟩ => ⟨S5632x2048, .f32⟩
  | .hbm, ⟨17, _⟩ => ⟨S1x128x2x11264, .f32⟩
  | .hbm, ⟨18, _⟩ => ⟨S128x2x11264, .f32⟩
  | .hbm, ⟨19, _⟩ => ⟨S128x4x11264, .f32⟩
  | .hbm, ⟨20, _⟩ => ⟨S128x6x11264, .f32⟩
  | .hbm, ⟨21, _⟩ => ⟨S128x4x11264, .f32⟩
  | .hbm, ⟨22, _⟩ => ⟨S1x11264, .f32⟩
  | .hbm, ⟨23, _⟩ => ⟨S11264, .f32⟩
  | .hbm, ⟨24, _⟩ => ⟨S1x1x11264, .f32⟩
  | .hbm, ⟨25, _⟩ => ⟨S128x4x11264, .f32⟩
  | .hbm, ⟨26, _⟩ => ⟨S128x4x11264, .f32⟩
  | .hbm, ⟨27, _⟩ => ⟨S1x1x11264, .f32⟩
  | .hbm, ⟨28, _⟩ => ⟨S128x4x11264, .f32⟩
  | .hbm, ⟨29, _⟩ => ⟨S128x4x11264, .f32⟩
  | .hbm, ⟨30, _⟩ => ⟨S128x4x11264, .f32⟩
  | .hbm, ⟨31, _⟩ => ⟨S1x11264, .f32⟩
  | .hbm, ⟨32, _⟩ => ⟨S11264, .f32⟩
  | .hbm, ⟨33, _⟩ => ⟨S1x1x11264, .f32⟩
  | .hbm, ⟨34, _⟩ => ⟨S128x4x11264, .f32⟩
  | .hbm, ⟨35, _⟩ => ⟨S128x4x11264, .f32⟩
  | .hbm, ⟨36, _⟩ => ⟨S128x4x11264, .f32⟩
  | .hbm, ⟨37, _⟩ => ⟨S128x4x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S128x4x11264, .f32⟩
  | .hbm, ⟨42, _⟩ => ⟨S128x4x11264, .f32⟩
  | .hbm, ⟨43, _⟩ => ⟨S128x4x11264, .f32⟩
  | .hbm, ⟨44, _⟩ => ⟨S128x4x5632, .f32⟩
  | .hbm, ⟨45, _⟩ => ⟨S128x4x5632, .f32⟩
  | .hbm, ⟨46, _⟩ => ⟨S128x4x5632, .f32⟩
  | .hbm, ⟨47, _⟩ => ⟨S_, .f32⟩
  | .hbm, ⟨48, _⟩ => ⟨S128x4x5632, .f32⟩
  | .hbm, ⟨49, _⟩ => ⟨S128x4x5632, .f32⟩
  | .hbm, ⟨50, _⟩ => ⟨S_, .f32⟩
  | .hbm, ⟨51, _⟩ => ⟨S128x4x5632, .f32⟩
  | .hbm, ⟨52, _⟩ => ⟨S128x4x5632, .f32⟩
  | .hbm, ⟨53, _⟩ => ⟨S128x4x5632, .f32⟩
  | .hbm, ⟨54, _⟩ => ⟨S128x4x5632, .f32⟩
  | .hbm, ⟨55, _⟩ => ⟨S128x4x5632, .f32⟩
  | .hbm, ⟨56, _⟩ => ⟨S128x4x2048, .f32⟩
  | .hbm, ⟨57, _⟩ => ⟨S128x2x11264, .f32⟩
  | .hbm, ⟨58, _⟩ => ⟨S_, .f32⟩
  | .hbm, ⟨59, _⟩ => ⟨S128x4x2048, .f32⟩
  | .hbm, ⟨60, _⟩ => ⟨S128x4x2048, .f32⟩
  | .hbm, ⟨61, _⟩ => ⟨S128x4x2048, .f32⟩
  | .hbm, ⟨62, _⟩ => ⟨S1x2048, .f32⟩
  | .hbm, ⟨63, _⟩ => ⟨S2048, .f32⟩
  | .hbm, ⟨64, _⟩ => ⟨S1x2048, .f32⟩
  | .hbm, ⟨65, _⟩ => ⟨S2048, .f32⟩
  | .hbm, ⟨66, _⟩ => ⟨S_, .f32⟩
  | .hbm, ⟨67, _⟩ => ⟨S128x4, .f32⟩
  | .hbm, ⟨68, _⟩ => ⟨S128x4x1, .f32⟩
  | .hbm, ⟨69, _⟩ => ⟨S_, .f32⟩
  | .hbm, ⟨70, _⟩ => ⟨S128x4x1, .f32⟩
  | .hbm, ⟨71, _⟩ => ⟨S128x4x1, .f32⟩
  | .hbm, ⟨72, _⟩ => ⟨S128x4x2048, .f32⟩
  | .hbm, ⟨73, _⟩ => ⟨S128x4x2048, .f32⟩
  | .hbm, ⟨74, _⟩ => ⟨S128x4x2048, .f32⟩
  | .hbm, ⟨75, _⟩ => ⟨S_, .f32⟩
  | .hbm, ⟨76, _⟩ => ⟨S128x4, .f32⟩
  | .hbm, ⟨77, _⟩ => ⟨S128x4x1, .f32⟩
  | .hbm, ⟨78, _⟩ => ⟨S_, .f32⟩
  | .hbm, ⟨79, _⟩ => ⟨S128x4x1, .f32⟩
  | .hbm, ⟨80, _⟩ => ⟨S128x4x1, .f32⟩
  | .hbm, ⟨81, _⟩ => ⟨S128x4x2048, .f32⟩
  | .hbm, ⟨82, _⟩ => ⟨S128x4x2048, .f32⟩
  | .hbm, ⟨83, _⟩ => ⟨S_, .f32⟩
  | .hbm, ⟨84, _⟩ => ⟨S128x4x1, .f32⟩
  | .hbm, ⟨85, _⟩ => ⟨S128x4x1, .f32⟩
  | .hbm, ⟨86, _⟩ => ⟨S128x4x1, .f32⟩
  | .hbm, ⟨87, _⟩ => ⟨S128x4x2048, .f32⟩
  | .hbm, ⟨88, _⟩ => ⟨S128x4x2048, .f32⟩
  | .hbm, ⟨89, _⟩ => ⟨S1x1x2048, .f32⟩
  | .hbm, ⟨90, _⟩ => ⟨S128x4x2048, .f32⟩
  | .hbm, ⟨91, _⟩ => ⟨S128x4x2048, .f32⟩
  | .hbm, ⟨92, _⟩ => ⟨S1x1x2048, .f32⟩
  | .hbm, ⟨93, _⟩ => ⟨S128x4x2048, .f32⟩
  | .hbm, ⟨94, _⟩ => ⟨S128x4x2048, .f32⟩
  | .hbm, ⟨95, _⟩ => ⟨S2x2x2048, .f32⟩
  | .hbm, ⟨96, _⟩ => ⟨S1x2048x11264, .f32⟩
  | .hbm, ⟨97, _⟩ => ⟨S2048x11264, .f32⟩
  | .hbm, ⟨98, _⟩ => ⟨S2x2x11264, .f32⟩
  | .hbm, ⟨99, _⟩ => ⟨S4x128x2048, .f32⟩
  | .hbm, ⟨100, _⟩ => ⟨S512x2048, .f32⟩
  | .hbm, ⟨101, _⟩ => ⟨S128x4x5632, .f32⟩
  | .hbm, ⟨102, _⟩ => ⟨S4x128x5632, .f32⟩
  | .hbm, ⟨103, _⟩ => ⟨S4x2x5632, .f32⟩
  | .hbm, ⟨104, _⟩ => ⟨S2x4x5632, .f32⟩
  | .hbm, ⟨105, _⟩ => ⟨S_, .i32⟩
  | .hbm, ⟨106, _⟩ => ⟨S_, .f32⟩
  | .hbm, ⟨107, _⟩ => ⟨S2x8x5632, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_0 : Ref sig .tc := ⟨.hbm, 66, rfl⟩
abbrev main_v48 : Ref sig .tc := ⟨.hbm, 67, rfl⟩
abbrev main_v49 : Ref sig .tc := ⟨.hbm, 68, rfl⟩
abbrev main_cst_1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c : Ref sig .tc := ⟨.hbm, 105, rfl⟩
abbrev main_call1_v0 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== MlapKernel.lean ====
abbrev S2x4112x2048 : Shape := ⟨3, ![2, 4112, 2048]⟩
abbrev S2x2048x1088 : Shape := ⟨3, ![2, 2048, 1088]⟩
abbrev S2x512 : Shape := ⟨2, ![2, 512]⟩
abbrev S2x512x3072 : Shape := ⟨3, ![2, 512, 3072]⟩
abbrev S2x2048x64 : Shape := ⟨3, ![2, 2048, 64]⟩
abbrev S2x2048x32 : Shape := ⟨3, ![2, 2048, 32]⟩
abbrev S2x2048x1024 : Shape := ⟨3, ![2, 2048, 1024]⟩
abbrev S2x2048x1280 : Shape := ⟨3, ![2, 2048, 1280]⟩
abbrev S2x512x16x192 : Shape := ⟨4, ![2, 512, 16, 192]⟩
abbrev S2x512x16x64 : Shape := ⟨4, ![2, 512, 16, 64]⟩
abbrev S2x512x16x128 : Shape := ⟨4, ![2, 512, 16, 128]⟩
abbrev S2x512x2048 : Shape := ⟨3, ![2, 512, 2048]⟩
abbrev S2x512x1024 : Shape := ⟨3, ![2, 512, 1024]⟩
abbrev S2x512x16x32 : Shape := ⟨4, ![2, 512, 16, 32]⟩
abbrev S2x512x4096 : Shape := ⟨3, ![2, 512, 4096]⟩
abbrev S4224 : Shape := ⟨1, ![4224]⟩
abbrev S32 : Shape := ⟨1, ![32]⟩
abbrev S_ : Shape := ⟨0, ![]⟩
abbrev S4224x1 : Shape := ⟨2, ![4224, 1]⟩
abbrev S1x32 : Shape := ⟨2, ![1, 32]⟩
abbrev S4224x32 : Shape := ⟨2, ![4224, 32]⟩
abbrev S4224x128 : Shape := ⟨2, ![4224, 128]⟩
abbrev S8448x128 : Shape := ⟨2, ![8448, 128]⟩
abbrev S2x4224x2048 : Shape := ⟨3, ![2, 4224, 2048]⟩
abbrev S8448x2048 : Shape := ⟨2, ![8448, 2048]⟩
abbrev S1x512 : Shape := ⟨2, ![1, 512]⟩
abbrev S512 : Shape := ⟨1, ![512]⟩
abbrev S8448x512 : Shape := ⟨2, ![8448, 512]⟩
abbrev S8448x1024 : Shape := ⟨2, ![8448, 1024]⟩
abbrev S352x2048 : Shape := ⟨2, ![352, 2048]⟩
abbrev S1x2048x1280 : Shape := ⟨3, ![1, 2048, 1280]⟩
abbrev S1x512x4096 : Shape := ⟨3, ![1, 512, 4096]⟩
abbrev S352x128 : Shape := ⟨2, ![352, 128]⟩
abbrev S352x512 : Shape := ⟨2, ![352, 512]⟩
abbrev S352x1024 : Shape := ⟨2, ![352, 1024]⟩
abbrev S2048x1280 : Shape := ⟨2, ![2048, 1280]⟩
abbrev S352x1280 : Shape := ⟨2, ![352, 1280]⟩
abbrev S352 : Shape := ⟨1, ![352]⟩
abbrev S352x1 : Shape := ⟨2, ![352, 1]⟩
abbrev S512x4096 : Shape := ⟨2, ![512, 4096]⟩
abbrev S352x4096 : Shape := ⟨2, ![352, 4096]⟩

abbrev nBuf : Space → Nat
  | .hbm => 60
  | .vmem => 18
  | .smem => 0
  | _ => 0

abbrev bufTy : (tb : Table) → Fin (tcTables nBuf tb) → BufTy
  | .hbm, ⟨0, _⟩ => ⟨S2x4112x2048, .f32⟩
  | .hbm, ⟨1, _⟩ => ⟨S2x2048x1088, .f32⟩
  | .hbm, ⟨2, _⟩ => ⟨S2x512, .f32⟩
  | .hbm, ⟨3, _⟩ => ⟨S2x512, .f32⟩
  | .hbm, ⟨4, _⟩ => ⟨S2x512x3072, .f32⟩
  | .hbm, ⟨5, _⟩ => ⟨S2x2048x64, .f32⟩
  | .hbm, ⟨6, _⟩ => ⟨S2x2048x32, .f32⟩
  | .hbm, ⟨7, _⟩ => ⟨S2x2048x32, .f32⟩
  | .hbm, ⟨8, _⟩ => ⟨S2x2048x64, .f32⟩
  | .hbm, ⟨9, _⟩ => ⟨S2x2048x1024, .f32⟩
  | .hbm, ⟨10, _⟩ => ⟨S2x2048x1280, .f32⟩
  | .hbm, ⟨11, _⟩ => ⟨S2x2048x1280, .bf16⟩
  | .hbm, ⟨12, _⟩ => ⟨S2x512x16x192, .f32⟩
  | .hbm, ⟨13, _⟩ => ⟨S2x512x16x64, .f32⟩
  | .hbm, ⟨14, _⟩ => ⟨S2x512x16x128, .f32⟩
  | .hbm, ⟨15, _⟩ => ⟨S2x512x2048, .f32⟩
  | .hbm, ⟨16, _⟩ => ⟨S2x512x1024, .f32⟩
  | .hbm, ⟨17, _⟩ => ⟨S2x512x16x32, .f32⟩
  | .hbm, ⟨18, _⟩ => ⟨S2x512x16x32, .f32⟩
  | .hbm, ⟨19, _⟩ => ⟨S2x512x16x64, .f32⟩
  | .hbm, ⟨20, _⟩ => ⟨S2x512x1024, .f32⟩
  | .hbm, ⟨21, _⟩ => ⟨S2x512x4096, .f32⟩
  | .hbm, ⟨22, _⟩ => ⟨S2x512x4096, .bf16⟩
  | .hbm, ⟨23, _⟩ => ⟨S4224, .i32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4224, .f32⟩
  | .hbm, ⟨33, _⟩ => ⟨S4224x1, .f32⟩
  | .hbm, ⟨34, _⟩ => ⟨S1x32, .f32⟩
  | .hbm, ⟨35, _⟩ => ⟨S4224x32, .f32⟩
  | .hbm, ⟨36, _⟩ => ⟨S4224x32, .f32⟩
  | .hbm, ⟨37, _⟩ => ⟨S4224x32, .f32⟩
  | .hbm, ⟨38, _⟩ => ⟨S4224x32, .f32⟩
  | .hbm, ⟨39, _⟩ => ⟨S4224x32, .f32⟩
  | .hbm, ⟨40, _⟩ => ⟨S4224x128, .f32⟩
  | .hbm, ⟨41, _⟩ => ⟨S4224x32, .f32⟩
  | .hbm, ⟨42, _⟩ => ⟨S4224x32, .f32⟩
  | .hbm, ⟨43, _⟩ => ⟨S4224x128, .f32⟩
  | .hbm, ⟨44, _⟩ => ⟨S8448x128, .f32⟩
  | .hbm, ⟨45, _⟩ => ⟨S8448x128, .f32⟩
  | .hbm, ⟨46, _⟩ => ⟨S_, .i32⟩
  | .hbm, ⟨47, _⟩ => ⟨S_, .f32⟩
  | .hbm, ⟨48, _⟩ => ⟨S2x4224x2048, .f32⟩
  | .hbm, ⟨49, _⟩ => ⟨S8448x2048, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S8448x512, .f32⟩
  | .hbm, ⟨57, _⟩ => ⟨S8448x128, .f32⟩
  | .hbm, ⟨58, _⟩ => ⟨S8448x2048, .bf16⟩
  | .hbm, ⟨59, _⟩ => ⟨S8448x1024, .bf16⟩
  | .local _ .vmem, ⟨0, _⟩ => ⟨S352x2048, .f32⟩
  | .local _ .vmem, ⟨1, _⟩ => ⟨S352x2048, .f32⟩
  | .local _ .vmem, ⟨2, _⟩ => ⟨S1x2048x1280, .bf16⟩
  | .local _ .vmem, ⟨3, _⟩ => ⟨S1x512, .f32⟩
  | .local _ .vmem, ⟨4, _⟩ => ⟨S1x512, .f32⟩
  | .local _ .vmem, ⟨5, _⟩ => ⟨S1x512x4096, .bf16⟩
  | .local _ .vmem, ⟨6, _⟩ => ⟨S352x128, .f32⟩
  | .local _ .vmem, ⟨7, _⟩ => ⟨S352x128, .f32⟩
  | .local _ .vmem, ⟨8, _⟩ => ⟨S352x128, .f32⟩
  | .local _ .vmem, ⟨9, _⟩ => ⟨S352x128, .f32⟩
  | .local _ .vmem, ⟨10, _⟩ => ⟨S352x512, .f32⟩
  | .local _ .vmem, ⟨11, _⟩ => ⟨S352x512, .f32⟩
  | .local _ .vmem, ⟨12, _⟩ => ⟨S352x128, .f32⟩
  | .local _ .vmem, ⟨13, _⟩ => ⟨S352x128, .f32⟩
  | .local _ .vmem, ⟨14, _⟩ => ⟨S352x2048, .bf16⟩
  | .local _ .vmem, ⟨15, _⟩ => ⟨S352x2048, .bf16⟩
  | .local _ .vmem, ⟨16, _⟩ => ⟨S352x1024, .bf16⟩
  | .local _ .vmem, ⟨17, _⟩ => ⟨S352x1024, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_call0_v0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47_0 : Ref sig .tc := ⟨.hbm, 56, rfl⟩
abbrev main_v47_1 : Ref sig .tc := ⟨.hbm, 57, rfl⟩
abbrev main_v47_2 : Ref sig .tc := ⟨.hbm, 58, rfl⟩
abbrev main_v47_3 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S352x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlapReferenceIdeal.lean ====
abbrev S2x4112x2048 : Shape := ⟨3, ![2, 4112, 2048]⟩
abbrev S2x2048x1088 : Shape := ⟨3, ![2, 2048, 1088]⟩
abbrev S2x512 : Shape := ⟨2, ![2, 512]⟩
abbrev S2x512x3072 : Shape := ⟨3, ![2, 512, 3072]⟩
abbrev S4112 : Shape := ⟨1, ![4112]⟩
abbrev S1x2048x1088 : Shape := ⟨3, ![1, 2048, 1088]⟩
abbrev S2048x1088 : Shape := ⟨2, ![2048, 1088]⟩
abbrev S1x512 : Shape := ⟨2, ![1, 512]⟩
abbrev S512 : Shape := ⟨1, ![512]⟩
abbrev S1x512x3072 : Shape := ⟨3, ![1, 512, 3072]⟩
abbrev S512x3072 : Shape := ⟨2, ![512, 3072]⟩
abbrev S2x4112x1088 : Shape := ⟨3, ![2, 4112, 1088]⟩
abbrev S2x4112x512 : Shape := ⟨3, ![2, 4112, 512]⟩
abbrev S_ : Shape := ⟨0, ![]⟩
abbrev S2x4112 : Shape := ⟨2, ![2, 4112]⟩
abbrev S2x4112x1 : Shape := ⟨3, ![2, 4112, 1]⟩
abbrev S1x1x512 : Shape := ⟨3, ![1, 1, 512]⟩
abbrev S2x4112x64 : Shape := ⟨3, ![2, 4112, 64]⟩
abbrev S32 : Shape := ⟨1, ![32]⟩
abbrev S4112x1 : Shape := ⟨2, ![4112, 1]⟩
abbrev S1x32 : Shape := ⟨2, ![1, 32]⟩
abbrev S4112x32 : Shape := ⟨2, ![4112, 32]⟩
abbrev S2x4112x32 : Shape := ⟨3, ![2, 4112, 32]⟩
abbrev S1x4112x32 : Shape := ⟨3, ![1, 4112, 32]⟩
abbrev S2x4112x3072 : Shape := ⟨3, ![2, 4112, 3072]⟩
abbrev S2x4112x16x192 : Shape := ⟨4, ![2, 4112, 16, 192]⟩
abbrev S2x4112x16x128 : Shape := ⟨4, ![2, 4112, 16, 128]⟩
abbrev S2x4112x16x64 : Shape := ⟨4, ![2, 4112, 16, 64]⟩
abbrev S4112x1x32 : Shape := ⟨3, ![4112, 1, 32]⟩
abbrev S2x4112x16x32 : Shape := ⟨4, ![2, 4112, 16, 32]⟩
abbrev S1x4112x1x32 : Shape := ⟨4, ![1, 4112, 1, 32]⟩
abbrev S2x4112x128 : Shape := ⟨3, ![2, 4112, 128]⟩
abbrev S2x4112x1024 : Shape := ⟨3, ![2, 4112, 1024]⟩
abbrev S2x4224x512 : Shape := ⟨3, ![2, 4224, 512]⟩
abbrev S8448x512 : Shape := ⟨2, ![8448, 512]⟩
abbrev S2x4224x128 : Shape := ⟨3, ![2, 4224, 128]⟩
abbrev S8448x128 : Shape := ⟨2, ![8448, 128]⟩
abbrev S2x4224x2048 : Shape := ⟨3, ![2, 4224, 2048]⟩
abbrev S8448x2048 : Shape := ⟨2, ![8448, 2048]⟩
abbrev S2x4224x1024 : Shape := ⟨3, ![2, 4224, 1024]⟩
abbrev S8448x1024 : Shape := ⟨2, ![8448, 1024]⟩

abbrev nBuf : Space → Nat
  | .hbm => 143
  | .vmem => 0
  | .smem => 0
  | _ => 0

abbrev hbmTy0_0 (i : Nat) : BufTy := match i % 128 with
  | 0 => ⟨S2x4112x2048, .f32⟩
  | 1 => ⟨S2x2048x1088, .f32⟩
  | 2 => ⟨S2x512, .f32⟩
  | 3 => ⟨S2x512, .f32⟩
  | 4 => ⟨S2x512x3072, .f32⟩
  | 5 => ⟨S4112, .i32⟩
  | 6 => ⟨S1x2048x1088, .f32⟩
  | 7 => ⟨S2048x1088, .f32⟩
  | 8 => ⟨S1x512, .f32⟩
  | 9 => ⟨S512, .f32⟩
  | 10 => ⟨S1x512, .f32⟩
  | 11 => ⟨S512, .f32⟩
  | 12 => ⟨S1x512x3072, .f32⟩
  | 13 => ⟨S512x3072, .f32⟩
  | 14 => ⟨S2x4112x1088, .f32⟩
  | 15 => ⟨S2x4112x512, .f32⟩
  | 16 => ⟨S2x4112x512, .f32⟩
  | 17 => ⟨S_, .f32⟩
  | 18 => ⟨S2x4112, .f32⟩
  | 19 => ⟨S2x4112x1, .f32⟩
  | 20 => ⟨S_, .f32⟩
  | 21 => ⟨S2x4112x1, .f32⟩
  | 22 => ⟨S2x4112x1, .f32⟩
  | 23 => ⟨S_, .f32⟩
  | 24 => ⟨S2x4112x1, .f32⟩
  | 25 => ⟨S2x4112x1, .f32⟩
  | 26 => ⟨S2x4112x1, .f32⟩
  | 27 => ⟨S2x4112x512, .f32⟩
  | 28 => ⟨S2x4112x512, .f32⟩
  | 29 => ⟨S1x1x512, .f32⟩
  | 30 => ⟨S2x4112x512, .f32⟩
  | 31 => ⟨S2x4112x512, .f32⟩
  | 32 => ⟨S2x4112x512, .f32⟩
  | 33 => ⟨S2x4112x512, .f32⟩
  | 34 => ⟨S_, .f32⟩
  | 35 => ⟨S2x4112, .f32⟩
  | 36 => ⟨S2x4112x1, .f32⟩
  | 37 => ⟨S_, .f32⟩
  | 38 => ⟨S2x4112x1, .f32⟩
  | 39 => ⟨S2x4112x1, .f32⟩
  | 40 => ⟨S_, .f32⟩
  | 41 => ⟨S2x4112x1, .f32⟩
  | 42 => ⟨S2x4112x1, .f32⟩
  | 43 => ⟨S2x4112x1, .f32⟩
  | 44 => ⟨S2x4112x512, .f32⟩
  | 45 => ⟨S2x4112x512, .f32⟩
  | 46 => ⟨S1x1x512, .f32⟩
  | 47 => ⟨S2x4112x512, .f32⟩
  | 48 => ⟨S2x4112x512, .f32⟩
  | 49 => ⟨S2x4112x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S4112, .f32⟩
  | 59 => ⟨S4112x1, .f32⟩
  | 60 => ⟨S1x32, .f32⟩
  | 61 => ⟨S4112x32, .f32⟩
  | 62 => ⟨S4112x32, .f32⟩
  | 63 => ⟨S4112x32, .f32⟩
  | 64 => ⟨S4112x32, .f32⟩
  | 65 => ⟨S4112x32, .f32⟩
  | 66 => ⟨S2x4112x32, .f32⟩
  | 67 => ⟨S2x4112x32, .f32⟩
  | 68 => ⟨S1x4112x32, .f32⟩
  | 69 => ⟨S2x4112x32, .f32⟩
  | 70 => ⟨S2x4112x32, .f32⟩
  | 71 => ⟨S1x4112x32, .f32⟩
  | 72 => ⟨S2x4112x32, .f32⟩
  | 73 => ⟨S2x4112x32, .f32⟩
  | 74 => ⟨S2x4112x32, .f32⟩
  | 75 => ⟨S1x4112x32, .f32⟩
  | 76 => ⟨S2x4112x32, .f32⟩
  | 77 => ⟨S2x4112x32, .f32⟩
  | 78 => ⟨S1x4112x32, .f32⟩
  | 79 => ⟨S2x4112x32, .f32⟩
  | 80 => ⟨S2x4112x32, .f32⟩
  | 81 => ⟨S2x4112x32, .f32⟩
  | 82 => ⟨S2x4112x64, .f32⟩
  | 83 => ⟨S2x4112x3072, .f32⟩
  | 84 => ⟨S2x4112x16x192, .f32⟩
  | 85 => ⟨S2x4112x16x128, .f32⟩
  | 86 => ⟨S2x4112x16x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S4112, .f32⟩
  | 96 => ⟨S4112x1, .f32⟩
  | 97 => ⟨S1x32, .f32⟩
  | 98 => ⟨S4112x32, .f32⟩
  | 99 => ⟨S4112x32, .f32⟩
  | 100 => ⟨S4112x32, .f32⟩
  | 101 => ⟨S4112x32, .f32⟩
  | 102 => ⟨S4112x1x32, .f32⟩
  | 103 => ⟨S4112x32, .f32⟩
  | 104 => ⟨S4112x1x32, .f32⟩
  | 105 => ⟨S2x4112x16x32, .f32⟩
  | 106 => ⟨S2x4112x16x32, .f32⟩
  | 107 => ⟨S1x4112x1x32, .f32⟩
  | 108 => ⟨S2x4112x16x32, .f32⟩
  | 109 => ⟨S2x4112x16x32, .f32⟩
  | 110 => ⟨S1x4112x1x32, .f32⟩
  | 111 => ⟨S2x4112x16x32, .f32⟩
  | 112 => ⟨S2x4112x16x32, .f32⟩
  | 113 => ⟨S2x4112x16x32, .f32⟩
  | 114 => ⟨S1x4112x1x32, .f32⟩
  | 115 => ⟨S2x4112x16x32, .f32⟩
  | 116 => ⟨S2x4112x16x32, .f32⟩
  | 117 => ⟨S1x4112x1x32, .f32⟩
  | 118 => ⟨S2x4112x16x32, .f32⟩
  | 119 => ⟨S2x4112x16x32, .f32⟩
  | 120 => ⟨S2x4112x16x32, .f32⟩
  | 121 => ⟨S2x4112x16x64, .f32⟩
  | 122 => ⟨S2x4112x128, .f32⟩
  | 123 => ⟨S2x4112x2048, .f32⟩
  | 124 => ⟨S2x4112x2048, .bf16⟩
  | 125 => ⟨S2x4112x1024, .f32⟩
  | 126 => ⟨S2x4112x1024, .bf16⟩
  | 127 => ⟨S_, .i32⟩
  | _ => ⟨S2x4112x2048, .f32⟩

abbrev hbmTy0_1 (i : Nat) : BufTy := match i % 128 with
  | 0 => ⟨S_, .f32⟩
  | 1 => ⟨S2x4224x512, .f32⟩
  | 2 => ⟨S8448x512, .f32⟩
  | 3 => ⟨S_, .i32⟩
  | 4 => ⟨S_, .f32⟩
  | 5 => ⟨S2x4224x128, .f32⟩
  | 6 => ⟨S8448x128, .f32⟩
  | 7 => ⟨S_, .i32⟩
  | 8 => ⟨S_, .bf16⟩
  | 9 => ⟨S2x4224x2048, .bf16⟩
  | 10 => ⟨S8448x2048, .bf16⟩
  | 11 => ⟨S_, .i32⟩
  | 12 => ⟨S_, .bf16⟩
  | 13 => ⟨S2x4224x1024, .bf16⟩
  | 14 => ⟨S8448x1024, .bf16⟩
  | _ => ⟨S2x4112x2048, .f32⟩

abbrev hbmTy (i : Nat) : BufTy := match i / 128 with
  | 0 => hbmTy0_0 i
  | 1 => hbmTy0_1 i
  | _ => ⟨S2x4112x2048, .f32⟩

abbrev bufTy : (tb : Table) → Fin (tcTables nBuf tb) → BufTy
  | .hbm, ⟨i, _⟩ => hbmTy i
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_c : Ref sig .tc := ⟨.hbm, 127, rfl⟩
abbrev main_call0_v0 : Ref sig .tc := ⟨.hbm, 128, rfl⟩
abbrev main_v112 : Ref sig .tc := ⟨.hbm, 129, rfl⟩
abbrev main_v113 : Ref sig .tc := ⟨.hbm, 130, rfl⟩
abbrev main_c_9 : Ref sig .tc := ⟨.hbm, 131, rfl⟩
abbrev main_call1_v0 : Ref sig .tc := ⟨.hbm, 132, rfl⟩
abbrev main_v114 : Ref sig .tc := ⟨.hbm, 133, rfl⟩
abbrev main_v115 : Ref sig .tc := ⟨.hbm, 134, rfl⟩
abbrev main_c_10 : Ref sig .tc := ⟨.hbm, 135, rfl⟩
abbrev main_call2_v0 : Ref sig .tc := ⟨.hbm, 136, rfl⟩
abbrev main_v116 : Ref sig .tc := ⟨.hbm, 137, rfl⟩
abbrev main_v117 : Ref sig .tc := ⟨.hbm, 138, rfl⟩
abbrev main_c_11 : Ref sig .tc := ⟨.hbm, 139, rfl⟩
abbrev main_call3_v0 : Ref sig .tc := ⟨.hbm, 140, rfl⟩
abbrev main_v118 : Ref sig .tc := ⟨.hbm, 141, rfl⟩
abbrev main_v119 : Ref sig .tc := ⟨.hbm, 142, rfl⟩

abbrev nD : Nat := 1
abbrev τ : Topo := Topo.v7x

variable {F : FTy → Type} [FloatOps F]
-- ==== MlasKernel.lean ====
abbrev S128x4x2048 : Shape := ⟨3, ![128, 4, 2048]⟩
abbrev S2x2048x1088 : Shape := ⟨3, ![2, 2048, 1088]⟩
abbrev S2x512 : Shape := ⟨2, ![2, 512]⟩
abbrev S2x512x3072 : Shape := ⟨3, ![2, 512, 3072]⟩
abbrev S2x2048x64 : Shape := ⟨3, ![2, 2048, 64]⟩
abbrev S2x2048x32 : Shape := ⟨3, ![2, 2048, 32]⟩
abbrev S2x2048x1024 : Shape := ⟨3, ![2, 2048, 1024]⟩
abbrev S2x2048x1280 : Shape := ⟨3, ![2, 2048, 1280]⟩
abbrev S2x512x16x192 : Shape := ⟨4, ![2, 512, 16, 192]⟩
abbrev S2x512x16x64 : Shape := ⟨4, ![2, 512, 16, 64]⟩
abbrev S2x512x16x128 : Shape := ⟨4, ![2, 512, 16, 128]⟩
abbrev S2x512x2048 : Shape := ⟨3, ![2, 512, 2048]⟩
abbrev S2x512x1024 : Shape := ⟨3, ![2, 512, 1024]⟩
abbrev S2x512x16x32 : Shape := ⟨4, ![2, 512, 16, 32]⟩
abbrev S2x512x4096 : Shape := ⟨3, ![2, 512, 4096]⟩
abbrev S4 : Shape := ⟨1, ![4]⟩
abbrev S_ : Shape := ⟨0, ![]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x128 : Shape := ⟨2, ![4, 128]⟩
abbrev S4x128x128 : Shape := ⟨3, ![4, 128, 128]⟩
abbrev S512x128 : Shape := ⟨2, ![512, 128]⟩
abbrev S4x128x2048 : Shape := ⟨3, ![4, 128, 2048]⟩
abbrev S512x2048 : Shape := ⟨2, ![512, 2048]⟩
abbrev S1x512 : Shape := ⟨2, ![1, 512]⟩
abbrev S512 : Shape := ⟨1, ![512]⟩
abbrev S512x512 : Shape := ⟨2, ![512, 512]⟩
abbrev S512x1024 : Shape := ⟨2, ![512, 1024]⟩
abbrev S256x2048 : Shape := ⟨2, ![256, 2048]⟩
abbrev S1x2048x1280 : Shape := ⟨3, ![1, 2048, 1280]⟩
abbrev S1x512x4096 : Shape := ⟨3, ![1, 512, 4096]⟩
abbrev S256x128 : Shape := ⟨2, ![256, 128]⟩
abbrev S256x512 : Shape := ⟨2, ![256, 512]⟩
abbrev S256x1024 : Shape := ⟨2, ![256, 1024]⟩
abbrev S2048x1280 : Shape := ⟨2, ![2048, 1280]⟩
abbrev S256x1280 : Shape := ⟨2, ![256, 1280]⟩
abbrev S256 : Shape := ⟨1, ![256]⟩
abbrev S256x1 : Shape := ⟨2, ![256, 1]⟩
abbrev S512x4096 : Shape := ⟨2, ![512, 4096]⟩
abbrev S256x4096 : Shape := ⟨2, ![256, 4096]⟩

abbrev nBuf : Space → Nat
  | .hbm => 63
  | .vmem => 18
  | .smem => 0
  | _ => 0

abbrev bufTy : (tb : Table) → Fin (tcTables nBuf tb) → BufTy
  | .hbm, ⟨0, _⟩ => ⟨S128x4x2048, .f32⟩
  | .hbm, ⟨1, _⟩ => ⟨S2x2048x1088, .f32⟩
  | .hbm, ⟨2, _⟩ => ⟨S2x512, .f32⟩
  | .hbm, ⟨3, _⟩ => ⟨S2x512, .f32⟩
  | .hbm, ⟨4, _⟩ => ⟨S2x512x3072, .f32⟩
  | .hbm, ⟨5, _⟩ => ⟨S2x2048x64, .f32⟩
  | .hbm, ⟨6, _⟩ => ⟨S2x2048x32, .f32⟩
  | .hbm, ⟨7, _⟩ => ⟨S2x2048x32, .f32⟩
  | .hbm, ⟨8, _⟩ => ⟨S2x2048x64, .f32⟩
  | .hbm, ⟨9, _⟩ => ⟨S2x2048x1024, .f32⟩
  | .hbm, ⟨10, _⟩ => ⟨S2x2048x1280, .f32⟩
  | .hbm, ⟨11, _⟩ => ⟨S2x2048x1280, .bf16⟩
  | .hbm, ⟨12, _⟩ => ⟨S2x512x16x192, .f32⟩
  | .hbm, ⟨13, _⟩ => ⟨S2x512x16x64, .f32⟩
  | .hbm, ⟨14, _⟩ => ⟨S2x512x16x128, .f32⟩
  | .hbm, ⟨15, _⟩ => ⟨S2x512x2048, .f32⟩
  | .hbm, ⟨16, _⟩ => ⟨S2x512x1024, .f32⟩
  | .hbm, ⟨17, _⟩ => ⟨S2x512x16x32, .f32⟩
  | .hbm, ⟨18, _⟩ => ⟨S2x512x16x32, .f32⟩
  | .hbm, ⟨19, _⟩ => ⟨S2x512x16x64, .f32⟩
  | .hbm, ⟨20, _⟩ => ⟨S2x512x1024, .f32⟩
  | .hbm, ⟨21, _⟩ => ⟨S2x512x4096, .f32⟩
  | .hbm, ⟨22, _⟩ => ⟨S2x512x4096, .bf16⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4, .f32⟩
  | .hbm, ⟨36, _⟩ => ⟨S4x1, .f32⟩
  | .hbm, ⟨37, _⟩ => ⟨S1x32, .f32⟩
  | .hbm, ⟨38, _⟩ => ⟨S4x32, .f32⟩
  | .hbm, ⟨39, _⟩ => ⟨S4x32, .f32⟩
  | .hbm, ⟨40, _⟩ => ⟨S4x32, .f32⟩
  | .hbm, ⟨41, _⟩ => ⟨S4x32, .f32⟩
  | .hbm, ⟨42, _⟩ => ⟨S4x32, .f32⟩
  | .hbm, ⟨43, _⟩ => ⟨S4x128, .f32⟩
  | .hbm, ⟨44, _⟩ => ⟨S4x32, .f32⟩
  | .hbm, ⟨45, _⟩ => ⟨S4x32, .f32⟩
  | .hbm, ⟨46, _⟩ => ⟨S4x128, .f32⟩
  | .hbm, ⟨47, _⟩ => ⟨S4x128x128, .f32⟩
  | .hbm, ⟨48, _⟩ => ⟨S512x128, .f32⟩
  | .hbm, ⟨49, _⟩ => ⟨S4x128x128, .f32⟩
  | .hbm, ⟨50, _⟩ => ⟨S512x128, .f32⟩
  | .hbm, ⟨51, _⟩ => ⟨S4x128x2048, .f32⟩
  | .hbm, ⟨52, _⟩ => ⟨S512x2048, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S512x512, .f32⟩
  | .hbm, ⟨60, _⟩ => ⟨S512x128, .f32⟩
  | .hbm, ⟨61, _⟩ => ⟨S512x2048, .bf16⟩
  | .hbm, ⟨62, _⟩ => ⟨S512x1024, .bf16⟩
  | .local _ .vmem, ⟨0, _⟩ => ⟨S256x2048, .f32⟩
  | .local _ .vmem, ⟨1, _⟩ => ⟨S256x2048, .f32⟩
  | .local _ .vmem, ⟨2, _⟩ => ⟨S1x2048x1280, .bf16⟩
  | .local _ .vmem, ⟨3, _⟩ => ⟨S1x512, .f32⟩
  | .local _ .vmem, ⟨4, _⟩ => ⟨S1x512, .f32⟩
  | .local _ .vmem, ⟨5, _⟩ => ⟨S1x512x4096, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51_0 : Ref sig .tc := ⟨.hbm, 59, rfl⟩
abbrev main_v51_1 : Ref sig .tc := ⟨.hbm, 60, rfl⟩
abbrev main_v51_2 : Ref sig .tc := ⟨.hbm, 61, rfl⟩
abbrev main_v51_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlasReferenceIdeal.lean ====
abbrev S128x4x2048 : Shape := ⟨3, ![128, 4, 2048]⟩
abbrev S2x2048x1088 : Shape := ⟨3, ![2, 2048, 1088]⟩
abbrev S2x512 : Shape := ⟨2, ![2, 512]⟩
abbrev S2x512x3072 : Shape := ⟨3, ![2, 512, 3072]⟩
abbrev S4 : Shape := ⟨1, ![4]⟩
abbrev S_ : Shape := ⟨0, ![]⟩
abbrev S1x2048x1088 : Shape := ⟨3, ![1, 2048, 1088]⟩
abbrev S2048x1088 : Shape := ⟨2, ![2048, 1088]⟩
abbrev S1x512 : Shape := ⟨2, ![1, 512]⟩
abbrev S512 : Shape := ⟨1, ![512]⟩
abbrev S1x512x3072 : Shape := ⟨3, ![1, 512, 3072]⟩
abbrev S512x3072 : Shape := ⟨2, ![512, 3072]⟩
abbrev S128x4x1088 : Shape := ⟨3, ![128, 4, 1088]⟩
abbrev S128x4x512 : Shape := ⟨3, ![128, 4, 512]⟩
abbrev S128x4 : Shape := ⟨2, ![128, 4]⟩
abbrev S128x4x1 : Shape := ⟨3, ![128, 4, 1]⟩
abbrev S1x1x512 : Shape := ⟨3, ![1, 1, 512]⟩
abbrev S128x4x64 : Shape := ⟨3, ![128, 4, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S128x4x32 : Shape := ⟨3, ![128, 4, 32]⟩
abbrev S1x4x32 : Shape := ⟨3, ![1, 4, 32]⟩
abbrev S128x4x3072 : Shape := ⟨3, ![128, 4, 3072]⟩
abbrev S128x4x16x192 : Shape := ⟨4, ![128, 4, 16, 192]⟩
abbrev S128x4x16x128 : Shape := ⟨4, ![128, 4, 16, 128]⟩
abbrev S128x4x16x64 : Shape := ⟨4, ![128, 4, 16, 64]⟩
abbrev S4x1x32 : Shape := ⟨3, ![4, 1, 32]⟩
abbrev S128x4x16x32 : Shape := ⟨4, ![128, 4, 16, 32]⟩
abbrev S1x4x1x32 : Shape := ⟨4, ![1, 4, 1, 32]⟩
abbrev S128x4x128 : Shape := ⟨3, ![128, 4, 128]⟩
abbrev S128x4x1024 : Shape := ⟨3, ![128, 4, 1024]⟩
abbrev S4x128x512 : Shape := ⟨3, ![4, 128, 512]⟩
abbrev S512x512 : Shape := ⟨2, ![512, 512]⟩
abbrev S4x128x128 : Shape := ⟨3, ![4, 128, 128]⟩
abbrev S512x128 : Shape := ⟨2, ![512, 128]⟩
abbrev S4x128x2048 : Shape := ⟨3, ![4, 128, 2048]⟩
abbrev S512x2048 : Shape := ⟨2, ![512, 2048]⟩
abbrev S4x128x1024 : Shape := ⟨3, ![4, 128, 1024]⟩
abbrev S512x1024 : Shape := ⟨2, ![512, 1024]⟩

abbrev nBuf : Space → Nat
  | .hbm => 138
  | .vmem => 0
  | .smem => 0
  | _ => 0

abbrev hbmTy0_0 (i : Nat) : BufTy := match i % 128 with
  | 0 => ⟨S128x4x2048, .f32⟩
  | 1 => ⟨S2x2048x1088, .f32⟩
  | 2 => ⟨S2x512, .f32⟩
  | 3 => ⟨S2x512, .f32⟩
  | 4 => ⟨S2x512x3072, .f32⟩
  | 5 => ⟨S4, .i32⟩
  | 6 => ⟨S_, .i32⟩
  | 7 => ⟨S4, .i32⟩
  | 8 => ⟨S4, .i32⟩
  | 9 => ⟨S1x2048x1088, .f32⟩
  | 10 => ⟨S2048x1088, .f32⟩
  | 11 => ⟨S1x512, .f32⟩
  | 12 => ⟨S512, .f32⟩
  | 13 => ⟨S1x512, .f32⟩
  | 14 => ⟨S512, .f32⟩
  | 15 => ⟨S1x512x3072, .f32⟩
  | 16 => ⟨S512x3072, .f32⟩
  | 17 => ⟨S128x4x1088, .f32⟩
  | 18 => ⟨S128x4x512, .f32⟩
  | 19 => ⟨S128x4x512, .f32⟩
  | 20 => ⟨S_, .f32⟩
  | 21 => ⟨S128x4, .f32⟩
  | 22 => ⟨S128x4x1, .f32⟩
  | 23 => ⟨S_, .f32⟩
  | 24 => ⟨S128x4x1, .f32⟩
  | 25 => ⟨S128x4x1, .f32⟩
  | 26 => ⟨S_, .f32⟩
  | 27 => ⟨S128x4x1, .f32⟩
  | 28 => ⟨S128x4x1, .f32⟩
  | 29 => ⟨S128x4x1, .f32⟩
  | 30 => ⟨S128x4x512, .f32⟩
  | 31 => ⟨S128x4x512, .f32⟩
  | 32 => ⟨S1x1x512, .f32⟩
  | 33 => ⟨S128x4x512, .f32⟩
  | 34 => ⟨S128x4x512, .f32⟩
  | 35 => ⟨S128x4x512, .f32⟩
  | 36 => ⟨S128x4x512, .f32⟩
  | 37 => ⟨S_, .f32⟩
  | 38 => ⟨S128x4, .f32⟩
  | 39 => ⟨S128x4x1, .f32⟩
  | 40 => ⟨S_, .f32⟩
  | 41 => ⟨S128x4x1, .f32⟩
  | 42 => ⟨S128x4x1, .f32⟩
  | 43 => ⟨S_, .f32⟩
  | 44 => ⟨S128x4x1, .f32⟩
  | 45 => ⟨S128x4x1, .f32⟩
  | 46 => ⟨S128x4x1, .f32⟩
  | 47 => ⟨S128x4x512, .f32⟩
  | 48 => ⟨S128x4x512, .f32⟩
  | 49 => ⟨S1x1x512, .f32⟩
  | 50 => ⟨S128x4x512, .f32⟩
  | 51 => ⟨S128x4x512, .f32⟩
  | 52 => ⟨S128x4x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4, .f32⟩
  | 62 => ⟨S4x1, .f32⟩
  | 63 => ⟨S1x32, .f32⟩
  | 64 => ⟨S4x32, .f32⟩
  | 65 => ⟨S4x32, .f32⟩
  | 66 => ⟨S4x32, .f32⟩
  | 67 => ⟨S4x32, .f32⟩
  | 68 => ⟨S4x32, .f32⟩
  | 69 => ⟨S128x4x32, .f32⟩
  | 70 => ⟨S128x4x32, .f32⟩
  | 71 => ⟨S1x4x32, .f32⟩
  | 72 => ⟨S128x4x32, .f32⟩
  | 73 => ⟨S128x4x32, .f32⟩
  | 74 => ⟨S1x4x32, .f32⟩
  | 75 => ⟨S128x4x32, .f32⟩
  | 76 => ⟨S128x4x32, .f32⟩
  | 77 => ⟨S128x4x32, .f32⟩
  | 78 => ⟨S1x4x32, .f32⟩
  | 79 => ⟨S128x4x32, .f32⟩
  | 80 => ⟨S128x4x32, .f32⟩
  | 81 => ⟨S1x4x32, .f32⟩
  | 82 => ⟨S128x4x32, .f32⟩
  | 83 => ⟨S128x4x32, .f32⟩
  | 84 => ⟨S128x4x32, .f32⟩
  | 85 => ⟨S128x4x64, .f32⟩
  | 86 => ⟨S128x4x3072, .f32⟩
  | 87 => ⟨S128x4x16x192, .f32⟩
  | 88 => ⟨S128x4x16x128, .f32⟩
  | 89 => ⟨S128x4x16x64, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S4, .f32⟩
  | 99 => ⟨S4x1, .f32⟩
  | 100 => ⟨S1x32, .f32⟩
  | 101 => ⟨S4x32, .f32⟩
  | 102 => ⟨S4x32, .f32⟩
  | 103 => ⟨S4x32, .f32⟩
  | 104 => ⟨S4x32, .f32⟩
  | 105 => ⟨S4x1x32, .f32⟩
  | 106 => ⟨S4x32, .f32⟩
  | 107 => ⟨S4x1x32, .f32⟩
  | 108 => ⟨S128x4x16x32, .f32⟩
  | 109 => ⟨S128x4x16x32, .f32⟩
  | 110 => ⟨S1x4x1x32, .f32⟩
  | 111 => ⟨S128x4x16x32, .f32⟩
  | 112 => ⟨S128x4x16x32, .f32⟩
  | 113 => ⟨S1x4x1x32, .f32⟩
  | 114 => ⟨S128x4x16x32, .f32⟩
  | 115 => ⟨S128x4x16x32, .f32⟩
  | 116 => ⟨S128x4x16x32, .f32⟩
  | 117 => ⟨S1x4x1x32, .f32⟩
  | 118 => ⟨S128x4x16x32, .f32⟩
  | 119 => ⟨S128x4x16x32, .f32⟩
  | 120 => ⟨S1x4x1x32, .f32⟩
  | 121 => ⟨S128x4x16x32, .f32⟩
  | 122 => ⟨S128x4x16x32, .f32⟩
  | 123 => ⟨S128x4x16x32, .f32⟩
  | 124 => ⟨S128x4x16x64, .f32⟩
  | 125 => ⟨S128x4x128, .f32⟩
  | 126 => ⟨S128x4x2048, .f32⟩
  | 127 => ⟨S128x4x2048, .bf16⟩
  | _ => ⟨S128x4x2048, .f32⟩

abbrev hbmTy0_1 (i : Nat) : BufTy := match i % 128 with
  | 0 => ⟨S128x4x1024, .f32⟩
  | 1 => ⟨S128x4x1024, .bf16⟩
  | 2 => ⟨S4x128x512, .f32⟩
  | 3 => ⟨S512x512, .f32⟩
  | 4 => ⟨S4x128x128, .f32⟩
  | 5 => ⟨S512x128, .f32⟩
  | 6 => ⟨S4x128x2048, .bf16⟩
  | 7 => ⟨S512x2048, .bf16⟩
  | 8 => ⟨S4x128x1024, .bf16⟩
  | 9 => ⟨S512x1024, .bf16⟩
  | _ => ⟨S128x4x2048, .f32⟩

abbrev hbmTy (i : Nat) : BufTy := match i / 128 with
  | 0 => hbmTy0_0 i
  | 1 => hbmTy0_1 i
  | _ => ⟨S128x4x2048, .f32⟩

abbrev bufTy : (tb : Table) → Fin (tcTables nBuf tb) → BufTy
  | .hbm, ⟨i, _⟩ => hbmTy i
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩

abbrev nD : Nat := 1
abbrev τ : Topo := Topo.v7x

variable {F : FTy → Type} [FloatOps F]
-- ==== GluKernel.lean ====
abbrev S8448x1024 : Shape := ⟨2, ![8448, 1024]⟩
abbrev S2x1024x1024 : Shape := ⟨3, ![2, 1024, 1024]⟩
abbrev S2x1024 : Shape := ⟨2, ![2, 1024]⟩
abbrev S1x1024 : Shape := ⟨2, ![1, 1024]⟩
abbrev S1024 : Shape := ⟨1, ![1024]⟩
abbrev S704x1024 : Shape := ⟨2, ![704, 1024]⟩
abbrev S1x1024x1024 : Shape := ⟨3, ![1, 1024, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S2x1024x1024, .f32⟩
  | .hbm, ⟨2, _⟩ => ⟨S2x1024, .f32⟩
  | .hbm, ⟨3, _⟩ => ⟨S2x1024x1024, .bf16⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S8448x1024, .bf16⟩
  | .local _ .vmem, ⟨0, _⟩ => ⟨S704x1024, .f32⟩
  | .local _ .vmem, ⟨1, _⟩ => ⟨S704x1024, .f32⟩
  | .local _ .vmem, ⟨2, _⟩ => ⟨S1x1024x1024, .bf16⟩
  | .local _ .vmem, ⟨3, _⟩ => ⟨S1x1024, .f32⟩
  | .local _ .vmem, ⟨4, _⟩ => ⟨S704x1024, .bf16⟩
  | .local _ .vmem, ⟨5, _⟩ => ⟨S704x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluReferenceIdeal.lean ====
abbrev S8448x1024 : Shape := ⟨2, ![8448, 1024]⟩
abbrev S2x1024x1024 : Shape := ⟨3, ![2, 1024, 1024]⟩
abbrev S2x1024 : Shape := ⟨2, ![2, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 38
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2x1024x1024, .f32⟩
  | .hbm, ⟨2, _⟩ => ⟨S2x1024, .f32⟩
  | .hbm, ⟨3, _⟩ => ⟨S8448x1024, .f32⟩
  | .hbm, ⟨4, _⟩ => ⟨S8448x1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S1x1024x1024, .f32⟩
  | .hbm, ⟨21, _⟩ => ⟨S1024x1024, .f32⟩
  | .hbm, ⟨22, _⟩ => ⟨S8448x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MixOutKernel.lean ====
abbrev S8448x1024 : Shape := ⟨2, ![8448, 1024]⟩
abbrev S2x2048x2048 : Shape := ⟨3, ![2, 2048, 2048]⟩
abbrev S8448x2048 : Shape := ⟨2, ![8448, 2048]⟩
abbrev S4x2048 : Shape := ⟨2, ![4, 2048]⟩
abbrev S1x2048 : Shape := ⟨2, ![1, 2048]⟩
abbrev S2048 : Shape := ⟨1, ![2048]⟩
abbrev S352x1024 : Shape := ⟨2, ![352, 1024]⟩
abbrev S1x1024x2048 : Shape := ⟨3, ![1, 1024, 2048]⟩
abbrev S352x2048 : Shape := ⟨2, ![352, 2048]⟩
abbrev S1024x2048 : Shape := ⟨2, ![1024, 2048]⟩
abbrev S352 : Shape := ⟨1, ![352]⟩
abbrev S352x1 : Shape := ⟨2, ![352, 1]⟩

abbrev nBuf : Space → Nat
  | .hbm => 14
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2x2048x2048, .f32⟩
  | .hbm, ⟨3, _⟩ => ⟨S8448x2048, .f32⟩
  | .hbm, ⟨4, _⟩ => ⟨S4x2048, .f32⟩
  | .hbm, ⟨5, _⟩ => ⟨S4x2048, .f32⟩
  | .hbm, ⟨6, _⟩ => ⟨S2x2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8448x2048, .f32⟩
  | .local _ .vmem, ⟨0, _⟩ => ⟨S352x1024, .bf16⟩
  | .local _ .vmem, ⟨1, _⟩ => ⟨S352x1024, .bf16⟩
  | .local _ .vmem, ⟨2, _⟩ => ⟨S352x1024, .bf16⟩
  | .local _ .vmem, ⟨3, _⟩ => ⟨S352x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S352x2048, .f32⟩
  | .local _ .vmem, ⟨7, _⟩ => ⟨S352x2048, .f32⟩
  | .local _ .vmem, ⟨8, _⟩ => ⟨S1x2048, .f32⟩
  | .local _ .vmem, ⟨9, _⟩ => ⟨S1x2048, .f32⟩
  | .local _ .vmem, ⟨10, _⟩ => ⟨S352x2048, .f32⟩
  | .local _ .vmem, ⟨11, _⟩ => ⟨S352x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S352x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutReferenceIdeal.lean ====
abbrev S8448x1024 : Shape := ⟨2, ![8448, 1024]⟩
abbrev S2x2048x2048 : Shape := ⟨3, ![2, 2048, 2048]⟩
abbrev S8448x2048 : Shape := ⟨2, ![8448, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8448 : Shape := ⟨1, ![8448]⟩
abbrev S8448x1 : Shape := ⟨2, ![8448, 1]⟩

abbrev nBuf : Space → Nat
  | .hbm => 48
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2x2048x2048, .f32⟩
  | .hbm, ⟨3, _⟩ => ⟨S8448x2048, .f32⟩
  | .hbm, ⟨4, _⟩ => ⟨S4x2048, .f32⟩
  | .hbm, ⟨5, _⟩ => ⟨S4x2048, .f32⟩
  | .hbm, ⟨6, _⟩ => ⟨S8448x2048, .bf16⟩
  | .hbm, ⟨7, _⟩ => ⟨S8448x2048, .f32⟩
  | .hbm, ⟨8, _⟩ => ⟨S1x2048x2048, .f32⟩
  | .hbm, ⟨9, _⟩ => ⟨S2048x2048, .f32⟩
  | .hbm, ⟨10, _⟩ => ⟨S8448x2048, .f32⟩
  | .hbm, ⟨11, _⟩ => ⟨S_, .f32⟩
  | .hbm, ⟨12, _⟩ => ⟨S8448x2048, .f32⟩
  | .hbm, ⟨13, _⟩ => ⟨S8448x2048, .f32⟩
  | .hbm, ⟨14, _⟩ => ⟨S8448x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x2048, .f32⟩
  | .hbm, ⟨26, _⟩ => ⟨S8448x2048, .f32⟩
  | .hbm, ⟨27, _⟩ => ⟨S8448x2048, .f32⟩
  | .hbm, ⟨28, _⟩ => ⟨S_, .f32⟩
  | .hbm, ⟨29, _⟩ => ⟨S8448, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x2048, .f32⟩
  | .hbm, ⟨35, _⟩ => ⟨S8448x2048, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S8448x1, .f32⟩
  | .hbm, ⟨40, _⟩ => ⟨S8448x2048, .f32⟩
  | .hbm, ⟨41, _⟩ => ⟨S8448x2048, .f32⟩
  | .hbm, ⟨42, _⟩ => ⟨S1x2048, .f32⟩
  | .hbm, ⟨43, _⟩ => ⟨S8448x2048, .f32⟩
  | .hbm, ⟨44, _⟩ => ⟨S8448x2048, .f32⟩
  | .hbm, ⟨45, _⟩ => ⟨S1x2048, .f32⟩
  | .hbm, ⟨46, _⟩ => ⟨S8448x2048, .f32⟩
  | .hbm, ⟨47, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KvKernel.lean ====
abbrev S8448x512 : Shape := ⟨2, ![8448, 512]⟩
abbrev S2x512x16x128 : Shape := ⟨4, ![2, 512, 16, 128]⟩
abbrev S2x512x2048 : Shape := ⟨3, ![2, 512, 2048]⟩
abbrev S8448x2048 : Shape := ⟨2, ![8448, 2048]⟩
abbrev S384x512 : Shape := ⟨2, ![384, 512]⟩
abbrev S1x512x2048 : Shape := ⟨3, ![1, 512, 2048]⟩
abbrev S384x2048 : Shape := ⟨2, ![384, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8448x512, .f32⟩
  | .hbm, ⟨1, _⟩ => ⟨S2x512x16x128, .f32⟩
  | .hbm, ⟨2, _⟩ => ⟨S2x512x2048, .f32⟩
  | .hbm, ⟨3, _⟩ => ⟨S2x512x2048, .bf16⟩
  | .hbm, ⟨4, _⟩ => ⟨S8448x2048, .bf16⟩
  | .local _ .vmem, ⟨0, _⟩ => ⟨S384x512, .f32⟩
  | .local _ .vmem, ⟨1, _⟩ => ⟨S384x512, .f32⟩
  | .local _ .vmem, ⟨2, _⟩ => ⟨S1x512x2048, .bf16⟩
  | .local _ .vmem, ⟨3, _⟩ => ⟨S384x2048, .bf16⟩
  | .local _ .vmem, ⟨4, _⟩ => ⟨S384x2048, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvReferenceIdeal.lean ====
abbrev S8448x512 : Shape := ⟨2, ![8448, 512]⟩
abbrev S2x512x16x128 : Shape := ⟨4, ![2, 512, 16, 128]⟩
abbrev S1x512x16x128 : Shape := ⟨4, ![1, 512, 16, 128]⟩
abbrev S512x16x128 : Shape := ⟨3, ![512, 16, 128]⟩
abbrev S8448x16x128 : Shape := ⟨3, ![8448, 16, 128]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S2x512x16x128, .f32⟩
  | .hbm, ⟨2, _⟩ => ⟨S1x512x16x128, .f32⟩
  | .hbm, ⟨3, _⟩ => ⟨S512x16x128, .f32⟩
  | .hbm, ⟨4, _⟩ => ⟨S8448x16x128, .f32⟩
  | .hbm, ⟨5, _⟩ => ⟨S8448x2048, .f32⟩
  | .hbm, ⟨6, _⟩ => ⟨S8448x2048, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MlaOutKernel.lean ====
abbrev S8448x2048 : Shape := ⟨2, ![8448, 2048]⟩
abbrev S2x2048x2048 : Shape := ⟨3, ![2, 2048, 2048]⟩
abbrev S4x2048 : Shape := ⟨2, ![4, 2048]⟩
abbrev S1x2048 : Shape := ⟨2, ![1, 2048]⟩
abbrev S2048 : Shape := ⟨1, ![2048]⟩
abbrev S352x2048 : Shape := ⟨2, ![352, 2048]⟩
abbrev S1x2048x2048 : Shape := ⟨3, ![1, 2048, 2048]⟩
abbrev S2048x2048 : Shape := ⟨2, ![2048, 2048]⟩
abbrev S352 : Shape := ⟨1, ![352]⟩
abbrev S352x1 : Shape := ⟨2, ![352, 1]⟩

abbrev nBuf : Space → Nat
  | .hbm => 13
  | .vmem => 9
  | .smem => 0
  | _ => 0

abbrev bufTy : (tb : Table) → Fin (tcTables nBuf tb) → BufTy
  | .hbm, ⟨0, _⟩ => ⟨S8448x2048, .bf16⟩
  | .hbm, ⟨1, _⟩ => ⟨S2x2048x2048, .f32⟩
  | .hbm, ⟨2, _⟩ => ⟨S8448x2048, .f32⟩
  | .hbm, ⟨3, _⟩ => ⟨S4x2048, .f32⟩
  | .hbm, ⟨4, _⟩ => ⟨S4x2048, .f32⟩
  | .hbm, ⟨5, _⟩ => ⟨S2x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8448x2048, .f32⟩
  | .local _ .vmem, ⟨0, _⟩ => ⟨S352x2048, .bf16⟩
  | .local _ .vmem, ⟨1, _⟩ => ⟨S352x2048, .bf16⟩
  | .local _ .vmem, ⟨2, _⟩ => ⟨S1x2048x2048, .bf16⟩
  | .local _ .vmem, ⟨3, _⟩ => ⟨S352x2048, .f32⟩
  | .local _ .vmem, ⟨4, _⟩ => ⟨S352x2048, .f32⟩
  | .local _ .vmem, ⟨5, _⟩ => ⟨S1x2048, .f32⟩
  | .local _ .vmem, ⟨6, _⟩ => ⟨S1x2048, .f32⟩
  | .local _ .vmem, ⟨7, _⟩ => ⟨S352x2048, .f32⟩
  | .local _ .vmem, ⟨8, _⟩ => ⟨S352x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlaOutReferenceIdeal.lean ====
abbrev S8448x2048 : Shape := ⟨2, ![8448, 2048]⟩
abbrev S2x2048x2048 : Shape := ⟨3, ![2, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8448 : Shape := ⟨1, ![8448]⟩
abbrev S8448x1 : Shape := ⟨2, ![8448, 1]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x2048, .f32⟩
  | .hbm, ⟨2, _⟩ => ⟨S8448x2048, .f32⟩
  | .hbm, ⟨3, _⟩ => ⟨S4x2048, .f32⟩
  | .hbm, ⟨4, _⟩ => ⟨S4x2048, .f32⟩
  | .hbm, ⟨5, _⟩ => ⟨S8448x2048, .f32⟩
  | .hbm, ⟨6, _⟩ => ⟨S1x2048x2048, .f32⟩
  | .hbm, ⟨7, _⟩ => ⟨S2048x2048, .f32⟩
  | .hbm, ⟨8, _⟩ => ⟨S8448x2048, .f32⟩
  | .hbm, ⟨9, _⟩ => ⟨S_, .f32⟩
  | .hbm, ⟨10, _⟩ => ⟨S8448x2048, .f32⟩
  | .hbm, ⟨11, _⟩ => ⟨S8448x2048, .f32⟩
  | .hbm, ⟨12, _⟩ => ⟨S8448x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S_, .f32⟩
  | .hbm, ⟨27, _⟩ => ⟨S8448, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x2048, .f32⟩
  | .hbm, ⟨33, _⟩ => ⟨S8448x2048, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x2048, .f32⟩
  | .hbm, ⟨39, _⟩ => ⟨S8448x2048, .f32⟩
  | .hbm, ⟨40, _⟩ => ⟨S1x2048, .f32⟩
  | .hbm, ⟨41, _⟩ => ⟨S8448x2048, .f32⟩
  | .hbm, ⟨42, _⟩ => ⟨S8448x2048, .f32⟩
  | .hbm, ⟨43, _⟩ => ⟨S1x2048, .f32⟩
  | .hbm, ⟨44, _⟩ => ⟨S8448x2048, .f32⟩
  | .hbm, ⟨45, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Params.lean ====
module

public import proofs.«01_k».proof.Proof.Gen.ParamsKernelIdeal.Value
public import proofs.«01_k».proof.Proof.Gen.ParamsReferenceIdeal.Run
public import proofs.«01_k».proof.Proof.Gen.ParamsReferenceIdeal.Read
public import Idealize.ShloMosaic.Lib.Pipeline.ValueKit

/- The discretised state-space parameters: the kernel's four arrays are the reference's. -/

@[expose] public section

set_option maxRecDepth 16384

noncomputable section

namespace Cert.ParamsMatch

open Idealize.ShloMosaic Idealize.ShloMosaic.TcCoe Idealize.SL.Sem Cert.ParamsKernelIdeal Cert.ParamsKernelIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

theorem final5 (c : Dev nD) : (dats m 0 c).arrAt 5 cfg0.N
    = Cert.ParamsReferenceIdeal.Read.val_main_v42 (F := Ideal) (m ((c : Thread nD τ).loc main_arg0)) (m ((c : Thread nD τ).loc main_arg1)) (m ((c : Thread nD τ).loc main_arg2)) := by
  refine (dats m 0 c).arrAt_eq_of_after_last 5 t0_0 (by decide +kernel) _ fun j => ?_
  blk_simp
  rw [after0_5]
  frame_out
  rw [← Cert.ParamsReferenceIdeal.Read.val_main_v42_eq]
  pointwise [k0_pay1, k0_pay2, k0_pay3, k0_pay4, k0_pay5, k0_pay6, k0_pay7, k0_pay8, k0_pay9, k0_pay10, k0_pay11, k0_pay12, k0_pay13]
  blk_point [iblk, V, idx t0_0]

theorem final6 (c : Dev nD) : (dats m 0 c).arrAt 6 cfg0.N
    = Cert.ParamsReferenceIdeal.Read.val_main_v43 (F := Ideal) (m ((c : Thread nD τ).loc main_arg0)) (m ((c : Thread nD τ).loc main_arg1)) (m ((c : Thread nD τ).loc main_arg2)) := by
  refine (dats m 0 c).arrAt_eq_of_after_last 6 t0_0 (by decide +kernel) _ fun j => ?_
  blk_simp
  rw [after0_6]
  frame_out
  rw [← Cert.ParamsReferenceIdeal.Read.val_main_v43_eq]
  pointwise [k0_pay1, k0_pay2, k0_pay3, k0_pay4, k0_pay5, k0_pay6, k0_pay7, k0_pay8, k0_pay9, k0_pay10, k0_pay11, k0_pay12, k0_pay13]
  blk_point [iblk, V, idx t0_0]

set_option maxHeartbeats 1600000 in
theorem final7 (c : Dev nD) : (dats m 0 c).arrAt 7 cfg0.N
    = Cert.ParamsReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_0 (by decide +kernel) _ fun j => ?_
  blk_simp
  rw [after0_7]
  frame_out
  rw [← Cert.ParamsReferenceIdeal.Read.val_main_v44_eq]
  pointwise [k0_pay1, k0_pay2, k0_pay3, k0_pay4, k0_pay5, k0_pay6, k0_pay7, k0_pay8, k0_pay9, k0_pay10, k0_pay11, k0_pay12, k0_pay13]
  blk_point [iblk, V, idx t0_0]

set_option maxHeartbeats 1600000 in
theorem final8 (c : Dev nD) : (dats m 0 c).arrAt 8 cfg0.N
    = Cert.ParamsReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_0 (by decide +kernel) _ fun j => ?_
  blk_simp
  rw [after0_8]
  frame_out
  rw [← Cert.ParamsReferenceIdeal.Read.val_main_v45_eq]
  pointwise [k0_pay1, k0_pay2, k0_pay3, k0_pay4, k0_pay5, k0_pay6, k0_pay7, k0_pay8, k0_pay9, k0_pay10, k0_pay11, k0_pay12, k0_pay13]
  blk_point [iblk, V, idx t0_0]

end Cert.ParamsMatch
-- ==== Proof.ParamsClaims.lean ====
module

public import proofs.«01_k».proof.Defs
public import proofs.«01_k».proof.Proof.Params
public import proofs.«01_k».proof.Proof.Gen.ParamsKernel.Frame
public import proofs.«01_k».proof.Proof.Gen.ParamsKernelIdeal.Value
public import proofs.«01_k».proof.Proof.Gen.ParamsReferenceIdeal.Run
public import proofs.«01_k».proof.Proof.Gen.ParamsReferenceIdeal.Read
public import Idealize.ShloMosaic.Adequacy

/- The five claims about the pair `ParamsKernel`, `ParamsReference`. -/

@[expose] public section

noncomputable section

namespace Cert.ParamsClaims

open Idealize.ShloMosaic Idealize.ShloMosaic.TcCoe Idealize.SL.Sem

/-- The kernel runs, keeps its arguments and ends quiet, over the reals and over the bits. -/
theorem frame_bits : Cert.quiescent_ParamsKernel := fun m ρ _ => Cert.ParamsKernel.Gen.frame m ρ
theorem frame_ideal : Cert.quiescent_ParamsKernelIdeal := fun m ρ _ => Cert.ParamsKernelIdeal.Gen.frame m ρ
/-- The reference keeps its arguments and declares no semaphore. -/
theorem frame_reference : Cert.quiescent_ParamsReferenceIdeal := fun m ρ _ =>
  (θ_run Cert.ParamsReferenceIdeal.defs _ _).mono (fun r h => ⟨fun c => (h c).2.2.2.2, sem_eq_zero_of_no_sems (by decide) r.2⟩)
    (Cert.ParamsReferenceIdeal.Value.run (F := Ideal) m ρ)

theorem preserves : Cert.preserves_ParamsKernel_ParamsKernelIdeal := trivial

/-- Over the reals the kernel's arrays are the reference's. -/
theorem algebraic : Cert.algebraic_ParamsKernelIdeal_ParamsReferenceIdeal := by
  intro m ρ m' ρ' _ hag
  refine ⟨fun c => Cert.ParamsReferenceIdeal.Read.val_main_v42 (F := Ideal) (m ((c : Thread Cert.ParamsKernelIdeal.nD Cert.ParamsKernelIdeal.τ).loc Cert.ParamsKernelIdeal.main_arg0)) (m ((c : Thread Cert.ParamsKernelIdeal.nD Cert.ParamsKernelIdeal.τ).loc Cert.ParamsKernelIdeal.main_arg1)) (m ((c : Thread Cert.ParamsKernelIdeal.nD Cert.ParamsKernelIdeal.τ).loc Cert.ParamsKernelIdeal.main_arg2)),
    fun c => Cert.ParamsReferenceIdeal.Read.val_main_v43 (F := Ideal) (m ((c : Thread Cert.ParamsKernelIdeal.nD Cert.ParamsKernelIdeal.τ).loc Cert.ParamsKernelIdeal.main_arg0)) (m ((c : Thread Cert.ParamsKernelIdeal.nD Cert.ParamsKernelIdeal.τ).loc Cert.ParamsKernelIdeal.main_arg1)) (m ((c : Thread Cert.ParamsKernelIdeal.nD Cert.ParamsKernelIdeal.τ).loc Cert.ParamsKernelIdeal.main_arg2)),
    fun c => Cert.ParamsReferenceIdeal.Read.val_main_v44 (F := Ideal) (m ((c : Thread Cert.ParamsKernelIdeal.nD Cert.ParamsKernelIdeal.τ).loc Cert.ParamsKernelIdeal.main_arg0)) (m ((c : Thread Cert.ParamsKernelIdeal.nD Cert.ParamsKernelIdeal.τ).loc Cert.ParamsKernelIdeal.main_arg1)) (m ((c : Thread Cert.ParamsKernelIdeal.nD Cert.ParamsKernelIdeal.τ).loc Cert.ParamsKernelIdeal.main_arg2)) (m ((c : Thread Cert.ParamsKernelIdeal.nD Cert.ParamsKernelIdeal.τ).loc Cert.ParamsKernelIdeal.main_arg3)) (m ((c : Thread Cert.ParamsKernelIdeal.nD Cert.ParamsKernelIdeal.τ).loc Cert.ParamsKernelIdeal.main_arg4)),
    fun c => Cert.ParamsReferenceIdeal.Read.val_main_v45 (F := Ideal) (m ((c : Thread Cert.ParamsKernelIdeal.nD Cert.ParamsKernelIdeal.τ).loc Cert.ParamsKernelIdeal.main_arg0)) (m ((c : Thread Cert.ParamsKernelIdeal.nD Cert.ParamsKernelIdeal.τ).loc Cert.ParamsKernelIdeal.main_arg1)) (m ((c : Thread Cert.ParamsKernelIdeal.nD Cert.ParamsKernelIdeal.τ).loc Cert.ParamsKernelIdeal.main_arg2)) (m ((c : Thread Cert.ParamsKernelIdeal.nD Cert.ParamsKernelIdeal.τ).loc Cert.ParamsKernelIdeal.main_arg3)) (m ((c : Thread Cert.ParamsKernelIdeal.nD Cert.ParamsKernelIdeal.τ).loc Cert.ParamsKernelIdeal.main_arg4)), ?_, ?_⟩
  · exact (θ_run Cert.ParamsKernelIdeal.defs _ _).mono (fun r h c => ⟨(h c).1.trans (Cert.ParamsMatch.final5 m c), (h c).2.1.trans (Cert.ParamsMatch.final6 m c), (h c).2.2.1.trans (Cert.ParamsMatch.final7 m c), (h c).2.2.2.1.trans (Cert.ParamsMatch.final8 m c), (h c).2.2.2.2⟩)
      (Cert.ParamsKernelIdeal.Value.run_blocks (F := Ideal) m ρ)
  · refine (θ_run Cert.ParamsReferenceIdeal.defs _ _).mono (fun r h c => ⟨(h c).1.trans ?_, (h c).2.1.trans ?_, (h c).2.2.1.trans ?_, (h c).2.2.2.1.trans ?_, (h c).2.2.2.2⟩)
      (Cert.ParamsReferenceIdeal.Value.run (F := Ideal) m' ρ')
    · refine (Cert.ParamsReferenceIdeal.Read.val_main_v42_eq _ _ _ ).trans ?_
      rw [(hag c).1, (hag c).2.1, (hag c).2.2.1]
    · refine (Cert.ParamsReferenceIdeal.Read.val_main_v43_eq _ _ _ ).trans ?_
      rw [(hag c).1, (hag c).2.1, (hag c).2.2.1]
    · refine (Cert.ParamsReferenceIdeal.Read.val_main_v44_eq _ _ _ _ _ ).trans ?_
      rw [(hag c).1, (hag c).2.1, (hag c).2.2.1, (hag c).2.2.2.1, (hag c).2.2.2.2]
    · refine (Cert.ParamsReferenceIdeal.Read.val_main_v45_eq _ _ _ _ _ ).trans ?_
      rw [(hag c).1, (hag c).2.1, (hag c).2.2.1, (hag c).2.2.2.1, (hag c).2.2.2.2]

end Cert.ParamsClaims
-- ==== Proof.S5Spec.lean ====
module

public import Idealize.ShloMosaic.Lib.Pipeline.ValueKit

/- The state-space layer as a complex recurrence over four steps. -/

@[expose] public section

set_option maxRecDepth 16384

noncomputable section

namespace Cert.S5Spec

open Idealize.ShloMosaic Idealize.SL.Sem

/-- One step of the recurrence `h ↦ a h + u` in real and imaginary parts. -/
def step (ar ai : EReal) (s u : EReal × EReal) : EReal × EReal :=
  (ar * s.1 - ai * s.2 + u.1, ar * s.2 + ai * s.1 + u.2)

/-- The state after `n` steps with the inputs `u`. -/
def states (ar ai : EReal) (s : EReal × EReal) (u : Fin 4 → EReal × EReal) : ℕ → EReal × EReal
  | 0 => s
  | n + 1 => step ar ai (states ar ai s u n) (u ⟨n % 4, Nat.mod_lt _ (by decide)⟩)

/-- A sum over 128 lanes of which only the 16 of group `q` count. -/
theorem sum_group (A F : Fin 128 → EReal) (G : Fin 16 → EReal) (q : Fin 8)
    (h : ∀ l : Fin 128, F l = if l.val / 16 = q.val then A l else 0)
    (hA : ∀ c : Fin 16, A ⟨16 * q.val + c.val, by omega⟩ = G c) : ∑ l, F l = ∑ c, G c := by
  rw [Finset.sum_congr rfl fun l _ => h l, ← Finset.sum_filter]
  symm
  refine Finset.sum_bij (fun c _ => (⟨16 * q.val + c.val, by omega⟩ : Fin 128)) ?_ ?_ ?_ ?_
  · intro c _
    simp only [Finset.mem_filter, Finset.mem_univ, true_and]
    omega
  · intro c _ d _ e
    have := congrArg Fin.val e
    simp only at this
    omega
  · intro l hl
    simp only [Finset.mem_filter, Finset.mem_univ, true_and] at hl
    exact ⟨⟨l.val % 16, Nat.mod_lt _ (by decide)⟩, Finset.mem_univ _, by ext; simp only; omega⟩
  · intro c _
    exact (hA c).symm

/-- A sum over 512 lanes of which only the 64 of group `q` count. -/
theorem sum_state (A F : Fin 512 → EReal) (G : Fin 64 → EReal) (q : Fin 8)
    (h : ∀ l : Fin 512, F l = if l.val / 64 = q.val then A l else 0)
    (hA : ∀ c : Fin 64, A ⟨64 * q.val + c.val, by omega⟩ = G c) : ∑ l, F l = ∑ c, G c := by
  rw [Finset.sum_congr rfl fun l _ => h l, ← Finset.sum_filter]
  symm
  refine Finset.sum_bij (fun c _ => (⟨64 * q.val + c.val, by omega⟩ : Fin 512)) ?_ ?_ ?_ ?_
  · intro c _
    simp only [Finset.mem_filter, Finset.mem_univ, true_and]
    omega
  · intro c _ d _ e
    have := congrArg Fin.val e
    simp only at this
    omega
  · intro l hl
    simp only [Finset.mem_filter, Finset.mem_univ, true_and] at hl
    exact ⟨⟨l.val % 64, Nat.mod_lt _ (by decide)⟩, Finset.mem_univ _, by ext; simp only; omega⟩
  · intro c _
    exact (hA c).symm

end Cert.S5Spec
-- ==== Proof.S5Pay.lean ====
module

public import proofs.«01_k».proof.Proof.Gen.S5KernelIdeal.Value
public import proofs.«01_k».proof.Proof.S5Spec
public import Idealize.ShloMosaic.Lib.Pipeline.ValueKit

/- What the state-space kernel's named values hold at an index. -/

@[expose] public section

set_option maxRecDepth 16384

noncomputable section

namespace Cert.S5Pay

open Idealize.ShloMosaic Idealize.SL.Sem Cert.S5KernelIdeal Cert.S5KernelIdeal.Gen Cert.S5Spec

/-- The input drive of row `r` on lane `z` of a block. -/
def drive (x0 : Vec Ideal S512x128 .f32) (w : Vec Ideal S1x128x512 .bf16) (r : Fin 512) (z : Fin 512) : EReal :=
  ∑ l : Fin 128, x0 (ix2 r l) * w (ix3 0 l z)

/-- The state of batch row `b` on lane `z` of a block after `n` steps. -/
def bst (x0 : Vec Ideal S512x128 .f32) (x1 x2 : Vec Ideal S128x512 .f32) (x3 x4 : Vec Ideal S1x128x512 .bf16) (x8 x9 : Vec Ideal S1x512 .f32)
    (b : Fin 128) (z : Fin 512) (n : ℕ) : EReal × EReal :=
  states (x8 (ix2 0 z)) (x9 (ix2 0 z)) (x1 (ix2 b z), x2 (ix2 b z))
    (fun s => (drive x0 x3 ⟨s.val * 128 + b.val, by omega⟩ z, drive x0 x4 ⟨s.val * 128 + b.val, by omega⟩ z)) n

variable (x0 : Vec Ideal S512x128 .f32) (x1 x2 : Vec Ideal S128x512 .f32) (x3 x4 : Vec Ideal S1x128x512 .bf16) (x5 x6 : Vec Ideal S1x512x128 .bf16) (x7 : Vec Ideal S1x128 .f32) (x8 x9 : Vec Ideal S1x512 .f32)

set_option maxHeartbeats 1000000 in
theorem re1 (b : Fin 128) (z : Fin 512) :
    k0_pay24 x0 x1 x2 x3 x4 x5 x6 x7 x8 x9 (ix2 b z)
      = (bst x0 x1 x2 x3 x4 x8 x9 b z 1).1 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem im1 (b : Fin 128) (z : Fin 512) :
    k0_pay10 x0 x4 x8 x9 x1 x2 (ix2 b z)
      = (bst x0 x1 x2 x3 x4 x8 x9 b z 1).2 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem re2 (b : Fin 128) (z : Fin 512) :
    k0_pay25 x0 x1 x2 x3 x4 x5 x6 x7 x8 x9 (ix2 b z)
      = (bst x0 x1 x2 x3 x4 x8 x9 b z 2).1 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem im2 (b : Fin 128) (z : Fin 512) :
    k0_pay14 (k0_pay21 x0 x1 x2 x3 x4 x5 x6 x7 x8 x9) (k0_pay24 x0 x1 x2 x3 x4 x5 x6 x7 x8 x9) (k0_pay26 x0 x1 x2 x3 x4 x5 x6 x7 x8 x9) (k0_pay27 x0 x1 x2 x3 x4 x5 x6 x7 x8 x9) (ix2 b z)
      = (bst x0 x1 x2 x3 x4 x8 x9 b z 2).2 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem re3 (b : Fin 128) (z : Fin 512) :
    k0_pay15 (k0_pay20 x0 x1 x2 x3 x4 x5 x6 x7 x8 x9) (k0_pay21 x0 x1 x2 x3 x4 x5 x6 x7 x8 x9) (k0_pay22 x0 x1 x2 x3 x4 x5 x6 x7 x8 x9) (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (k0_pay27 x0 x1 x2 x3 x4 x5 x6 x7 x8 x9) (ix2 b z)
      = (bst x0 x1 x2 x3 x4 x8 x9 b z 3).1 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem im3 (b : Fin 128) (z : Fin 512) :
    k0_pay16 (k0_pay21 x0 x1 x2 x3 x4 x5 x6 x7 x8 x9) (k0_pay22 x0 x1 x2 x3 x4 x5 x6 x7 x8 x9) (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (k0_pay27 x0 x1 x2 x3 x4 x5 x6 x7 x8 x9) (ix2 b z)
      = (bst x0 x1 x2 x3 x4 x8 x9 b z 3).2 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem re4 (b : Fin 128) (z : Fin 512) :
    k0_pay17 (k0_pay20 x0 x1 x2 x3 x4 x5 x6 x7 x8 x9) (k0_pay21 x0 x1 x2 x3 x4 x5 x6 x7 x8 x9) (k0_pay22 x0 x1 x2 x3 x4 x5 x6 x7 x8 x9) (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (k0_pay27 x0 x1 x2 x3 x4 x5 x6 x7 x8 x9) (ix2 b z)
      = (bst x0 x1 x2 x3 x4 x8 x9 b z 4).1 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

set_option maxHeartbeats 1000000 in
theorem im4 (b : Fin 128) (z : Fin 512) :
    k0_pay18 (k0_pay20 x0 x1 x2 x3 x4 x5 x6 x7 x8 x9) (k0_pay21 x0 x1 x2 x3 x4 x5 x6 x7 x8 x9) (k0_pay22 x0 x1 x2 x3 x4 x5 x6 x7 x8 x9) (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (k0_pay27 x0 x1 x2 x3 x4 x5 x6 x7 x8 x9) (ix2 b z)
      = (bst x0 x1 x2 x3 x4 x8 x9 b z 4).2 := by
  simp only [bst, states, step, drive]
  pointwise [k0_pay18, k0_pay17, k0_pay16, k0_pay15, k0_pay14, k0_pay20, k0_pay21, k0_pay22, k0_pay23, k0_pay24, k0_pay25, k0_pay26, k0_pay27, k0_pay13, k0_pay12, k0_pay11, k0_pay10, k0_pay9, k0_pay8, k0_pay7, k0_pay6, k0_pay5, k0_pay4, k0_pay3, k0_pay2, k0_pay1]

/-- Four stacked pieces read at a row are the one function of the row's place in its piece and the piece's number. -/
theorem stacked (f1 f2 f3 f4 : Fin 128 → EReal) (g : Fin 128 → ℕ → EReal) (h1 : ∀ b, f1 b = g b 1) (h2 : ∀ b, f2 b = g b 2) (h3 : ∀ b, f3 b = g b 3) (h4 : ∀ b, f4 b = g b 4) (r : Fin 512) :
    (if h : r.val < 128 then f1 ⟨r.val, h⟩ else
      if h' : r.val - 128 < 128 then f2 ⟨r.val - 128, h'⟩ else
      if h'' : r.val - 128 - 128 < 128 then f3 ⟨r.val - 128 - 128, h''⟩ else f4 ⟨r.val - 128 - 128 - 128, by omega⟩)
      = g ⟨r.val % 128, Nat.mod_lt _ (by decide)⟩ (r.val / 128 + 1) := by
  have key : ∀ (a : ℕ) (ha : a < 128) (n : ℕ), a = r.val % 128 → n = r.val / 128 + 1 → g ⟨a, ha⟩ n = g ⟨r.val % 128, Nat.mod_lt _ (by decide)⟩ (r.val / 128 + 1) := by
    intro a ha n e1 e2
    subst e1 e2
    rfl
  split_ifs
  · rw [h1]; exact key _ _ _ (by omega) (by omega)
  · rw [h2]; exact key _ _ _ (by omega) (by omega)
  · rw [h3]; exact key _ _ _ (by omega) (by omega)
  · rw [h4]; exact key _ _ _ (by omega) (by omega)

theorem pay19 (r : Fin 512) (z : Fin 128) :
    k0_pay19 (k0_pay1 x0) (k0_pay20 x0 x1 x2 x3 x4 x5 x6 x7 x8 x9) (k0_pay21 x0 x1 x2 x3 x4 x5 x6 x7 x8 x9) (k0_pay22 x0 x1 x2 x3 x4 x5 x6 x7 x8 x9) (k0_pay23 x0 x1 x2 x3 x4 x5 x6 x7 x8 x9) (k0_pay24 x0 x1 x2 x3 x4 x5 x6 x7 x8 x9) (k0_pay10 x0 x4 x8 x9 x1 x2) (k0_pay25 x0 x1 x2 x3 x4 x5 x6 x7 x8 x9) (k0_pay26 x0 x1 x2 x3 x4 x5 x6 x7 x8 x9) (k0_pay27 x0 x1 x2 x3 x4 x5 x6 x7 x8 x9) x5 x6 x7 (ix2 r z)
      = (∑ l : Fin 512, (bst x0 x1 x2 x3 x4 x8 x9 ⟨r.val % 128, Nat.mod_lt _ (by decide)⟩ l (r.val / 128 + 1)).1 * x5 (ix3 0 l z))
        - (∑ l : Fin 512, (bst x0 x1 x2 x3 x4 x8 x9 ⟨r.val % 128, Nat.mod_lt _ (by decide)⟩ l (r.val / 128 + 1)).2 * x6 (ix3 0 l z))
        + x7 (ix2 0 z) * x0 (ix2 r z) := by
  pointwise [k0_pay19, k0_pay1]
  refine congrArg₂ (· + ·) (congrArg₂ (· - ·) (Fin.sum_fin_congr fun l => ?_) (Fin.sum_fin_congr fun l => ?_)) rfl
  · exact congrArg (· * _) (stacked (fun b => _) (fun b => _) (fun b => _) (fun b => _) (fun b n => (bst x0 x1 x2 x3 x4 x8 x9 b l n).1)
      (fun b => re1 x0 x1 x2 x3 x4 x5 x6 x7 x8 x9 b l) (fun b => re2 x0 x1 x2 x3 x4 x5 x6 x7 x8 x9 b l) (fun b => re3 x0 x1 x2 x3 x4 x5 x6 x7 x8 x9 b l) (fun b => re4 x0 x1 x2 x3 x4 x5 x6 x7 x8 x9 b l) r)
  · exact congrArg (· * _) (stacked (fun b => _) (fun b => _) (fun b => _) (fun b => _) (fun b n => (bst x0 x1 x2 x3 x4 x8 x9 b l n).2)
      (fun b => im1 x0 x1 x2 x3 x4 x8 x9 b l) (fun b => im2 x0 x1 x2 x3 x4 x5 x6 x7 x8 x9 b l) (fun b => im3 x0 x1 x2 x3 x4 x5 x6 x7 x8 x9 b l) (fun b => im4 x0 x1 x2 x3 x4 x5 x6 x7 x8 x9 b l) r)

end Cert.S5Pay
-- ==== Proof.S5Host.lean ====
module

public import proofs.«01_k».proof.Proof.Gen.S5KernelIdeal.Value
public import Idealize.ShloMosaic.Lib.Pipeline.ValueKit

/- The arrays the host lines hand the state-space kernel, read at an index. -/

@[expose] public section

set_option maxRecDepth 16384

noncomputable section

namespace Cert.S5Host

open Idealize.ShloMosaic Idealize.ShloMosaic.TcCoe Idealize.SL.Sem Cert.S5KernelIdeal Cert.S5KernelIdeal.Gen

variable (m : (ℓ : Loc nD τ sig) → Buf (Elt Ideal) ℓ)

/-- The host's test that two group numbers agree. -/
theorem same_group (i j : Fin 8) (a b : EReal) :
    Scalar.select (IntOp.cmpi CmpIPredicate.eq (IntOp.addi (BitVec.ofNat 32 i.val) 0#32) (BitVec.ofNat 32 j.val)) a b
      = if i.val = j.val then a else b := by
  have h : ∀ i j : Fin 8, IntOp.cmpi CmpIPredicate.eq (IntOp.addi (BitVec.ofNat 32 i.val) 0#32) (BitVec.ofNat 32 j.val)
      = if i.val = j.val then 1#1 else 0#1 := by decide +kernel
  rw [h i j]
  split <;> rfl

theorem bre (c : Dev nD) (k : Fin 8) (l : Fin 128) (z : Fin 512) : V m c main_v15 (ix3 k l z)
    = @ite EReal (l.val / 16 = z.val / 64) (instDecidableEqNat _ _) (m ((c : Thread nD τ).loc main_arg5) (ix3 ⟨k.val * 8 + l.val / 16, by omega⟩ ⟨z.val % 64, by omega⟩ ⟨l.val % 16, by omega⟩)) 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.toBuf, StableHlo.TRef.ofBuf, cast_eq]
  pointwise
  exact same_group ⟨l.val / 16, by omega⟩ ⟨z.val / 64, by omega⟩ _ _

theorem bim (c : Dev nD) (k : Fin 8) (l : Fin 128) (z : Fin 512) : V m c main_v28 (ix3 k l z)
    = @ite EReal (l.val / 16 = z.val / 64) (instDecidableEqNat _ _) (m ((c : Thread nD τ).loc main_arg6) (ix3 ⟨k.val * 8 + l.val / 16, by omega⟩ ⟨z.val % 64, by omega⟩ ⟨l.val % 16, by omega⟩)) 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.toBuf, StableHlo.TRef.ofBuf, cast_eq]
  pointwise
  exact same_group ⟨l.val / 16, by omega⟩ ⟨z.val / 64, by omega⟩ _ _

theorem cre (c : Dev nD) (k : Fin 8) (z : Fin 512) (l : Fin 128) : V m c main_v40 (ix3 k z l)
    = @ite EReal (z.val / 64 = l.val / 16) (instDecidableEqNat _ _) (m ((c : Thread nD τ).loc main_arg7) (ix3 ⟨k.val * 8 + z.val / 64, by omega⟩ ⟨l.val % 16, by omega⟩ ⟨z.val % 64, by omega⟩)) 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.toBuf, StableHlo.TRef.ofBuf, cast_eq]
  pointwise
  exact same_group ⟨z.val / 64, by omega⟩ ⟨l.val / 16, by omega⟩ _ _

theorem cim (c : Dev nD) (k : Fin 8) (z : Fin 512) (l : Fin 128) : V m c main_v52 (ix3 k z l)
    = @ite EReal (z.val / 64 = l.val / 16) (instDecidableEqNat _ _) (m ((c : Thread nD τ).loc main_arg8) (ix3 ⟨k.val * 8 + z.val / 64, by omega⟩ ⟨l.val % 16, by omega⟩ ⟨z.val % 64, by omega⟩)) 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.toBuf, StableHlo.TRef.ofBuf, cast_eq]
  pointwise
  exact same_group ⟨z.val / 64, by omega⟩ ⟨l.val / 16, by omega⟩ _ _

theorem rows (c : Dev nD) (r : Fin 512) (z : Fin 5120) : V m c main_v2 (ix2 r z) = (m ((c : Thread nD τ).loc main_arg0) (ix3 ⟨r.val % 128, by omega⟩ ⟨r.val / 128, by omega⟩ ⟨z.val, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem dvec (c : Dev nD) (z : Fin 1024) : V m c main_v53 (ix2 0 z) = (m ((c : Thread nD τ).loc main_arg9) (ix2 ⟨z.val / 16, by omega⟩ ⟨z.val % 16, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem are (c : Dev nD) (z : Fin 4096) : V m c main_v54 (ix2 0 z) = (m ((c : Thread nD τ).loc main_arg3) (ix2 ⟨z.val / 64, by omega⟩ ⟨z.val % 64, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem aim (c : Dev nD) (z : Fin 4096) : V m c main_v55 (ix2 0 z) = (m ((c : Thread nD τ).loc main_arg4) (ix2 ⟨z.val / 64, by omega⟩ ⟨z.val % 64, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem hre (c : Dev nD) (b : Fin 128) (z : Fin 4096) : V m c main_v56 (ix2 b z) = (m ((c : Thread nD τ).loc main_arg1) (ix3 b ⟨z.val / 64, by omega⟩ ⟨z.val % 64, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem him (c : Dev nD) (b : Fin 128) (z : Fin 4096) : V m c main_v57 (ix2 b z) = (m ((c : Thread nD τ).loc main_arg2) (ix3 b ⟨z.val / 64, by omega⟩ ⟨z.val % 64, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

end Cert.S5Host
-- ==== Proof.S5Ref.lean ====
module

public import proofs.«01_k».proof.Proof.Gen.S5ReferenceIdeal.Read
public import proofs.«01_k».proof.Proof.S5Spec
public import Idealize.ShloMosaic.Lib.Pipeline.ValueKit

/- The state-space reference read as the recurrence. -/

@[expose] public section

set_option maxRecDepth 16384

noncomputable section

namespace Cert.S5Ref

open Idealize.ShloMosaic Idealize.SL.Sem Cert.S5ReferenceIdeal Cert.S5ReferenceIdeal.Read Cert.S5Spec

/-- The drive of batch row `b` at time `s` on state `(g, p)`. -/
def drive (x0 : FVec Ideal S128x4x5136 .f32) (w : FVec Ideal S64x64x16 .f32) (b : Fin 128) (s : Fin 4) (g p : Fin 64) : EReal :=
  ∑ c : Fin 16, w (ix3 g p c) * x0 (ix3 b s ⟨g.val * 16 + c.val, by omega⟩)

/-- The state `(g, p)` of batch row `b` after `n` steps. -/
def rst (x0 : FVec Ideal S128x4x5136 .f32) (x1 x2 : FVec Ideal S128x64x64 .f32) (x3 x4 : FVec Ideal S64x64 .f32) (x5 x6 : FVec Ideal S64x64x16 .f32)
    (b : Fin 128) (g p : Fin 64) (n : ℕ) : EReal × EReal :=
  states (x3 (ix2 g p)) (x4 (ix2 g p)) (x1 (ix3 b g p), x2 (ix3 b g p)) (fun s => (drive x0 x5 b s g p, drive x0 x6 b s g p)) n

/-- The output lane `q` of batch row `b` after the step at time `s`. -/
def out (x0 : FVec Ideal S128x4x5136 .f32) (x1 x2 : FVec Ideal S128x64x64 .f32) (x3 x4 : FVec Ideal S64x64 .f32) (x5 x6 : FVec Ideal S64x64x16 .f32) (x7 x8 : FVec Ideal S64x16x64 .f32) (x9 : FVec Ideal S64x16 .f32)
    (r : Fin 512) (q : Fin 1024) : EReal :=
  (∑ p : Fin 64, x7 (ix3 ⟨q.val / 16, by omega⟩ ⟨q.val % 16, by omega⟩ p) * (rst x0 x1 x2 x3 x4 x5 x6 ⟨r.val % 128, by omega⟩ ⟨q.val / 16, by omega⟩ p (r.val / 128 + 1)).1)
    - (∑ p : Fin 64, x8 (ix3 ⟨q.val / 16, by omega⟩ ⟨q.val % 16, by omega⟩ p) * (rst x0 x1 x2 x3 x4 x5 x6 ⟨r.val % 128, by omega⟩ ⟨q.val / 16, by omega⟩ p (r.val / 128 + 1)).2)
    + x9 (ix2 ⟨q.val / 16, by omega⟩ ⟨q.val % 16, by omega⟩) * x0 (ix3 ⟨r.val % 128, by omega⟩ ⟨r.val / 128, by omega⟩ ⟨q.val, by omega⟩)

variable (x0 : FVec Ideal S128x4x5136 .f32) (x1 x2 : FVec Ideal S128x64x64 .f32) (x3 x4 : FVec Ideal S64x64 .f32) (x5 x6 : FVec Ideal S64x64x16 .f32) (x7 x8 : FVec Ideal S64x16x64 .f32) (x9 : FVec Ideal S64x16 .f32)

theorem re1 (b : Fin 128) (g p : Fin 64) : val_main_v15 (F := Ideal) x0 x1 x2 x3 x4 x5 (ix3 b g p) = (rst x0 x1 x2 x3 x4 x5 x6 b g p 1).1 := by
  simp only [rst, states, step, drive]
  pointwise [val_main_v0, val_main_v1, val_main_v2, val_main_v3, val_main_v4, val_main_v5, val_main_v6, val_main_v7, val_main_v8, val_main_v9, val_main_v10, val_main_v11, val_main_v12, val_main_v13, val_main_v14, val_main_v15]

theorem im1 (b : Fin 128) (g p : Fin 64) : val_main_v25 (F := Ideal) x0 x1 x2 x3 x4 x6 (ix3 b g p) = (rst x0 x1 x2 x3 x4 x5 x6 b g p 1).2 := by
  simp only [rst, states, step, drive]
  pointwise [val_main_v0, val_main_v1, val_main_v2, val_main_v3, val_main_v4, val_main_v5, val_main_v16, val_main_v17, val_main_v18, val_main_v19, val_main_v20, val_main_v21, val_main_v22, val_main_v23, val_main_v24, val_main_v25]

theorem re2 (b : Fin 128) (g p : Fin 64) : val_main_v35 (F := Ideal) x0 x1 x2 x3 x4 x5 x6 (ix3 b g p) = (rst x0 x1 x2 x3 x4 x5 x6 b g p 2).1 := by
  change _ = (step (x3 (ix2 g p)) (x4 (ix2 g p)) (rst x0 x1 x2 x3 x4 x5 x6 b g p 1) (drive x0 x5 b 1 g p, drive x0 x6 b 1 g p)).1
  simp only [step, drive]
  rw [← re1, ← im1]
  pointwise [val_main_v0, val_main_v1, val_main_v2, val_main_v3, val_main_v4, val_main_v5, val_main_v26, val_main_v27, val_main_v28, val_main_v29, val_main_v30, val_main_v31, val_main_v32, val_main_v33, val_main_v34, val_main_v35]

theorem im2 (b : Fin 128) (g p : Fin 64) : val_main_v45 (F := Ideal) x0 x1 x2 x3 x4 x5 x6 (ix3 b g p) = (rst x0 x1 x2 x3 x4 x5 x6 b g p 2).2 := by
  change _ = (step (x3 (ix2 g p)) (x4 (ix2 g p)) (rst x0 x1 x2 x3 x4 x5 x6 b g p 1) (drive x0 x5 b 1 g p, drive x0 x6 b 1 g p)).2
  simp only [step, drive]
  rw [← re1, ← im1]
  pointwise [val_main_v0, val_main_v1, val_main_v2, val_main_v3, val_main_v4, val_main_v5, val_main_v36, val_main_v37, val_main_v38, val_main_v39, val_main_v40, val_main_v41, val_main_v42, val_main_v43, val_main_v44, val_main_v45]

theorem re3 (b : Fin 128) (g p : Fin 64) : val_main_v55 (F := Ideal) x0 x1 x2 x3 x4 x5 x6 (ix3 b g p) = (rst x0 x1 x2 x3 x4 x5 x6 b g p 3).1 := by
  change _ = (step (x3 (ix2 g p)) (x4 (ix2 g p)) (rst x0 x1 x2 x3 x4 x5 x6 b g p 2) (drive x0 x5 b 2 g p, drive x0 x6 b 2 g p)).1
  simp only [step, drive]
  rw [← re2, ← im2]
  pointwise [val_main_v0, val_main_v1, val_main_v2, val_main_v3, val_main_v4, val_main_v5, val_main_v46, val_main_v47, val_main_v48, val_main_v49, val_main_v50, val_main_v51, val_main_v52, val_main_v53, val_main_v54, val_main_v55]

theorem im3 (b : Fin 128) (g p : Fin 64) : val_main_v65 (F := Ideal) x0 x1 x2 x3 x4 x5 x6 (ix3 b g p) = (rst x0 x1 x2 x3 x4 x5 x6 b g p 3).2 := by
  change _ = (step (x3 (ix2 g p)) (x4 (ix2 g p)) (rst x0 x1 x2 x3 x4 x5 x6 b g p 2) (drive x0 x5 b 2 g p, drive x0 x6 b 2 g p)).2
  simp only [step, drive]
  rw [← re2, ← im2]
  pointwise [val_main_v0, val_main_v1, val_main_v2, val_main_v3, val_main_v4, val_main_v5, val_main_v56, val_main_v57, val_main_v58, val_main_v59, val_main_v60, val_main_v61, val_main_v62, val_main_v63, val_main_v64, val_main_v65]

theorem re4 (b : Fin 128) (g p : Fin 64) : val_main_v75 (F := Ideal) x0 x1 x2 x3 x4 x5 x6 (ix3 b g p) = (rst x0 x1 x2 x3 x4 x5 x6 b g p 4).1 := by
  change _ = (step (x3 (ix2 g p)) (x4 (ix2 g p)) (rst x0 x1 x2 x3 x4 x5 x6 b g p 3) (drive x0 x5 b 3 g p, drive x0 x6 b 3 g p)).1
  simp only [step, drive]
  rw [← re3, ← im3]
  pointwise [val_main_v0, val_main_v1, val_main_v2, val_main_v3, val_main_v4, val_main_v5, val_main_v66, val_main_v67, val_main_v68, val_main_v69, val_main_v70, val_main_v71, val_main_v72, val_main_v73, val_main_v74, val_main_v75]

theorem im4 (b : Fin 128) (g p : Fin 64) : val_main_v85 (F := Ideal) x0 x1 x2 x3 x4 x5 x6 (ix3 b g p) = (rst x0 x1 x2 x3 x4 x5 x6 b g p 4).2 := by
  change _ = (step (x3 (ix2 g p)) (x4 (ix2 g p)) (rst x0 x1 x2 x3 x4 x5 x6 b g p 3) (drive x0 x5 b 3 g p, drive x0 x6 b 3 g p)).2
  simp only [step, drive]
  rw [← re3, ← im3]
  pointwise [val_main_v0, val_main_v1, val_main_v2, val_main_v3, val_main_v4, val_main_v5, val_main_v76, val_main_v77, val_main_v78, val_main_v79, val_main_v80, val_main_v81, val_main_v82, val_main_v83, val_main_v84, val_main_v85]

theorem fin_re (b : Fin 128) (q : Fin 4096) : val_main_v108 (F := Ideal) x0 x1 x2 x3 x4 x5 x6 (ix2 b q)
    = (rst x0 x1 x2 x3 x4 x5 x6 b ⟨q.val / 64, by omega⟩ ⟨q.val % 64, by omega⟩ 4).1 := by
  rw [← re4]
  pointwise [val_main_v108]

theorem fin_im (b : Fin 128) (q : Fin 4096) : val_main_v109 (F := Ideal) x0 x1 x2 x3 x4 x5 x6 (ix2 b q)
    = (rst x0 x1 x2 x3 x4 x5 x6 b ⟨q.val / 64, by omega⟩ ⟨q.val % 64, by omega⟩ 4).2 := by
  rw [← im4]
  pointwise [val_main_v109]

/-- Four stacked time slices read at time `s` are the one function of the step's number. -/
theorem stacked (f1 f2 f3 f4 : EReal) (g : ℕ → EReal) (h1 : f1 = g 1) (h2 : f2 = g 2) (h3 : f3 = g 3) (h4 : f4 = g 4) (s : ℕ) (hs : s < 4) :
    (if _h : s < 1 then f1 else if _h : s - 1 < 1 then f2 else if _h : s - 1 - 1 < 1 then f3 else f4) = g (s + 1) := by
  have hs' : s = 0 ∨ s = 1 ∨ s = 2 ∨ s = 3 := by omega
  rcases hs' with rfl | rfl | rfl | rfl
  · exact h1
  · exact h2
  · exact h3
  · exact h4

theorem y_at (r : Fin 512) (q : Fin 1024) : val_main_v107 (F := Ideal) x0 x1 x2 x3 x4 x5 x6 x7 x8 x9 (ix2 r q) = out x0 x1 x2 x3 x4 x5 x6 x7 x8 x9 r q := by
  pointwise [val_main_v0, val_main_v1, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, out]
  refine congrArg₂ (· + ·) (congrArg₂ (· - ·) (Fin.sum_fin_congr fun p => congrArg (_ * ·) ?_) (Fin.sum_fin_congr fun p => congrArg (_ * ·) ?_)) rfl
  · exact stacked _ _ _ _ (fun n => (rst x0 x1 x2 x3 x4 x5 x6 ⟨r.val % 128, by omega⟩ ⟨q.val / 16, by omega⟩ p n).1) (re1 x0 x1 x2 x3 x4 x5 x6 _ _ p) (re2 x0 x1 x2 x3 x4 x5 x6 _ _ p) (re3 x0 x1 x2 x3 x4 x5 x6 _ _ p) (re4 x0 x1 x2 x3 x4 x5 x6 _ _ p) _ (by omega)
  · exact stacked _ _ _ _ (fun n => (rst x0 x1 x2 x3 x4 x5 x6 ⟨r.val % 128, by omega⟩ ⟨q.val / 16, by omega⟩ p n).2) (im1 x0 x1 x2 x3 x4 x5 x6 _ _ p) (im2 x0 x1 x2 x3 x4 x5 x6 _ _ p) (im3 x0 x1 x2 x3 x4 x5 x6 _ _ p) (im4 x0 x1 x2 x3 x4 x5 x6 _ _ p) _ (by omega)

end Cert.S5Ref
-- ==== Proof.S5Blocks.lean ====
module

public import proofs.«01_k».proof.Proof.S5Pay
public import proofs.«01_k».proof.Proof.S5Host
public import proofs.«01_k».proof.Proof.S5Ref
public import Idealize.ShloMosaic.Lib.Pipeline.ValueKit

/- The state-space kernel's result arrays are the reference's. -/

@[expose] public section

set_option maxRecDepth 16384

noncomputable section

namespace Cert.S5Match

open Idealize.ShloMosaic Idealize.ShloMosaic.TcCoe Idealize.SL.Sem Cert.S5KernelIdeal Cert.S5KernelIdeal.Gen Cert.S5Spec

variable (m : (ℓ : Loc nD τ sig) → Buf (Elt Ideal) ℓ)

theorem idx : ∀ t : Fin cfg0.N, win0_0.index t = ![0, t.val] ∧ win0_1.index t = ![0, t.val] ∧ win0_2.index t = ![0, t.val] ∧ win0_3.index t = ![t.val, 0, 0] ∧ win0_4.index t = ![t.val, 0, 0]
    ∧ win0_5.index t = ![t.val, 0, 0] ∧ win0_6.index t = ![t.val, 0, 0] ∧ win0_7.index t = ![0, t.val] ∧ win0_8.index t = ![0, t.val] ∧ win0_9.index t = ![0, t.val]
    ∧ win0_10.index t = ![0, t.val] ∧ win0_11.index t = ![0, t.val] ∧ win0_12.index t = ![0, t.val] ∧ t.val < 8 :=
  (by decide +kernel : ∀ t : Fin grid0.N, _)

theorem lt8 (t : Fin cfg0.N) : t.val < 8 := (idx t).2.2.2.2.2.2.2.2.2.2.2.2.2

theorem blk0 (c : Dev nD) (t : Fin cfg0.N) (r : Fin 512) (l : Fin 128) : iblk m c 0 t (ix2 r l) = V m c main_v2 (ix2 r ⟨t.val * 128 + l.val, by have := lt8 t; omega⟩) := by
  have := lt8 t
  blk_simp [iblk]
  exact congrArg (V m c main_v2) (by blk_ext [idx t])

theorem blk1 (c : Dev nD) (t : Fin cfg0.N) (r : Fin 128) (z : Fin 512) : iblk m c 1 t (ix2 r z) = V m c main_v56 (ix2 r ⟨t.val * 512 + z.val, by have := lt8 t; omega⟩) := by
  have := lt8 t
  blk_simp [iblk]
  exact congrArg (V m c main_v56) (by blk_ext [idx t])

theorem blk2 (c : Dev nD) (t : Fin cfg0.N) (r : Fin 128) (z : Fin 512) : iblk m c 2 t (ix2 r z) = V m c main_v57 (ix2 r ⟨t.val * 512 + z.val, by have := lt8 t; omega⟩) := by
  have := lt8 t
  blk_simp [iblk]
  exact congrArg (V m c main_v57) (by blk_ext [idx t])

theorem blk3 (c : Dev nD) (t : Fin cfg0.N) (l : Fin 128) (z : Fin 512) : iblk m c 3 t (ix3 0 l z) = V m c main_v15 (ix3 ⟨t.val, lt8 t⟩ l z) := by
  have := lt8 t
  blk_simp [iblk]
  exact congrArg (V m c main_v15) (by blk_ext [idx t])

theorem blk4 (c : Dev nD) (t : Fin cfg0.N) (l : Fin 128) (z : Fin 512) : iblk m c 4 t (ix3 0 l z) = V m c main_v28 (ix3 ⟨t.val, lt8 t⟩ l z) := by
  have := lt8 t
  blk_simp [iblk]
  exact congrArg (V m c main_v28) (by blk_ext [idx t])

theorem blk5 (c : Dev nD) (t : Fin cfg0.N) (z : Fin 512) (l : Fin 128) : iblk m c 5 t (ix3 0 z l) = V m c main_v40 (ix3 ⟨t.val, lt8 t⟩ z l) := by
  have := lt8 t
  blk_simp [iblk]
  exact congrArg (V m c main_v40) (by blk_ext [idx t])

theorem blk6 (c : Dev nD) (t : Fin cfg0.N) (z : Fin 512) (l : Fin 128) : iblk m c 6 t (ix3 0 z l) = V m c main_v52 (ix3 ⟨t.val, lt8 t⟩ z l) := by
  have := lt8 t
  blk_simp [iblk]
  exact congrArg (V m c main_v52) (by blk_ext [idx t])

theorem blk7 (c : Dev nD) (t : Fin cfg0.N) (l : Fin 128) : iblk m c 7 t (ix2 0 l) = V m c main_v53 (ix2 0 ⟨t.val * 128 + l.val, by have := lt8 t; omega⟩) := by
  have := lt8 t
  blk_simp [iblk]
  exact congrArg (V m c main_v53) (by blk_ext [idx t])

theorem blk8 (c : Dev nD) (t : Fin cfg0.N) (z : Fin 512) : iblk m c 8 t (ix2 0 z) = V m c main_v54 (ix2 0 ⟨t.val * 512 + z.val, by have := lt8 t; omega⟩) := by
  have := lt8 t
  blk_simp [iblk]
  exact congrArg (V m c main_v54) (by blk_ext [idx t])

theorem blk9 (c : Dev nD) (t : Fin cfg0.N) (z : Fin 512) : iblk m c 9 t (ix2 0 z) = V m c main_v55 (ix2 0 ⟨t.val * 512 + z.val, by have := lt8 t; omega⟩) := by
  have := lt8 t
  blk_simp [iblk]
  exact congrArg (V m c main_v55) (by blk_ext [idx t])

end Cert.S5Match
-- ==== Proof.S5Match.lean ====
module

public import proofs.«01_k».proof.Proof.S5Blocks

/- The state-space kernel's result arrays are the reference's. -/

@[expose] public section

set_option maxRecDepth 16384

noncomputable section

namespace Cert.S5Match

open Idealize.ShloMosaic Idealize.ShloMosaic.TcCoe Idealize.SL.Sem Cert.S5KernelIdeal Cert.S5KernelIdeal.Gen Cert.S5Spec

variable (m : (ℓ : Loc nD τ sig) → Buf (Elt Ideal) ℓ)

theorem ix3_eq {a b d : ℕ} {i i' : Fin a} {j j' : Fin b} {k k' : Fin d} (hi : i.val = i'.val) (hj : j.val = j'.val) (hk : k.val = k'.val) :
    ix3 i j k = ix3 i' j' k' := by
  rw [Fin.ext hi, Fin.ext hj, Fin.ext hk]

theorem drive_re (c : Dev nD) (t : Fin cfg0.N) (b : Fin 128) (s : Fin 4) (z : Fin 512) (g p : Fin 64) (hg : g.val = t.val * 8 + z.val / 64) (hp : p.val = z.val % 64) :
    S5Pay.drive (iblk m c 0 t) (iblk m c 3 t) ⟨s.val * 128 + b.val, by omega⟩ z = S5Ref.drive (m ((c : Thread nD τ).loc main_arg0)) (m ((c : Thread nD τ).loc main_arg5)) b s g p := by
  have ht := lt8 t
  unfold S5Pay.drive S5Ref.drive
  refine sum_group (fun l => @HMul.hMul EReal EReal EReal _ (m ((c : Thread nD τ).loc main_arg0) (ix3 b s ⟨t.val * 128 + l.val, by omega⟩)) (m ((c : Thread nD τ).loc main_arg5) (ix3 ⟨t.val * 8 + l.val / 16, by omega⟩ ⟨z.val % 64, by omega⟩ ⟨l.val % 16, by omega⟩)))
    _ _ ⟨z.val / 64, by omega⟩ (fun l => ?_) fun k => ?_
  · rw [blk0, blk3, S5Host.rows, S5Host.bre]
    split
    · exact congrArg₂ (· * ·) (congrArg _ (ix3_eq (by (try simp only); omega) (by (try simp only); omega) rfl)) rfl
    · exact mul_zero _
  · rw [mul_comm]
    exact congrArg₂ (· * ·) (congrArg _ (ix3_eq (by (try simp only); omega) (by (try simp only); omega) (by (try simp only); omega)))
      (congrArg _ (ix3_eq rfl rfl (by (try simp only); omega)))

theorem drive_im (c : Dev nD) (t : Fin cfg0.N) (b : Fin 128) (s : Fin 4) (z : Fin 512) (g p : Fin 64) (hg : g.val = t.val * 8 + z.val / 64) (hp : p.val = z.val % 64) :
    S5Pay.drive (iblk m c 0 t) (iblk m c 4 t) ⟨s.val * 128 + b.val, by omega⟩ z = S5Ref.drive (m ((c : Thread nD τ).loc main_arg0)) (m ((c : Thread nD τ).loc main_arg6)) b s g p := by
  have ht := lt8 t
  unfold S5Pay.drive S5Ref.drive
  refine sum_group (fun l => @HMul.hMul EReal EReal EReal _ (m ((c : Thread nD τ).loc main_arg0) (ix3 b s ⟨t.val * 128 + l.val, by omega⟩)) (m ((c : Thread nD τ).loc main_arg6) (ix3 ⟨t.val * 8 + l.val / 16, by omega⟩ ⟨z.val % 64, by omega⟩ ⟨l.val % 16, by omega⟩)))
    _ _ ⟨z.val / 64, by omega⟩ (fun l => ?_) fun k => ?_
  · rw [blk0, blk4, S5Host.rows, S5Host.bim]
    split
    · exact congrArg₂ (· * ·) (congrArg _ (ix3_eq (by (try simp only); omega) (by (try simp only); omega) rfl)) rfl
    · exact mul_zero _
  · rw [mul_comm]
    exact congrArg₂ (· * ·) (congrArg _ (ix3_eq (by (try simp only); omega) (by (try simp only); omega) (by (try simp only); omega)))
      (congrArg _ (ix3_eq rfl rfl (by (try simp only); omega)))

theorem states_eq (c : Dev nD) (t : Fin cfg0.N) (b : Fin 128) (z : Fin 512) (g p : Fin 64) (hg : g.val = t.val * 8 + z.val / 64) (hp : p.val = z.val % 64) (n : ℕ) :
    S5Pay.bst (iblk m c 0 t) (iblk m c 1 t) (iblk m c 2 t) (iblk m c 3 t) (iblk m c 4 t) (iblk m c 8 t) (iblk m c 9 t) b z n
      = S5Ref.rst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p n := by
  have ht := lt8 t
  have eg : (⟨(t.val * 512 + z.val) / 64, by omega⟩ : Fin 64) = g := Fin.ext (by (try simp only); omega)
  have ep : (⟨(t.val * 512 + z.val) % 64, by omega⟩ : Fin 64) = p := Fin.ext (by (try simp only); omega)
  unfold S5Pay.bst S5Ref.rst
  rw [blk8, blk9, blk1, blk2, S5Host.are, S5Host.aim, S5Host.hre, S5Host.him]
  simp only [eg, ep]
  refine congrFun (congrArg _ (funext fun s => ?_)) n
  rw [drive_re m c t b s z g p hg hp, drive_im m c t b s z g p hg hp]

theorem final11 (c : Dev nD) : (dats m 0 c).arrAt 11 cfg0.N
    = Cert.S5ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have ht := lt8 t
  blk_simp
  rw [after0_11]
  frame_out
  obtain ⟨b, z, rfl⟩ : ∃ (b : Fin 128) (z : Fin 512), y = ix2 b z := ⟨y 0, y 1, by blk_ext⟩
  refine (S5Pay.re4 (iblk m c 0 t) (iblk m c 1 t) (iblk m c 2 t) (iblk m c 3 t) (iblk m c 4 t) (iblk m c 5 t) (iblk m c 6 t) (iblk m c 7 t) (iblk m c 8 t) (iblk m c 9 t) b z).trans ?_
  refine Eq.trans ?_ (congrArg (Cert.S5ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (show ix2 b ⟨t.val * 512 + z.val, by omega⟩ = _ by blk_ext [idx t]))
  rw [S5Ref.fin_re]
  rw [states_eq m c t b z ⟨(t.val * 512 + z.val) / 64, by omega⟩ ⟨(t.val * 512 + z.val) % 64, by omega⟩ (by (try simp only); omega) (by (try simp only); omega)]

theorem final12 (c : Dev nD) : (dats m 0 c).arrAt 12 cfg0.N
    = Cert.S5ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  have ht := lt8 t
  blk_simp
  rw [after0_12]
  frame_out
  obtain ⟨b, z, rfl⟩ : ∃ (b : Fin 128) (z : Fin 512), y = ix2 b z := ⟨y 0, y 1, by blk_ext⟩
  refine (S5Pay.im4 (iblk m c 0 t) (iblk m c 1 t) (iblk m c 2 t) (iblk m c 3 t) (iblk m c 4 t) (iblk m c 5 t) (iblk m c 6 t) (iblk m c 7 t) (iblk m c 8 t) (iblk m c 9 t) b z).trans ?_
  refine Eq.trans ?_ (congrArg (Cert.S5ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (show ix2 b ⟨t.val * 512 + z.val, by omega⟩ = _ by blk_ext [idx t]))
  rw [S5Ref.fin_im]
  rw [states_eq m c t b z ⟨(t.val * 512 + z.val) / 64, by omega⟩ ⟨(t.val * 512 + z.val) % 64, by omega⟩ (by (try simp only); omega) (by (try simp only); omega)]

end Cert.S5Match
-- ==== Proof.S5Out.lean ====
module

public import proofs.«01_k».proof.Proof.S5Match

/- The state-space kernel's output rows are the reference's. -/

@[expose] public section

set_option maxRecDepth 16384

noncomputable section

namespace Cert.S5Match

open Idealize.ShloMosaic Idealize.ShloMosaic.TcCoe Idealize.SL.Sem Cert.S5KernelIdeal Cert.S5KernelIdeal.Gen Cert.S5Spec

variable (m : (ℓ : Loc nD τ sig) → Buf (Elt Ideal) ℓ)

theorem read_re (c : Dev nD) (t : Fin cfg0.N) (b : Fin 128) (n : ℕ) (z : Fin 128) (g : Fin 64) (k : Fin 16) (hg : g.val = t.val * 8 + z.val / 16) (hk : k.val = z.val % 16) :
    (∑ l : Fin 512, @HMul.hMul EReal EReal EReal _ (S5Pay.bst (iblk m c 0 t) (iblk m c 1 t) (iblk m c 2 t) (iblk m c 3 t) (iblk m c 4 t) (iblk m c 8 t) (iblk m c 9 t) b l n).1 (iblk m c 5 t (ix3 0 l z)))
      = ∑ p : Fin 64, @HMul.hMul EReal EReal EReal _ ((m ((c : Thread nD τ).loc main_arg7)) (ix3 g k p)) (S5Ref.rst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p n).1 := by
  have ht := lt8 t
  refine sum_state (fun l => @HMul.hMul EReal EReal EReal _ (S5Ref.rst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b ⟨t.val * 8 + l.val / 64, by omega⟩ ⟨l.val % 64, by omega⟩ n).1
      ((m ((c : Thread nD τ).loc main_arg7)) (ix3 ⟨t.val * 8 + l.val / 64, by omega⟩ ⟨z.val % 16, by omega⟩ ⟨l.val % 64, by omega⟩)))
    _ _ ⟨z.val / 16, by omega⟩ (fun l => ?_) fun p => ?_
  · rw [blk5, S5Host.cre, states_eq m c t b l ⟨t.val * 8 + l.val / 64, by omega⟩ ⟨l.val % 64, by omega⟩ rfl rfl n]
    split
    · rfl
    · exact mul_zero _
  · have e1 : (⟨t.val * 8 + (64 * (z.val / 16) + p.val) / 64, by omega⟩ : Fin 64) = g := Fin.ext (by simp only; omega)
    have e2 : (⟨(64 * (z.val / 16) + p.val) % 64, by omega⟩ : Fin 64) = p := Fin.ext (by simp only; omega)
    have e3 : (⟨z.val % 16, by omega⟩ : Fin 16) = k := Fin.ext (by simp only; omega)
    simp only [e1, e2, e3]
    exact mul_comm _ _

theorem read_im (c : Dev nD) (t : Fin cfg0.N) (b : Fin 128) (n : ℕ) (z : Fin 128) (g : Fin 64) (k : Fin 16) (hg : g.val = t.val * 8 + z.val / 16) (hk : k.val = z.val % 16) :
    (∑ l : Fin 512, @HMul.hMul EReal EReal EReal _ (S5Pay.bst (iblk m c 0 t) (iblk m c 1 t) (iblk m c 2 t) (iblk m c 3 t) (iblk m c 4 t) (iblk m c 8 t) (iblk m c 9 t) b l n).2 (iblk m c 6 t (ix3 0 l z)))
      = ∑ p : Fin 64, @HMul.hMul EReal EReal EReal _ ((m ((c : Thread nD τ).loc main_arg8)) (ix3 g k p)) (S5Ref.rst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p n).2 := by
  have ht := lt8 t
  refine sum_state (fun l => @HMul.hMul EReal EReal EReal _ (S5Ref.rst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b ⟨t.val * 8 + l.val / 64, by omega⟩ ⟨l.val % 64, by omega⟩ n).2
      ((m ((c : Thread nD τ).loc main_arg8)) (ix3 ⟨t.val * 8 + l.val / 64, by omega⟩ ⟨z.val % 16, by omega⟩ ⟨l.val % 64, by omega⟩)))
    _ _ ⟨z.val / 16, by omega⟩ (fun l => ?_) fun p => ?_
  · rw [blk6, S5Host.cim, states_eq m c t b l ⟨t.val * 8 + l.val / 64, by omega⟩ ⟨l.val % 64, by omega⟩ rfl rfl n]
    split
    · rfl
    · exact mul_zero _
  · have e1 : (⟨t.val * 8 + (64 * (z.val / 16) + p.val) / 64, by omega⟩ : Fin 64) = g := Fin.ext (by simp only; omega)
    have e2 : (⟨(64 * (z.val / 16) + p.val) % 64, by omega⟩ : Fin 64) = p := Fin.ext (by simp only; omega)
    have e3 : (⟨z.val % 16, by omega⟩ : Fin 16) = k := Fin.ext (by simp only; omega)
    simp only [e1, e2, e3]
    exact mul_comm _ _

theorem final10 (c : Dev nD) : (dats m 0 c).arrAt 10 cfg0.N
    = Cert.S5ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  have ht := lt8 t
  blk_simp
  rw [after0_10]
  frame_out
  obtain ⟨r, z, rfl⟩ : ∃ (r : Fin 512) (z : Fin 128), y = ix2 r z := ⟨y 0, y 1, by blk_ext⟩
  refine (S5Pay.pay19 (iblk m c 0 t) (iblk m c 1 t) (iblk m c 2 t) (iblk m c 3 t) (iblk m c 4 t) (iblk m c 5 t) (iblk m c 6 t) (iblk m c 7 t) (iblk m c 8 t) (iblk m c 9 t) r z).trans ?_
  refine Eq.trans ?_ (congrArg (Cert.S5ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (show ix2 r ⟨t.val * 128 + z.val, by omega⟩ = _ by blk_ext [idx t]))
  rw [S5Ref.y_at]
  unfold S5Ref.out
  refine congrArg₂ (· + ·) (congrArg₂ (· - ·) (read_re m c t _ _ z _ _ (by simp only; omega) (by simp only; omega)) (read_im m c t _ _ z _ _ (by simp only; omega) (by simp only; omega))) ?_
  rw [blk7, blk0, S5Host.dvec, S5Host.rows]

end Cert.S5Match
-- ==== Proof.S5Claims.lean ====
module

public import proofs.«01_k».proof.Defs
public import proofs.«01_k».proof.Proof.S5Match
public import proofs.«01_k».proof.Proof.S5Out
public import proofs.«01_k».proof.Proof.Gen.S5Kernel.Frame
public import proofs.«01_k».proof.Proof.Gen.S5KernelIdeal.Value
public import proofs.«01_k».proof.Proof.Gen.S5ReferenceIdeal.Run
public import proofs.«01_k».proof.Proof.Gen.S5ReferenceIdeal.Read
public import Idealize.ShloMosaic.Adequacy

/- The five claims about the pair `S5Kernel`, `S5Reference`. -/

@[expose] public section

noncomputable section

namespace Cert.S5Claims

open Idealize.ShloMosaic Idealize.ShloMosaic.TcCoe Idealize.SL.Sem

/-- The kernel runs, keeps its arguments and ends quiet, over the reals and over the bits. -/
theorem frame_bits : Cert.quiescent_S5Kernel := fun m ρ _ => Cert.S5Kernel.Gen.frame m ρ
theorem frame_ideal : Cert.quiescent_S5KernelIdeal := fun m ρ _ => Cert.S5KernelIdeal.Gen.frame m ρ
/-- The reference keeps its arguments and declares no semaphore. -/
theorem frame_reference : Cert.quiescent_S5ReferenceIdeal := fun m ρ _ =>
  (θ_run Cert.S5ReferenceIdeal.defs _ _).mono (fun r h => ⟨fun c => (h c).2.2.2, sem_eq_zero_of_no_sems (by decide) r.2⟩)
    (Cert.S5ReferenceIdeal.Value.run (F := Ideal) m ρ)

theorem preserves : Cert.preserves_S5Kernel_S5KernelIdeal := trivial

/-- Over the reals the kernel's arrays are the reference's. -/
theorem algebraic : Cert.algebraic_S5KernelIdeal_S5ReferenceIdeal := by
  intro m ρ m' ρ' _ hag
  refine ⟨fun c => Cert.S5ReferenceIdeal.Read.val_main_v107 (F := Ideal) (m ((c : Thread Cert.S5KernelIdeal.nD Cert.S5KernelIdeal.τ).loc Cert.S5KernelIdeal.main_arg0)) (m ((c : Thread Cert.S5KernelIdeal.nD Cert.S5KernelIdeal.τ).loc Cert.S5KernelIdeal.main_arg1)) (m ((c : Thread Cert.S5KernelIdeal.nD Cert.S5KernelIdeal.τ).loc Cert.S5KernelIdeal.main_arg2)) (m ((c : Thread Cert.S5KernelIdeal.nD Cert.S5KernelIdeal.τ).loc Cert.S5KernelIdeal.main_arg3)) (m ((c : Thread Cert.S5KernelIdeal.nD Cert.S5KernelIdeal.τ).loc Cert.S5KernelIdeal.main_arg4)) (m ((c : Thread Cert.S5KernelIdeal.nD Cert.S5KernelIdeal.τ).loc Cert.S5KernelIdeal.main_arg5)) (m ((c : Thread Cert.S5KernelIdeal.nD Cert.S5KernelIdeal.τ).loc Cert.S5KernelIdeal.main_arg6)) (m ((c : Thread Cert.S5KernelIdeal.nD Cert.S5KernelIdeal.τ).loc Cert.S5KernelIdeal.main_arg7)) (m ((c : Thread Cert.S5KernelIdeal.nD Cert.S5KernelIdeal.τ).loc Cert.S5KernelIdeal.main_arg8)) (m ((c : Thread Cert.S5KernelIdeal.nD Cert.S5KernelIdeal.τ).loc Cert.S5KernelIdeal.main_arg9)),
    fun c => Cert.S5ReferenceIdeal.Read.val_main_v108 (F := Ideal) (m ((c : Thread Cert.S5KernelIdeal.nD Cert.S5KernelIdeal.τ).loc Cert.S5KernelIdeal.main_arg0)) (m ((c : Thread Cert.S5KernelIdeal.nD Cert.S5KernelIdeal.τ).loc Cert.S5KernelIdeal.main_arg1)) (m ((c : Thread Cert.S5KernelIdeal.nD Cert.S5KernelIdeal.τ).loc Cert.S5KernelIdeal.main_arg2)) (m ((c : Thread Cert.S5KernelIdeal.nD Cert.S5KernelIdeal.τ).loc Cert.S5KernelIdeal.main_arg3)) (m ((c : Thread Cert.S5KernelIdeal.nD Cert.S5KernelIdeal.τ).loc Cert.S5KernelIdeal.main_arg4)) (m ((c : Thread Cert.S5KernelIdeal.nD Cert.S5KernelIdeal.τ).loc Cert.S5KernelIdeal.main_arg5)) (m ((c : Thread Cert.S5KernelIdeal.nD Cert.S5KernelIdeal.τ).loc Cert.S5KernelIdeal.main_arg6)),
    fun c => Cert.S5ReferenceIdeal.Read.val_main_v109 (F := Ideal) (m ((c : Thread Cert.S5KernelIdeal.nD Cert.S5KernelIdeal.τ).loc Cert.S5KernelIdeal.main_arg0)) (m ((c : Thread Cert.S5KernelIdeal.nD Cert.S5KernelIdeal.τ).loc Cert.S5KernelIdeal.main_arg1)) (m ((c : Thread Cert.S5KernelIdeal.nD Cert.S5KernelIdeal.τ).loc Cert.S5KernelIdeal.main_arg2)) (m ((c : Thread Cert.S5KernelIdeal.nD Cert.S5KernelIdeal.τ).loc Cert.S5KernelIdeal.main_arg3)) (m ((c : Thread Cert.S5KernelIdeal.nD Cert.S5KernelIdeal.τ).loc Cert.S5KernelIdeal.main_arg4)) (m ((c : Thread Cert.S5KernelIdeal.nD Cert.S5KernelIdeal.τ).loc Cert.S5KernelIdeal.main_arg5)) (m ((c : Thread Cert.S5KernelIdeal.nD Cert.S5KernelIdeal.τ).loc Cert.S5KernelIdeal.main_arg6)), ?_, ?_⟩
  · exact (θ_run Cert.S5KernelIdeal.defs _ _).mono (fun r h c => ⟨(h c).1.trans (Cert.S5Match.final10 m c), (h c).2.1.trans (Cert.S5Match.final11 m c), (h c).2.2.1.trans (Cert.S5Match.final12 m c), (h c).2.2.2⟩)
      (Cert.S5KernelIdeal.Value.run_blocks (F := Ideal) m ρ)
  · refine (θ_run Cert.S5ReferenceIdeal.defs _ _).mono (fun r h c => ⟨(h c).1.trans ?_, (h c).2.1.trans ?_, (h c).2.2.1.trans ?_, (h c).2.2.2⟩)
      (Cert.S5ReferenceIdeal.Value.run (F := Ideal) m' ρ')
    · refine (Cert.S5ReferenceIdeal.Read.val_main_v107_eq m' c).trans ?_
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    · refine (Cert.S5ReferenceIdeal.Read.val_main_v108_eq m' c).trans ?_
      rw [(hag c).1, (hag c).2.1, (hag c).2.2.1, (hag c).2.2.2.1, (hag c).2.2.2.2.1, (hag c).2.2.2.2.2.1, (hag c).2.2.2.2.2.2.1]
    · refine (Cert.S5ReferenceIdeal.Read.val_main_v109_eq m' c).trans ?_
      rw [(hag c).1, (hag c).2.1, (hag c).2.2.1, (hag c).2.2.2.1, (hag c).2.2.2.2.1, (hag c).2.2.2.2.2.1, (hag c).2.2.2.2.2.2.1]

end Cert.S5Claims
-- ==== Proof.FfnHost.lean ====
module

public import proofs.«01_k».proof.Proof.Gen.FfnKernelIdeal.Value
public import Idealize.ShloMosaic.Lib.Pipeline.ValueKit

/- The arrays the host lines hand the prompt feed-forward kernel, read at an index. -/

@[expose] public section

set_option maxRecDepth 16384

noncomputable section

namespace Cert.FfnHost

open Idealize.ShloMosaic Idealize.ShloMosaic.TcCoe Idealize.SL.Sem Cert.FfnKernelIdeal Cert.FfnKernelIdeal.Gen

variable (m : (ℓ : Loc nD τ sig) → Buf (Elt Ideal) ℓ)

theorem x (c : Dev nD) (r : Fin 8448) (k : Fin 2048) : V m c main_v1 (ix2 r k)
    = @dite EReal (r.val % 4224 < 4112) (Nat.decLt _ _) (fun h => m ((c : Thread nD τ).loc main_arg0) (ix3 ⟨r.val / 4224, by omega⟩ ⟨r.val % 4224, h⟩ k)) (fun _ => 0) := by
  simp only [V, hostOps0, hostOps0_1, hostOps0_2, List.flatten_cons, List.flatten_nil, List.append_nil, List.cons_append, List.nil_append]
  entry_read
  simp only [StableHlo.TRef.ofBuf_toBuf, StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  have hr := r.isLt
  by_cases h : r.val % 4224 < 4112
  · rw [dif_pos ⟨by omega, h⟩, dif_pos h]
  · rw [dif_neg (fun h' => h h'.2), dif_neg h]
    exact hz

theorem wup (c : Dev nD) (a : Fin 4) (k : Fin 2048) (f : Fin 11264) : V m c main_v2 (ix3 a k f) = (m ((c : Thread nD τ).loc main_arg1) (ix3 a k f) : EReal) := by
  simp only [V, hostOps0, hostOps0_1, hostOps0_2, List.flatten_cons, List.flatten_nil, List.append_nil, List.cons_append, List.nil_append]
  entry_read
  pointwise

theorem cb (c : Dev nD) (a : Fin 4) (f : Fin 11264) : V m c main_v3 (ix3 a 0 f) = (m ((c : Thread nD τ).loc main_arg3) (ix2 a f) : EReal) := by
  simp only [V, hostOps0, hostOps0_1, hostOps0_2, List.flatten_cons, List.flatten_nil, List.append_nil, List.cons_append, List.nil_append]
  entry_read
  pointwise

theorem wdn (c : Dev nD) (a : Fin 4) (k : Fin 5632) (f : Fin 2048) : V m c main_v4 (ix3 a k f) = (m ((c : Thread nD τ).loc main_arg4) (ix3 a k f) : EReal) := by
  simp only [V, hostOps0, hostOps0_1, hostOps0_2, List.flatten_cons, List.flatten_nil, List.append_nil, List.cons_append, List.nil_append]
  entry_read
  pointwise

theorem lng (c : Dev nD) (d : Fin 2048) : V m c main_v7 (ix2 0 d) = (m ((c : Thread nD τ).loc main_arg5) (ix2 3 d) : EReal) := by
  simp only [V, hostOps0, hostOps0_1, hostOps0_2, List.flatten_cons, List.flatten_nil, List.append_nil, List.cons_append, List.nil_append]
  entry_read
  pointwise

theorem lnb (c : Dev nD) (d : Fin 2048) : V m c main_v10 (ix2 0 d) = (m ((c : Thread nD τ).loc main_arg6) (ix2 3 d) : EReal) := by
  simp only [V, hostOps0, hostOps0_1, hostOps0_2, List.flatten_cons, List.flatten_nil, List.append_nil, List.cons_append, List.nil_append]
  entry_read
  pointwise

end Cert.FfnHost
-- ==== Proof.FfnSpec.lean ====
module

public import Idealize.ShloMosaic.Lib.Pipeline.ValueKit

/- The gated feed-forward layer with its three-tap causal convolution, in plain sums. -/

@[expose] public section

set_option maxRecDepth 16384

noncomputable section

namespace Cert.FfnSpec

open Idealize.ShloMosaic Idealize.SL.Sem

/-- A sequence read `j` positions back, zero before its start. -/
def past (j : ℕ) (U : ℕ → EReal) (p : ℕ) : EReal := if p < j then 0 else U (p - j)

/-- Three causal taps over `U` at position `p`. -/
def taps (b w0 w1 w2 u0 u1 u2 : EReal) : EReal := b + u0 * w0 + u1 * w1 + u2 * w2

/-- The gate's activation. -/
def gate (a : EReal) : EReal := a * Ideal.div 1 (1 + Ideal.exp (-a))

/-- The residual's scale. -/
def alpha : EReal := Ideal.ofBits .f32 1071072509#32

/-- Layer norm of a row `P` at lane `d`. -/
def norm (P : Fin 2048 → EReal) (g b : EReal) (d : Fin 2048) : EReal :=
  (P d - Ideal.div (∑ k, P k) (Ideal.ofBits .f32 1157627904#32))
    * Ideal.rsqrt (Ideal.div (∑ k, (P k - Ideal.div (∑ k, P k) (Ideal.ofBits .f32 1157627904#32)) * (P k - Ideal.div (∑ k, P k) (Ideal.ofBits .f32 1157627904#32))) (Ideal.ofBits .f32 1157627904#32) + Ideal.ofBits .f32 925353388#32)
    * g + b

/-- The up projection of a sequence `X` at lane `f`, position `p`. -/
def up (X : ℕ → Fin 2048 → EReal) (w : Fin 2048 → Fin 11264 → EReal) (f : Fin 11264) (p : ℕ) : EReal := ∑ k, X p k * w k f

/-- The causal convolution of the up projection. -/
def hid (X : ℕ → Fin 2048 → EReal) (w : Fin 2048 → Fin 11264 → EReal) (cw : Fin 3 → Fin 11264 → EReal) (cb : Fin 11264 → EReal)
    (f : Fin 11264) (p : ℕ) : EReal :=
  taps (cb f) (cw 0 f) (cw 1 f) (cw 2 f) (past 2 (up X w f) p) (past 1 (up X w f) p) (up X w f p)

/-- The gated hidden lanes, projected down. -/
def mix (X : ℕ → Fin 2048 → EReal) (w : Fin 2048 → Fin 11264 → EReal) (cw : Fin 3 → Fin 11264 → EReal) (cb : Fin 11264 → EReal)
    (wd : Fin 5632 → Fin 2048 → EReal) (p : ℕ) (d : Fin 2048) : EReal :=
  ∑ f : Fin 5632, gate (hid X w cw cb ⟨5632 + f.val, by omega⟩ p) * hid X w cw cb ⟨f.val, by omega⟩ p * wd f d

/-- The whole feed-forward layer at position `p`, lane `d`. -/
def layer (X : ℕ → Fin 2048 → EReal) (w : Fin 2048 → Fin 11264 → EReal) (cw : Fin 3 → Fin 11264 → EReal) (cb : Fin 11264 → EReal)
    (wd : Fin 5632 → Fin 2048 → EReal) (g b : Fin 2048 → EReal) (p : ℕ) (d : Fin 2048) : EReal :=
  norm (fun j => alpha * X p j + mix X w cw cb wd p j) (g d) (b d) d

/-- Sequence `b` of the batch, zero past its end. -/
def seq (x : Fin 2 → Fin 4112 → Fin 2048 → EReal) (b : Fin 2) (p : ℕ) (k : Fin 2048) : EReal :=
  if h : p < 4112 then x b ⟨p, h⟩ k else 0

/-- A sampled sequence's up projections with the two carried rows in front. -/
def carried (S : Fin 2 → Fin 11264 → EReal) (X : Fin 4 → Fin 2048 → EReal) (w : Fin 2048 → Fin 11264 → EReal) (f : Fin 11264) (z : ℕ) : EReal :=
  if h : z < 2 then S ⟨z, h⟩ f else ∑ k, X ⟨(z - 2) % 4, by omega⟩ k * w k f

/-- The convolution of a sampled sequence at its step `t`. -/
def hidS (S : Fin 2 → Fin 11264 → EReal) (X : Fin 4 → Fin 2048 → EReal) (w : Fin 2048 → Fin 11264 → EReal) (cw : Fin 3 → Fin 11264 → EReal) (cb : Fin 11264 → EReal)
    (f : Fin 11264) (t : ℕ) : EReal :=
  taps (cb f) (cw 0 f) (cw 1 f) (cw 2 f) (carried S X w f t) (carried S X w f (1 + t)) (carried S X w f (2 + t))

/-- The gated hidden lanes of a sampled sequence, projected down. -/
def mixS (S : Fin 2 → Fin 11264 → EReal) (X : Fin 4 → Fin 2048 → EReal) (w : Fin 2048 → Fin 11264 → EReal) (cw : Fin 3 → Fin 11264 → EReal) (cb : Fin 11264 → EReal)
    (wd : Fin 5632 → Fin 2048 → EReal) (t : ℕ) (d : Fin 2048) : EReal :=
  ∑ f : Fin 5632, gate (hidS S X w cw cb ⟨5632 + f.val, by omega⟩ t) * hidS S X w cw cb ⟨f.val, by omega⟩ t * wd f d

/-- The layer of a sampled sequence at its step `t`. -/
def layerS (S : Fin 2 → Fin 11264 → EReal) (X : Fin 4 → Fin 2048 → EReal) (w : Fin 2048 → Fin 11264 → EReal) (cw : Fin 3 → Fin 11264 → EReal) (cb : Fin 11264 → EReal)
    (wd : Fin 5632 → Fin 2048 → EReal) (g b : Fin 2048 → EReal) (t : Fin 4) (d : Fin 2048) : EReal :=
  norm (fun j => alpha * X t j + mixS S X w cw cb wd t.val j) (g d) (b d) d

end Cert.FfnSpec
-- ==== Proof.FfnPay.lean ====
module

public import proofs.«01_k».proof.Proof.Gen.FfnKernelIdeal.Skeleton
public import proofs.«01_k».proof.Proof.FfnSpec
public import Idealize.ShloMosaic.Lib.Pipeline.ValueKit

/- What the prompt feed-forward kernel's named values hold at an index. -/

@[expose] public section

set_option maxRecDepth 16384

noncomputable section

namespace Cert.FfnPay

open Idealize.ShloMosaic Idealize.SL.Sem Cert.FfnKernelIdeal Cert.FfnKernelIdeal.Gen Cert.FfnSpec

theorem roll1 (y : Fin 704) : (16 + y.val + 720 - 1) % 720 = 15 + y.val := by omega
theorem roll2 (y : Fin 704) : (16 + y.val + 720 - 2) % 720 = 14 + y.val := by omega

/-- The projection of scratch row `r` on lane `f`. -/
def proj (xb : Vec Ideal S720x2048 .bf16) (w : Vec Ideal S1x2048x512 .bf16) (f : Fin 512) (r : Fin 720) : EReal :=
  ∑ k : Fin 2048, xb (ix2 r k) * w (ix3 0 k f)

/-- One lane's convolution at output row `y`: rows `y + 14`, `y + 15`, `y + 16` of the scratch. -/
def conv (xb : Vec Ideal S720x2048 .bf16) (w : Vec Ideal S1x2048x512 .bf16) (cw : Vec Ideal S1x3x512 .f32) (cb : Vec Ideal S1x1x512 .f32) (y : Fin 704) (f : Fin 512) : EReal :=
  taps (cb (ix3 0 0 f)) (cw (ix3 0 0 f)) (cw (ix3 0 1 f)) (cw (ix3 0 2 f))
    (proj xb w f ⟨14 + y.val, by omega⟩) (proj xb w f ⟨15 + y.val, by omega⟩) (proj xb w f ⟨16 + y.val, by omega⟩)

theorem pay6 (xb : Vec Ideal S720x2048 .bf16) (w : Vec Ideal S1x2048x512 .bf16) (r : Fin 720) (f : Fin 512) :
    k0_pay6 xb w (ix2 r f) = proj xb w f r := by
  unfold proj
  pointwise [k0_pay6]

theorem taps_comm (b w0 w1 w2 u0 u1 u2 : EReal) : b + w2 * u2 + w1 * u1 + w0 * u0 = taps b w0 w1 w2 u0 u1 u2 := by
  unfold taps
  rw [mul_comm w2, mul_comm w1, mul_comm w0]
  ac_rfl

theorem pay5 (xb : Vec Ideal S720x2048 .bf16) (w : Vec Ideal S1x2048x512 .bf16) (cw : Vec Ideal S1x3x512 .f32) (cb : Vec Ideal S1x1x512 .f32) (y : Fin 704) (f : Fin 512) :
    k0_pay5 xb w cw cb (ix2 y f) = conv xb w cw cb y f := by
  unfold conv proj
  rw [← taps_comm]
  pointwise [k0_pay5]
  simp only [roll1, roll2]

theorem pay8 (v28 : FVec Ideal S704x512 .f32) (xb : Vec Ideal S720x2048 .bf16) (w : Vec Ideal S1x2048x512 .bf16) (cw : Vec Ideal S1x3x512 .f32) (cb : Vec Ideal S1x1x512 .f32) (acc : Vec Ideal S704x2048 .f32) (wd : Vec Ideal S1x512x2048 .bf16) (y : Fin 704) (d : Fin 2048) :
    k0_pay8 v28 (k0_pay6 xb w) (k0_pay7 cw) cb acc wd (ix2 y d)
      = acc (ix2 y d) + ∑ f : Fin 512, gate (conv xb w cw cb y f) * v28 (ix2 y f) * wd (ix3 0 f d) := by
  unfold gate conv proj
  simp only [← taps_comm]
  pointwise [k0_pay8, k0_pay6, k0_pay7]
  simp only [roll1, roll2, zero_sub]

theorem pay1 (x acc : Vec Ideal S704x2048 .f32) (g b : Vec Ideal S1x2048 .f32) (y : Fin 704) (d : Fin 2048) :
    k0_pay1 x acc g b (ix2 y d) = FfnSpec.norm (fun j => alpha * x (ix2 y j) + acc (ix2 y j)) (g (ix2 0 d)) (b (ix2 0 d)) d := by
  unfold FfnSpec.norm alpha
  pointwise [k0_pay1]

/-- The kernel's test for the first block of a sequence is the remainder's. -/
def isFirst (i : Fin 12) : BitVec 1 :=
  Scalar.cmpi CmpIPredicate.eq
        (Scalar.select
          (Scalar.andi
            (Scalar.xori
              (Scalar.cmpi CmpIPredicate.slt
                (Scalar.remsi (BitVec.ofNat 32 i.val)
                  (Scalar.select (Scalar.cmpi CmpIPredicate.eq 6#32 0#32) 1#32 6#32))
                0#32)
              (Scalar.cmpi CmpIPredicate.slt (Scalar.select (Scalar.cmpi CmpIPredicate.eq 6#32 0#32) 1#32 6#32) 0#32))
            (Scalar.cmpi CmpIPredicate.ne
              (Scalar.remsi (BitVec.ofNat 32 i.val)
                (Scalar.select (Scalar.cmpi CmpIPredicate.eq 6#32 0#32) 1#32 6#32))
              0#32))
          (Scalar.addi
            (Scalar.remsi (BitVec.ofNat 32 i.val)
              (Scalar.select (Scalar.cmpi CmpIPredicate.eq 6#32 0#32) 1#32 6#32))
            (Scalar.select (Scalar.cmpi CmpIPredicate.eq 6#32 0#32) 1#32 6#32))
          (Scalar.remsi (BitVec.ofNat 32 i.val)
            (Scalar.select (Scalar.cmpi CmpIPredicate.eq 6#32 0#32) 1#32 6#32)))
        0#32

theorem first_block (i : Fin 12) (a b : EReal) :
    Scalar.select (isFirst i) a b = if i.val % 6 = 0 then a else b := by
  have h : ∀ i : Fin 12, isFirst i = (if i.val % 6 = 0 then 1#1 else 0#1) := by decide +kernel
  rw [h i]
  split <;> rfl

theorem pay2 (i : grid0.Coords) (x : Vec Ideal S16x2048 .f32) (y : Fin 16) (f : Fin 2048) :
    k0_pay2 i x (ix2 y f) = if (i 0).val % 6 = 0 then 0 else x (ix2 y f) := by
  pointwise [k0_pay2]
  exact first_block (i 0) _ _

theorem pay3 (x : Vec Ideal S704x2048 .f32) (y : Fin 704) (f : Fin 2048) :
    k0_pay3 x (ix2 y f) = x (ix2 y f) := by
  pointwise [k0_pay3]

theorem pay4 (j : S704x2048.Idx) : k0_pay4 (F := Ideal) j = 0 := by
  pointwise [k0_pay4]

end Cert.FfnPay
-- ==== Proof.FfnKernel.lean ====
module

public import proofs.«01_k».proof.Proof.FfnHost
public import proofs.«01_k».proof.Proof.FfnPay
public import Idealize.ShloMosaic.Lib.VecWindow

/- The prompt feed-forward kernel's scratch, accumulator and output over its grid. -/

@[expose] public section

set_option maxRecDepth 16384

noncomputable section

namespace Cert.FfnMatch

open Idealize.ShloMosaic Idealize.ShloMosaic.TcCoe Idealize.SL.Sem Cert.FfnKernelIdeal Cert.FfnKernelIdeal.Gen Cert.FfnSpec Cert.FfnPay

variable (m : (ℓ : Loc nD τ sig) → Buf (Elt Ideal) ℓ)

theorem idx : ∀ t : Fin cfg0.N,
    win0_0.index t = ![t.val / 11, 0] ∧ win0_1.index t = ![44 * (t.val / 11) - 1, 0]
    ∧ win0_2.index t = ![3, 0, t.val % 11] ∧ win0_3.index t = ![3, 0, t.val % 11 + 11]
    ∧ win0_4.index t = ![3, 0, t.val % 11] ∧ win0_5.index t = ![3, 0, t.val % 11 + 11]
    ∧ win0_6.index t = ![3, 0, t.val % 11] ∧ win0_7.index t = ![3, 0, t.val % 11 + 11]
    ∧ win0_8.index t = ![3, t.val % 11, 0] ∧ win0_9.index t = ![0, 0] ∧ win0_10.index t = ![0, 0]
    ∧ win0_11.index t = ![t.val / 11, 0] ∧ ((grid0.coords t) 0).val = t.val / 11 :=
  (by decide +kernel : ∀ t : Fin grid0.N, _)

theorem lt132 (t : Fin cfg0.N) : t.val < 132 := lt_of_lt_of_eq t.isLt (by decide +kernel : grid0.N = 132)

/-- The input, by batch, position and lane. -/
abbrev argX (c : Dev nD) : Fin 2 → Fin 4112 → Fin 2048 → EReal := fun b p k => m ((c : Thread nD τ).loc main_arg0) (ix3 b p k)
/-- Depth 3's rows of each weight. -/
abbrev argW (c : Dev nD) : Fin 2048 → Fin 11264 → EReal := fun k f => m ((c : Thread nD τ).loc main_arg1) (ix3 3 k f)
abbrev argCw (c : Dev nD) : Fin 3 → Fin 11264 → EReal := fun j f => m ((c : Thread nD τ).loc main_arg2) (ix3 3 j f)
abbrev argCb (c : Dev nD) : Fin 11264 → EReal := fun f => m ((c : Thread nD τ).loc main_arg3) (ix2 3 f)
abbrev argWd (c : Dev nD) : Fin 5632 → Fin 2048 → EReal := fun f d => m ((c : Thread nD τ).loc main_arg4) (ix3 3 f d)
abbrev argG (c : Dev nD) : Fin 2048 → EReal := fun d => m ((c : Thread nD τ).loc main_arg5) (ix2 3 d)
abbrev argB (c : Dev nD) : Fin 2048 → EReal := fun d => m ((c : Thread nD τ).loc main_arg6) (ix2 3 d)

/-- The padded input at row `r` of the flattened batch. -/
def xrow (c : Dev nD) (r : ℕ) (k : Fin 2048) : EReal := seq (argX m c) ⟨r / 4224 % 2, by omega⟩ (r % 4224) k

theorem vx (c : Dev nD) (r : Fin 8448) (k : Fin 2048) : V m c main_v1 (ix2 r k) = xrow m c r.val k := by
  have hr := r.isLt
  have e : (⟨r.val / 4224 % 2, by omega⟩ : Fin 2) = ⟨r.val / 4224, by omega⟩ := Fin.ext (by simp only; omega)
  rw [FfnHost.x]
  unfold xrow seq
  rw [e]

theorem blk0 (c : Dev nD) (t : Fin cfg0.N) (r : Fin 704) (k : Fin 2048) : iblk m c 0 t (ix2 r k) = xrow m c (t.val / 11 * 704 + r.val) k := by
  have := lt132 t
  refine Eq.trans ?_ (vx m c ⟨t.val / 11 * 704 + r.val, by omega⟩ k)
  blk_simp [iblk]
  exact congrArg (V m c main_v1) (by blk_ext [idx t])

theorem blk1 (c : Dev nD) (t : Fin cfg0.N) (r : Fin 16) (k : Fin 2048) : iblk m c 1 t (ix2 r k) = xrow m c ((44 * (t.val / 11) - 1) * 16 + r.val) k := by
  have := lt132 t
  refine Eq.trans ?_ (vx m c ⟨(44 * (t.val / 11) - 1) * 16 + r.val, by omega⟩ k)
  blk_simp [iblk]
  exact congrArg (V m c main_v1) (by blk_ext [idx t])

theorem blk2 (c : Dev nD) (t : Fin cfg0.N) (k : Fin 2048) (f : Fin 512) : iblk m c 2 t (ix3 0 k f) = (m ((c : Thread nD τ).loc main_arg1) (ix3 3 k ⟨t.val % 11 * 512 + f.val, by omega⟩) : EReal) := by
  blk_simp [iblk]
  exact (congrArg (V m c main_v2) (by blk_ext [idx t])).trans (FfnHost.wup m c 3 k ⟨t.val % 11 * 512 + f.val, by omega⟩)

theorem blk3 (c : Dev nD) (t : Fin cfg0.N) (k : Fin 2048) (f : Fin 512) : iblk m c 3 t (ix3 0 k f) = (m ((c : Thread nD τ).loc main_arg1) (ix3 3 k ⟨5632 + (t.val % 11 * 512 + f.val), by omega⟩) : EReal) := by
  blk_simp [iblk]
  exact (congrArg (V m c main_v2) (by blk_ext [idx t])).trans (FfnHost.wup m c 3 k ⟨5632 + (t.val % 11 * 512 + f.val), by omega⟩)

theorem blk4 (c : Dev nD) (t : Fin cfg0.N) (k : Fin 3) (f : Fin 512) : iblk m c 4 t (ix3 0 k f) = (m ((c : Thread nD τ).loc main_arg2) (ix3 3 k ⟨t.val % 11 * 512 + f.val, by omega⟩) : EReal) := by
  blk_simp [iblk]
  refine Eq.trans (congrArg (V m c main_arg2) (by blk_ext [idx t])) (congrFun (V_main_arg2 m c) _)

theorem blk5 (c : Dev nD) (t : Fin cfg0.N) (k : Fin 3) (f : Fin 512) : iblk m c 5 t (ix3 0 k f) = (m ((c : Thread nD τ).loc main_arg2) (ix3 3 k ⟨5632 + (t.val % 11 * 512 + f.val), by omega⟩) : EReal) := by
  blk_simp [iblk]
  refine Eq.trans (congrArg (V m c main_arg2) (by blk_ext [idx t])) (congrFun (V_main_arg2 m c) _)

theorem blk6 (c : Dev nD) (t : Fin cfg0.N) (f : Fin 512) : iblk m c 6 t (ix3 0 0 f) = (m ((c : Thread nD τ).loc main_arg3) (ix2 3 ⟨t.val % 11 * 512 + f.val, by omega⟩) : EReal) := by
  blk_simp [iblk]
  exact (congrArg (V m c main_v3) (by blk_ext [idx t])).trans (FfnHost.cb m c 3 ⟨t.val % 11 * 512 + f.val, by omega⟩)

theorem blk7 (c : Dev nD) (t : Fin cfg0.N) (f : Fin 512) : iblk m c 7 t (ix3 0 0 f) = (m ((c : Thread nD τ).loc main_arg3) (ix2 3 ⟨5632 + (t.val % 11 * 512 + f.val), by omega⟩) : EReal) := by
  blk_simp [iblk]
  exact (congrArg (V m c main_v3) (by blk_ext [idx t])).trans (FfnHost.cb m c 3 ⟨5632 + (t.val % 11 * 512 + f.val), by omega⟩)

theorem blk8 (c : Dev nD) (t : Fin cfg0.N) (f : Fin 512) (d : Fin 2048) : iblk m c 8 t (ix3 0 f d) = (m ((c : Thread nD τ).loc main_arg4) (ix3 3 ⟨t.val % 11 * 512 + f.val, by omega⟩ d) : EReal) := by
  blk_simp [iblk]
  exact (congrArg (V m c main_v4) (by blk_ext [idx t])).trans (FfnHost.wdn m c 3 ⟨t.val % 11 * 512 + f.val, by omega⟩ d)

theorem blk9 (c : Dev nD) (t : Fin cfg0.N) (d : Fin 2048) : iblk m c 9 t (ix2 0 d) = (m ((c : Thread nD τ).loc main_arg5) (ix2 3 d) : EReal) := by
  blk_simp [iblk]
  exact (congrArg (V m c main_v7) (by blk_ext [idx t])).trans (FfnHost.lng m c d)

theorem blk10 (c : Dev nD) (t : Fin cfg0.N) (d : Fin 2048) : iblk m c 10 t (ix2 0 d) = (m ((c : Thread nD τ).loc main_arg6) (ix2 3 d) : EReal) := by
  blk_simp [iblk]
  exact (congrArg (V m c main_v10) (by blk_ext [idx t])).trans (FfnHost.lnb m c d)

/-- What the row scratch holds over the run of row tile `i`: sixteen rows before the tile (zero at a
    sequence's start), then the tile. -/
def xbuf (c : Dev nD) (i : ℕ) : Vec Ideal S720x2048 .bf16 := fun j =>
  @ite EReal ((j 0).val < 16 ∧ i % 6 = 0) instDecidableAnd 0 (xrow m c (i * 704 + (j 0).val - 16) (j 1))

theorem xbuf_at (c : Dev nD) (i : ℕ) (r : Fin 720) (k : Fin 2048) : xbuf m c i (ix2 r k) =
    @ite EReal (r.val < 16 ∧ i % 6 = 0) instDecidableAnd 0 (xrow m c (i * 704 + r.val - 16) k) := rfl

/-- The two pieces the first point of a run stores into the row scratch. -/
theorem scr_A (c : Dev nD) (t : Fin cfg0.N) (h0 : t.val % 11 = 0) (r : Fin 720) (k : Fin 2048) :
    (outsAt0 m c t.val t.isLt).2.1 (ix2 r k) = xbuf m c (t.val / 11) (ix2 r k) := by
  rw [outsAt0_A m c t h0 (by omega)]
  frame_out
  rw [xbuf_at]
  have hi := (idx t).2.2.2.2.2.2.2.2.2.2.2.2
  have hr := r.isLt
  have hk := k.isLt
  refine View.canon_eq_of_allAt _ _ _ ?_ (View.allAt_cons_unit _ _ _ _ _ ?_ (View.allAt_cons_unit _ _ _ _ _ ?_ (View.allAt_nil _ _)))
  · by_cases hc : r.val < 16
    · refine ⟨_, List.mem_cons_of_mem _ List.mem_cons_self, (Rect.mem_set_unit (inb := inb_S720x2048_S16x2048_0_0)).mpr fun a => ?_⟩
      fin_cases a
      · exact ⟨Nat.zero_le _, by show r.val < 0 + 16; omega⟩
      · exact ⟨Nat.zero_le _, by show k.val < 0 + 2048; omega⟩
    · refine ⟨_, List.mem_cons_self, (Rect.mem_set_unit (inb := inb_S720x2048_S704x2048_16_0)).mpr fun a => ?_⟩
      fin_cases a
      · exact ⟨by show 16 ≤ r.val; omega, by show r.val < 16 + 704; omega⟩
      · exact ⟨Nat.zero_le _, by show k.val < 0 + 2048; omega⟩
  · intro x hx
    obtain ⟨z, l, rfl⟩ : ∃ (z : Fin 704) (l : Fin 2048), x = ix2 z l := ⟨x 0, x 1, by blk_ext⟩
    have e0 : r.val = 16 + z.val := hx 0
    have e1 : k = l := Fin.ext (by have : k.val = 0 + l.val := hx 1; omega)
    subst e1
    rw [if_neg (by omega), show t.val / 11 * 704 + r.val - 16 = t.val / 11 * 704 + z.val by omega]
    exact (pay3 _ _ _).trans (blk0 m c t z k)
  · intro x hx
    obtain ⟨z, l, rfl⟩ : ∃ (z : Fin 16) (l : Fin 2048), x = ix2 z l := ⟨x 0, x 1, by blk_ext⟩
    have e0 : r.val = 0 + z.val := hx 0
    have e1 : k = l := Fin.ext (by have : k.val = 0 + l.val := hx 1; omega)
    subst e1
    have hz := z.isLt
    refine (pay2 _ _ _ _).trans ?_
    rw [hi]
    by_cases hc : t.val / 11 % 6 = 0
    · rw [if_pos hc, if_pos ⟨by omega, hc⟩]
    · rw [if_neg hc, if_neg (fun h => hc h.2), blk1, show (44 * (t.val / 11) - 1) * 16 + z.val = t.val / 11 * 704 + r.val - 16 by omega]

theorem scr_step (c : Dev nD) (t : Fin cfg0.N) (h0 : t.val % 11 ≠ 0) :
    (outsAt0 m c t.val t.isLt).2.1 = (outsAt0 m c (t.val - 1) (by omega)).2.1 := by
  by_cases h1 : t.val % 11 = 10
  · rw [outsAt0_C m c t h0 h1]
    unfold sout0_C_0
    rfl
  · rw [outsAt0_B m c t h0 h1]
    unfold sout0_B_0
    rfl

theorem scr (c : Dev nD) : ∀ (n : ℕ) (h : n < cfg0.N), (outsAt0 m c n h).2.1 = xbuf m c (n / 11) := by
  intro n
  induction n with
  | zero =>
    intro h
    funext j
    obtain ⟨r, k, rfl⟩ : ∃ (r : Fin 720) (k : Fin 2048), j = ix2 r k := ⟨j 0, j 1, by blk_ext⟩
    exact scr_A m c ⟨0, h⟩ rfl r k
  | succ n ih =>
    intro h
    by_cases h0 : (n + 1) % 11 = 0
    · funext j
      obtain ⟨r, k, rfl⟩ : ∃ (r : Fin 720) (k : Fin 2048), j = ix2 r k := ⟨j 0, j 1, by blk_ext⟩
      exact scr_A m c ⟨n + 1, h⟩ h0 r k
    · refine (scr_step m c ⟨n + 1, h⟩ h0).trans ?_
      have e : (n + 1) / 11 = n / 11 := by omega
      rw [e]
      exact ih (by omega)

/-- One point's part of the accumulated down projection. -/
def part (c : Dev nD) (t : Fin cfg0.N) (y : Fin 704) (d : Fin 2048) : EReal :=
  ∑ f : Fin 512, gate (conv (xbuf m c (t.val / 11)) (iblk m c 3 t) (iblk m c 5 t) (iblk m c 7 t) y f)
    * conv (xbuf m c (t.val / 11)) (iblk m c 2 t) (iblk m c 4 t) (iblk m c 6 t) y f * iblk m c 8 t (ix3 0 f d)

theorem acc_gen (c : Dev nD) (t : Fin cfg0.N) (X : Vec Ideal S720x2048 .bf16) (A : Vec Ideal S704x2048 .f32) (hX : X = xbuf m c (t.val / 11)) (y : Fin 704) (d : Fin 2048) :
    k0_pay8 (k0_pay5 X (iblk m c 2 t) (iblk m c 4 t) (iblk m c 6 t)) (k0_pay6 X (iblk m c 3 t)) (k0_pay7 (iblk m c 5 t)) (iblk m c 7 t) A (iblk m c 8 t) (ix2 y d)
      = A (ix2 y d) + part m c t y d := by
  subst hX
  rw [pay8]
  unfold part
  simp only [pay5]

theorem acc_A (c : Dev nD) (t : Fin cfg0.N) (h0 : t.val % 11 = 0) (y : Fin 704) (d : Fin 2048) :
    (outsAt0 m c t.val t.isLt).2.2 (ix2 y d) = part m c t y d := by
  rw [outsAt0_A m c t h0 (by omega)]
  frame_out
  simp only [View.readCov_eq_canon']
  refine (acc_gen m c t _ _ ?_ y d).trans (by rw [pay4, zero_add])
  funext j
  obtain ⟨r, k, rfl⟩ : ∃ (r : Fin 720) (k : Fin 2048), j = ix2 r k := ⟨j 0, j 1, by blk_ext⟩
  refine Eq.trans ?_ (scr_A m c t h0 r k)
  rw [outsAt0_A m c t h0 (by omega)]
  frame_out
  congr 1
  exact Rect.emb_unit_full _ _

theorem acc_step (c : Dev nD) (t : Fin cfg0.N) (h0 : t.val % 11 ≠ 0) (y : Fin 704) (d : Fin 2048) :
    (outsAt0 m c t.val t.isLt).2.2 (ix2 y d) = (outsAt0 m c (t.val - 1) (by omega)).2.2 (ix2 y d) + part m c t y d := by
  have hs : (outsAt0 m c (t.val - 1) (by omega)).2.1 = xbuf m c (t.val / 11) := by
    rw [scr]
    congr 1
    omega
  by_cases h1 : t.val % 11 = 10
  · rw [outsAt0_C m c t h0 h1]
    frame_out
    refine (acc_gen m c t _ _ ?_ y d).trans ?_
    · refine Eq.trans ?_ hs
      exact Memref.IsWhole.read_unread _ _
    · exact congrArg (· + part m c t y d) (congrFun (Memref.IsWhole.read_unread _ _) _)
  · rw [outsAt0_B m c t h0 h1]
    frame_out
    refine (acc_gen m c t _ _ ?_ y d).trans ?_
    · refine Eq.trans ?_ hs
      exact Memref.IsWhole.read_unread _ _
    · exact congrArg (· + part m c t y d) (congrFun (Memref.IsWhole.read_unread _ _) _)

theorem out_C (c : Dev nD) (t : Fin cfg0.N) (h1 : t.val % 11 = 10) (y : Fin 704) (d : Fin 2048) :
    (outsAt0 m c t.val t.isLt).1 (ix2 y d) = FfnSpec.norm (fun j => alpha * iblk m c 0 t (ix2 y j) + (outsAt0 m c t.val t.isLt).2.2 (ix2 y j)) (iblk m c 9 t (ix2 0 d)) (iblk m c 10 t (ix2 0 d)) d := by
  have h0 : t.val % 11 ≠ 0 := by omega
  rw [outsAt0_C m c t h0 h1]
  frame_out
  refine (pay1 _ _ _ _ y d).trans ?_
  rfl

/-- A projection of the scratch row `j` above the tile's row `y` is the up projection `j` positions back. -/
theorem proj_past (c : Dev nD) (i j : ℕ) (hi : i < 12) (hj : j ≤ 2) (W : Vec Ideal S1x2048x512 .bf16) (F : Fin 11264) (f : Fin 512)
    (hW : ∀ k, W (ix3 0 k f) = argW m c k F) (y : Fin 704) (r : Fin 720) (hr : r.val + j = 16 + y.val) :
    proj (xbuf m c i) W f r = past j (up (seq (argX m c) ⟨(i * 704 + y.val) / 4224 % 2, by omega⟩) (argW m c) F) ((i * 704 + y.val) % 4224) := by
  have hy := y.isLt
  unfold proj past up
  by_cases h : (i * 704 + y.val) % 4224 < j
  · rw [if_pos h]
    refine Finset.sum_eq_zero fun k _ => ?_
    rw [xbuf_at, if_pos ⟨by omega, by omega⟩, zero_mul]
  · rw [if_neg h]
    refine Finset.sum_congr rfl fun k _ => ?_
    rw [xbuf_at, if_neg (by omega), hW]
    unfold xrow
    have e1 : (i * 704 + r.val - 16) % 4224 = (i * 704 + y.val) % 4224 - j := by omega
    have e2 : (⟨(i * 704 + r.val - 16) / 4224 % 2, by omega⟩ : Fin 2) = ⟨(i * 704 + y.val) / 4224 % 2, by omega⟩ := Fin.ext (by simp only; omega)
    rw [e1, e2]

theorem past_zero (U : ℕ → EReal) (p : ℕ) : past 0 U p = U p := by
  unfold past
  rw [if_neg (Nat.not_lt_zero p), Nat.sub_zero]

theorem conv_hid (c : Dev nD) (i : ℕ) (hi : i < 12) (W : Vec Ideal S1x2048x512 .bf16) (C : Vec Ideal S1x3x512 .f32) (B : Vec Ideal S1x1x512 .f32) (F : Fin 11264) (f : Fin 512)
    (hW : ∀ k, W (ix3 0 k f) = argW m c k F) (hC : ∀ j, C (ix3 0 j f) = argCw m c j F) (hB : B (ix3 0 0 f) = argCb m c F) (y : Fin 704) :
    conv (xbuf m c i) W C B y f = hid (seq (argX m c) ⟨(i * 704 + y.val) / 4224 % 2, by omega⟩) (argW m c) (argCw m c) (argCb m c) F ((i * 704 + y.val) % 4224) := by
  unfold conv hid
  rw [hB, hC, hC, hC, proj_past m c i 2 hi (by omega) W F f hW y _ (by simp only; omega),
    proj_past m c i 1 hi (by omega) W F f hW y _ (by simp only; omega),
    proj_past m c i 0 hi (by omega) W F f hW y _ (by simp only; omega), past_zero]

/-- The accumulated down projection at a run's last point. -/
theorem acc_mix (c : Dev nD) (t : Fin cfg0.N) (hr : t.val % 11 = 11 - 1) (y : Fin 704) (d : Fin 2048) :
    (outsAt0 m c t.val t.isLt).2.2 (ix2 y d) = mix (seq (argX m c) ⟨(t.val / 11 * 704 + y.val) / 4224 % 2, by omega⟩) (argW m c) (argCw m c) (argCb m c) (argWd m c) ((t.val / 11 * 704 + y.val) % 4224) d := by
  have ht := lt132 t
  refine (Pipeline.eq_sum_fin_of_reset_step_apply_of_flush (fun n h (z : Fin 704 × Fin 2048) => (outsAt0 m c n h).2.2 (ix2 z.1 z.2)) 11 (fun _ => (0 : EReal))
    (fun s z => part m c s z.1 z.2) (fun s h z => (acc_A m c s h z.1 z.2).trans (zero_add _).symm) (fun s h z => acc_step m c s h z.1 z.2) t hr (y, d)).trans ?_
  rw [zero_add]
  unfold mix part
  refine Fin.sum_mul_add_congr fun s k hl => ?_
  have hp := Pipeline.run_point_lt_of_flush t hr s
  have hs := s.isLt
  have e1 : (11 * (t.val / 11) + s.val) / 11 = t.val / 11 := by omega
  have e2 : (11 * (t.val / 11) + s.val) % 11 = s.val := by omega
  simp only [e1]
  rw [conv_hid m c (t.val / 11) (by omega) _ _ _ ⟨5632 + (s.val * 512 + k.val), by omega⟩ k
      (fun q => (blk3 m c ⟨_, hp⟩ q k).trans (by simp only [e2])) (fun q => (blk5 m c ⟨_, hp⟩ q k).trans (by simp only [e2])) ((blk7 m c ⟨_, hp⟩ k).trans (by simp only [e2])),
    conv_hid m c (t.val / 11) (by omega) _ _ _ ⟨s.val * 512 + k.val, by omega⟩ k
      (fun q => (blk2 m c ⟨_, hp⟩ q k).trans (by simp only [e2])) (fun q => (blk4 m c ⟨_, hp⟩ q k).trans (by simp only [e2])) ((blk6 m c ⟨_, hp⟩ k).trans (by simp only [e2])),
    blk8]
  simp only [e2]

/-- The kernel's result at row `r` of the flattened, padded batch. -/
def result (c : Dev nD) (r : ℕ) (d : Fin 2048) : EReal :=
  layer (seq (argX m c) ⟨r / 4224 % 2, by omega⟩) (argW m c) (argCw m c) (argCb m c) (argWd m c) (argG m c) (argB m c) (r % 4224) d

theorem final (c : Dev nD) : (dats m 0 c).arrAt 11 cfg0.N = fun i => result m c (i 0).val (i 1) := by
  refine (dats m 0 c).arrAt_eq_of_covers 11 _ (by decide +kernel) fun t hf y => ?_
  have hr := (flush0_11 t).mp hf
  have ht := lt132 t
  blk_simp
  rw [after0_11]
  obtain ⟨b, z, rfl⟩ : ∃ (b : Fin 704) (z : Fin 2048), y = ix2 b z := ⟨y 0, y 1, by blk_ext⟩
  refine (out_C m c t hr b z).trans ?_
  refine Eq.trans ?_ (congrArg₂ (result m c) (show t.val / 11 * 704 + b.val = _ by rw [(idx t).2.2.2.2.2.2.2.2.2.2.2.1]; rfl) (show z = _ from Fin.ext (by rw [show ((win0_11.blk t).view.emb (ix2 b z) 1).val = win0_11.index t 1 * 2048 + z.val by blk_simp, (idx t).2.2.2.2.2.2.2.2.2.2.2.1]; show z.val = 0 * 2048 + z.val; omega)))
  unfold result layer
  rw [blk9, blk10]
  congr 1
  funext j
  rw [acc_mix m c t hr, blk0]
  rfl

end Cert.FfnMatch
-- ==== Proof.FfnRef.lean ====
module

public import proofs.«01_k».proof.Proof.Gen.FfnReferenceIdeal.Read
public import proofs.«01_k».proof.Proof.FfnSpec
public import Idealize.ShloMosaic.Lib.Pipeline.ValueKit

/- The prompt feed-forward reference's values, read at an index. -/

@[expose] public section

set_option maxRecDepth 16384

noncomputable section

namespace Cert.FfnRef

open Idealize.ShloMosaic Idealize.SL.Sem Cert.FfnReferenceIdeal Cert.FfnReferenceIdeal.Read Cert.FfnSpec

variable (x0 : Vec Ideal S2x4112x2048 .f32) (x1 : Vec Ideal S4x2048x11264 .f32) (x2 : Vec Ideal S4x3x11264 .f32) (x3 : Vec Ideal S4x11264 .f32)
  (x4 : Vec Ideal S4x5632x2048 .f32) (x5 x6 : Vec Ideal S4x2048 .f32)

abbrev aX : Fin 2 → Fin 4112 → Fin 2048 → EReal := fun b p k => x0 (ix3 b p k)
abbrev aW : Fin 2048 → Fin 11264 → EReal := fun k f => x1 (ix3 3 k f)
abbrev aCw : Fin 3 → Fin 11264 → EReal := fun j f => x2 (ix3 3 j f)
abbrev aCb : Fin 11264 → EReal := fun f => x3 (ix2 3 f)
abbrev aWd : Fin 5632 → Fin 2048 → EReal := fun f d => x4 (ix3 3 f d)

theorem seq_eq (b : Fin 2) (p : Fin 4112) (k : Fin 2048) : seq (aX x0) b p.val k = x0 (ix3 b p k) := by
  unfold seq
  rw [dif_pos p.isLt]

theorem up9 (b : Fin 2) (p : Fin 4112) (f : Fin 11264) :
    val_main_v9 (F := Ideal) x0 x1 (ix3 b p f) = up (seq (aX x0) b) (aW x1) f p.val := by
  unfold up
  simp only [seq_eq]
  pointwise [val_main_v9, val_main_v2, val_main_v1]

/-- The padded up projection: two zero rows, then the sequence. -/
theorem up10 (b : Fin 2) (z : Fin 4114) (f : Fin 11264) :
    val_main_v10 (F := Ideal) x0 x1 (ix3 b z f) = if z.val < 2 then 0 else up (seq (aX x0) b) (aW x1) f (z.val - 2) := by
  by_cases h : z.val < 2
  · rw [if_pos h]
    pointwise [val_main_v10, val_main_v0, val_main_cst]
    exact dif_pos h
  · rw [if_neg h, ← up9 x0 x1 b ⟨z.val - 2, by omega⟩ f]
    pointwise [val_main_v10]
    exact dif_neg h

theorem hid33 (b : Fin 2) (p : Fin 4112) (f : Fin 11264) :
    val_main_v33 (F := Ideal) x0 x1 x2 x3 (ix3 b p f) = hid (seq (aX x0) b) (aW x1) (aCw x2) (aCb x3) f p.val := by
  have e0 : past 2 (up (seq (aX x0) b) (aW x1) f) p.val = val_main_v10 (F := Ideal) x0 x1 (ix3 b ⟨p.val, by omega⟩ f) := by
    rw [up10]
    rfl
  have e1 : past 1 (up (seq (aX x0) b) (aW x1) f) p.val = val_main_v10 (F := Ideal) x0 x1 (ix3 b ⟨1 + p.val, by omega⟩ f) := by
    rw [up10]
    unfold past
    split
    · rw [if_pos (by simp only; omega)]
    · rw [if_neg (by simp only; omega)]
      congr 1
      simp only
      omega
  have e2 : up (seq (aX x0) b) (aW x1) f p.val = val_main_v10 (F := Ideal) x0 x1 (ix3 b ⟨2 + p.val, by omega⟩ f) := by
    rw [up10, if_neg (by simp only; omega)]
    congr 1
    simp only
    omega
  unfold hid taps
  rw [e0, e1, e2]
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v6, val_main_v5, val_main_v4, val_main_v3]

theorem act37 (b : Fin 2) (p : Fin 4112) (f : Fin 5632) :
    val_main_v37 (F := Ideal) x0 x1 x2 x3 (ix3 b p f) = gate (hid (seq (aX x0) b) (aW x1) (aCw x2) (aCb x3) ⟨5632 + f.val, by omega⟩ p.val) * hid (seq (aX x0) b) (aW x1) (aCw x2) (aCb x3) ⟨f.val, by omega⟩ p.val := by
  unfold gate
  rw [← hid33, ← hid33]
  pointwise [val_main_v37, val_main_v36, val_main_v35, val_main_v34, val_main_call0_v5, val_main_call0_v4, val_main_call0_v3, val_main_call0_v2, val_main_call0_v1, val_main_call0_v0, val_main_call0_cst, val_main_call0_cst_0]

theorem mix38 (b : Fin 2) (p : Fin 4112) (d : Fin 2048) :
    val_main_v38 (F := Ideal) x0 x1 x2 x3 x4 (ix3 b p d) = mix (seq (aX x0) b) (aW x1) (aCw x2) (aCb x3) (aWd x4) p.val d := by
  unfold mix
  simp only [← act37]
  pointwise [val_main_v38, val_main_v8, val_main_v7]

theorem pre42 (b : Fin 2) (p : Fin 4112) (d : Fin 2048) :
    val_main_v42 (F := Ideal) x0 x1 x2 x3 x4 (ix3 b p d) = alpha * seq (aX x0) b p.val d + mix (seq (aX x0) b) (aW x1) (aCw x2) (aCb x3) (aWd x4) p.val d := by
  unfold alpha
  rw [← mix38, seq_eq]
  pointwise [val_main_v42, val_main_v41, val_main_v40, val_main_cst_0]

theorem out70 (b : Fin 2) (p : Fin 4112) (d : Fin 2048) :
    val_main_v70 (F := Ideal) x0 x1 x2 x3 x4 x5 x6 (ix3 b p d) = layer (seq (aX x0) b) (aW x1) (aCw x2) (aCb x3) (aWd x4) (fun j => x5 (ix2 3 j)) (fun j => x6 (ix2 3 j)) p.val d := by
  unfold layer FfnSpec.norm
  simp only [← pre42]
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_1, val_main_cst_2, val_main_cst_3, val_main_cst_4, val_main_cst_5]

theorem out72 (r : Fin 8448) (d : Fin 2048) (h : r.val % 4224 < 4112) :
    val_main_v72 (F := Ideal) x0 x1 x2 x3 x4 x5 x6 (ix2 r d) = layer (seq (aX x0) ⟨r.val / 4224 % 2, by omega⟩) (aW x1) (aCw x2) (aCb x3) (aWd x4) (fun j => x5 (ix2 3 j)) (fun j => x6 (ix2 3 j)) (r.val % 4224) d := by
  rw [← out70 x0 x1 x2 x3 x4 x5 x6 _ ⟨r.val % 4224, h⟩ d]
  pointwise [val_main_v72, val_main_v71]
  have hr := r.isLt
  have e : (⟨r.val / 4224 % 2, by omega⟩ : Fin 2) = ⟨r.val / 4224, by omega⟩ := Fin.ext (by simp only; omega)
  rw [dif_pos ⟨by omega, h⟩, e]

end Cert.FfnRef
-- ==== Proof.FfnClaims.lean ====
module

public import proofs.«01_k».proof.Defs
public import proofs.«01_k».proof.Proof.FfnKernel
public import proofs.«01_k».proof.Proof.FfnRef
public import proofs.«01_k».proof.Proof.Gen.FfnKernel.Frame
public import proofs.«01_k».proof.Proof.Gen.On_real_rows
public import proofs.«01_k».proof.Proof.Gen.FfnKernelIdeal.Value
public import proofs.«01_k».proof.Proof.Gen.FfnReferenceIdeal.Run
public import proofs.«01_k».proof.Proof.Gen.FfnReferenceIdeal.Read
public import Idealize.ShloMosaic.Adequacy

/- The five claims about the pair `FfnKernel`, `FfnReference`. -/

@[expose] public section

noncomputable section

namespace Cert.FfnClaims

open Idealize.ShloMosaic Idealize.ShloMosaic.TcCoe Idealize.SL.Sem

/-- The kernel runs, keeps its arguments and ends quiet, over the reals and over the bits. -/
theorem frame_bits : Cert.quiescent_FfnKernel := fun m ρ _ => Cert.FfnKernel.Gen.frame m ρ
theorem frame_ideal : Cert.quiescent_FfnKernelIdeal := fun m ρ _ => Cert.FfnKernelIdeal.Gen.frame m ρ
/-- The reference keeps its arguments and declares no semaphore. -/
theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem preserves : Cert.preserves_FfnKernel_FfnKernelIdeal := trivial

/-- The mask holds exactly at the rows that carry a position of a sequence. -/
theorem real_rows (x0 : FVec Ideal Cert.On_real_rows.S2x4112x2048 .f32) (x1 : FVec Ideal Cert.On_real_rows.S4x2048x11264 .f32)
    (x2 : FVec Ideal Cert.On_real_rows.S4x3x11264 .f32) (x3 : FVec Ideal Cert.On_real_rows.S4x11264 .f32)
    (x4 : FVec Ideal Cert.On_real_rows.S4x5632x2048 .f32) (x5 x6 : FVec Ideal Cert.On_real_rows.S4x2048 .f32)
    (i : Cert.On_real_rows.S8448x2048.Idx) (h : Cert.On_real_rows.fn (F := Ideal) x0 x1 x2 x3 x4 x5 x6 i = 1#1) : (i 0).val % 4224 < 4112 := by
  have key : ∀ r : Fin 8448, IntOp.cmpi .slt (IntOp.remsi .host (BitVec.ofNat 32 r.val) 4224#32) 4112#32 = 1#1 → r.val % 4224 < 4112 := by decide +kernel
  exact key (i 0) h

/-- Over the reals the kernel's array is the reference's on those rows. -/
theorem algebraic : Cert.algebraic_FfnKernelIdeal_FfnReferenceIdeal_on_real_rows := by
  intro m ρ m' ρ' _ hag
  refine ⟨fun c i => Cert.FfnMatch.result m c (i 0).val (i 1), ?_, ?_⟩
  · exact (θ_run Cert.FfnKernelIdeal.defs _ _).mono (fun r h c => ⟨fun i _ => congrFun ((h c).1.trans (Cert.FfnMatch.final m c)) i, (h c).2⟩)
      (Cert.FfnKernelIdeal.Value.run_blocks (F := Ideal) m ρ)
  · refine (θ_run Cert.FfnReferenceIdeal.defs _ _).mono (fun r h c => ⟨fun i hi => (congrFun ((h c).1.trans ((Cert.FfnReferenceIdeal.Read.val_main_v72_eq m' c).trans ?_)) i).trans
        ((congrArg _ (show i = ix2 (i 0) (i 1) from by funext a; fin_cases a <;> rfl)).trans
          (Cert.FfnRef.out72 (m ((c : Thread Cert.FfnKernelIdeal.nD Cert.FfnKernelIdeal.τ).loc Cert.FfnKernelIdeal.main_arg0)) (m ((c : Thread Cert.FfnKernelIdeal.nD Cert.FfnKernelIdeal.τ).loc Cert.FfnKernelIdeal.main_arg1)) (m ((c : Thread Cert.FfnKernelIdeal.nD Cert.FfnKernelIdeal.τ).loc Cert.FfnKernelIdeal.main_arg2)) (m ((c : Thread Cert.FfnKernelIdeal.nD Cert.FfnKernelIdeal.τ).loc Cert.FfnKernelIdeal.main_arg3)) (m ((c : Thread Cert.FfnKernelIdeal.nD Cert.FfnKernelIdeal.τ).loc Cert.FfnKernelIdeal.main_arg4)) (m ((c : Thread Cert.FfnKernelIdeal.nD Cert.FfnKernelIdeal.τ).loc Cert.FfnKernelIdeal.main_arg5)) (m ((c : Thread Cert.FfnKernelIdeal.nD Cert.FfnKernelIdeal.τ).loc Cert.FfnKernelIdeal.main_arg6)) (i 0) (i 1) (real_rows _ _ _ _ _ _ _ i hi))), (h c).2⟩)
      (Cert.FfnReferenceIdeal.Value.run (F := Ideal) m' ρ')
    rw [(hag c).1, (hag c).2.1, (hag c).2.2.1, (hag c).2.2.2.1, (hag c).2.2.2.2.1, (hag c).2.2.2.2.2.1, (hag c).2.2.2.2.2.2]

end Cert.FfnClaims
-- ==== Proof.FfnsHost.lean ====
module

public import proofs.«01_k».proof.Proof.Gen.FfnsKernelIdeal.Frame
public import Idealize.ShloMosaic.Lib.Pipeline.ValueKit

/- The arrays the host lines hand the sampling feed-forward kernel, read at an index. -/

@[expose] public section

set_option maxRecDepth 16384

noncomputable section

namespace Cert.FfnsHost

open Idealize.ShloMosaic Idealize.ShloMosaic.TcCoe Idealize.SL.Sem Cert.FfnsKernelIdeal Cert.FfnsKernelIdeal.Gen

variable (m : (ℓ : Loc nD τ sig) → Buf (Elt Ideal) ℓ)

theorem x3 (c : Dev nD) (r : Fin 4) (k : Fin 2048) : V m c main_v3 (ix2 r k)
    = (m ((c : Thread nD τ).loc main_arg1) (ix3 ⟨r.val / 2, by omega⟩ ⟨4110 + r.val % 2, by omega⟩ k) : EReal) := by
  entry_read
  pointwise

theorem x4 (c : Dev nD) (r : Fin 4) (k : Fin 2048) : V m c main_v4 (ix2 r k) = (0 : EReal) := by
  entry_read
  pointwise

theorem x (c : Dev nD) (r : Fin 520) (k : Fin 2048) : V m c main_v6 (ix2 r k)
    = @dite EReal (r.val < 512) (Nat.decLt _ _) (fun h => m ((c : Thread nD τ).loc main_arg0) (ix3 ⟨r.val % 128, by omega⟩ ⟨r.val / 128, by omega⟩ k))
      (fun _ => @dite EReal (r.val < 516) (Nat.decLt _ _) (fun h => m ((c : Thread nD τ).loc main_arg1) (ix3 ⟨(r.val - 512) / 2, by omega⟩ ⟨4110 + (r.val - 512) % 2, by omega⟩ k)) (fun _ => 0)) := by
  have hr := r.isLt
  entry_read
  by_cases h : r.val < 512
  · rw [dif_pos h]
    pointwise
    exact dif_pos h
  · rw [dif_neg h]
    by_cases h' : r.val < 516
    · rw [dif_pos h']
      pointwise
      refine (dif_neg h).trans ((dif_pos (by omega)).trans ?_)
      exact x3 m c ⟨r.val - 512, by omega⟩ k
    · rw [dif_neg h']
      pointwise
      refine (dif_neg h).trans ((dif_neg (by omega)).trans ?_)
      exact x4 m c ⟨r.val - 512 - 4, by omega⟩ k

theorem prev (c : Dev nD) (a : Fin 4) (b : Fin 128) (f : Fin 22528) : V m c main_v7 (ix3 a b f)
    = (m ((c : Thread nD τ).loc main_arg2) (ix4 a b ⟨f.val / 11264, by omega⟩ ⟨f.val % 11264, by omega⟩) : EReal) := by
  simp only [V, hostOps0, List.flatten_cons, List.flatten_nil, List.append_nil, List.cons_append, List.nil_append]
  entry_read
  pointwise

theorem wup (c : Dev nD) (a : Fin 4) (k : Fin 2048) (f : Fin 11264) : V m c main_v8 (ix3 a k f) = (m ((c : Thread nD τ).loc main_arg3) (ix3 a k f) : EReal) := by
  simp only [V, hostOps0, List.flatten_cons, List.flatten_nil, List.append_nil, List.cons_append, List.nil_append]
  entry_read
  pointwise

theorem cb (c : Dev nD) (a : Fin 4) (f : Fin 11264) : V m c main_v9 (ix3 a 0 f) = (m ((c : Thread nD τ).loc main_arg5) (ix2 a f) : EReal) := by
  simp only [V, hostOps0, List.flatten_cons, List.flatten_nil, List.append_nil, List.cons_append, List.nil_append]
  entry_read
  pointwise

theorem wdn (c : Dev nD) (a : Fin 4) (k : Fin 5632) (f : Fin 2048) : V m c main_v10 (ix3 a k f) = (m ((c : Thread nD τ).loc main_arg6) (ix3 a k f) : EReal) := by
  simp only [V, hostOps0, List.flatten_cons, List.flatten_nil, List.append_nil, List.cons_append, List.nil_append]
  entry_read
  pointwise

theorem lng (c : Dev nD) (d : Fin 2048) : V m c main_v13 (ix2 0 d) = (m ((c : Thread nD τ).loc main_arg7) (ix2 3 d) : EReal) := by
  simp only [V, hostOps0, List.flatten_cons, List.flatten_nil, List.append_nil, List.cons_append, List.nil_append]
  entry_read
  pointwise

theorem lnb (c : Dev nD) (d : Fin 2048) : V m c main_v16 (ix2 0 d) = (m ((c : Thread nD τ).loc main_arg8) (ix2 3 d) : EReal) := by
  simp only [V, hostOps0, List.flatten_cons, List.flatten_nil, List.append_nil, List.cons_append, List.nil_append]
  entry_read
  pointwise

end Cert.FfnsHost
-- ==== Proof.FfnsPay.lean ====
module

public import proofs.«01_k».proof.Proof.Gen.FfnsKernelIdeal.Skeleton
public import proofs.«01_k».proof.Proof.FfnSpec
public import Idealize.ShloMosaic.Lib.Pipeline.ValueKit

/- What the sampling feed-forward kernel's named values hold at an index. -/

@[expose] public section

set_option maxRecDepth 16384

noncomputable section

namespace Cert.FfnsPay

open Idealize.ShloMosaic Idealize.SL.Sem Cert.FfnsKernelIdeal Cert.FfnsKernelIdeal.Gen Cert.FfnSpec

/-- The projection of scratch row `r` on lane `f`. -/
def proj (xb : Vec Ideal S520x2048 .bf16) (w : Vec Ideal S1x2048x512 .bf16) (f : Fin 512) (r : Fin 520) : EReal :=
  ∑ k : Fin 2048, xb (ix2 r k) * w (ix3 0 k f)

/-- The two carried rows of every sequence, then the four new ones, time before sequence. -/
def ext (xb : Vec Ideal S520x2048 .bf16) (w : Vec Ideal S1x2048x512 .bf16) (p0 p1 : Vec Ideal S1x128x512 .f32) (f : Fin 512) (r : Fin 768) : EReal :=
  if h : r.val < 128 then p0 (ix3 0 ⟨r.val, h⟩ f)
  else if h' : r.val < 256 then p1 (ix3 0 ⟨r.val - 128, by omega⟩ f)
  else proj xb w f ⟨r.val - 256, by omega⟩

/-- One lane's convolution at row `y`. -/
def conv (xb : Vec Ideal S520x2048 .bf16) (w : Vec Ideal S1x2048x512 .bf16) (cw : Vec Ideal S1x3x512 .f32) (p0 p1 : Vec Ideal S1x128x512 .f32) (cb : Vec Ideal S1x1x512 .f32) (y : Fin 512) (f : Fin 512) : EReal :=
  taps (cb (ix3 0 0 f)) (cw (ix3 0 0 f)) (cw (ix3 0 1 f)) (cw (ix3 0 2 f))
    (ext xb w p0 p1 f ⟨y.val, by omega⟩) (ext xb w p0 p1 f ⟨128 + y.val, by omega⟩) (ext xb w p0 p1 f ⟨256 + y.val, by omega⟩)

theorem taps_comm (b w0 w1 w2 u0 u1 u2 : EReal) : b + w0 * u0 + w1 * u1 + w2 * u2 = taps b w0 w1 w2 u0 u1 u2 := by
  unfold taps
  rw [mul_comm w2, mul_comm w1, mul_comm w0]

theorem pay4 (xb : Vec Ideal S520x2048 .bf16) (w : Vec Ideal S1x2048x512 .bf16) (r : Fin 520) (f : Fin 512) :
    k0_pay4 xb w (ix2 r f) = proj xb w f r := by
  unfold proj
  pointwise [k0_pay4]

theorem pay5 (xb : Vec Ideal S520x2048 .bf16) (w : Vec Ideal S1x2048x512 .bf16) (r : Fin 520) (f : Fin 512) :
    k0_pay5 xb w (ix2 r f) = proj xb w f r := by
  unfold proj
  pointwise [k0_pay5]

theorem pay7 (xb : Vec Ideal S520x2048 .bf16) (w : Vec Ideal S1x2048x512 .bf16) (p0 p1 : Vec Ideal S1x128x512 .f32) (r : Fin 768) (f : Fin 512) :
    k0_pay7 xb w p0 p1 (ix2 r f) = ext xb w p0 p1 f r := by
  have hr := r.isLt
  unfold ext
  by_cases h : r.val < 128
  · rw [dif_pos h]
    pointwise [k0_pay7]
    simp [h]
  · rw [dif_neg h]
    by_cases h' : r.val < 256
    · rw [dif_pos h']
      pointwise [k0_pay7]
      simp only [h, dif_neg, not_false_eq_true]
      exact dif_pos (by omega)
    · rw [dif_neg h', ← pay4]
      pointwise [k0_pay7]
      simp only [h, dif_neg, not_false_eq_true]
      refine (dif_neg (by omega)).trans (congrArg (k0_pay4 xb w) ?_)
      congr 1

theorem conv_at (xb : Vec Ideal S520x2048 .bf16) (w : Vec Ideal S1x2048x512 .bf16) (cw : Vec Ideal S1x3x512 .f32) (p0 p1 : Vec Ideal S1x128x512 .f32) (cb : Vec Ideal S1x1x512 .f32) (y : Fin 512) (f : Fin 512) :
    addf (k0_pay8 xb w cw p0 p1 cb) (mulf (k0_pay10 cw) (k0_pay9 xb w p0 p1)) (ix2 y f) = conv xb w cw p0 p1 cb y f := by
  unfold conv
  simp only [← pay7, ← taps_comm]
  pointwise [k0_pay8, k0_pay9, k0_pay10, k0_pay6]

theorem pay11 (xb : Vec Ideal S520x2048 .bf16) (wv wg : Vec Ideal S1x2048x512 .bf16) (cwv cwg : Vec Ideal S1x3x512 .f32) (p0v p1v p0g p1g : Vec Ideal S1x128x512 .f32) (cbv cbg : Vec Ideal S1x1x512 .f32) (y : Fin 512) (f : Fin 512) :
    k0_pay11 (k0_pay5 xb wg) (k0_pay8 xb wv cwv p0v p1v cbv) (k0_pay9 xb wv p0v p1v) (k0_pay10 cwv) cwg p0g p1g cbg (ix2 y f)
      = gate (conv xb wg cwg p0g p1g cbg y f) * conv xb wv cwv p0v p1v cbv y f := by
  have e : ∀ H G : FVec Ideal S512x512 .f32,
      truncf .bf16 (mulf (mulf H (divf (broadcast S512x512 (Scalar.ofBits .f32 0x3F800000#32)) (addf (broadcast S512x512 (Scalar.ofBits .f32 0x3F800000#32)) (exp (subf (broadcast S512x512 (Scalar.ofBits .f32 0x00000000#32)) H))))) G) bitsLt_bf16_f32 (ix2 y f)
        = gate (H (ix2 y f)) * G (ix2 y f) := by
    intro H G
    unfold gate
    pointwise
    simp only [zero_sub]
  rw [← conv_at, ← conv_at]
  exact e _ _

theorem pay12 (acc : Vec Ideal S512x2048 .f32) (a : FVec Ideal S512x512 .bf16) (wd : Vec Ideal S1x512x2048 .bf16) (y : Fin 512) (d : Fin 2048) :
    k0_pay12 acc a wd (ix2 y d) = acc (ix2 y d) + ∑ f : Fin 512, a (ix2 y f) * wd (ix3 0 f d) := by
  pointwise [k0_pay12]

theorem pay1 (x acc : Vec Ideal S512x2048 .f32) (g b : Vec Ideal S1x2048 .f32) (y : Fin 512) (d : Fin 2048) :
    k0_pay1 x acc g b (ix2 y d) = FfnSpec.norm (fun j => alpha * x (ix2 y j) + acc (ix2 y j)) (g (ix2 0 d)) (b (ix2 0 d)) d := by
  unfold FfnSpec.norm alpha
  pointwise [k0_pay1]

theorem pay2 (x : Vec Ideal S520x2048 .f32) (j : S520x2048.Idx) : k0_pay2 x j = x j := by
  pointwise [k0_pay2]

theorem pay3 (j : S512x2048.Idx) : k0_pay3 (F := Ideal) j = 0 := by
  pointwise [k0_pay3]

theorem pay13 (u : FVec Ideal S520x512 .f32) (z : Fin 128) (f : Fin 512) : k0_pay13 u (ix3 0 z f) = u (ix2 ⟨256 + z.val, by omega⟩ f) := by
  pointwise [k0_pay13]
theorem pay14 (u : FVec Ideal S520x512 .f32) (z : Fin 128) (f : Fin 512) : k0_pay14 u (ix3 0 z f) = u (ix2 ⟨256 + z.val, by omega⟩ f) := by
  pointwise [k0_pay14]
theorem pay15 (u : FVec Ideal S520x512 .f32) (z : Fin 128) (f : Fin 512) : k0_pay15 u (ix3 0 z f) = u (ix2 ⟨384 + z.val, by omega⟩ f) := by
  pointwise [k0_pay15]
theorem pay16 (u : FVec Ideal S520x512 .f32) (z : Fin 128) (f : Fin 512) : k0_pay16 u (ix3 0 z f) = u (ix2 ⟨384 + z.val, by omega⟩ f) := by
  pointwise [k0_pay16]
theorem pay17 (u : FVec Ideal S520x512 .f32) (z : Fin 8) (f : Fin 512) : k0_pay17 u (ix3 0 z f) = u (ix2 ⟨512 + z.val, by omega⟩ f) := by
  pointwise [k0_pay17]
theorem pay18 (u : FVec Ideal S520x512 .f32) (z : Fin 8) (f : Fin 512) : k0_pay18 u (ix3 0 z f) = u (ix2 ⟨512 + z.val, by omega⟩ f) := by
  pointwise [k0_pay18]

end Cert.FfnsPay
-- ==== Proof.FfnsKernel.lean ====
module

public import proofs.«01_k».proof.Proof.FfnsHost
public import proofs.«01_k».proof.Proof.FfnsPay
public import Idealize.ShloMosaic.Lib.VecWindow

/- The sampling feed-forward kernel's scratch, accumulator and outputs over its grid. -/

@[expose] public section

set_option maxRecDepth 16384

noncomputable section

namespace Cert.FfnsMatch

open Idealize.ShloMosaic Idealize.ShloMosaic.TcCoe Idealize.SL.Sem Cert.FfnsKernelIdeal Cert.FfnsKernelIdeal.Gen Cert.FfnSpec Cert.FfnsPay

variable (m : (ℓ : Loc nD τ sig) → Buf (Elt Ideal) ℓ)

theorem idx : ∀ t : Fin cfg0.N,
    win0_0.index t = ![0, 0] ∧ win0_1.index t = ![3, 0, t.val] ∧ win0_2.index t = ![3, 0, t.val + 11]
    ∧ win0_3.index t = ![3, 0, t.val + 22] ∧ win0_4.index t = ![3, 0, t.val + 33]
    ∧ win0_5.index t = ![3, 0, t.val] ∧ win0_6.index t = ![3, 0, t.val + 11]
    ∧ win0_7.index t = ![3, 0, t.val] ∧ win0_8.index t = ![3, 0, t.val + 11]
    ∧ win0_9.index t = ![3, 0, t.val] ∧ win0_10.index t = ![3, 0, t.val + 11]
    ∧ win0_11.index t = ![3, t.val, 0] ∧ win0_12.index t = ![0, 0] ∧ win0_13.index t = ![0, 0]
    ∧ win0_14.index t = ![0, 0] ∧ win0_15.index t = ![0, 0, t.val] ∧ win0_16.index t = ![0, 0, t.val] :=
  (by decide +kernel : ∀ t : Fin grid0.N, _)

theorem lt11 (t : Fin cfg0.N) : t.val < 11 := lt_of_lt_of_eq t.isLt (by decide +kernel : grid0.N = 11)

/-- The new rows, by sequence, step and lane. -/
abbrev argX (c : Dev nD) : Fin 128 → Fin 4 → Fin 2048 → EReal := fun b t k => m ((c : Thread nD τ).loc main_arg0) (ix3 b t k)
/-- Depth 3's carried rows and weights. -/
abbrev argS (c : Dev nD) : Fin 128 → Fin 2 → Fin 11264 → EReal := fun b z f => m ((c : Thread nD τ).loc main_arg2) (ix4 3 b z f)
/-- The prompts' rows. -/
abbrev argXp (c : Dev nD) : Fin 2 → Fin 4112 → Fin 2048 → EReal := fun b p k => m ((c : Thread nD τ).loc main_arg1) (ix3 b p k)
abbrev argW (c : Dev nD) : Fin 2048 → Fin 11264 → EReal := fun k f => m ((c : Thread nD τ).loc main_arg3) (ix3 3 k f)
abbrev argCw (c : Dev nD) : Fin 3 → Fin 11264 → EReal := fun j f => m ((c : Thread nD τ).loc main_arg4) (ix3 3 j f)
abbrev argCb (c : Dev nD) : Fin 11264 → EReal := fun f => m ((c : Thread nD τ).loc main_arg5) (ix2 3 f)
abbrev argWd (c : Dev nD) : Fin 5632 → Fin 2048 → EReal := fun f d => m ((c : Thread nD τ).loc main_arg6) (ix3 3 f d)
abbrev argG (c : Dev nD) : Fin 2048 → EReal := fun d => m ((c : Thread nD τ).loc main_arg7) (ix2 3 d)
abbrev argB (c : Dev nD) : Fin 2048 → EReal := fun d => m ((c : Thread nD τ).loc main_arg8) (ix2 3 d)

/-- The kernel's row `r`: the new rows, step before sequence, then the prompts' last two, then zeros. -/
def xrow (c : Dev nD) (r : Fin 520) (k : Fin 2048) : EReal :=
  @dite EReal (r.val < 512) (Nat.decLt _ _) (fun h => argX m c ⟨r.val % 128, by omega⟩ ⟨r.val / 128, by omega⟩ k)
    (fun _ => @dite EReal (r.val < 516) (Nat.decLt _ _) (fun h => m ((c : Thread nD τ).loc main_arg1) (ix3 ⟨(r.val - 512) / 2, by omega⟩ ⟨4110 + (r.val - 512) % 2, by omega⟩ k)) (fun _ => 0))

theorem blk0 (c : Dev nD) (t : Fin cfg0.N) (r : Fin 520) (k : Fin 2048) : iblk m c 0 t (ix2 r k) = xrow m c r k := by
  refine Eq.trans ?_ (FfnsHost.x m c r k)
  blk_simp [iblk]
  exact congrArg (V m c main_v6) (by blk_ext [idx t])

theorem blk1 (c : Dev nD) (t : Fin cfg0.N) (b : Fin 128) (f : Fin 512) (h : (t.val * 512 + f.val) < 11264) : iblk m c 1 t (ix3 0 b f) = argS m c b 0 ⟨(t.val * 512 + f.val), h⟩ := by
  have := lt11 t
  blk_simp [iblk]
  refine (congrArg (V m c main_v7) (by blk_ext [idx t])).trans ((FfnsHost.prev m c 3 b ⟨0 + ((t.val * 512 + f.val)), by omega⟩).trans ?_)
  have e1 : (⟨(0 + ((t.val * 512 + f.val))) / 11264, by omega⟩ : Fin 2) = 0 := Fin.ext (by show (0 + ((t.val * 512 + f.val))) / 11264 = 0; omega)
  have e2 : (⟨(0 + ((t.val * 512 + f.val))) % 11264, Nat.mod_lt _ (by decide)⟩ : Fin 11264) = ⟨(t.val * 512 + f.val), h⟩ := Fin.ext (by simp only; omega)
  simp only [e1, e2]

theorem blk2 (c : Dev nD) (t : Fin cfg0.N) (b : Fin 128) (f : Fin 512) (h : 5632 + (t.val * 512 + f.val) < 11264) : iblk m c 2 t (ix3 0 b f) = argS m c b 0 ⟨5632 + (t.val * 512 + f.val), h⟩ := by
  have := lt11 t
  blk_simp [iblk]
  refine (congrArg (V m c main_v7) (by blk_ext [idx t])).trans ((FfnsHost.prev m c 3 b ⟨0 + (5632 + (t.val * 512 + f.val)), by omega⟩).trans ?_)
  have e1 : (⟨(0 + (5632 + (t.val * 512 + f.val))) / 11264, by omega⟩ : Fin 2) = 0 := Fin.ext (by show (0 + (5632 + (t.val * 512 + f.val))) / 11264 = 0; omega)
  have e2 : (⟨(0 + (5632 + (t.val * 512 + f.val))) % 11264, Nat.mod_lt _ (by decide)⟩ : Fin 11264) = ⟨5632 + (t.val * 512 + f.val), h⟩ := Fin.ext (by simp only; omega)
  simp only [e1, e2]

theorem blk3 (c : Dev nD) (t : Fin cfg0.N) (b : Fin 128) (f : Fin 512) (h : (t.val * 512 + f.val) < 11264) : iblk m c 3 t (ix3 0 b f) = argS m c b 1 ⟨(t.val * 512 + f.val), h⟩ := by
  have := lt11 t
  blk_simp [iblk]
  refine (congrArg (V m c main_v7) (by blk_ext [idx t])).trans ((FfnsHost.prev m c 3 b ⟨11264 + ((t.val * 512 + f.val)), by omega⟩).trans ?_)
  have e1 : (⟨(11264 + ((t.val * 512 + f.val))) / 11264, by omega⟩ : Fin 2) = 1 := Fin.ext (by show (11264 + ((t.val * 512 + f.val))) / 11264 = 1; omega)
  have e2 : (⟨(11264 + ((t.val * 512 + f.val))) % 11264, Nat.mod_lt _ (by decide)⟩ : Fin 11264) = ⟨(t.val * 512 + f.val), h⟩ := Fin.ext (by simp only; omega)
  simp only [e1, e2]

theorem blk4 (c : Dev nD) (t : Fin cfg0.N) (b : Fin 128) (f : Fin 512) (h : 5632 + (t.val * 512 + f.val) < 11264) : iblk m c 4 t (ix3 0 b f) = argS m c b 1 ⟨5632 + (t.val * 512 + f.val), h⟩ := by
  have := lt11 t
  blk_simp [iblk]
  refine (congrArg (V m c main_v7) (by blk_ext [idx t])).trans ((FfnsHost.prev m c 3 b ⟨11264 + (5632 + (t.val * 512 + f.val)), by omega⟩).trans ?_)
  have e1 : (⟨(11264 + (5632 + (t.val * 512 + f.val))) / 11264, by omega⟩ : Fin 2) = 1 := Fin.ext (by show (11264 + (5632 + (t.val * 512 + f.val))) / 11264 = 1; omega)
  have e2 : (⟨(11264 + (5632 + (t.val * 512 + f.val))) % 11264, Nat.mod_lt _ (by decide)⟩ : Fin 11264) = ⟨5632 + (t.val * 512 + f.val), h⟩ := Fin.ext (by simp only; omega)
  simp only [e1, e2]

theorem blk5 (c : Dev nD) (t : Fin cfg0.N) (k : Fin 2048) (f : Fin 512) (h : (t.val * 512 + f.val) < 11264) : iblk m c 5 t (ix3 0 k f) = argW m c k ⟨(t.val * 512 + f.val), h⟩ := by
  blk_simp [iblk]
  exact (congrArg (V m c main_v8) (by blk_ext [idx t])).trans (FfnsHost.wup m c 3 k ⟨(t.val * 512 + f.val), h⟩)

theorem blk6 (c : Dev nD) (t : Fin cfg0.N) (k : Fin 2048) (f : Fin 512) (h : 5632 + (t.val * 512 + f.val) < 11264) : iblk m c 6 t (ix3 0 k f) = argW m c k ⟨5632 + (t.val * 512 + f.val), h⟩ := by
  blk_simp [iblk]
  exact (congrArg (V m c main_v8) (by blk_ext [idx t])).trans (FfnsHost.wup m c 3 k ⟨5632 + (t.val * 512 + f.val), h⟩)

theorem blk7 (c : Dev nD) (t : Fin cfg0.N) (k : Fin 3) (f : Fin 512) (h : (t.val * 512 + f.val) < 11264) : iblk m c 7 t (ix3 0 k f) = argCw m c k ⟨(t.val * 512 + f.val), h⟩ := by
  blk_simp [iblk]
  exact (congrArg (V m c main_arg4) (by blk_ext [idx t])).trans (congrFun (V_main_arg4 m c) _)

theorem blk8 (c : Dev nD) (t : Fin cfg0.N) (k : Fin 3) (f : Fin 512) (h : 5632 + (t.val * 512 + f.val) < 11264) : iblk m c 8 t (ix3 0 k f) = argCw m c k ⟨5632 + (t.val * 512 + f.val), h⟩ := by
  blk_simp [iblk]
  exact (congrArg (V m c main_arg4) (by blk_ext [idx t])).trans (congrFun (V_main_arg4 m c) _)

theorem blk9 (c : Dev nD) (t : Fin cfg0.N) (f : Fin 512) (h : (t.val * 512 + f.val) < 11264) : iblk m c 9 t (ix3 0 0 f) = argCb m c ⟨(t.val * 512 + f.val), h⟩ := by
  blk_simp [iblk]
  exact (congrArg (V m c main_v9) (by blk_ext [idx t])).trans (FfnsHost.cb m c 3 ⟨(t.val * 512 + f.val), h⟩)

theorem blk10 (c : Dev nD) (t : Fin cfg0.N) (f : Fin 512) (h : 5632 + (t.val * 512 + f.val) < 11264) : iblk m c 10 t (ix3 0 0 f) = argCb m c ⟨5632 + (t.val * 512 + f.val), h⟩ := by
  blk_simp [iblk]
  exact (congrArg (V m c main_v9) (by blk_ext [idx t])).trans (FfnsHost.cb m c 3 ⟨5632 + (t.val * 512 + f.val), h⟩)

theorem blk11 (c : Dev nD) (t : Fin cfg0.N) (f : Fin 512) (d : Fin 2048) (h : t.val * 512 + f.val < 5632) : iblk m c 11 t (ix3 0 f d) = argWd m c ⟨t.val * 512 + f.val, h⟩ d := by
  blk_simp [iblk]
  exact (congrArg (V m c main_v10) (by blk_ext [idx t])).trans (FfnsHost.wdn m c 3 ⟨t.val * 512 + f.val, h⟩ d)

theorem blk12 (c : Dev nD) (t : Fin cfg0.N) (d : Fin 2048) : iblk m c 12 t (ix2 0 d) = argG m c d := by
  blk_simp [iblk]
  exact (congrArg (V m c main_v13) (by blk_ext [idx t])).trans (FfnsHost.lng m c d)

theorem blk13 (c : Dev nD) (t : Fin cfg0.N) (d : Fin 2048) : iblk m c 13 t (ix2 0 d) = argB m c d := by
  blk_simp [iblk]
  exact (congrArg (V m c main_v16) (by blk_ext [idx t])).trans (FfnsHost.lnb m c d)

/-- What the row scratch holds over the whole grid. -/
def xbuf (c : Dev nD) : Vec Ideal S520x2048 .bf16 := fun j => xrow m c (j 0) (j 1)

theorem xA (c : Dev nD) (t : Fin cfg0.N) : k0_pay2 (iblk m c 0 t) = xbuf m c := by
  funext j
  obtain ⟨r, k, rfl⟩ : ∃ (r : Fin 520) (k : Fin 2048), j = ix2 r k := ⟨j 0, j 1, by blk_ext⟩
  exact (pay2 _ _).trans (blk0 m c t r k)

theorem scr_A (c : Dev nD) (t : Fin cfg0.N) (h0 : t.val % 11 = 0) :
    (outsAt0 m c t.val t.isLt).2.2.2.1 = xbuf m c := by
  rw [outsAt0_A m c t h0 (by omega)]
  frame_out
  exact xA m c t

theorem scr_step (c : Dev nD) (t : Fin cfg0.N) (h0 : t.val % 11 ≠ 0) :
    (outsAt0 m c t.val t.isLt).2.2.2.1 = (outsAt0 m c (t.val - 1) (by omega)).2.2.2.1 := by
  by_cases h1 : t.val % 11 = 10
  · rw [outsAt0_C m c t h0 h1]
    unfold sout0_C_0
    rfl
  · rw [outsAt0_B m c t h0 h1]
    unfold sout0_B_0
    rfl

theorem scr (c : Dev nD) : ∀ (n : ℕ) (h : n < cfg0.N), (outsAt0 m c n h).2.2.2.1 = xbuf m c := by
  intro n
  induction n with
  | zero => exact fun h => scr_A m c ⟨0, h⟩ rfl
  | succ n ih =>
    intro h
    by_cases h0 : (n + 1) % 11 = 0
    · exact scr_A m c ⟨n + 1, h⟩ h0
    · exact (scr_step m c ⟨n + 1, h⟩ h0).trans (ih (by omega))

/-- One point's part of the accumulated down projection. -/
def part (c : Dev nD) (t : Fin cfg0.N) (y : Fin 512) (d : Fin 2048) : EReal :=
  ∑ f : Fin 512, gate (conv (xbuf m c) (iblk m c 6 t) (iblk m c 8 t) (iblk m c 2 t) (iblk m c 4 t) (iblk m c 10 t) y f)
    * conv (xbuf m c) (iblk m c 5 t) (iblk m c 7 t) (iblk m c 1 t) (iblk m c 3 t) (iblk m c 9 t) y f * iblk m c 11 t (ix3 0 f d)

theorem acc_gen (c : Dev nD) (t : Fin cfg0.N) (X : Vec Ideal S520x2048 .bf16) (A : Vec Ideal S512x2048 .f32) (hX : X = xbuf m c) (y : Fin 512) (d : Fin 2048) :
    k0_pay12 A (k0_pay11 (k0_pay5 X (iblk m c 6 t)) (k0_pay8 X (iblk m c 5 t) (iblk m c 7 t) (iblk m c 1 t) (iblk m c 3 t) (iblk m c 9 t))
      (k0_pay9 X (iblk m c 5 t) (iblk m c 1 t) (iblk m c 3 t)) (k0_pay10 (iblk m c 7 t)) (iblk m c 8 t) (iblk m c 2 t) (iblk m c 4 t) (iblk m c 10 t)) (iblk m c 11 t) (ix2 y d)
      = A (ix2 y d) + part m c t y d := by
  subst hX
  rw [pay12]
  unfold part
  simp only [pay11]

theorem acc_A (c : Dev nD) (t : Fin cfg0.N) (h0 : t.val % 11 = 0) (y : Fin 512) (d : Fin 2048) :
    (outsAt0 m c t.val t.isLt).2.2.2.2 (ix2 y d) = part m c t y d := by
  rw [outsAt0_A m c t h0 (by omega)]
  frame_out
  refine (acc_gen m c t _ _ ?_ y d).trans (by rw [pay3, zero_add])
  exact xA m c t

theorem acc_step (c : Dev nD) (t : Fin cfg0.N) (h0 : t.val % 11 ≠ 0) (y : Fin 512) (d : Fin 2048) :
    (outsAt0 m c t.val t.isLt).2.2.2.2 (ix2 y d) = (outsAt0 m c (t.val - 1) (by omega)).2.2.2.2 (ix2 y d) + part m c t y d := by
  have hs : (outsAt0 m c (t.val - 1) (by omega)).2.2.2.1 = xbuf m c := scr m c _ _
  by_cases h1 : t.val % 11 = 10
  · rw [outsAt0_C m c t h0 h1]
    frame_out
    refine (acc_gen m c t _ _ ((Memref.IsWhole.read_unread _ _).trans hs) y d).trans ?_
    exact congrArg (· + part m c t y d) (congrFun (Memref.IsWhole.read_unread _ _) _)
  · rw [outsAt0_B m c t h0 h1]
    frame_out
    refine (acc_gen m c t _ _ ((Memref.IsWhole.read_unread _ _).trans hs) y d).trans ?_
    exact congrArg (· + part m c t y d) (congrFun (Memref.IsWhole.read_unread _ _) _)

theorem out_C (c : Dev nD) (t : Fin cfg0.N) (h1 : t.val % 11 = 10) (y : Fin 512) (d : Fin 2048) :
    (outsAt0 m c t.val t.isLt).1 (ix2 y d) = FfnSpec.norm (fun j => alpha * xrow m c ⟨y.val, by omega⟩ j + (outsAt0 m c t.val t.isLt).2.2.2.2 (ix2 y j)) (iblk m c 12 t (ix2 0 d)) (iblk m c 13 t (ix2 0 d)) d := by
  have h0 : t.val % 11 ≠ 0 := by omega
  rw [outsAt0_C m c t h0 h1]
  frame_out
  refine (pay1 _ _ _ _ y d).trans ?_
  refine congrArg (fun P : Fin 2048 → EReal => FfnSpec.norm P _ _ d) (funext fun j => ?_)
  refine congrArg (fun a : EReal => alpha * a + _) ?_
  refine Eq.trans ?_ (blk0 m c t ⟨y.val, by omega⟩ j)
  refine congrArg (iblk m c 0 t) (funext fun a => Fin.ext ?_)
  fin_cases a
  · show 0 + 1 * y.val = y.val
    omega
  · show 0 + 1 * j.val = j.val
    omega

/-- The last two steps' up projections of a lane pair, the value lanes and the gate's in turn. -/
def csv (c : Dev nD) (t : Fin cfg0.N) (q : Fin 4) (b : Fin 128) (f : Fin 512) : EReal :=
  if q.val % 2 = 0 then proj (xbuf m c) (iblk m c 5 t) f ⟨256 + q.val / 2 * 128 + b.val, by omega⟩
  else proj (xbuf m c) (iblk m c 6 t) f ⟨256 + q.val / 2 * 128 + b.val, by omega⟩

theorem cs_gen (c : Dev nD) (t : Fin cfg0.N) (X : Vec Ideal S520x2048 .bf16) (hX : X = xbuf m c) (q : Fin 4) (b : Fin 128) (f : Fin 512) :
    View.canon (Val := Elt Ideal) (s := S4x128x512) (e := .f32)
      [⟨Rect.unit ![3, 0, 0] ![1, 128, 512] inb_S4x128x512_S1x128x512_3_0_0, k0_pay16 (k0_pay5 X (iblk m c 6 t))⟩,
       ⟨Rect.unit ![2, 0, 0] ![1, 128, 512] inb_S4x128x512_S1x128x512_2_0_0, k0_pay15 (k0_pay4 X (iblk m c 5 t))⟩,
       ⟨Rect.unit ![1, 0, 0] ![1, 128, 512] inb_S4x128x512_S1x128x512_1_0_0, k0_pay14 (k0_pay5 X (iblk m c 6 t))⟩,
       ⟨Rect.unit ![0, 0, 0] ![1, 128, 512] inb_S4x128x512_S1x128x512_0_0_0, k0_pay13 (k0_pay4 X (iblk m c 5 t))⟩] (ix3 q b f) = csv m c t q b f := by
  subst hX
  unfold csv
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))
  · have hb := b.isLt
    have hf := f.isLt
    have hq := q.isLt
    by_cases h3 : q.val = 3
    · refine ⟨_, List.mem_cons_self, (Rect.mem_set_unit (inb := inb_S4x128x512_S1x128x512_3_0_0)).mpr fun a => ?_⟩
      fin_cases a
      · exact ⟨by show 3 ≤ q.val; omega, by show q.val < 3 + 1; omega⟩
      · exact ⟨Nat.zero_le _, by show b.val < 0 + 128; omega⟩
      · exact ⟨Nat.zero_le _, by show f.val < 0 + 512; omega⟩
    by_cases h2 : q.val = 2
    · refine ⟨_, (List.mem_cons_of_mem _ List.mem_cons_self), (Rect.mem_set_unit (inb := inb_S4x128x512_S1x128x512_2_0_0)).mpr fun a => ?_⟩
      fin_cases a
      · exact ⟨by show 2 ≤ q.val; omega, by show q.val < 2 + 1; omega⟩
      · exact ⟨Nat.zero_le _, by show b.val < 0 + 128; omega⟩
      · exact ⟨Nat.zero_le _, by show f.val < 0 + 512; omega⟩
    by_cases h1 : q.val = 1
    · refine ⟨_, (List.mem_cons_of_mem _ (List.mem_cons_of_mem _ List.mem_cons_self)), (Rect.mem_set_unit (inb := inb_S4x128x512_S1x128x512_1_0_0)).mpr fun a => ?_⟩
      fin_cases a
      · exact ⟨by show 1 ≤ q.val; omega, by show q.val < 1 + 1; omega⟩
      · exact ⟨Nat.zero_le _, by show b.val < 0 + 128; omega⟩
      · exact ⟨Nat.zero_le _, by show f.val < 0 + 512; omega⟩
    · refine ⟨_, (List.mem_cons_of_mem _ (List.mem_cons_of_mem _ (List.mem_cons_of_mem _ List.mem_cons_self))), (Rect.mem_set_unit (inb := inb_S4x128x512_S1x128x512_0_0_0)).mpr fun a => ?_⟩
      fin_cases a
      · exact ⟨by show 0 ≤ q.val; omega, by show q.val < 0 + 1; omega⟩
      · exact ⟨Nat.zero_le _, by show b.val < 0 + 128; omega⟩
      · exact ⟨Nat.zero_le _, by show f.val < 0 + 512; omega⟩
  · intro x hx
    obtain ⟨z, b', l, rfl⟩ : ∃ (z : Fin 1) (b' : Fin 128) (l : Fin 512), x = ix3 z b' l := ⟨x 0, x 1, x 2, by blk_ext⟩
    obtain rfl : z = 0 := Fin.ext (by omega)
    have e0 : q.val = 3 + 0 := hx 0
    have e1 : b = b' := Fin.ext (by have : b.val = 0 + b'.val := hx 1; omega)
    have e2 : f = l := Fin.ext (by have : f.val = 0 + l.val := hx 2; omega)
    subst e1 e2
    rw [if_neg (by omega)]
    refine (pay16 _ b f).trans ((pay5 _ _ _ _).trans ?_)
    congr 1
    exact Fin.ext (by simp only; omega)
  · intro x hx
    obtain ⟨z, b', l, rfl⟩ : ∃ (z : Fin 1) (b' : Fin 128) (l : Fin 512), x = ix3 z b' l := ⟨x 0, x 1, x 2, by blk_ext⟩
    obtain rfl : z = 0 := Fin.ext (by omega)
    have e0 : q.val = 2 + 0 := hx 0
    have e1 : b = b' := Fin.ext (by have : b.val = 0 + b'.val := hx 1; omega)
    have e2 : f = l := Fin.ext (by have : f.val = 0 + l.val := hx 2; omega)
    subst e1 e2
    rw [if_pos (by omega)]
    refine (pay15 _ b f).trans ((pay4 _ _ _ _).trans ?_)
    congr 1
    exact Fin.ext (by simp only; omega)
  · intro x hx
    obtain ⟨z, b', l, rfl⟩ : ∃ (z : Fin 1) (b' : Fin 128) (l : Fin 512), x = ix3 z b' l := ⟨x 0, x 1, x 2, by blk_ext⟩
    obtain rfl : z = 0 := Fin.ext (by omega)
    have e0 : q.val = 1 + 0 := hx 0
    have e1 : b = b' := Fin.ext (by have : b.val = 0 + b'.val := hx 1; omega)
    have e2 : f = l := Fin.ext (by have : f.val = 0 + l.val := hx 2; omega)
    subst e1 e2
    rw [if_neg (by omega)]
    refine (pay14 _ b f).trans ((pay5 _ _ _ _).trans ?_)
    congr 1
    exact Fin.ext (by simp only; omega)
  · intro x hx
    obtain ⟨z, b', l, rfl⟩ : ∃ (z : Fin 1) (b' : Fin 128) (l : Fin 512), x = ix3 z b' l := ⟨x 0, x 1, x 2, by blk_ext⟩
    obtain rfl : z = 0 := Fin.ext (by omega)
    have e0 : q.val = 0 + 0 := hx 0
    have e1 : b = b' := Fin.ext (by have : b.val = 0 + b'.val := hx 1; omega)
    have e2 : f = l := Fin.ext (by have : f.val = 0 + l.val := hx 2; omega)
    subst e1 e2
    rw [if_pos (by omega)]
    refine (pay13 _ b f).trans ((pay4 _ _ _ _).trans ?_)
    congr 1
    exact Fin.ext (by simp only; omega)

/-- The prompts' last two up projections, value lanes then the gate's. -/
def cpv (c : Dev nD) (t : Fin cfg0.N) (q : Fin 2) (b : Fin 8) (f : Fin 512) : EReal :=
  if q.val = 0 then proj (xbuf m c) (iblk m c 5 t) f ⟨512 + b.val, by omega⟩
  else proj (xbuf m c) (iblk m c 6 t) f ⟨512 + b.val, by omega⟩

theorem cp_gen (c : Dev nD) (t : Fin cfg0.N) (X : Vec Ideal S520x2048 .bf16) (hX : X = xbuf m c) (q : Fin 2) (b : Fin 8) (f : Fin 512) :
    View.canon (Val := Elt Ideal) (s := S2x8x512) (e := .f32)
      [⟨Rect.unit ![1, 0, 0] ![1, 8, 512] inb_S2x8x512_S1x8x512_1_0_0, k0_pay18 (k0_pay5 X (iblk m c 6 t))⟩,
       ⟨Rect.unit ![0, 0, 0] ![1, 8, 512] inb_S2x8x512_S1x8x512_0_0_0, k0_pay17 (k0_pay4 X (iblk m c 5 t))⟩] (ix3 q b f) = cpv m c t q b f := by
  subst hX
  unfold cpv
  refine View.canon_eq_of_allAt _ _ _ ?_ (View.allAt_cons_unit _ _ _ _ _ ?_ (View.allAt_cons_unit _ _ _ _ _ ?_ (View.allAt_nil _ _)))
  · have hb := b.isLt
    have hf := f.isLt
    have hq := q.isLt
    by_cases h1 : q.val = 1
    · refine ⟨_, List.mem_cons_self, (Rect.mem_set_unit (inb := inb_S2x8x512_S1x8x512_1_0_0)).mpr fun a => ?_⟩
      fin_cases a
      · exact ⟨by show 1 ≤ q.val; omega, by show q.val < 1 + 1; omega⟩
      · exact ⟨Nat.zero_le _, by show b.val < 0 + 8; omega⟩
      · exact ⟨Nat.zero_le _, by show f.val < 0 + 512; omega⟩
    · refine ⟨_, (List.mem_cons_of_mem _ List.mem_cons_self), (Rect.mem_set_unit (inb := inb_S2x8x512_S1x8x512_0_0_0)).mpr fun a => ?_⟩
      fin_cases a
      · exact ⟨by show 0 ≤ q.val; omega, by show q.val < 0 + 1; omega⟩
      · exact ⟨Nat.zero_le _, by show b.val < 0 + 8; omega⟩
      · exact ⟨Nat.zero_le _, by show f.val < 0 + 512; omega⟩
  · intro x hx
    obtain ⟨z, b', l, rfl⟩ : ∃ (z : Fin 1) (b' : Fin 8) (l : Fin 512), x = ix3 z b' l := ⟨x 0, x 1, x 2, by blk_ext⟩
    obtain rfl : z = 0 := Fin.ext (by omega)
    have e0 : q.val = 1 + 0 := hx 0
    have e1 : b = b' := Fin.ext (by have : b.val = 0 + b'.val := hx 1; omega)
    have e2 : f = l := Fin.ext (by have : f.val = 0 + l.val := hx 2; omega)
    subst e1 e2
    rw [if_neg (by omega)]
    refine (pay18 _ b f).trans ((pay5 _ _ _ _).trans ?_)
    congr 1
  · intro x hx
    obtain ⟨z, b', l, rfl⟩ : ∃ (z : Fin 1) (b' : Fin 8) (l : Fin 512), x = ix3 z b' l := ⟨x 0, x 1, x 2, by blk_ext⟩
    obtain rfl : z = 0 := Fin.ext (by omega)
    have e0 : q.val = 0 + 0 := hx 0
    have e1 : b = b' := Fin.ext (by have : b.val = 0 + b'.val := hx 1; omega)
    have e2 : f = l := Fin.ext (by have : f.val = 0 + l.val := hx 2; omega)
    subst e1 e2
    rw [if_pos (by omega)]
    refine (pay17 _ b f).trans ((pay4 _ _ _ _).trans ?_)
    congr 1

theorem cs (c : Dev nD) (t : Fin cfg0.N) (q : Fin 4) (b : Fin 128) (f : Fin 512) :
    (outsAt0 m c t.val t.isLt).2.1 (ix3 q b f) = csv m c t q b f := by
  by_cases h0 : t.val % 11 = 0
  · rw [outsAt0_A m c t h0 (by omega)]
    frame_out
    exact cs_gen m c t _ (xA m c t) q b f
  · have hs : (outsAt0 m c (t.val - 1) (by omega)).2.2.2.1 = xbuf m c := scr m c _ _
    by_cases h1 : t.val % 11 = 10
    · rw [outsAt0_C m c t h0 h1]
      frame_out
      exact cs_gen m c t _ ((Memref.IsWhole.read_unread _ _).trans hs) q b f
    · rw [outsAt0_B m c t h0 h1]
      frame_out
      exact cs_gen m c t _ ((Memref.IsWhole.read_unread _ _).trans hs) q b f

theorem cp (c : Dev nD) (t : Fin cfg0.N) (q : Fin 2) (b : Fin 8) (f : Fin 512) :
    (outsAt0 m c t.val t.isLt).2.2.1 (ix3 q b f) = cpv m c t q b f := by
  by_cases h0 : t.val % 11 = 0
  · rw [outsAt0_A m c t h0 (by omega)]
    frame_out
    exact cp_gen m c t _ (xA m c t) q b f
  · have hs : (outsAt0 m c (t.val - 1) (by omega)).2.2.2.1 = xbuf m c := scr m c _ _
    by_cases h1 : t.val % 11 = 10
    · rw [outsAt0_C m c t h0 h1]
      frame_out
      exact cp_gen m c t _ ((Memref.IsWhole.read_unread _ _).trans hs) q b f
    · rw [outsAt0_B m c t h0 h1]
      frame_out
      exact cp_gen m c t _ ((Memref.IsWhole.read_unread _ _).trans hs) q b f

/-- A row of the scratch among the new ones, projected, is that sequence's up projection at that step. -/
theorem proj_new (c : Dev nD) (W : Vec Ideal S1x2048x512 .bf16) (F : Fin 11264) (f : Fin 512) (hW : ∀ k, W (ix3 0 k f) = argW m c k F) (r : Fin 520) (hr : r.val < 512) :
    proj (xbuf m c) W f r = carried (argS m c ⟨r.val % 128, by omega⟩) (argX m c ⟨r.val % 128, by omega⟩) (argW m c) F (2 + r.val / 128) := by
  unfold proj carried
  rw [dif_neg (by omega)]
  have e : (⟨(2 + r.val / 128 - 2) % 4, by omega⟩ : Fin 4) = ⟨r.val / 128, by omega⟩ := Fin.ext (by simp only; omega)
  refine Finset.sum_congr rfl fun k _ => ?_
  rw [hW, e]
  exact congrArg (· * argW m c k F) (dif_pos hr)

theorem ext_carried (c : Dev nD) (W : Vec Ideal S1x2048x512 .bf16) (p0 p1 : Vec Ideal S1x128x512 .f32) (F : Fin 11264) (f : Fin 512)
    (hW : ∀ k, W (ix3 0 k f) = argW m c k F) (h0 : ∀ b, p0 (ix3 0 b f) = argS m c b 0 F) (h1 : ∀ b, p1 (ix3 0 b f) = argS m c b 1 F) (r : Fin 768)
    (b : Fin 128) (z : ℕ) (hb : r.val % 128 = b.val) (hz : r.val / 128 = z) :
    ext (xbuf m c) W p0 p1 f r = carried (argS m c b) (argX m c b) (argW m c) F z := by
  have hr := r.isLt
  unfold ext
  by_cases hr0 : r.val < 128
  · rw [dif_pos hr0, h0]
    unfold carried
    rw [dif_pos (by omega)]
    have e1 : (⟨r.val, hr0⟩ : Fin 128) = b := Fin.ext (by simp only; omega)
    have e2 : (⟨z, by omega⟩ : Fin 2) = 0 := Fin.ext (by show z = 0; omega)
    rw [e1, e2]
  · rw [dif_neg hr0]
    by_cases hr1 : r.val < 256
    · rw [dif_pos hr1, h1]
      unfold carried
      rw [dif_pos (by omega)]
      have e1 : (⟨r.val - 128, by omega⟩ : Fin 128) = b := Fin.ext (by simp only; omega)
      have e2 : (⟨z, by omega⟩ : Fin 2) = 1 := Fin.ext (by show z = 1; omega)
      rw [e1, e2]
    · rw [dif_neg hr1, proj_new m c W F f hW _ (by simp only; omega)]
      have e1 : (⟨(r.val - 256) % 128, by omega⟩ : Fin 128) = b := Fin.ext (by simp only; omega)
      have e2 : 2 + (r.val - 256) / 128 = z := by omega
      simp only [e1, e2]

theorem conv_hid (c : Dev nD) (W : Vec Ideal S1x2048x512 .bf16) (C : Vec Ideal S1x3x512 .f32) (p0 p1 : Vec Ideal S1x128x512 .f32) (B : Vec Ideal S1x1x512 .f32) (F : Fin 11264) (f : Fin 512)
    (hW : ∀ k, W (ix3 0 k f) = argW m c k F) (hC : ∀ j, C (ix3 0 j f) = argCw m c j F) (h0 : ∀ b, p0 (ix3 0 b f) = argS m c b 0 F) (h1 : ∀ b, p1 (ix3 0 b f) = argS m c b 1 F)
    (hB : B (ix3 0 0 f) = argCb m c F) (y : Fin 512) (b : Fin 128) (z : ℕ) (hb : y.val % 128 = b.val) (hz : y.val / 128 = z) :
    conv (xbuf m c) W C p0 p1 B y f = hidS (argS m c b) (argX m c b) (argW m c) (argCw m c) (argCb m c) F z := by
  unfold conv hidS
  rw [hB, hC, hC, hC, ext_carried m c W p0 p1 F f hW h0 h1 _ b z (by simp only; omega) (by simp only; omega),
    ext_carried m c W p0 p1 F f hW h0 h1 _ b (1 + z) (by simp only; omega) (by simp only; omega),
    ext_carried m c W p0 p1 F f hW h0 h1 _ b (2 + z) (by simp only; omega) (by simp only; omega)]

/-- The accumulated down projection at the last point. -/
theorem acc_mix (c : Dev nD) (t : Fin cfg0.N) (hr : t.val % 11 = 11 - 1) (y : Fin 512) (d : Fin 2048) :
    (outsAt0 m c t.val t.isLt).2.2.2.2 (ix2 y d) = mixS (argS m c ⟨y.val % 128, by omega⟩) (argX m c ⟨y.val % 128, by omega⟩) (argW m c) (argCw m c) (argCb m c) (argWd m c) (y.val / 128) d := by
  have ht := lt11 t
  refine (Pipeline.eq_sum_fin_of_reset_step_apply_of_flush (fun n h (z : Fin 512 × Fin 2048) => (outsAt0 m c n h).2.2.2.2 (ix2 z.1 z.2)) 11 (fun _ => (0 : EReal))
    (fun s z => part m c s z.1 z.2) (fun s h z => (acc_A m c s h z.1 z.2).trans (zero_add _).symm) (fun s h z => acc_step m c s h z.1 z.2) t hr (y, d)).trans ?_
  rw [zero_add]
  unfold mixS part
  refine Fin.sum_mul_add_congr fun s k hl => ?_
  have hp := Pipeline.run_point_lt_of_flush t hr s
  have hs := s.isLt
  have e : 11 * (t.val / 11) + s.val = s.val := by omega
  have hlt : ∀ o : ℕ, o ≤ 5632 → o + (11 * (t.val / 11) + s.val) * 512 + k.val < 11264 := by intro o ho; omega
  rw [conv_hid m c _ _ _ _ _ ⟨5632 + (s.val * 512 + k.val), by omega⟩ k
      (fun q => (blk6 m c ⟨_, hp⟩ q k (by simp only; omega)).trans (by simp only [e])) (fun q => (blk8 m c ⟨_, hp⟩ q k (by simp only; omega)).trans (by simp only [e]))
      (fun q => (blk2 m c ⟨_, hp⟩ q k (by simp only; omega)).trans (by simp only [e])) (fun q => (blk4 m c ⟨_, hp⟩ q k (by simp only; omega)).trans (by simp only [e]))
      ((blk10 m c ⟨_, hp⟩ k (by simp only; omega)).trans (by simp only [e])) y ⟨y.val % 128, by omega⟩ (y.val / 128) rfl rfl,
    conv_hid m c _ _ _ _ _ ⟨s.val * 512 + k.val, by omega⟩ k
      (fun q => (blk5 m c ⟨_, hp⟩ q k (by simp only; omega)).trans (by simp only [e])) (fun q => (blk7 m c ⟨_, hp⟩ q k (by simp only; omega)).trans (by simp only [e]))
      (fun q => (blk1 m c ⟨_, hp⟩ q k (by simp only; omega)).trans (by simp only [e])) (fun q => (blk3 m c ⟨_, hp⟩ q k (by simp only; omega)).trans (by simp only [e]))
      ((blk9 m c ⟨_, hp⟩ k (by simp only; omega)).trans (by simp only [e])) y ⟨y.val % 128, by omega⟩ (y.val / 128) rfl rfl,
    blk11 m c ⟨_, hp⟩ k d (by simp only; omega)]
  simp only [e]

/-- The layer at row `r` of the new rows. -/
def result (c : Dev nD) (r : ℕ) (d : Fin 2048) : EReal :=
  layerS (argS m c ⟨r % 128, by omega⟩) (argX m c ⟨r % 128, by omega⟩) (argW m c) (argCw m c) (argCb m c) (argWd m c) (argG m c) (argB m c) ⟨r / 128 % 4, by omega⟩ d

theorem final14 (c : Dev nD) : (dats m 0 c).arrAt 14 cfg0.N = fun i => result m c (i 0).val (i 1) := by
  refine (dats m 0 c).arrAt_eq_of_covers 14 _ (by decide +kernel) fun t hf y => ?_
  have hr := (flush0_14 t).mp hf
  blk_simp
  rw [after0_14]
  obtain ⟨b, z, rfl⟩ : ∃ (b : Fin 512) (z : Fin 2048), y = ix2 b z := ⟨y 0, y 1, by blk_ext⟩
  refine (out_C m c t hr b z).trans ?_
  have e := (idx t).2.2.2.2.2.2.2.2.2.2.2.2.2.2.1
  refine Eq.trans ?_ (congrArg₂ (result m c) (show b.val = _ by rw [e]; show b.val = 0 * 512 + b.val; omega)
    (show z = _ from Fin.ext (by rw [show ((win0_14.blk t).view.emb (ix2 b z) 1).val = win0_14.index t 1 * 2048 + z.val by blk_simp, e]; show z.val = 0 * 2048 + z.val; omega)))
  unfold result layerS
  have e4 : b.val / 128 % 4 = b.val / 128 := by omega
  rw [blk12, blk13]
  congr 1
  funext j
  rw [acc_mix m c t hr]
  simp only [e4]
  exact congrArg (fun a : EReal => alpha * a + _) (dif_pos b.isLt)

/-- The last two up projections of sequence `b`, laid out in lane halves. -/
def resultCs (c : Dev nD) (q : Fin 4) (b : Fin 128) (f : Fin 5632) : EReal :=
  carried (argS m c b) (argX m c b) (argW m c) ⟨q.val % 2 * 5632 + f.val, by omega⟩ (4 + q.val / 2)

theorem csv_eq (c : Dev nD) (t : Fin cfg0.N) (q : Fin 4) (b : Fin 128) (f : Fin 512) (h : t.val * 512 + f.val < 5632) :
    csv m c t q b f = resultCs m c q b ⟨t.val * 512 + f.val, h⟩ := by
  have hq := q.isLt
  have hb := b.isLt
  unfold csv resultCs
  have eb : (⟨(256 + q.val / 2 * 128 + b.val) % 128, by omega⟩ : Fin 128) = b := Fin.ext (by simp only; omega)
  have ez : 2 + (256 + q.val / 2 * 128 + b.val) / 128 = 4 + q.val / 2 := by omega
  by_cases h2 : q.val % 2 = 0
  · have ef : (⟨q.val % 2 * 5632 + (t.val * 512 + f.val), by omega⟩ : Fin 11264) = ⟨t.val * 512 + f.val, by omega⟩ := Fin.ext (by simp only; omega)
    rw [if_pos h2, proj_new m c _ ⟨t.val * 512 + f.val, by omega⟩ f (fun k => blk5 m c t k f _) _ (by simp only; omega)]
    simp only [eb, ez, ef]
  · have ef : (⟨q.val % 2 * 5632 + (t.val * 512 + f.val), by omega⟩ : Fin 11264) = ⟨5632 + (t.val * 512 + f.val), by omega⟩ := Fin.ext (by simp only; omega)
    rw [if_neg h2, proj_new m c _ ⟨5632 + (t.val * 512 + f.val), by omega⟩ f (fun k => blk6 m c t k f _) _ (by simp only; omega)]
    simp only [eb, ez, ef]

theorem final15 (c : Dev nD) : (dats m 0 c).arrAt 15 cfg0.N = fun i => resultCs m c (i 0) (i 1) (i 2) := by
  refine (dats m 0 c).arrAt_eq_of_covers 15 _ (by decide +kernel) fun t hf y => ?_
  have ht := lt11 t
  blk_simp
  rw [after0_15]
  obtain ⟨q, b, f, rfl⟩ : ∃ (q : Fin 4) (b : Fin 128) (f : Fin 512), y = ix3 q b f := ⟨y 0, y 1, y 2, by blk_ext⟩
  refine (cs m c t q b f).trans ((csv_eq m c t q b f (by omega)).trans ?_)
  have e := (idx t).2.2.2.2.2.2.2.2.2.2.2.2.2.2.2.1
  refine congr (congrArg₂ (resultCs m c) (Fin.ext ?_) (Fin.ext ?_)) (Fin.ext ?_)
  · rw [show ((win0_15.blk t).view.emb (ix3 q b f) 0).val = win0_15.index t 0 * 4 + q.val by blk_simp, e]
    show q.val = 0 * 4 + q.val
    omega
  · rw [show ((win0_15.blk t).view.emb (ix3 q b f) 1).val = win0_15.index t 1 * 128 + b.val by blk_simp, e]
    show b.val = 0 * 128 + b.val
    omega
  · rw [show ((win0_15.blk t).view.emb (ix3 q b f) 2).val = win0_15.index t 2 * 512 + f.val by blk_simp, e]
    rfl

/-- The prompts' last two up projections, laid out in lane halves, zero in the rows past them. -/
def resultCp (c : Dev nD) (i : Fin 2) (z : Fin 8) (f : Fin 5632) : EReal :=
  @dite EReal (z.val < 4) (Nat.decLt _ _) (fun h => ∑ k : Fin 2048, argXp m c ⟨z.val / 2, by omega⟩ ⟨4110 + z.val % 2, by omega⟩ k * argW m c k ⟨i.val * 5632 + f.val, by omega⟩) (fun _ => 0)

theorem xrow_extra (c : Dev nD) (z : Fin 8) (h : z.val < 4) (k : Fin 2048) :
    xrow m c ⟨512 + z.val, by omega⟩ k = argXp m c ⟨z.val / 2, by omega⟩ ⟨4110 + z.val % 2, by omega⟩ k := by
  unfold xrow
  rw [dif_neg (by show ¬ (512 + z.val < 512); omega), dif_pos (by show 512 + z.val < 516; omega)]
  simp only [Nat.add_sub_cancel_left]

theorem proj_extra (c : Dev nD) (W : Vec Ideal S1x2048x512 .bf16) (F : Fin 11264) (f : Fin 512) (hW : ∀ k, W (ix3 0 k f) = argW m c k F) (z : Fin 8) :
    proj (xbuf m c) W f ⟨512 + z.val, by omega⟩ = @dite EReal (z.val < 4) (Nat.decLt _ _) (fun h => ∑ k : Fin 2048, argXp m c ⟨z.val / 2, by omega⟩ ⟨4110 + z.val % 2, by omega⟩ k * argW m c k F) (fun _ => 0) := by
  unfold proj
  by_cases h : z.val < 4
  · rw [dif_pos h]
    refine Finset.sum_congr rfl fun k _ => ?_
    rw [hW]
    exact congrArg (· * argW m c k F) (xrow_extra m c z h k)
  · rw [dif_neg h]
    refine Finset.sum_eq_zero fun k _ => ?_
    have e : xbuf m c (ix2 ⟨512 + z.val, by omega⟩ k) = (0 : EReal) := (dif_neg (by show ¬ (512 + z.val < 512); omega)).trans (dif_neg (by show ¬ (512 + z.val < 516); omega))
    rw [e, zero_mul]

theorem cpv_eq (c : Dev nD) (t : Fin cfg0.N) (i : Fin 2) (z : Fin 8) (f : Fin 512) (h : t.val * 512 + f.val < 5632) :
    cpv m c t i z f = resultCp m c i z ⟨t.val * 512 + f.val, h⟩ := by
  have hi := i.isLt
  unfold cpv resultCp
  by_cases h2 : i.val = 0
  · have ef : (⟨i.val * 5632 + (t.val * 512 + f.val), by omega⟩ : Fin 11264) = ⟨t.val * 512 + f.val, by omega⟩ := Fin.ext (by simp only; omega)
    rw [if_pos h2, proj_extra m c _ ⟨t.val * 512 + f.val, by omega⟩ f (fun k => blk5 m c t k f _)]
    simp only [ef]
  · have ef : (⟨i.val * 5632 + (t.val * 512 + f.val), by omega⟩ : Fin 11264) = ⟨5632 + (t.val * 512 + f.val), by omega⟩ := Fin.ext (by simp only; omega)
    rw [if_neg h2, proj_extra m c _ ⟨5632 + (t.val * 512 + f.val), by omega⟩ f (fun k => blk6 m c t k f _)]
    simp only [ef]

theorem final16 (c : Dev nD) : (dats m 0 c).arrAt 16 cfg0.N = fun i => resultCp m c (i 0) (i 1) (i 2) := by
  refine (dats m 0 c).arrAt_eq_of_covers 16 _ (by decide +kernel) fun t hf y => ?_
  have ht := lt11 t
  blk_simp
  rw [after0_16]
  obtain ⟨q, b, f, rfl⟩ : ∃ (q : Fin 2) (b : Fin 8) (f : Fin 512), y = ix3 q b f := ⟨y 0, y 1, y 2, by blk_ext⟩
  refine (cp m c t q b f).trans ((cpv_eq m c t q b f (by omega)).trans ?_)
  have e := (idx t).2.2.2.2.2.2.2.2.2.2.2.2.2.2.2.2
  refine congr (congrArg₂ (resultCp m c) (Fin.ext ?_) (Fin.ext ?_)) (Fin.ext ?_)
  · rw [show ((win0_16.blk t).view.emb (ix3 q b f) 0).val = win0_16.index t 0 * 2 + q.val by blk_simp, e]
    show q.val = 0 * 2 + q.val
    omega
  · rw [show ((win0_16.blk t).view.emb (ix3 q b f) 1).val = win0_16.index t 1 * 8 + b.val by blk_simp, e]
    show b.val = 0 * 8 + b.val
    omega
  · rw [show ((win0_16.blk t).view.emb (ix3 q b f) 2).val = win0_16.index t 2 * 512 + f.val by blk_simp, e]
    rfl

end Cert.FfnsMatch
-- ==== Proof.FfnsRef.lean ====
module

public import proofs.«01_k».proof.Proof.Gen.FfnsReferenceIdeal.Read
public import proofs.«01_k».proof.Proof.FfnSpec
public import Idealize.ShloMosaic.Lib.Pipeline.ValueKit

/- The sampling feed-forward reference's values, read at an index. -/

@[expose] public section

set_option maxRecDepth 16384

noncomputable section

namespace Cert.FfnsRef

open Idealize.ShloMosaic Idealize.SL.Sem Cert.FfnsReferenceIdeal Cert.FfnsReferenceIdeal.Read Cert.FfnSpec

variable (x0 : Vec Ideal S128x4x2048 .f32) (x1 : Vec Ideal S2x4112x2048 .f32) (x2 : Vec Ideal S4x128x2x11264 .f32) (x3 : Vec Ideal S4x2048x11264 .f32)
  (x4 : Vec Ideal S4x3x11264 .f32) (x5 : Vec Ideal S4x11264 .f32) (x6 : Vec Ideal S4x5632x2048 .f32) (x7 x8 : Vec Ideal S4x2048 .f32)

abbrev aX : Fin 128 → Fin 4 → Fin 2048 → EReal := fun b t k => x0 (ix3 b t k)
abbrev aS : Fin 128 → Fin 2 → Fin 11264 → EReal := fun b z f => x2 (ix4 3 b z f)
abbrev aW : Fin 2048 → Fin 11264 → EReal := fun k f => x3 (ix3 3 k f)
abbrev aCw : Fin 3 → Fin 11264 → EReal := fun j f => x4 (ix3 3 j f)
abbrev aCb : Fin 11264 → EReal := fun f => x5 (ix2 3 f)
abbrev aWd : Fin 5632 → Fin 2048 → EReal := fun f d => x6 (ix3 3 f d)

/-- The carried rows, then the new up projections. -/
theorem ext11 (b : Fin 128) (z : Fin 6) (f : Fin 11264) :
    val_main_v11 (F := Ideal) x0 x2 x3 (ix3 b z f) = carried (aS x2 b) (aX x0 b) (aW x3) f z.val := by
  have hz := z.isLt
  unfold carried
  by_cases h : z.val < 2
  · rw [dif_pos h]
    pointwise [val_main_v11, val_main_v9, val_main_v8]
    exact dif_pos h
  · rw [dif_neg h]
    have e : (⟨(z.val - 2) % 4, by omega⟩ : Fin 4) = ⟨z.val - 2, by omega⟩ := Fin.ext (by simp only; omega)
    rw [e]
    pointwise [val_main_v11, val_main_v10, val_main_v1, val_main_v0]
    exact dif_neg h

theorem hid34 (b : Fin 128) (t : Fin 4) (f : Fin 11264) :
    val_main_v34 (F := Ideal) x0 x2 x3 x4 x5 (ix3 b t f) = hidS (aS x2 b) (aX x0 b) (aW x3) (aCw x4) (aCb x5) f t.val := by
  have e0 := ext11 x0 x2 x3 b ⟨t.val, by omega⟩ f
  have e1 := ext11 x0 x2 x3 b ⟨1 + t.val, by omega⟩ f
  have e2 := ext11 x0 x2 x3 b ⟨2 + t.val, by omega⟩ f
  unfold hidS taps
  rw [← e0, ← e1, ← e2]
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v5, val_main_v4, val_main_v3, val_main_v2]

theorem act38 (b : Fin 128) (t : Fin 4) (f : Fin 5632) :
    val_main_v38 (F := Ideal) x0 x2 x3 x4 x5 (ix3 b t f) = gate (hidS (aS x2 b) (aX x0 b) (aW x3) (aCw x4) (aCb x5) ⟨5632 + f.val, by omega⟩ t.val) * hidS (aS x2 b) (aX x0 b) (aW x3) (aCw x4) (aCb x5) ⟨f.val, by omega⟩ t.val := by
  unfold gate
  rw [← hid34, ← hid34]
  pointwise [val_main_v38, val_main_v37, val_main_v36, val_main_v35, val_main_call0_v5, val_main_call0_v4, val_main_call0_v3, val_main_call0_v2, val_main_call0_v1, val_main_call0_v0, val_main_call0_cst, val_main_call0_cst_0]

theorem mix39 (b : Fin 128) (t : Fin 4) (d : Fin 2048) :
    val_main_v39 (F := Ideal) x0 x2 x3 x4 x5 x6 (ix3 b t d) = mixS (aS x2 b) (aX x0 b) (aW x3) (aCw x4) (aCb x5) (aWd x6) t.val d := by
  unfold mixS
  simp only [← act38]
  pointwise [val_main_v39, val_main_v7, val_main_v6]

theorem pre43 (b : Fin 128) (t : Fin 4) (d : Fin 2048) :
    val_main_v43 (F := Ideal) x0 x2 x3 x4 x5 x6 (ix3 b t d) = alpha * aX x0 b t d + mixS (aS x2 b) (aX x0 b) (aW x3) (aCw x4) (aCb x5) (aWd x6) t.val d := by
  unfold alpha
  rw [← mix39]
  pointwise [val_main_v43, val_main_v42, val_main_v41, val_main_cst]

theorem out71 (b : Fin 128) (t : Fin 4) (d : Fin 2048) :
    val_main_v71 (F := Ideal) x0 x2 x3 x4 x5 x6 x7 x8 (ix3 b t d) = layerS (aS x2 b) (aX x0 b) (aW x3) (aCw x4) (aCb x5) (aWd x6) (fun j => x7 (ix2 3 j)) (fun j => x8 (ix2 3 j)) t d := by
  unfold layerS FfnSpec.norm
  simp only [← pre43]
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_cst_0, val_main_cst_1, val_main_cst_2, val_main_cst_3, val_main_cst_4]

theorem out77 (r : Fin 512) (d : Fin 2048) :
    val_main_v77 (F := Ideal) x0 x2 x3 x4 x5 x6 x7 x8 (ix2 r d) = layerS (aS x2 ⟨r.val % 128, by omega⟩) (aX x0 ⟨r.val % 128, by omega⟩) (aW x3) (aCw x4) (aCb x5) (aWd x6) (fun j => x7 (ix2 3 j)) (fun j => x8 (ix2 3 j)) ⟨r.val / 128 % 4, by omega⟩ d := by
  rw [← out71]
  have e : (⟨r.val / 128 % 4, by omega⟩ : Fin 4) = ⟨r.val / 128, by omega⟩ := Fin.ext (by simp only; omega)
  rw [e]
  pointwise [val_main_v77, val_main_v76]

theorem out79 (q : Fin 4) (b : Fin 128) (f : Fin 5632) :
    val_main_v79 (F := Ideal) x0 x2 x3 (ix3 q b f) = carried (aS x2 b) (aX x0 b) (aW x3) ⟨q.val % 2 * 5632 + f.val, by omega⟩ (4 + q.val / 2) := by
  have hq := q.isLt
  have hf := f.isLt
  refine Eq.trans ?_ (ext11 x0 x2 x3 b ⟨4 + q.val / 2, by omega⟩ ⟨q.val % 2 * 5632 + f.val, by omega⟩)
  pointwise [val_main_v79, val_main_v78, val_main_v40]

theorem out82 (i : Fin 2) (z : Fin 8) (f : Fin 5632) :
    val_main_v82 (F := Ideal) x1 x3 (ix3 i z f) = @dite EReal (z.val < 4) (Nat.decLt _ _) (fun h => ∑ k : Fin 2048, (x1 (ix3 ⟨z.val / 2, by omega⟩ ⟨4110 + z.val % 2, by omega⟩ k) : EReal) * aW x3 k ⟨i.val * 5632 + f.val, by omega⟩) (fun _ => 0) := by
  have hi := i.isLt
  have hf := f.isLt
  by_cases h : z.val < 4
  · rw [dif_pos h]
    pointwise [val_main_v82, val_main_v81, val_main_v80, val_main_v75, val_main_v74, val_main_v73, val_main_v72]
    exact dif_pos h
  · rw [dif_neg h]
    pointwise [val_main_v82, val_main_call1_v0, val_main_c]
    refine (dif_neg h).trans ?_
    show (((0#32 : BitVec 32).toInt : ℝ) : EReal) = 0
    simp

end Cert.FfnsRef
-- ==== Proof.FfnsClaims.lean ====
module

public import proofs.«01_k».proof.Defs
public import proofs.«01_k».proof.Proof.FfnsKernel
public import proofs.«01_k».proof.Proof.FfnsRef
public import proofs.«01_k».proof.Proof.Gen.FfnsKernel.Frame
public import proofs.«01_k».proof.Proof.Gen.FfnsKernelIdeal.Frame
public import proofs.«01_k».proof.Proof.Gen.FfnsReferenceIdeal.Run
public import proofs.«01_k».proof.Proof.Gen.FfnsReferenceIdeal.Read
public import Idealize.ShloMosaic.Adequacy

/- The five claims about the pair `FfnsKernel`, `FfnsReference`. -/

@[expose] public section

noncomputable section

namespace Cert.FfnsClaims

open Idealize.ShloMosaic Idealize.ShloMosaic.TcCoe Idealize.SL.Sem

/-- The kernel runs, keeps its arguments and ends quiet, over the reals and over the bits. -/
theorem frame_bits : Cert.quiescent_FfnsKernel := fun m ρ _ => Cert.FfnsKernel.Gen.frame m ρ
theorem frame_ideal : Cert.quiescent_FfnsKernelIdeal := fun m ρ _ => Cert.FfnsKernelIdeal.Gen.frame m ρ
/-- The reference keeps its arguments and declares no semaphore. -/
theorem frame_reference : Cert.quiescent_FfnsReferenceIdeal := fun m ρ _ =>
  (θ_run Cert.FfnsReferenceIdeal.defs _ _).mono (fun r h => ⟨fun c => (h c).2.2.2, sem_eq_zero_of_no_sems (by decide) r.2⟩)
    (Cert.FfnsReferenceIdeal.Value.run (F := Ideal) m ρ)

theorem preserves : Cert.preserves_FfnsKernel_FfnsKernelIdeal := trivial

section Run

open Cert.FfnsKernelIdeal Cert.FfnsKernelIdeal.Gen

variable (m : (ℓ : Loc nD τ sig) → Buf (Elt Ideal) ℓ)

theorem final14 (c : Dev nD) : (dats m 0 c).arrAt 14 cfg0.N = Cert.FfnsReferenceIdeal.Read.val_main_v77 (F := Ideal) (m ((c : Thread Cert.FfnsKernelIdeal.nD Cert.FfnsKernelIdeal.τ).loc Cert.FfnsKernelIdeal.main_arg0)) (m ((c : Thread Cert.FfnsKernelIdeal.nD Cert.FfnsKernelIdeal.τ).loc Cert.FfnsKernelIdeal.main_arg2)) (m ((c : Thread Cert.FfnsKernelIdeal.nD Cert.FfnsKernelIdeal.τ).loc Cert.FfnsKernelIdeal.main_arg3)) (m ((c : Thread Cert.FfnsKernelIdeal.nD Cert.FfnsKernelIdeal.τ).loc Cert.FfnsKernelIdeal.main_arg4)) (m ((c : Thread Cert.FfnsKernelIdeal.nD Cert.FfnsKernelIdeal.τ).loc Cert.FfnsKernelIdeal.main_arg5)) (m ((c : Thread Cert.FfnsKernelIdeal.nD Cert.FfnsKernelIdeal.τ).loc Cert.FfnsKernelIdeal.main_arg6)) (m ((c : Thread Cert.FfnsKernelIdeal.nD Cert.FfnsKernelIdeal.τ).loc Cert.FfnsKernelIdeal.main_arg7)) (m ((c : Thread Cert.FfnsKernelIdeal.nD Cert.FfnsKernelIdeal.τ).loc Cert.FfnsKernelIdeal.main_arg8)) := by
  refine (Cert.FfnsMatch.final14 m c).trans (funext fun i => ?_)
  obtain ⟨r, d, rfl⟩ : ∃ (r : Fin 512) (d : Fin 2048), i = ix2 r d := ⟨i 0, i 1, by blk_ext⟩
  exact (Cert.FfnsRef.out77 _ _ _ _ _ _ _ _ r d).symm

theorem final15 (c : Dev nD) : (dats m 0 c).arrAt 15 cfg0.N = Cert.FfnsReferenceIdeal.Read.val_main_v79 (F := Ideal) (m ((c : Thread Cert.FfnsKernelIdeal.nD Cert.FfnsKernelIdeal.τ).loc Cert.FfnsKernelIdeal.main_arg0)) (m ((c : Thread Cert.FfnsKernelIdeal.nD Cert.FfnsKernelIdeal.τ).loc Cert.FfnsKernelIdeal.main_arg2)) (m ((c : Thread Cert.FfnsKernelIdeal.nD Cert.FfnsKernelIdeal.τ).loc Cert.FfnsKernelIdeal.main_arg3)) := by
  refine (Cert.FfnsMatch.final15 m c).trans (funext fun i => ?_)
  obtain ⟨q, b, f, rfl⟩ : ∃ (q : Fin 4) (b : Fin 128) (f : Fin 5632), i = ix3 q b f := ⟨i 0, i 1, i 2, by blk_ext⟩
  exact (Cert.FfnsRef.out79 _ _ _ q b f).symm

theorem final16 (c : Dev nD) : (dats m 0 c).arrAt 16 cfg0.N = Cert.FfnsReferenceIdeal.Read.val_main_v82 (F := Ideal) (m ((c : Thread Cert.FfnsKernelIdeal.nD Cert.FfnsKernelIdeal.τ).loc Cert.FfnsKernelIdeal.main_arg1)) (m ((c : Thread Cert.FfnsKernelIdeal.nD Cert.FfnsKernelIdeal.τ).loc Cert.FfnsKernelIdeal.main_arg3)) := by
  refine (Cert.FfnsMatch.final16 m c).trans (funext fun i => ?_)
  obtain ⟨q, b, f, rfl⟩ : ∃ (q : Fin 2) (b : Fin 8) (f : Fin 5632), i = ix3 q b f := ⟨i 0, i 1, i 2, by blk_ext⟩
  exact (Cert.FfnsRef.out82 _ _ q b f).symm

/-- The run, its three arrays named and its arguments kept. -/
theorem run_blocks (ρ : Dev nD → PrngReg) : θ_run defs (onTc (τ := τ) (main (F := Ideal))) ⟨m, fun _ => 0, ρ⟩ fun r => ∀ c : Dev nD,
      r.2.mem ((c : Thread nD τ).loc main_v17_0) = (dats m 0 c).arrAt 14 cfg0.N
      ∧ r.2.mem ((c : Thread nD τ).loc main_v17_1) = (dats m 0 c).arrAt 15 cfg0.N
      ∧ r.2.mem ((c : Thread nD τ).loc main_v17_2) = (dats m 0 c).arrAt 16 cfg0.N
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) :=
  (θ_run defs _ _).mono (fun r h c => ⟨(h c).1 14, (h c).1 15, (h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 8).trans (((dats m 0 c).arrAt_in 8 rfl _).trans ((A_eq m c 8).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Run

/-- Over the reals the kernel's arrays are the reference's. -/
theorem algebraic : Cert.algebraic_FfnsKernelIdeal_FfnsReferenceIdeal := by
  intro m ρ m' ρ' _ hag
  refine ⟨fun c => Cert.FfnsReferenceIdeal.Read.val_main_v77 (F := Ideal) (m ((c : Thread Cert.FfnsKernelIdeal.nD Cert.FfnsKernelIdeal.τ).loc Cert.FfnsKernelIdeal.main_arg0)) (m ((c : Thread Cert.FfnsKernelIdeal.nD Cert.FfnsKernelIdeal.τ).loc Cert.FfnsKernelIdeal.main_arg2)) (m ((c : Thread Cert.FfnsKernelIdeal.nD Cert.FfnsKernelIdeal.τ).loc Cert.FfnsKernelIdeal.main_arg3)) (m ((c : Thread Cert.FfnsKernelIdeal.nD Cert.FfnsKernelIdeal.τ).loc Cert.FfnsKernelIdeal.main_arg4)) (m ((c : Thread Cert.FfnsKernelIdeal.nD Cert.FfnsKernelIdeal.τ).loc Cert.FfnsKernelIdeal.main_arg5)) (m ((c : Thread Cert.FfnsKernelIdeal.nD Cert.FfnsKernelIdeal.τ).loc Cert.FfnsKernelIdeal.main_arg6)) (m ((c : Thread Cert.FfnsKernelIdeal.nD Cert.FfnsKernelIdeal.τ).loc Cert.FfnsKernelIdeal.main_arg7)) (m ((c : Thread Cert.FfnsKernelIdeal.nD Cert.FfnsKernelIdeal.τ).loc Cert.FfnsKernelIdeal.main_arg8)),
    fun c => Cert.FfnsReferenceIdeal.Read.val_main_v79 (F := Ideal) (m ((c : Thread Cert.FfnsKernelIdeal.nD Cert.FfnsKernelIdeal.τ).loc Cert.FfnsKernelIdeal.main_arg0)) (m ((c : Thread Cert.FfnsKernelIdeal.nD Cert.FfnsKernelIdeal.τ).loc Cert.FfnsKernelIdeal.main_arg2)) (m ((c : Thread Cert.FfnsKernelIdeal.nD Cert.FfnsKernelIdeal.τ).loc Cert.FfnsKernelIdeal.main_arg3)),
    fun c => Cert.FfnsReferenceIdeal.Read.val_main_v82 (F := Ideal) (m ((c : Thread Cert.FfnsKernelIdeal.nD Cert.FfnsKernelIdeal.τ).loc Cert.FfnsKernelIdeal.main_arg1)) (m ((c : Thread Cert.FfnsKernelIdeal.nD Cert.FfnsKernelIdeal.τ).loc Cert.FfnsKernelIdeal.main_arg3)), ?_, ?_⟩
  · exact (θ_run Cert.FfnsKernelIdeal.defs _ _).mono (fun r h c => ⟨(h c).1.trans (final14 m c), (h c).2.1.trans (final15 m c), (h c).2.2.1.trans (final16 m c), (h c).2.2.2⟩)
      (run_blocks m ρ)
  · refine (θ_run Cert.FfnsReferenceIdeal.defs _ _).mono (fun r h c => ⟨(h c).1.trans ?_, (h c).2.1.trans ?_, (h c).2.2.1.trans ?_, (h c).2.2.2⟩)
      (Cert.FfnsReferenceIdeal.Value.run (F := Ideal) m' ρ')
    · refine (Cert.FfnsReferenceIdeal.Read.val_main_v77_eq m' c).trans ?_
      rw [(hag c).1, (hag c).2.2.1, (hag c).2.2.2.1, (hag c).2.2.2.2.1, (hag c).2.2.2.2.2.1, (hag c).2.2.2.2.2.2.1, (hag c).2.2.2.2.2.2.2.1, (hag c).2.2.2.2.2.2.2.2]
    · refine (Cert.FfnsReferenceIdeal.Read.val_main_v79_eq _ _ _ ).trans ?_
      rw [(hag c).1, (hag c).2.2.1, (hag c).2.2.2.1]
    · refine (Cert.FfnsReferenceIdeal.Read.val_main_v82_eq _ _ ).trans ?_
      rw [(hag c).2.1, (hag c).2.2.2.1]

end Cert.FfnsClaims
-- ==== Proof.MlaSpec.lean ====
module

public import Idealize.ShloMosaic.Lib.Pipeline.ValueKit

/- The latent attention's input projections with their norms and rotary positions, in plain sums. -/

@[expose] public section

set_option maxRecDepth 16384

noncomputable section

namespace Cert.MlaSpec

open Idealize.ShloMosaic Idealize.SL.Sem

/-- A row `X` projected on lane `f`. -/
def proj (X : Fin 2048 → EReal) (w : Fin 2048 → Fin 1088 → EReal) (f : Fin 1088) : EReal := ∑ k, X k * w k f

/-- Root-mean-square norm of a row `P` at lane `d`. -/
def rms (P : Fin 512 → EReal) (g : Fin 512 → EReal) (d : Fin 512) : EReal :=
  P d * Ideal.rsqrt (Ideal.div (∑ k, P k * P k) (Ideal.ofBits .f32 1140850688#32) + Ideal.ofBits .f32 897988541#32) * g d

/-- The latent row that keys and values are made of. -/
def latent (X : Fin 2048 → EReal) (w : Fin 2048 → Fin 1088 → EReal) (g : Fin 512 → EReal) (d : Fin 512) : EReal :=
  rms (fun j => proj X w ⟨512 + j.val, by omega⟩) g d

/-- The query's latent row, projected on lane `f`. -/
def query (X : Fin 2048 → EReal) (w : Fin 2048 → Fin 1088 → EReal) (g : Fin 512 → EReal) (wq : Fin 512 → Fin 3072 → EReal) (f : Fin 3072) : EReal :=
  ∑ k, rms (fun j => proj X w ⟨j.val, by omega⟩) g k * wq k f

/-- Half-split rotation of 64 lanes by the angles whose cosines are `c` and sines `s`. -/
def rot (Y : Fin 64 → EReal) (c s : Fin 32 → EReal) (f : Fin 64) : EReal :=
  if h : f.val < 32 then Y f * c ⟨f.val, h⟩ - Y ⟨32 + f.val, by omega⟩ * s ⟨f.val, h⟩
  else Y ⟨f.val - 32, by omega⟩ * s ⟨f.val - 32, by omega⟩ + Y f * c ⟨f.val - 32, by omega⟩

/-- Position `p`'s rotation angle on frequency `j`. -/
def angle (p : BitVec 32) (j : Fin 32) : EReal :=
  FloatOps.sitofp (F := Ideal) .f32 p * Ideal.pow (Ideal.ofBits .f32 1176256512#32)
    (Ideal.div (-FloatOps.sitofp (F := Ideal) .f32 (BitVec.ofNat 32 j.val)) (Ideal.ofBits .f32 1107296256#32))

def cosT (p : BitVec 32) (j : Fin 32) : EReal := Ideal.cos (angle p j)
def sinT (p : BitVec 32) (j : Fin 32) : EReal := Ideal.sin (angle p j)

/-- A row of zeros projects to zero. -/
theorem proj_zero (w : Fin 2048 → Fin 1088 → EReal) (f : Fin 1088) : proj (fun _ => 0) w f = 0 := by
  simp only [proj, zero_mul, Finset.sum_const_zero]

theorem latent_zero (w : Fin 2048 → Fin 1088 → EReal) (g : Fin 512 → EReal) (d : Fin 512) : latent (fun _ => 0) w g d = 0 := by
  simp only [latent, rms, proj_zero, zero_mul]

theorem query_zero (w : Fin 2048 → Fin 1088 → EReal) (g : Fin 512 → EReal) (wq : Fin 512 → Fin 3072 → EReal) (f : Fin 3072) : query (fun _ => 0) w g wq f = 0 := by
  simp only [query, rms, proj_zero, zero_mul, Finset.sum_const_zero]

theorem rot_zero (c s : Fin 32 → EReal) (f : Fin 64) : rot (fun _ => 0) c s f = 0 := by
  unfold rot
  split <;> simp

/-- The same rotation from a row, the row with its halves swapped, and a sine table whose first half is negated. -/
theorem rot_of_tables (Y : Fin 64 → EReal) (c s : Fin 32 → EReal) (f : Fin 64) :
    rot Y c s f = Y f * c ⟨f.val % 32, by omega⟩
      + Y ⟨(f.val + 32) % 64, by omega⟩ * (if f.val < 32 then -s ⟨f.val % 32, by omega⟩ else s ⟨f.val % 32, by omega⟩) := by
  have hf := f.isLt
  unfold rot
  by_cases h : f.val < 32
  · rw [dif_pos h, if_pos h, mul_neg, sub_eq_add_neg]
    have e : (⟨(f.val + 32) % 64, by omega⟩ : Fin 64) = ⟨32 + f.val, by omega⟩ := Fin.ext (by simp only; omega)
    have e' : (⟨f.val % 32, by omega⟩ : Fin 32) = ⟨f.val, h⟩ := Fin.ext (by simp only; omega)
    rw [e, e']
  · rw [dif_neg h, if_neg h, add_comm]
    have e : (⟨(f.val + 32) % 64, by omega⟩ : Fin 64) = ⟨f.val - 32, by omega⟩ := Fin.ext (by simp only; omega)
    have e' : (⟨f.val % 32, by omega⟩ : Fin 32) = ⟨f.val - 32, by omega⟩ := Fin.ext (by simp only; omega)
    rw [e, e']

end Cert.MlaSpec
-- ==== Proof.MlapPay.lean ====
module

public import proofs.«01_k».proof.Proof.Gen.MlapKernelIdeal.Skeleton
public import proofs.«01_k».proof.Proof.MlaSpec
public import Idealize.ShloMosaic.Lib.Pipeline.ValueKit

/- What the prompt projection kernel's named values hold at an index. -/

@[expose] public section

set_option maxRecDepth 16384

noncomputable section

namespace Cert.MlapPay

open Idealize.ShloMosaic Idealize.SL.Sem Cert.MlapKernelIdeal Cert.MlapKernelIdeal.Gen Cert.MlaSpec

theorem pay7 (x : Vec Ideal S352x2048 .f32) (w : Vec Ideal S1x2048x1280 .bf16) (r : Fin 352) (f : Fin 1280) :
    k0_pay7 x w (ix2 r f) = ∑ k : Fin 2048, x (ix2 r k) * w (ix3 0 k f) := by
  pointwise [k0_pay7]

theorem pay8 (x : Vec Ideal S352x2048 .f32) (w : Vec Ideal S1x2048x1280 .bf16) (g : Vec Ideal S1x512 .f32) (r : Fin 352) (d : Fin 512) :
    k0_pay8 x w g (ix2 r d) = rms (fun j => k0_pay7 x w (ix2 r ⟨j.val, by omega⟩)) (fun j => g (ix2 0 j)) d := by
  unfold rms
  pointwise [k0_pay8]

theorem pay9 (x : Vec Ideal S352x2048 .f32) (w : Vec Ideal S1x2048x1280 .bf16) (g : Vec Ideal S1x512 .f32) (r : Fin 352) (d : Fin 512) :
    k0_pay9 x w g (ix2 r d) = rms (fun j => k0_pay7 x w (ix2 r ⟨512 + j.val, by omega⟩)) (fun j => g (ix2 0 j)) d := by
  unfold rms
  pointwise [k0_pay9]

theorem pay3 (u : FVec Ideal S352x1280 .f32) (c s : Vec Ideal S352x128 .f32) (r : Fin 352) (f : Fin 128) :
    k0_pay3 u c s (ix2 r f) = u (ix2 r ⟨1024 + f.val, by omega⟩) * c (ix2 r f) + u (ix2 r ⟨1152 + f.val, by omega⟩) * s (ix2 r f) := by
  pointwise [k0_pay3, k0_pay1, k0_pay2]

theorem pay4 (q : FVec Ideal S352x512 .f32) (w : Vec Ideal S1x512x4096 .bf16) (r : Fin 352) (f : Fin 4096) :
    k0_pay4 q w (ix2 r f) = ∑ k : Fin 512, q (ix2 r k) * w (ix3 0 k f) := by
  pointwise [k0_pay4]

theorem pay5 (q : FVec Ideal S352x512 .f32) (w : Vec Ideal S1x512x4096 .bf16) (r : Fin 352) (f : Fin 2048) :
    k0_pay5 q w (ix2 r f) = k0_pay4 q w (ix2 r ⟨f.val, by omega⟩) := by
  pointwise [k0_pay5]

/-- A table of 128 lanes repeated over eight pieces. -/
theorem rep (a : FVec Ideal S352x128 .f32) (r : Fin 352) (f : Fin 1024) :
    concatenate S352x1024 1 [⟨S352x128, a⟩, ⟨S352x128, a⟩, ⟨S352x128, a⟩, ⟨S352x128, a⟩, ⟨S352x128, a⟩, ⟨S352x128, a⟩, ⟨S352x128, a⟩, ⟨S352x128, a⟩] concatenates_S352x128_S352x128_S352x128_S352x128_S352x128_S352x128_S352x128_S352x128_S352x1024_d1 (ix2 r f)
      = a (ix2 r ⟨f.val % 128, by omega⟩) := by
  have hf := f.isLt
  pointwise
  repeat' split
  all_goals exact congrArg a (by congr 1; exact Fin.ext (by simp only; omega))

theorem pay6 (q : FVec Ideal S352x512 .f32) (c s : Vec Ideal S352x128 .f32) (w : Vec Ideal S1x512x4096 .bf16) (r : Fin 352) (f : Fin 1024) :
    k0_pay6 q c s w (ix2 r f) = k0_pay4 q w (ix2 r ⟨2048 + f.val, by omega⟩) * c (ix2 r ⟨f.val % 128, by omega⟩)
      + k0_pay4 q w (ix2 r ⟨3072 + f.val, by omega⟩) * s (ix2 r ⟨f.val % 128, by omega⟩) := by
  have e1 : k0_pay1 c = c := by
    funext j
    pointwise [k0_pay1]
  have e2 : k0_pay2 s = s := by
    funext j
    pointwise [k0_pay2]
  rw [← rep c r f, ← rep s r f]
  unfold k0_pay6
  rw [e1, e2]
  have g : ∀ A B : FVec Ideal S352x1024 .f32, truncf .bf16 (addf (mulf (extractStridedSlice S352x1024 ![0, 2048] (k0_pay4 q w) slices_S352x4096_o0_2048_S352x1024) A)
      (mulf (extractStridedSlice S352x1024 ![0, 3072] (k0_pay4 q w) slices_S352x4096_o0_3072_S352x1024) B)) bitsLt_bf16_f32 (ix2 r f)
      = k0_pay4 q w (ix2 r ⟨2048 + f.val, by omega⟩) * A (ix2 r f) + k0_pay4 q w (ix2 r ⟨3072 + f.val, by omega⟩) * B (ix2 r f) := by
    intro A B
    pointwise
  exact g _ _

end Cert.MlapPay
-- ==== Proof.MlapHost.lean ====
module

public import proofs.«01_k».proof.Proof.Gen.MlapKernelIdeal.Value
public import proofs.«01_k».proof.Proof.MlaSpec
public import Idealize.ShloMosaic.Lib.Pipeline.ValueKit
public import Idealize.ShloMosaic.Lib.StableHlo.RunRead

/- The arrays the host lines hand the prompt projection kernel, read at an index. -/

@[expose] public section

set_option maxRecDepth 16384

noncomputable section

namespace Cert.MlapHost

open Idealize.ShloMosaic Idealize.ShloMosaic.TcCoe Idealize.SL.Sem Cert.MlapKernelIdeal Cert.MlapKernelIdeal.Gen Cert.MlaSpec

variable (m : (ℓ : Loc nD τ sig) → Buf (Elt Ideal) ℓ)

theorem x (c : Dev nD) (r : Fin 8448) (k : Fin 2048) : V m c main_v40 (ix2 r k)
    = @dite EReal (r.val % 4224 < 4112) (Nat.decLt _ _) (fun h => m ((c : Thread nD τ).loc main_arg0) (ix3 ⟨r.val / 4224, by omega⟩ ⟨r.val % 4224, h⟩ k)) (fun _ => 0) := by
  simp only [V, hostOps0, hostOps0_1, hostOps0_2, List.flatten_cons, List.flatten_nil, List.append_nil, List.cons_append, List.nil_append]
  entry_read
  simp only [StableHlo.TRef.ofBuf_toBuf, StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  have hr := r.isLt
  by_cases h : r.val % 4224 < 4112
  · rw [dif_pos ⟨by omega, h⟩, dif_pos h]
  · rw [dif_neg (fun h' => h h'.2), dif_neg h]
    exact hz

theorem pe (c : Dev nD) (k : Fin 2048) (j : Fin 64) : V m c main_v0 (ix3 1 k j) = (m ((c : Thread nD τ).loc main_arg1) (ix3 1 k ⟨1024 + j.val, by omega⟩) : EReal) := by
  simp only [V, hostOps0, hostOps0_1, hostOps0_2, List.flatten_cons, List.flatten_nil, List.append_nil, List.cons_append, List.nil_append]
  entry_read
  pointwise

theorem lo (c : Dev nD) (k : Fin 2048) (j : Fin 1024) : V m c main_v4 (ix3 1 k j) = (m ((c : Thread nD τ).loc main_arg1) (ix3 1 k ⟨j.val, by omega⟩) : EReal) := by
  simp only [V, hostOps0, hostOps0_1, hostOps0_2, List.flatten_cons, List.flatten_nil, List.append_nil, List.cons_append, List.nil_append]
  entry_read
  pointwise

theorem pesw (c : Dev nD) (k : Fin 2048) (j : Fin 64) : V m c main_v3 (ix3 1 k j) = (m ((c : Thread nD τ).loc main_arg1) (ix3 1 k ⟨1024 + (j.val + 32) % 64, by omega⟩) : EReal) := by
  have hj := j.isLt
  simp only [V, hostOps0, hostOps0_1, hostOps0_2, List.flatten_cons, List.flatten_nil, List.append_nil, List.cons_append, List.nil_append]
  entry_read
  pointwise
  by_cases h : j.val < 32
  · rw [dif_pos h]
    exact congrArg (m ((c : Thread nD τ).loc main_arg1)) (by congr 1; exact Fin.ext (by simp only; omega))
  · rw [dif_neg h]
    exact congrArg (m ((c : Thread nD τ).loc main_arg1)) (by congr 1; exact Fin.ext (by simp only; omega))

theorem cat5 (A : FVec Ideal S2x2048x1024 .f32) (B C : FVec Ideal S2x2048x64 .f32) (k : Fin 2048) (f : Fin 1280) :
    concatenate S2x2048x1280 2 [⟨S2x2048x1024, A⟩, ⟨S2x2048x64, B⟩, ⟨S2x2048x64, B⟩, ⟨S2x2048x64, C⟩, ⟨S2x2048x64, C⟩] concatenates_S2x2048x1024_S2x2048x64_S2x2048x64_S2x2048x64_S2x2048x64_S2x2048x1280_d2 (ix3 1 k f)
      = @dite EReal (f.val < 1024) (Nat.decLt _ _) (fun h => A (ix3 1 k ⟨f.val, h⟩)) fun _ => if f.val < 1152 then B (ix3 1 k ⟨f.val % 64, by omega⟩) else C (ix3 1 k ⟨f.val % 64, by omega⟩) := by
  have hf := f.isLt
  pointwise
  repeat' split
  all_goals first
    | rfl
    | exact congrArg B (by congr 1; exact Fin.ext (by simp only; omega))
    | exact congrArg C (by congr 1; exact Fin.ext (by simp only; omega))
    | (exfalso; omega)

theorem v6 (c : Dev nD) : V m c main_v6 = (truncf .bf16 (concatenate S2x2048x1280 2 [⟨S2x2048x1024, (V m c main_v4 : FVec Ideal S2x2048x1024 .f32)⟩, ⟨S2x2048x64, (V m c main_v0 : FVec Ideal S2x2048x64 .f32)⟩, ⟨S2x2048x64, (V m c main_v0 : FVec Ideal S2x2048x64 .f32)⟩, ⟨S2x2048x64, (V m c main_v3 : FVec Ideal S2x2048x64 .f32)⟩, ⟨S2x2048x64, (V m c main_v3 : FVec Ideal S2x2048x64 .f32)⟩] concatenates_S2x2048x1024_S2x2048x64_S2x2048x64_S2x2048x64_S2x2048x64_S2x2048x1280_d2) bitsLt_bf16_f32 : FVec Ideal S2x2048x1280 .bf16) := by
  simp only [V]
  after_reads_simp
  rfl

theorem v6_at (c : Dev nD) (k : Fin 2048) (f : Fin 1280) : V m c main_v6 (ix3 1 k f)
    = @dite EReal (f.val < 1024) (Nat.decLt _ _) (fun h => V m c main_v4 (ix3 1 k ⟨f.val, h⟩)) fun _ => @ite EReal (f.val < 1152) (Nat.decLt _ _) (V m c main_v0 (ix3 1 k ⟨f.val % 64, by omega⟩)) (V m c main_v3 (ix3 1 k ⟨f.val % 64, by omega⟩)) :=
  (congrFun (v6 m c) _).trans (cat5 _ _ _ k f)

/-- The widened input projection's columns: the latent lanes, the rotary lanes twice, the rotary lanes
    with their halves swapped twice. -/
theorem win_lo (c : Dev nD) (k : Fin 2048) (f : Fin 1024) : V m c main_v6 (ix3 1 k ⟨f.val, by omega⟩) = (m ((c : Thread nD τ).loc main_arg1) (ix3 1 k ⟨f.val, by omega⟩) : EReal) :=
  ((v6_at m c k _).trans (dif_pos f.isLt)).trans (lo m c k f)

theorem win_pe (c : Dev nD) (k : Fin 2048) (f : Fin 128) : V m c main_v6 (ix3 1 k ⟨1024 + f.val, by omega⟩) = (m ((c : Thread nD τ).loc main_arg1) (ix3 1 k ⟨1024 + f.val % 64, by omega⟩) : EReal) := by
  have hf := f.isLt
  refine ((v6_at m c k _).trans ((dif_neg (by simp only; omega)).trans (if_pos (by simp only; omega)))).trans ((pe m c k _).trans (congrArg (m ((c : Thread nD τ).loc main_arg1)) ?_))
  congr 1
  exact Fin.ext (by simp only; omega)

theorem win_sw (c : Dev nD) (k : Fin 2048) (f : Fin 128) : V m c main_v6 (ix3 1 k ⟨1152 + f.val, by omega⟩) = (m ((c : Thread nD τ).loc main_arg1) (ix3 1 k ⟨1024 + (f.val + 32) % 64, by omega⟩) : EReal) := by
  have hf := f.isLt
  refine ((v6_at m c k _).trans ((dif_neg (by simp only; omega)).trans (if_neg (by simp only; omega)))).trans ((pesw m c k _).trans (congrArg (m ((c : Thread nD τ).loc main_arg1)) ?_))
  congr 1
  exact Fin.ext (by simp only; omega)

theorem nope (c : Dev nD) (k : Fin 512) (j : Fin 2048) : V m c main_v10 (ix3 1 k j) = (m ((c : Thread nD τ).loc main_arg4) (ix3 1 k ⟨j.val / 128 * 192 + j.val % 128, by omega⟩) : EReal) := by
  simp only [V, hostOps0, hostOps0_1, hostOps0_2, List.flatten_cons, List.flatten_nil, List.append_nil, List.cons_append, List.nil_append]
  entry_read
  pointwise

theorem qpe (c : Dev nD) (k : Fin 512) (j : Fin 1024) : V m c main_v11 (ix3 1 k j) = (m ((c : Thread nD τ).loc main_arg4) (ix3 1 k ⟨j.val / 64 * 192 + (128 + j.val % 64), by omega⟩) : EReal) := by
  simp only [V, hostOps0, hostOps0_1, hostOps0_2, List.flatten_cons, List.flatten_nil, List.append_nil, List.cons_append, List.nil_append]
  entry_read
  pointwise

theorem qpesw (c : Dev nD) (k : Fin 512) (j : Fin 1024) : V m c main_v15 (ix3 1 k j) = (m ((c : Thread nD τ).loc main_arg4) (ix3 1 k ⟨j.val / 64 * 192 + (128 + (j.val + 32) % 64), by omega⟩) : EReal) := by
  simp only [V, hostOps0, hostOps0_1, hostOps0_2, List.flatten_cons, List.flatten_nil, List.append_nil, List.cons_append, List.nil_append]
  entry_read
  pointwise
  have hj := j.isLt
  by_cases h : j.val % 64 < 32
  · rw [dif_pos h]
    exact congrArg (m ((c : Thread nD τ).loc main_arg4)) (by congr 1; exact Fin.ext (by simp only; omega))
  · rw [dif_neg h]
    exact congrArg (m ((c : Thread nD τ).loc main_arg4)) (by congr 1; exact Fin.ext (by simp only; omega))

theorem cat3 (A : FVec Ideal S2x512x2048 .f32) (B C : FVec Ideal S2x512x1024 .f32) (k : Fin 512) (f : Fin 4096) :
    concatenate S2x512x4096 2 [⟨S2x512x2048, A⟩, ⟨S2x512x1024, B⟩, ⟨S2x512x1024, C⟩] concatenates_S2x512x2048_S2x512x1024_S2x512x1024_S2x512x4096_d2 (ix3 1 k f)
      = @dite EReal (f.val < 2048) (Nat.decLt _ _) (fun h => A (ix3 1 k ⟨f.val, h⟩)) fun _ => if f.val < 3072 then B (ix3 1 k ⟨f.val % 1024, by omega⟩) else C (ix3 1 k ⟨f.val % 1024, by omega⟩) := by
  have hf := f.isLt
  pointwise
  repeat' split
  all_goals first
    | rfl
    | exact congrArg B (by congr 1; exact Fin.ext (by simp only; omega))
    | exact congrArg C (by congr 1; exact Fin.ext (by simp only; omega))
    | (exfalso; omega)

theorem v17 (c : Dev nD) : V m c main_v17 = (truncf .bf16 (concatenate S2x512x4096 2 [⟨S2x512x2048, (V m c main_v10 : FVec Ideal S2x512x2048 .f32)⟩, ⟨S2x512x1024, (V m c main_v11 : FVec Ideal S2x512x1024 .f32)⟩, ⟨S2x512x1024, (V m c main_v15 : FVec Ideal S2x512x1024 .f32)⟩] concatenates_S2x512x2048_S2x512x1024_S2x512x1024_S2x512x4096_d2) bitsLt_bf16_f32 : FVec Ideal S2x512x4096 .bf16) := by
  simp only [V]
  after_reads_simp
  rfl

theorem v17_at (c : Dev nD) (k : Fin 512) (f : Fin 4096) : V m c main_v17 (ix3 1 k f)
    = @dite EReal (f.val < 2048) (Nat.decLt _ _) (fun h => V m c main_v10 (ix3 1 k ⟨f.val, h⟩)) fun _ => @ite EReal (f.val < 3072) (Nat.decLt _ _) (V m c main_v11 (ix3 1 k ⟨f.val % 1024, by omega⟩)) (V m c main_v15 (ix3 1 k ⟨f.val % 1024, by omega⟩)) :=
  (congrFun (v17 m c) _).trans (cat3 _ _ _ k f)

/-- The widened query projection's columns: every head's plain lanes, then every head's rotary lanes, then
    those with their halves swapped. -/
theorem wq_nope (c : Dev nD) (k : Fin 512) (f : Fin 2048) : V m c main_v17 (ix3 1 k ⟨f.val, by omega⟩) = (m ((c : Thread nD τ).loc main_arg4) (ix3 1 k ⟨f.val / 128 * 192 + f.val % 128, by omega⟩) : EReal) :=
  ((v17_at m c k _).trans (dif_pos f.isLt)).trans (nope m c k f)

theorem wq_pe (c : Dev nD) (k : Fin 512) (f : Fin 1024) : V m c main_v17 (ix3 1 k ⟨2048 + f.val, by omega⟩) = (m ((c : Thread nD τ).loc main_arg4) (ix3 1 k ⟨f.val / 64 * 192 + (128 + f.val % 64), by omega⟩) : EReal) := by
  have hf := f.isLt
  have e : (⟨(2048 + f.val) % 1024, by omega⟩ : Fin 1024) = f := Fin.ext (by simp only; omega)
  refine ((v17_at m c k _).trans ((dif_neg (by simp only; omega)).trans (if_pos (by simp only; omega)))).trans ?_
  simp only [e]
  exact qpe m c k f

theorem wq_sw (c : Dev nD) (k : Fin 512) (f : Fin 1024) : V m c main_v17 (ix3 1 k ⟨3072 + f.val, by omega⟩) = (m ((c : Thread nD τ).loc main_arg4) (ix3 1 k ⟨f.val / 64 * 192 + (128 + (f.val + 32) % 64), by omega⟩) : EReal) := by
  have hf := f.isLt
  have e : (⟨(3072 + f.val) % 1024, by omega⟩ : Fin 1024) = f := Fin.ext (by simp only; omega)
  refine ((v17_at m c k _).trans ((dif_neg (by simp only; omega)).trans (if_neg (by simp only; omega)))).trans ?_
  simp only [e]
  exact qpesw m c k f

theorem gq (c : Dev nD) (d : Fin 512) : V m c main_v43 (ix2 0 d) = (m ((c : Thread nD τ).loc main_arg2) (ix2 1 d) : EReal) := by
  simp only [V, hostOps0, hostOps0_1, hostOps0_2, List.flatten_cons, List.flatten_nil, List.append_nil, List.cons_append, List.nil_append]
  entry_read
  pointwise

theorem gk (c : Dev nD) (d : Fin 512) : V m c main_v46 (ix2 0 d) = (m ((c : Thread nD τ).loc main_arg3) (ix2 1 d) : EReal) := by
  simp only [V, hostOps0, hostOps0_1, hostOps0_2, List.flatten_cons, List.flatten_nil, List.append_nil, List.cons_append, List.nil_append]
  entry_read
  pointwise

theorem cos (c : Dev nD) (p : Fin 4224) (j : Fin 32) : V m c main_v31 (ix2 p j) = (cosT (BitVec.ofNat 32 p.val) j : EReal) := by
  simp only [V, hostOps0, hostOps0_1, hostOps0_2, List.flatten_cons, List.flatten_nil, List.append_nil, List.cons_append, List.nil_append]
  entry_read
  unfold cosT angle
  pointwise

theorem sin (c : Dev nD) (p : Fin 4224) (j : Fin 32) : V m c main_v32 (ix2 p j) = (sinT (BitVec.ofNat 32 p.val) j : EReal) := by
  simp only [V, hostOps0, hostOps0_1, hostOps0_2, List.flatten_cons, List.flatten_nil, List.append_nil, List.cons_append, List.nil_append]
  entry_read
  unfold sinT angle
  pointwise

theorem nsin (c : Dev nD) (p : Fin 4224) (j : Fin 32) : V m c main_v34 (ix2 p j) = (-sinT (BitVec.ofNat 32 p.val) j : EReal) := by
  simp only [V, hostOps0, hostOps0_1, hostOps0_2, List.flatten_cons, List.flatten_nil, List.append_nil, List.cons_append, List.nil_append]
  entry_read
  unfold sinT angle
  pointwise

theorem nsin' (c : Dev nD) (p : Fin 4224) (j : Fin 32) : V m c main_v35 (ix2 p j) = (-sinT (BitVec.ofNat 32 p.val) j : EReal) := by
  simp only [V, hostOps0, hostOps0_1, hostOps0_2, List.flatten_cons, List.flatten_nil, List.append_nil, List.cons_append, List.nil_append]
  entry_read
  unfold sinT angle
  pointwise

theorem cat4 (A B C : FVec Ideal S4224x32 .f32) (p : Fin 4224) (f : Fin 128) :
    concatenate S4224x128 1 [⟨S4224x32, A⟩, ⟨S4224x32, B⟩, ⟨S4224x32, C⟩, ⟨S4224x32, B⟩] concatenates_S4224x32_S4224x32_S4224x32_S4224x32_S4224x128_d1 (ix2 p f)
      = if f.val < 32 then A (ix2 p ⟨f.val % 32, by omega⟩) else if f.val < 64 then B (ix2 p ⟨f.val % 32, by omega⟩) else if f.val < 96 then C (ix2 p ⟨f.val % 32, by omega⟩) else B (ix2 p ⟨f.val % 32, by omega⟩) := by
  have hf := f.isLt
  pointwise
  repeat' split
  all_goals first
    | exact congrArg A (by congr 1; exact Fin.ext (by simp only; omega))
    | exact congrArg B (by congr 1; exact Fin.ext (by simp only; omega))
    | exact congrArg C (by congr 1; exact Fin.ext (by simp only; omega))
    | (exfalso; omega)

theorem cos4 (c : Dev nD) (p : Fin 4224) (f : Fin 128) : V m c main_v33 (ix2 p f) = (cosT (BitVec.ofNat 32 p.val) ⟨f.val % 32, by omega⟩ : EReal) := by
  have h : V m c main_v33 = (concatenate S4224x128 1 [⟨S4224x32, (V m c main_v31 : FVec Ideal S4224x32 .f32)⟩, ⟨S4224x32, (V m c main_v31 : FVec Ideal S4224x32 .f32)⟩, ⟨S4224x32, (V m c main_v31 : FVec Ideal S4224x32 .f32)⟩, ⟨S4224x32, (V m c main_v31 : FVec Ideal S4224x32 .f32)⟩] concatenates_S4224x32_S4224x32_S4224x32_S4224x32_S4224x128_d1 : FVec Ideal S4224x128 .f32) := by
    simp only [V]
    after_reads_simp
    rfl
  refine ((congrFun h _).trans (cat4 _ _ _ p f)).trans ?_
  repeat' split
  all_goals exact cos m c p _

theorem sin4 (c : Dev nD) (p : Fin 4224) (f : Fin 128) : V m c main_v36 (ix2 p f)
    = (if f.val % 64 < 32 then -sinT (BitVec.ofNat 32 p.val) ⟨f.val % 32, by omega⟩ else sinT (BitVec.ofNat 32 p.val) ⟨f.val % 32, by omega⟩ : EReal) := by
  have h : V m c main_v36 = (concatenate S4224x128 1 [⟨S4224x32, (V m c main_v34 : FVec Ideal S4224x32 .f32)⟩, ⟨S4224x32, (V m c main_v32 : FVec Ideal S4224x32 .f32)⟩, ⟨S4224x32, (V m c main_v35 : FVec Ideal S4224x32 .f32)⟩, ⟨S4224x32, (V m c main_v32 : FVec Ideal S4224x32 .f32)⟩] concatenates_S4224x32_S4224x32_S4224x32_S4224x32_S4224x128_d1 : FVec Ideal S4224x128 .f32) := by
    simp only [V]
    after_reads_simp
    rfl
  have hf := f.isLt
  refine ((congrFun h _).trans (cat4 _ _ _ p f)).trans ?_
  by_cases h1 : f.val < 32
  · rw [if_pos h1, if_pos (by omega)]
    exact nsin m c p _
  · rw [if_neg h1]
    by_cases h2 : f.val < 64
    · rw [if_pos h2, if_neg (by omega)]
      exact sin m c p _
    · rw [if_neg h2]
      by_cases h3 : f.val < 96
      · rw [if_pos h3, if_pos (by omega)]
        exact nsin' m c p _
      · rw [if_neg h3, if_neg (by omega)]
        exact sin m c p _

theorem cat2 (A : FVec Ideal S4224x128 .f32) (r : Fin 8448) (f : Fin 128) :
    concatenate S8448x128 0 [⟨S4224x128, A⟩, ⟨S4224x128, A⟩] concatenates_S4224x128_S4224x128_S8448x128_d0 (ix2 r f) = A (ix2 ⟨r.val % 4224, Nat.mod_lt _ (by decide)⟩ f) := by
  have hr := r.isLt
  pointwise
  split
  all_goals exact congrArg (fun q => A (ix2 q f)) (Fin.ext (by simp only; omega))

theorem tcos (c : Dev nD) (r : Fin 8448) (f : Fin 128) : V m c main_v37 (ix2 r f) = V m c main_v33 (ix2 ⟨r.val % 4224, Nat.mod_lt _ (by decide)⟩ f) := by
  have h : V m c main_v37 = (concatenate S8448x128 0 [⟨S4224x128, (V m c main_v33 : FVec Ideal S4224x128 .f32)⟩, ⟨S4224x128, (V m c main_v33 : FVec Ideal S4224x128 .f32)⟩] concatenates_S4224x128_S4224x128_S8448x128_d0 : FVec Ideal S8448x128 .f32) := by
    simp only [V]
    after_reads_simp
    rfl
  exact (congrFun h _).trans (cat2 _ r f)

theorem tsin (c : Dev nD) (r : Fin 8448) (f : Fin 128) : V m c main_v38 (ix2 r f) = V m c main_v36 (ix2 ⟨r.val % 4224, Nat.mod_lt _ (by decide)⟩ f) := by
  have h : V m c main_v38 = (concatenate S8448x128 0 [⟨S4224x128, (V m c main_v36 : FVec Ideal S4224x128 .f32)⟩, ⟨S4224x128, (V m c main_v36 : FVec Ideal S4224x128 .f32)⟩] concatenates_S4224x128_S4224x128_S8448x128_d0 : FVec Ideal S8448x128 .f32) := by
    simp only [V]
    after_reads_simp
    rfl
  exact (congrFun h _).trans (cat2 _ r f)

end Cert.MlapHost
-- ==== Proof.MlapRef.lean ====
module

public import proofs.«01_k».proof.Proof.Gen.MlapReferenceIdeal.Read
public import proofs.«01_k».proof.Proof.MlaSpec
public import Idealize.ShloMosaic.Lib.Pipeline.ValueKit

/- What the prompt projection reference's arrays hold at an index. -/

@[expose] public section

set_option maxRecDepth 16384

noncomputable section

namespace Cert.MlapRef

open Idealize.ShloMosaic Idealize.SL.Sem Cert.MlapReferenceIdeal Cert.MlapReferenceIdeal.Read Cert.MlaSpec

theorem projected (x0 : (⟨S2x4112x2048, .f32⟩ : BufTy).Contents (Elt Ideal)) (x1 : (⟨S2x2048x1088, .f32⟩ : BufTy).Contents (Elt Ideal)) (b : Fin 2) (s : Fin 4112) (f : Fin 1088) :
    val_main_v9 x0 x1 (ix3 b s f) = proj (fun k => x0 (ix3 b s k)) (fun k f => x1 (ix3 1 k f)) f := by
  unfold proj
  pointwise [val_main_v9, val_main_v2, val_main_v1]

theorem qnorm (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (b : Fin 2) (s : Fin 4112) (d : Fin 512) :
    val_main_v23 x0 x1 x2 (ix3 b s d) = rms (fun j => proj (fun k => x0 (ix3 b s k)) (fun k f => x1 (ix3 1 k f)) ⟨j.val, by omega⟩) (fun j => x2 (ix2 1 j)) d := by
  unfold rms
  simp only [← projected]
  pointwise [val_main_v23, val_main_v22, val_main_v21, val_main_v20, val_main_v19, val_main_v18, val_main_v17, val_main_v16, val_main_v15, val_main_v14, val_main_v13, val_main_v12, val_main_v11, val_main_v10, val_main_v4, val_main_v3, val_main_cst, val_main_cst_0, val_main_cst_1, val_main_cst_2, val_main_cst_3, val_main_cst_4]

theorem knorm (x0 : (⟨S2x4112x2048, .f32⟩ : BufTy).Contents (Elt Ideal)) (x1 : (⟨S2x2048x1088, .f32⟩ : BufTy).Contents (Elt Ideal)) (x3 : (⟨S2x512, .f32⟩ : BufTy).Contents (Elt Ideal)) (b : Fin 2) (s : Fin 4112) (d : Fin 512) :
    val_main_v37 x0 x1 x3 (ix3 b s d) = latent (fun k => x0 (ix3 b s k)) (fun k f => x1 (ix3 1 k f)) (fun j => x3 (ix2 1 j)) d := by
  unfold latent rms
  simp only [← projected]
  pointwise [val_main_v37, val_main_v36, val_main_v35, val_main_v34, val_main_v33, val_main_v32, val_main_v31, val_main_v30, val_main_v29, val_main_v28, val_main_v27, val_main_v26, val_main_v25, val_main_v24, val_main_v6, val_main_v5, val_main_cst, val_main_cst_0, val_main_cst_1, val_main_cst_2, val_main_cst_3, val_main_cst_4]

theorem queried (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 2) (s : Fin 4112) (f : Fin 3072) :
    val_main_v70 x0 x1 x2 x4 (ix3 b s f) = query (fun k => x0 (ix3 b s k)) (fun k f => x1 (ix3 1 k f)) (fun j => x2 (ix2 1 j)) (fun k f => x4 (ix3 1 k f)) f := by
  unfold query
  simp only [← qnorm]
  pointwise [val_main_v70, val_main_v8, val_main_v7]

theorem cos_k (s : Fin 4112) (j : Fin 32) : val_main_v51 (F := Ideal) (ix2 s j) = cosT (BitVec.ofNat 32 s.val) j := by
  unfold cosT angle
  pointwise [val_main_v39, val_main_v40, val_main_v41, val_main_v42, val_main_v43, val_main_v44, val_main_v45, val_main_v46, val_main_v47, val_main_v48, val_main_v49, val_main_v50, val_main_v51, val_main_cst_5, val_main_cst_6, val_main_cst_7, val_main_cst_8, val_main_v0]

theorem sin_k (s : Fin 4112) (j : Fin 32) : val_main_v52 (F := Ideal) (ix2 s j) = sinT (BitVec.ofNat 32 s.val) j := by
  unfold sinT angle
  pointwise [val_main_v39, val_main_v40, val_main_v41, val_main_v42, val_main_v43, val_main_v44, val_main_v45, val_main_v46, val_main_v47, val_main_v48, val_main_v49, val_main_v50, val_main_v52, val_main_cst_5, val_main_cst_6, val_main_cst_7, val_main_cst_8, val_main_v0]

theorem cos_q (s : Fin 4112) (j : Fin 32) : val_main_v86 (F := Ideal) (ix2 s j) = cosT (BitVec.ofNat 32 s.val) j := by
  unfold cosT angle
  pointwise [val_main_v74, val_main_v75, val_main_v76, val_main_v77, val_main_v78, val_main_v79, val_main_v80, val_main_v81, val_main_v82, val_main_v83, val_main_v84, val_main_v85, val_main_v86, val_main_cst_5, val_main_cst_6, val_main_cst_7, val_main_cst_8, val_main_v0]

theorem sin_q (s : Fin 4112) (j : Fin 32) : val_main_v88 (F := Ideal) (ix2 s j) = sinT (BitVec.ofNat 32 s.val) j := by
  unfold sinT angle
  pointwise [val_main_v74, val_main_v75, val_main_v76, val_main_v77, val_main_v78, val_main_v79, val_main_v80, val_main_v81, val_main_v82, val_main_v83, val_main_v84, val_main_v85, val_main_v88, val_main_cst_5, val_main_cst_6, val_main_cst_7, val_main_cst_8, val_main_v0]

theorem krot (x0 : (⟨S2x4112x2048, .f32⟩ : BufTy).Contents (Elt Ideal)) (x1 : (⟨S2x2048x1088, .f32⟩ : BufTy).Contents (Elt Ideal)) (b : Fin 2) (s : Fin 4112) (f : Fin 64) :
    val_main_v69 x0 x1 (ix3 b s f) = rot (fun j => proj (fun k => x0 (ix3 b s k)) (fun k f => x1 (ix3 1 k f)) ⟨1024 + j.val, by omega⟩) (cosT (BitVec.ofNat 32 s.val)) (sinT (BitVec.ofNat 32 s.val)) f := by
  unfold rot
  simp only [← projected, ← cos_k, ← sin_k]
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v38]
  split
  · rfl
  · have e : 32 + (f.val - 32) = f.val := by omega
    simp only [e]

theorem qrot (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 2) (s : Fin 4112) (h : Fin 16) (f : Fin 64) :
    val_main_v106 x0 x1 x2 x4 (ix4 b s h f) = rot (fun j => query (fun k => x0 (ix3 b s k)) (fun k f => x1 (ix3 1 k f)) (fun j => x2 (ix2 1 j)) (fun k f => x4 (ix3 1 k f)) ⟨h.val * 192 + (128 + j.val), by omega⟩) (cosT (BitVec.ofNat 32 s.val)) (sinT (BitVec.ofNat 32 s.val)) f := by
  unfold rot
  simp only [← queried, ← cos_q, ← sin_q]
  pointwise [val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v87, val_main_v73, val_main_v71]
  split
  · rfl
  · have e : 32 + (f.val - 32) = f.val := by omega
    simp only [e]

theorem kk (x0 : (⟨S2x4112x2048, .f32⟩ : BufTy).Contents (Elt Ideal)) (x1 : (⟨S2x2048x1088, .f32⟩ : BufTy).Contents (Elt Ideal)) (b : Fin 2) (s : Fin 4112) (f : Fin 128) :
    val_main_v107 x0 x1 (ix3 b s f) = val_main_v69 x0 x1 (ix3 b s ⟨f.val % 64, by omega⟩) := by
  have hf := f.isLt
  pointwise [val_main_v107]
  split
  all_goals exact congrArg (fun q => val_main_v69 x0 x1 (ix3 b s q)) (Fin.ext (by simp only; omega))

theorem qn (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 2) (s : Fin 4112) (f : Fin 2048) :
    val_main_v109 x0 x1 x2 x4 (ix3 b s f) = query (fun k => x0 (ix3 b s k)) (fun k f => x1 (ix3 1 k f)) (fun j => x2 (ix2 1 j)) (fun k f => x4 (ix3 1 k f)) ⟨f.val / 128 * 192 + f.val % 128, by omega⟩ := by
  rw [← queried]
  pointwise [val_main_v109, val_main_v108, val_main_v72, val_main_v71]

theorem qp (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 2) (s : Fin 4112) (f : Fin 1024) :
    val_main_v111 x0 x1 x2 x4 (ix3 b s f) = val_main_v106 x0 x1 x2 x4 (ix4 b s ⟨f.val / 64, by omega⟩ ⟨f.val % 64, by omega⟩) := by
  rw [val_main_v111_apply, val_main_v110_apply]
  refine congrArg (val_main_v106 x0 x1 x2 x4) (funext fun a => ?_)
  have hb := b.isLt
  have hs := s.isLt
  have hf := f.isLt
  fin_cases a
  · exact Fin.ext (show ((b.val * 4112 + s.val) * 1024 + f.val) / 4210688 = b.val by omega)
  · exact Fin.ext (show ((b.val * 4112 + s.val) * 1024 + f.val) / 1024 % 4112 = s.val by omega)
  · exact Fin.ext (show ((b.val * 4112 + s.val) * 1024 + f.val) / 64 % 16 = f.val / 64 by omega)
  · exact Fin.ext (show ((b.val * 4112 + s.val) * 1024 + f.val) % 64 = f.val % 64 by omega)

theorem zero32 : FloatOps.sitofp (F := Ideal) FTy.f32 0#32 = (0 : EReal) := by
  show (((0#32 : BitVec 32).toInt : ℝ) : EReal) = 0
  simp

theorem zero16 : FloatOps.sitofp (F := Ideal) FTy.bf16 0#32 = (0 : EReal) := by
  show (((0#32 : BitVec 32).toInt : ℝ) : EReal) = 0
  simp

theorem res_ckv (x0 : (⟨S2x4112x2048, .f32⟩ : BufTy).Contents (Elt Ideal)) (x1 : (⟨S2x2048x1088, .f32⟩ : BufTy).Contents (Elt Ideal)) (x3 : (⟨S2x512, .f32⟩ : BufTy).Contents (Elt Ideal)) (r : Fin 8448) (d : Fin 512) :
    val_main_v113 x0 x1 x3 (ix2 r d) = @dite EReal (r.val % 4224 < 4112) (Nat.decLt _ _) (fun h => val_main_v37 x0 x1 x3 (ix3 ⟨r.val / 4224, by omega⟩ ⟨r.val % 4224, h⟩ d)) (fun _ => 0) := by
  pointwise [val_main_v113, val_main_v112, val_main_call0_v0, val_main_c]
  have hr := r.isLt
  by_cases h : r.val % 4224 < 4112
  · rw [dif_pos ⟨by omega, h⟩, dif_pos h]
  · rw [dif_neg (fun h' => h h'.2), dif_neg h]
    exact zero32

theorem res_kk (x0 : (⟨S2x4112x2048, .f32⟩ : BufTy).Contents (Elt Ideal)) (x1 : (⟨S2x2048x1088, .f32⟩ : BufTy).Contents (Elt Ideal)) (r : Fin 8448) (d : Fin 128) :
    val_main_v115 x0 x1 (ix2 r d) = @dite EReal (r.val % 4224 < 4112) (Nat.decLt _ _) (fun h => val_main_v107 x0 x1 (ix3 ⟨r.val / 4224, by omega⟩ ⟨r.val % 4224, h⟩ d)) (fun _ => 0) := by
  pointwise [val_main_v115, val_main_v114, val_main_call1_v0, val_main_c_9]
  have hr := r.isLt
  by_cases h : r.val % 4224 < 4112
  · rw [dif_pos ⟨by omega, h⟩, dif_pos h]
  · rw [dif_neg (fun h' => h h'.2), dif_neg h]
    exact zero32

theorem res_qn (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (r : Fin 8448) (d : Fin 2048) :
    val_main_v117 x0 x1 x2 x4 (ix2 r d) = @dite EReal (r.val % 4224 < 4112) (Nat.decLt _ _) (fun h => val_main_v109 x0 x1 x2 x4 (ix3 ⟨r.val / 4224, by omega⟩ ⟨r.val % 4224, h⟩ d)) (fun _ => 0) := by
  pointwise [val_main_v117, val_main_v116, val_main_call2_v0, val_main_c_10]
  have hr := r.isLt
  by_cases h : r.val % 4224 < 4112
  · rw [dif_pos ⟨by omega, h⟩, dif_pos h]
  · rw [dif_neg (fun h' => h h'.2), dif_neg h]
    exact zero16

theorem res_qp (x0 : (⟨S2x4112x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (r : Fin 8448) (d : Fin 1024) :
    val_main_v119 x0 x1 x2 x4 (ix2 r d) = @dite EReal (r.val % 4224 < 4112) (Nat.decLt _ _) (fun h => val_main_v111 x0 x1 x2 x4 (ix3 ⟨r.val / 4224, by omega⟩ ⟨r.val % 4224, h⟩ d)) (fun _ => 0) := by
  pointwise [val_main_v119, val_main_v118, val_main_call3_v0, val_main_c_11]
  have hr := r.isLt
  by_cases h : r.val % 4224 < 4112
  · rw [dif_pos ⟨by omega, h⟩, dif_pos h]
  · rw [dif_neg (fun h' => h h'.2), dif_neg h]
    exact zero16

end Cert.MlapRef
-- ==== Proof.MlapMatch.lean ====
module

public import proofs.«01_k».proof.Proof.MlapPay
public import proofs.«01_k».proof.Proof.MlapHost
public import proofs.«01_k».proof.Proof.MlapRef
public import Idealize.ShloMosaic.Lib.Pipeline.ValueKit

/- The prompt projection kernel's result arrays are the reference's. -/

@[expose] public section

set_option maxRecDepth 16384

noncomputable section

namespace Cert.MlapMatch

open Idealize.ShloMosaic Idealize.ShloMosaic.TcCoe Idealize.SL.Sem Cert.MlapKernelIdeal Cert.MlapKernelIdeal.Gen Cert.MlaSpec

variable (m : (ℓ : Loc nD τ sig) → Buf (Elt Ideal) ℓ)

theorem idx : ∀ t : Fin cfg0.N, win0_0.index t = ![t.val, 0] ∧ win0_1.index t = ![1, 0, 0] ∧ win0_2.index t = ![0, 0] ∧ win0_3.index t = ![0, 0] ∧ win0_4.index t = ![1, 0, 0]
    ∧ win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ t.val < 24 :=
  (by decide +kernel : ∀ t : Fin grid0.N, _)

theorem lt (t : Fin cfg0.N) : t.val < 24 := (idx t).2.2.2.2.2.2.2.2.2.2.2

/-- Layer 1's rows of each weight. -/
abbrev argW (c : Dev nD) : Fin 2048 → Fin 1088 → EReal := fun k f => m ((c : Thread nD τ).loc main_arg1) (ix3 1 k f)
abbrev argQ (c : Dev nD) : Fin 512 → EReal := fun d => m ((c : Thread nD τ).loc main_arg2) (ix2 1 d)
abbrev argK (c : Dev nD) : Fin 512 → EReal := fun d => m ((c : Thread nD τ).loc main_arg3) (ix2 1 d)
abbrev argU (c : Dev nD) : Fin 512 → Fin 3072 → EReal := fun k f => m ((c : Thread nD τ).loc main_arg4) (ix3 1 k f)

/-- The input at row `r` of the flattened batch. -/
abbrev row (c : Dev nD) (r : Fin 8448) : Fin 2048 → EReal := fun k => V m c main_v40 (ix2 r k)

/-- Row `r`'s rotation tables. -/
abbrev tc (r : ℕ) : Fin 32 → EReal := cosT (BitVec.ofNat 32 (r % 4224))
abbrev ts (r : ℕ) : Fin 32 → EReal := sinT (BitVec.ofNat 32 (r % 4224))

/-- Point `t`'s row `r` in the flattened batch. -/
abbrev at_ (t : Fin cfg0.N) (r : Fin 352) : Fin 8448 := ⟨t.val * 352 + r.val, by have := lt t; omega⟩

theorem blk0 (c : Dev nD) (t : Fin cfg0.N) (r : Fin 352) (k : Fin 2048) : iblk m c 0 t (ix2 r k) = row m c (at_ t r) k := by
  have := lt t
  blk_simp [iblk]
  exact congrArg (V m c main_v40) (by blk_ext [idx t])

theorem blk1 (c : Dev nD) (t : Fin cfg0.N) (k : Fin 2048) (f : Fin 1280) : iblk m c 1 t (ix3 0 k f) = V m c main_v6 (ix3 1 k f) := by
  blk_simp [iblk]
  exact congrArg (V m c main_v6) (by blk_ext [idx t])

theorem blk2 (c : Dev nD) (t : Fin cfg0.N) (d : Fin 512) : iblk m c 2 t (ix2 0 d) = argQ m c d := by
  blk_simp [iblk]
  exact (congrArg (V m c main_v43) (by blk_ext [idx t])).trans (MlapHost.gq m c d)

theorem blk3 (c : Dev nD) (t : Fin cfg0.N) (d : Fin 512) : iblk m c 3 t (ix2 0 d) = argK m c d := by
  blk_simp [iblk]
  exact (congrArg (V m c main_v46) (by blk_ext [idx t])).trans (MlapHost.gk m c d)

theorem blk4 (c : Dev nD) (t : Fin cfg0.N) (k : Fin 512) (f : Fin 4096) : iblk m c 4 t (ix3 0 k f) = V m c main_v17 (ix3 1 k f) := by
  blk_simp [iblk]
  exact congrArg (V m c main_v17) (by blk_ext [idx t])

theorem blk5 (c : Dev nD) (t : Fin cfg0.N) (r : Fin 352) (f : Fin 128) : iblk m c 5 t (ix2 r f) = tc (at_ t r).val ⟨f.val % 32, by omega⟩ := by
  have := lt t
  refine Eq.trans ?_ ((MlapHost.tcos m c (at_ t r) f).trans (MlapHost.cos4 m c _ f))
  blk_simp [iblk]
  exact congrArg (V m c main_v37) (by blk_ext [idx t])

theorem blk6 (c : Dev nD) (t : Fin cfg0.N) (r : Fin 352) (f : Fin 128) : iblk m c 6 t (ix2 r f)
    = if f.val % 64 < 32 then -ts (at_ t r).val ⟨f.val % 32, by omega⟩ else ts (at_ t r).val ⟨f.val % 32, by omega⟩ := by
  have := lt t
  refine Eq.trans ?_ ((MlapHost.tsin m c (at_ t r) f).trans (MlapHost.sin4 m c _ f))
  blk_simp [iblk]
  exact congrArg (V m c main_v38) (by blk_ext [idx t])

theorem in_lo (c : Dev nD) (t : Fin cfg0.N) (r : Fin 352) (f : Fin 1024) :
    k0_pay7 (iblk m c 0 t) (iblk m c 1 t) (ix2 r ⟨f.val, by omega⟩) = proj (row m c (at_ t r)) (argW m c) ⟨f.val, by omega⟩ := by
  rw [MlapPay.pay7]
  unfold proj
  refine Finset.sum_congr rfl fun k _ => ?_
  rw [blk0, blk1, MlapHost.win_lo m c k f]

theorem in_pe (c : Dev nD) (t : Fin cfg0.N) (r : Fin 352) (f : Fin 128) :
    k0_pay7 (iblk m c 0 t) (iblk m c 1 t) (ix2 r ⟨1024 + f.val, by omega⟩) = proj (row m c (at_ t r)) (argW m c) ⟨1024 + f.val % 64, by omega⟩ := by
  rw [MlapPay.pay7]
  unfold proj
  refine Finset.sum_congr rfl fun k _ => ?_
  rw [blk0, blk1, MlapHost.win_pe m c k f]

theorem in_sw (c : Dev nD) (t : Fin cfg0.N) (r : Fin 352) (f : Fin 128) :
    k0_pay7 (iblk m c 0 t) (iblk m c 1 t) (ix2 r ⟨1152 + f.val, by omega⟩) = proj (row m c (at_ t r)) (argW m c) ⟨1024 + (f.val + 32) % 64, by omega⟩ := by
  rw [MlapPay.pay7]
  unfold proj
  refine Finset.sum_congr rfl fun k _ => ?_
  rw [blk0, blk1, MlapHost.win_sw m c k f]

theorem lat (c : Dev nD) (t : Fin cfg0.N) (r : Fin 352) (d : Fin 512) :
    k0_pay9 (iblk m c 0 t) (iblk m c 1 t) (iblk m c 3 t) (ix2 r d) = latent (row m c (at_ t r)) (argW m c) (argK m c) d := by
  rw [MlapPay.pay9]
  unfold latent
  congr 1
  · funext j
    exact in_lo m c t r ⟨512 + j.val, by omega⟩
  · funext j
    exact blk3 m c t j

theorem qlat (c : Dev nD) (t : Fin cfg0.N) (r : Fin 352) (d : Fin 512) :
    k0_pay8 (iblk m c 0 t) (iblk m c 1 t) (iblk m c 2 t) (ix2 r d) = rms (fun j => proj (row m c (at_ t r)) (argW m c) ⟨j.val, by omega⟩) (argQ m c) d := by
  rw [MlapPay.pay8]
  congr 1
  · funext j
    exact in_lo m c t r ⟨j.val, by omega⟩
  · funext j
    exact blk2 m c t j

/-- A query projection through one lane `f` of the widened weight, which holds lane `g` of the weight. -/
theorem q_of (c : Dev nD) (t : Fin cfg0.N) (r : Fin 352) (f : Fin 4096) (g : Fin 3072) (h : ∀ k : Fin 512, V m c main_v17 (ix3 1 k f) = argU m c k g) :
    k0_pay4 (k0_pay8 (iblk m c 0 t) (iblk m c 1 t) (iblk m c 2 t)) (iblk m c 4 t) (ix2 r f) = query (row m c (at_ t r)) (argW m c) (argQ m c) (argU m c) g := by
  rw [MlapPay.pay4]
  unfold query
  refine Finset.sum_congr rfl fun k _ => ?_
  rw [qlat, blk4, h]

theorem krot (c : Dev nD) (t : Fin cfg0.N) (r : Fin 352) (f : Fin 128) :
    k0_pay3 (k0_pay7 (iblk m c 0 t) (iblk m c 1 t)) (iblk m c 5 t) (iblk m c 6 t) (ix2 r f)
      = rot (fun j => proj (row m c (at_ t r)) (argW m c) ⟨1024 + j.val, by omega⟩) (tc (at_ t r).val) (ts (at_ t r).val) ⟨f.val % 64, by omega⟩ := by
  have hf := f.isLt
  have e : (⟨f.val % 64 % 32, by omega⟩ : Fin 32) = ⟨f.val % 32, by omega⟩ := Fin.ext (by simp only; omega)
  have e' : (f.val % 64 + 32) % 64 = (f.val + 32) % 64 := by omega
  rw [rot_of_tables, MlapPay.pay3, in_pe, in_sw, blk5, blk6]
  simp only [e, e']

theorem qrot (c : Dev nD) (t : Fin cfg0.N) (r : Fin 352) (f : Fin 1024) :
    k0_pay6 (k0_pay8 (iblk m c 0 t) (iblk m c 1 t) (iblk m c 2 t)) (iblk m c 5 t) (iblk m c 6 t) (iblk m c 4 t) (ix2 r f)
      = rot (fun j => query (row m c (at_ t r)) (argW m c) (argQ m c) (argU m c) ⟨f.val / 64 * 192 + (128 + j.val), by omega⟩) (tc (at_ t r).val) (ts (at_ t r).val) ⟨f.val % 64, by omega⟩ := by
  have hf := f.isLt
  have e : (⟨f.val % 64 % 32, by omega⟩ : Fin 32) = ⟨f.val % 32, by omega⟩ := Fin.ext (by simp only; omega)
  have e2 : (⟨f.val % 128 % 32, by omega⟩ : Fin 32) = ⟨f.val % 32, by omega⟩ := Fin.ext (by simp only; omega)
  have e3 : f.val % 128 % 64 = f.val % 64 := by omega
  have e' : (f.val % 64 + 32) % 64 = (f.val + 32) % 64 := by omega
  rw [rot_of_tables, MlapPay.pay6, q_of m c t r _ _ (fun k => MlapHost.wq_pe m c k f), q_of m c t r _ _ (fun k => MlapHost.wq_sw m c k f), blk5, blk6]
  simp only [e, e2, e3, e']

theorem qnope (c : Dev nD) (t : Fin cfg0.N) (r : Fin 352) (f : Fin 2048) :
    k0_pay5 (k0_pay8 (iblk m c 0 t) (iblk m c 1 t) (iblk m c 2 t)) (iblk m c 4 t) (ix2 r f)
      = query (row m c (at_ t r)) (argW m c) (argQ m c) (argU m c) ⟨f.val / 128 * 192 + f.val % 128, by omega⟩ := by
  rw [MlapPay.pay5, q_of m c t r _ _ (fun k => MlapHost.wq_nope m c k f)]

theorem row_pad (c : Dev nD) (r : Fin 8448) (h : ¬ r.val % 4224 < 4112) : row m c r = fun _ => 0 :=
  funext fun k => (MlapHost.x m c r k).trans (dif_neg h)

theorem row_at (c : Dev nD) (r : Fin 8448) (h : r.val % 4224 < 4112) : row m c r = fun k => m ((c : Thread nD τ).loc main_arg0) (ix3 ⟨r.val / 4224, by omega⟩ ⟨r.val % 4224, h⟩ k) :=
  funext fun k => (MlapHost.x m c r k).trans (dif_pos h)

theorem ref_ckv (c : Dev nD) (r : Fin 8448) (d : Fin 512) : Cert.MlapReferenceIdeal.Read.val_main_v113 (m ((c : Thread nD τ).loc main_arg0)) (m ((c : Thread nD τ).loc main_arg1)) (m ((c : Thread nD τ).loc main_arg3)) (ix2 r d) = latent (row m c r) (argW m c) (argK m c) d := by
  rw [MlapRef.res_ckv]
  by_cases h : r.val % 4224 < 4112
  · rw [dif_pos h, row_at m c r h, MlapRef.knorm]
  · rw [dif_neg h]
    rw [row_pad m c r h, latent_zero]

theorem ref_kk (c : Dev nD) (r : Fin 8448) (d : Fin 128) : Cert.MlapReferenceIdeal.Read.val_main_v115 (m ((c : Thread nD τ).loc main_arg0)) (m ((c : Thread nD τ).loc main_arg1)) (ix2 r d) = rot (fun j => proj (row m c r) (argW m c) ⟨1024 + j.val, by omega⟩) (tc r.val) (ts r.val) ⟨d.val % 64, by omega⟩ := by
  rw [MlapRef.res_kk]
  by_cases h : r.val % 4224 < 4112
  · rw [dif_pos h, row_at m c r h, MlapRef.kk, MlapRef.krot]
  · rw [dif_neg h]
    rw [row_pad m c r h]
    simp only [proj_zero, rot_zero]

theorem ref_qn (c : Dev nD) (r : Fin 8448) (d : Fin 2048) : Cert.MlapReferenceIdeal.Read.val_main_v117 (m ((c : Thread nD τ).loc main_arg0)) (m ((c : Thread nD τ).loc main_arg1)) (m ((c : Thread nD τ).loc main_arg2)) (m ((c : Thread nD τ).loc main_arg4)) (ix2 r d) = query (row m c r) (argW m c) (argQ m c) (argU m c) ⟨d.val / 128 * 192 + d.val % 128, by omega⟩ := by
  rw [MlapRef.res_qn]
  by_cases h : r.val % 4224 < 4112
  · rw [dif_pos h, row_at m c r h, MlapRef.qn]
  · rw [dif_neg h]
    rw [row_pad m c r h, query_zero]

theorem ref_qp (c : Dev nD) (r : Fin 8448) (d : Fin 1024) : Cert.MlapReferenceIdeal.Read.val_main_v119 (m ((c : Thread nD τ).loc main_arg0)) (m ((c : Thread nD τ).loc main_arg1)) (m ((c : Thread nD τ).loc main_arg2)) (m ((c : Thread nD τ).loc main_arg4)) (ix2 r d) = rot (fun j => query (row m c r) (argW m c) (argQ m c) (argU m c) ⟨d.val / 64 * 192 + (128 + j.val), by omega⟩) (tc r.val) (ts r.val) ⟨d.val % 64, by omega⟩ := by
  rw [MlapRef.res_qp]
  by_cases h : r.val % 4224 < 4112
  · rw [dif_pos h, row_at m c r h, MlapRef.qp, MlapRef.qrot]
  · rw [dif_neg h]
    rw [row_pad m c r h]
    simp only [query_zero, rot_zero]

theorem out_qn (x0 : Vec Ideal S352x2048 .f32) (x1 : Vec Ideal S1x2048x1280 .bf16) (x2 : Vec Ideal S1x512 .f32) (x3 : Vec Ideal S1x512 .f32) (x4 : Vec Ideal S1x512x4096 .bf16) (x5 : Vec Ideal S352x128 .f32) (x6 : Vec Ideal S352x128 .f32) : out0_9 x0 x1 x2 x3 x4 x5 x6 = k0_pay5 (k0_pay8 x0 x1 x2) x4 := by
  frame_out
  unfold k0_pay10
  simp (disch := decide) only [View.ld_unit_lit']

theorem out_qp (x0 : Vec Ideal S352x2048 .f32) (x1 : Vec Ideal S1x2048x1280 .bf16) (x2 : Vec Ideal S1x512 .f32) (x3 : Vec Ideal S1x512 .f32) (x4 : Vec Ideal S1x512x4096 .bf16) (x5 : Vec Ideal S352x128 .f32) (x6 : Vec Ideal S352x128 .f32) : out0_10 x0 x1 x2 x3 x4 x5 x6 = k0_pay6 (k0_pay8 x0 x1 x2) x5 x6 x4 := by
  frame_out
  unfold k0_pay10
  simp (disch := decide) only [View.ld_unit_lit']

theorem final_ckv (c : Dev nD) : (dats m 0 c).arrAt 7 cfg0.N = Cert.MlapReferenceIdeal.Read.val_main_v113 (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := lt t
  blk_simp
  rw [after0_7]
  frame_out
  obtain ⟨r, z, rfl⟩ : ∃ (r : Fin 352) (z : Fin 512), y = ix2 r z := ⟨y 0, y 1, by blk_ext⟩
  refine (lat m c t r z).trans ?_
  refine Eq.trans ?_ (congrArg (Cert.MlapReferenceIdeal.Read.val_main_v113 (m ((c : Thread nD τ).loc main_arg0)) (m ((c : Thread nD τ).loc main_arg1)) (m ((c : Thread nD τ).loc main_arg3))) (show ix2 (at_ t r) z = _ by blk_ext [idx t]))
  rw [ref_ckv]

theorem final_kk (c : Dev nD) : (dats m 0 c).arrAt 8 cfg0.N = Cert.MlapReferenceIdeal.Read.val_main_v115 (m ((c : Thread nD τ).loc main_arg0)) (m ((c : Thread nD τ).loc main_arg1)) := by
  refine (dats m 0 c).arrAt_eq_of_covers 8 _ (by decide +kernel) fun t hf y => ?_
  have ht := lt t
  blk_simp
  rw [after0_8]
  frame_out
  obtain ⟨r, z, rfl⟩ : ∃ (r : Fin 352) (z : Fin 128), y = ix2 r z := ⟨y 0, y 1, by blk_ext⟩
  refine (krot m c t r z).trans ?_
  refine Eq.trans ?_ (congrArg (Cert.MlapReferenceIdeal.Read.val_main_v115 (m ((c : Thread nD τ).loc main_arg0)) (m ((c : Thread nD τ).loc main_arg1))) (show ix2 (at_ t r) z = _ by blk_ext [idx t]))
  rw [ref_kk]

theorem final_qn (c : Dev nD) : (dats m 0 c).arrAt 9 cfg0.N = Cert.MlapReferenceIdeal.Read.val_main_v117 (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  have ht := lt t
  blk_simp
  rw [after0_9]
  rw [out_qn]
  obtain ⟨r, z, rfl⟩ : ∃ (r : Fin 352) (z : Fin 2048), y = ix2 r z := ⟨y 0, y 1, by blk_ext⟩
  refine (qnope m c t r z).trans ?_
  refine Eq.trans ?_ (congrArg (Cert.MlapReferenceIdeal.Read.val_main_v117 (m ((c : Thread nD τ).loc main_arg0)) (m ((c : Thread nD τ).loc main_arg1)) (m ((c : Thread nD τ).loc main_arg2)) (m ((c : Thread nD τ).loc main_arg4))) (show ix2 (at_ t r) z = _ by blk_ext [idx t]))
  rw [ref_qn]

theorem final_qp (c : Dev nD) : (dats m 0 c).arrAt 10 cfg0.N = Cert.MlapReferenceIdeal.Read.val_main_v119 (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  have ht := lt t
  blk_simp
  rw [after0_10]
  rw [out_qp]
  obtain ⟨r, z, rfl⟩ : ∃ (r : Fin 352) (z : Fin 1024), y = ix2 r z := ⟨y 0, y 1, by blk_ext⟩
  refine (qrot m c t r z).trans ?_
  refine Eq.trans ?_ (congrArg (Cert.MlapReferenceIdeal.Read.val_main_v119 (m ((c : Thread nD τ).loc main_arg0)) (m ((c : Thread nD τ).loc main_arg1)) (m ((c : Thread nD τ).loc main_arg2)) (m ((c : Thread nD τ).loc main_arg4))) (show ix2 (at_ t r) z = _ by blk_ext [idx t]))
  rw [ref_qp]

end Cert.MlapMatch
-- ==== Proof.MlapClaims.lean ====
module

public import proofs.«01_k».proof.Defs
public import proofs.«01_k».proof.Proof.MlapMatch
public import proofs.«01_k».proof.Proof.Gen.MlapKernel.Frame
public import proofs.«01_k».proof.Proof.Gen.MlapKernelIdeal.Value
public import proofs.«01_k».proof.Proof.Gen.MlapReferenceIdeal.Run
public import proofs.«01_k».proof.Proof.Gen.MlapReferenceIdeal.Read
public import Idealize.ShloMosaic.Adequacy

/- The five claims about the pair `MlapKernel`, `MlapReference`. -/

@[expose] public section

noncomputable section

namespace Cert.MlapClaims

open Idealize.ShloMosaic Idealize.ShloMosaic.TcCoe Idealize.SL.Sem

/-- The kernel runs, keeps its arguments and ends quiet, over the reals and over the bits. -/
theorem frame_bits : Cert.quiescent_MlapKernel := fun m ρ _ => Cert.MlapKernel.Gen.frame m ρ
theorem frame_ideal : Cert.quiescent_MlapKernelIdeal := fun m ρ _ => Cert.MlapKernelIdeal.Gen.frame m ρ
/-- The reference keeps its arguments and declares no semaphore. -/
theorem frame_reference : Cert.quiescent_MlapReferenceIdeal := fun m ρ _ =>
  (θ_run Cert.MlapReferenceIdeal.defs _ _).mono (fun r h => ⟨fun c => (h c).2.2.2.2, sem_eq_zero_of_no_sems (by decide) r.2⟩)
    (Cert.MlapReferenceIdeal.Value.run (F := Ideal) m ρ)

theorem preserves : Cert.preserves_MlapKernel_MlapKernelIdeal := trivial

/-- Over the reals the kernel's arrays are the reference's. -/
theorem algebraic : Cert.algebraic_MlapKernelIdeal_MlapReferenceIdeal := by
  intro m ρ m' ρ' _ hag
  refine ⟨fun c => Cert.MlapReferenceIdeal.Read.val_main_v113 (F := Ideal) (m ((c : Thread Cert.MlapKernelIdeal.nD Cert.MlapKernelIdeal.τ).loc Cert.MlapKernelIdeal.main_arg0)) (m ((c : Thread Cert.MlapKernelIdeal.nD Cert.MlapKernelIdeal.τ).loc Cert.MlapKernelIdeal.main_arg1)) (m ((c : Thread Cert.MlapKernelIdeal.nD Cert.MlapKernelIdeal.τ).loc Cert.MlapKernelIdeal.main_arg3)),
    fun c => Cert.MlapReferenceIdeal.Read.val_main_v115 (F := Ideal) (m ((c : Thread Cert.MlapKernelIdeal.nD Cert.MlapKernelIdeal.τ).loc Cert.MlapKernelIdeal.main_arg0)) (m ((c : Thread Cert.MlapKernelIdeal.nD Cert.MlapKernelIdeal.τ).loc Cert.MlapKernelIdeal.main_arg1)),
    fun c => Cert.MlapReferenceIdeal.Read.val_main_v117 (F := Ideal) (m ((c : Thread Cert.MlapKernelIdeal.nD Cert.MlapKernelIdeal.τ).loc Cert.MlapKernelIdeal.main_arg0)) (m ((c : Thread Cert.MlapKernelIdeal.nD Cert.MlapKernelIdeal.τ).loc Cert.MlapKernelIdeal.main_arg1)) (m ((c : Thread Cert.MlapKernelIdeal.nD Cert.MlapKernelIdeal.τ).loc Cert.MlapKernelIdeal.main_arg2)) (m ((c : Thread Cert.MlapKernelIdeal.nD Cert.MlapKernelIdeal.τ).loc Cert.MlapKernelIdeal.main_arg4)),
    fun c => Cert.MlapReferenceIdeal.Read.val_main_v119 (F := Ideal) (m ((c : Thread Cert.MlapKernelIdeal.nD Cert.MlapKernelIdeal.τ).loc Cert.MlapKernelIdeal.main_arg0)) (m ((c : Thread Cert.MlapKernelIdeal.nD Cert.MlapKernelIdeal.τ).loc Cert.MlapKernelIdeal.main_arg1)) (m ((c : Thread Cert.MlapKernelIdeal.nD Cert.MlapKernelIdeal.τ).loc Cert.MlapKernelIdeal.main_arg2)) (m ((c : Thread Cert.MlapKernelIdeal.nD Cert.MlapKernelIdeal.τ).loc Cert.MlapKernelIdeal.main_arg4)), ?_, ?_⟩
  · exact (θ_run Cert.MlapKernelIdeal.defs _ _).mono (fun r h c => ⟨(h c).1.trans (Cert.MlapMatch.final_ckv m c), (h c).2.1.trans (Cert.MlapMatch.final_kk m c), (h c).2.2.1.trans (Cert.MlapMatch.final_qn m c), (h c).2.2.2.1.trans (Cert.MlapMatch.final_qp m c), (h c).2.2.2.2⟩)
      (Cert.MlapKernelIdeal.Value.run_blocks (F := Ideal) m ρ)
  · refine (θ_run Cert.MlapReferenceIdeal.defs _ _).mono (fun r h c => ⟨(h c).1.trans ?_, (h c).2.1.trans ?_, (h c).2.2.1.trans ?_, (h c).2.2.2.1.trans ?_, (h c).2.2.2.2⟩)
      (Cert.MlapReferenceIdeal.Value.run (F := Ideal) m' ρ')
    · refine (Cert.MlapReferenceIdeal.Read.val_main_v113_eq _ _ _ ).trans ?_
      rw [(hag c).1, (hag c).2.1, (hag c).2.2.2.1]
    · refine (Cert.MlapReferenceIdeal.Read.val_main_v115_eq m' c).trans ?_
      rw [(hag c).1, (hag c).2.1]
    · refine (Cert.MlapReferenceIdeal.Read.val_main_v117_eq _ _ _ _ ).trans ?_
      rw [(hag c).1, (hag c).2.1, (hag c).2.2.1, (hag c).2.2.2.2]
    · refine (Cert.MlapReferenceIdeal.Read.val_main_v119_eq m' c).trans ?_
      rw [(hag c).1, (hag c).2.1, (hag c).2.2.1, (hag c).2.2.2.2]

end Cert.MlapClaims
-- ==== Proof.MlasPay.lean ====
module

public import proofs.«01_k».proof.Proof.Gen.MlasKernelIdeal.Skeleton
public import proofs.«01_k».proof.Proof.MlaSpec
public import Idealize.ShloMosaic.Lib.Pipeline.ValueKit

/- What the sampling projection kernel's named values hold at an index. -/

@[expose] public section

set_option maxRecDepth 16384

noncomputable section

namespace Cert.MlasPay

open Idealize.ShloMosaic Idealize.SL.Sem Cert.MlasKernelIdeal Cert.MlasKernelIdeal.Gen Cert.MlaSpec

theorem pay7 (x : Vec Ideal S256x2048 .f32) (w : Vec Ideal S1x2048x1280 .bf16) (r : Fin 256) (f : Fin 1280) :
    k0_pay7 x w (ix2 r f) = ∑ k : Fin 2048, x (ix2 r k) * w (ix3 0 k f) := by
  pointwise [k0_pay7]

theorem pay8 (x : Vec Ideal S256x2048 .f32) (w : Vec Ideal S1x2048x1280 .bf16) (g : Vec Ideal S1x512 .f32) (r : Fin 256) (d : Fin 512) :
    k0_pay8 x w g (ix2 r d) = rms (fun j => k0_pay7 x w (ix2 r ⟨j.val, by omega⟩)) (fun j => g (ix2 0 j)) d := by
  unfold rms
  pointwise [k0_pay8]

theorem pay9 (x : Vec Ideal S256x2048 .f32) (w : Vec Ideal S1x2048x1280 .bf16) (g : Vec Ideal S1x512 .f32) (r : Fin 256) (d : Fin 512) :
    k0_pay9 x w g (ix2 r d) = rms (fun j => k0_pay7 x w (ix2 r ⟨512 + j.val, by omega⟩)) (fun j => g (ix2 0 j)) d := by
  unfold rms
  pointwise [k0_pay9]

theorem pay3 (u : FVec Ideal S256x1280 .f32) (c s : Vec Ideal S256x128 .f32) (r : Fin 256) (f : Fin 128) :
    k0_pay3 u c s (ix2 r f) = u (ix2 r ⟨1024 + f.val, by omega⟩) * c (ix2 r f) + u (ix2 r ⟨1152 + f.val, by omega⟩) * s (ix2 r f) := by
  pointwise [k0_pay3, k0_pay1, k0_pay2]

theorem pay4 (q : FVec Ideal S256x512 .f32) (w : Vec Ideal S1x512x4096 .bf16) (r : Fin 256) (f : Fin 4096) :
    k0_pay4 q w (ix2 r f) = ∑ k : Fin 512, q (ix2 r k) * w (ix3 0 k f) := by
  pointwise [k0_pay4]

theorem pay5 (q : FVec Ideal S256x512 .f32) (w : Vec Ideal S1x512x4096 .bf16) (r : Fin 256) (f : Fin 2048) :
    k0_pay5 q w (ix2 r f) = k0_pay4 q w (ix2 r ⟨f.val, by omega⟩) := by
  pointwise [k0_pay5]

/-- A table of 128 lanes repeated over eight pieces. -/
theorem rep (a : FVec Ideal S256x128 .f32) (r : Fin 256) (f : Fin 1024) :
    concatenate S256x1024 1 [⟨S256x128, a⟩, ⟨S256x128, a⟩, ⟨S256x128, a⟩, ⟨S256x128, a⟩, ⟨S256x128, a⟩, ⟨S256x128, a⟩, ⟨S256x128, a⟩, ⟨S256x128, a⟩] concatenates_S256x128_S256x128_S256x128_S256x128_S256x128_S256x128_S256x128_S256x128_S256x1024_d1 (ix2 r f)
      = a (ix2 r ⟨f.val % 128, by omega⟩) := by
  have hf := f.isLt
  pointwise
  repeat' split
  all_goals exact congrArg a (by congr 1; exact Fin.ext (by simp only; omega))

theorem pay6 (q : FVec Ideal S256x512 .f32) (c s : Vec Ideal S256x128 .f32) (w : Vec Ideal S1x512x4096 .bf16) (r : Fin 256) (f : Fin 1024) :
    k0_pay6 q c s w (ix2 r f) = k0_pay4 q w (ix2 r ⟨2048 + f.val, by omega⟩) * c (ix2 r ⟨f.val % 128, by omega⟩)
      + k0_pay4 q w (ix2 r ⟨3072 + f.val, by omega⟩) * s (ix2 r ⟨f.val % 128, by omega⟩) := by
  have e1 : k0_pay1 c = c := by
    funext j
    pointwise [k0_pay1]
  have e2 : k0_pay2 s = s := by
    funext j
    pointwise [k0_pay2]
  rw [← rep c r f, ← rep s r f]
  unfold k0_pay6
  rw [e1, e2]
  have g : ∀ A B : FVec Ideal S256x1024 .f32, truncf .bf16 (addf (mulf (extractStridedSlice S256x1024 ![0, 2048] (k0_pay4 q w) slices_S256x4096_o0_2048_S256x1024) A)
      (mulf (extractStridedSlice S256x1024 ![0, 3072] (k0_pay4 q w) slices_S256x4096_o0_3072_S256x1024) B)) bitsLt_bf16_f32 (ix2 r f)
      = k0_pay4 q w (ix2 r ⟨2048 + f.val, by omega⟩) * A (ix2 r f) + k0_pay4 q w (ix2 r ⟨3072 + f.val, by omega⟩) * B (ix2 r f) := by
    intro A B
    pointwise
  exact g _ _

end Cert.MlasPay
-- ==== Proof.MlasHost.lean ====
module

public import proofs.«01_k».proof.Proof.Gen.MlasKernelIdeal.Value
public import proofs.«01_k».proof.Proof.MlaSpec
public import Idealize.ShloMosaic.Lib.Pipeline.ValueKit
public import Idealize.ShloMosaic.Lib.StableHlo.RunRead

/- The arrays the host lines hand the sampling projection kernel, read at an index. -/

@[expose] public section

set_option maxRecDepth 16384

noncomputable section

namespace Cert.MlasHost

open Idealize.ShloMosaic Idealize.ShloMosaic.TcCoe Idealize.SL.Sem Cert.MlasKernelIdeal Cert.MlasKernelIdeal.Gen Cert.MlaSpec

variable (m : (ℓ : Loc nD τ sig) → Buf (Elt Ideal) ℓ)

theorem x (c : Dev nD) (r : Fin 512) (k : Fin 2048) : V m c main_v44 (ix2 r k)
    = (m ((c : Thread nD τ).loc main_arg0) (ix3 ⟨r.val % 128, Nat.mod_lt _ (by decide)⟩ ⟨r.val / 128, by omega⟩ k) : EReal) := by
  simp only [V, hostOps0]
  entry_read
  pointwise

theorem pe (c : Dev nD) (k : Fin 2048) (j : Fin 64) : V m c main_v0 (ix3 1 k j) = (m ((c : Thread nD τ).loc main_arg1) (ix3 1 k ⟨1024 + j.val, by omega⟩) : EReal) := by
  simp only [V, hostOps0]
  entry_read
  pointwise

theorem lo (c : Dev nD) (k : Fin 2048) (j : Fin 1024) : V m c main_v4 (ix3 1 k j) = (m ((c : Thread nD τ).loc main_arg1) (ix3 1 k ⟨j.val, by omega⟩) : EReal) := by
  simp only [V, hostOps0]
  entry_read
  pointwise

theorem pesw (c : Dev nD) (k : Fin 2048) (j : Fin 64) : V m c main_v3 (ix3 1 k j) = (m ((c : Thread nD τ).loc main_arg1) (ix3 1 k ⟨1024 + (j.val + 32) % 64, by omega⟩) : EReal) := by
  have hj := j.isLt
  simp only [V, hostOps0]
  entry_read
  pointwise
  by_cases h : j.val < 32
  · rw [dif_pos h]
    exact congrArg (m ((c : Thread nD τ).loc main_arg1)) (by congr 1; exact Fin.ext (by simp only; omega))
  · rw [dif_neg h]
    exact congrArg (m ((c : Thread nD τ).loc main_arg1)) (by congr 1; exact Fin.ext (by simp only; omega))

theorem cat5 (A : FVec Ideal S2x2048x1024 .f32) (B C : FVec Ideal S2x2048x64 .f32) (k : Fin 2048) (f : Fin 1280) :
    concatenate S2x2048x1280 2 [⟨S2x2048x1024, A⟩, ⟨S2x2048x64, B⟩, ⟨S2x2048x64, B⟩, ⟨S2x2048x64, C⟩, ⟨S2x2048x64, C⟩] concatenates_S2x2048x1024_S2x2048x64_S2x2048x64_S2x2048x64_S2x2048x64_S2x2048x1280_d2 (ix3 1 k f)
      = @dite EReal (f.val < 1024) (Nat.decLt _ _) (fun h => A (ix3 1 k ⟨f.val, h⟩)) fun _ => if f.val < 1152 then B (ix3 1 k ⟨f.val % 64, by omega⟩) else C (ix3 1 k ⟨f.val % 64, by omega⟩) := by
  have hf := f.isLt
  pointwise
  repeat' split
  all_goals first
    | rfl
    | exact congrArg B (by congr 1; exact Fin.ext (by simp only; omega))
    | exact congrArg C (by congr 1; exact Fin.ext (by simp only; omega))
    | (exfalso; omega)

theorem v6 (c : Dev nD) : V m c main_v6 = (truncf .bf16 (concatenate S2x2048x1280 2 [⟨S2x2048x1024, (V m c main_v4 : FVec Ideal S2x2048x1024 .f32)⟩, ⟨S2x2048x64, (V m c main_v0 : FVec Ideal S2x2048x64 .f32)⟩, ⟨S2x2048x64, (V m c main_v0 : FVec Ideal S2x2048x64 .f32)⟩, ⟨S2x2048x64, (V m c main_v3 : FVec Ideal S2x2048x64 .f32)⟩, ⟨S2x2048x64, (V m c main_v3 : FVec Ideal S2x2048x64 .f32)⟩] concatenates_S2x2048x1024_S2x2048x64_S2x2048x64_S2x2048x64_S2x2048x64_S2x2048x1280_d2) bitsLt_bf16_f32 : FVec Ideal S2x2048x1280 .bf16) := by
  simp only [V]
  after_reads_simp
  rfl

theorem v6_at (c : Dev nD) (k : Fin 2048) (f : Fin 1280) : V m c main_v6 (ix3 1 k f)
    = @dite EReal (f.val < 1024) (Nat.decLt _ _) (fun h => V m c main_v4 (ix3 1 k ⟨f.val, h⟩)) fun _ => @ite EReal (f.val < 1152) (Nat.decLt _ _) (V m c main_v0 (ix3 1 k ⟨f.val % 64, by omega⟩)) (V m c main_v3 (ix3 1 k ⟨f.val % 64, by omega⟩)) :=
  (congrFun (v6 m c) _).trans (cat5 _ _ _ k f)

/-- The widened input projection's columns: the latent lanes, the rotary lanes twice, the rotary lanes
    with their halves swapped twice. -/
theorem win_lo (c : Dev nD) (k : Fin 2048) (f : Fin 1024) : V m c main_v6 (ix3 1 k ⟨f.val, by omega⟩) = (m ((c : Thread nD τ).loc main_arg1) (ix3 1 k ⟨f.val, by omega⟩) : EReal) :=
  ((v6_at m c k _).trans (dif_pos f.isLt)).trans (lo m c k f)

theorem win_pe (c : Dev nD) (k : Fin 2048) (f : Fin 128) : V m c main_v6 (ix3 1 k ⟨1024 + f.val, by omega⟩) = (m ((c : Thread nD τ).loc main_arg1) (ix3 1 k ⟨1024 + f.val % 64, by omega⟩) : EReal) := by
  have hf := f.isLt
  refine ((v6_at m c k _).trans ((dif_neg (by simp only; omega)).trans (if_pos (by simp only; omega)))).trans ((pe m c k _).trans (congrArg (m ((c : Thread nD τ).loc main_arg1)) ?_))
  congr 1
  exact Fin.ext (by simp only; omega)

theorem win_sw (c : Dev nD) (k : Fin 2048) (f : Fin 128) : V m c main_v6 (ix3 1 k ⟨1152 + f.val, by omega⟩) = (m ((c : Thread nD τ).loc main_arg1) (ix3 1 k ⟨1024 + (f.val + 32) % 64, by omega⟩) : EReal) := by
  have hf := f.isLt
  refine ((v6_at m c k _).trans ((dif_neg (by simp only; omega)).trans (if_neg (by simp only; omega)))).trans ((pesw m c k _).trans (congrArg (m ((c : Thread nD τ).loc main_arg1)) ?_))
  congr 1
  exact Fin.ext (by simp only; omega)

theorem nope (c : Dev nD) (k : Fin 512) (j : Fin 2048) : V m c main_v10 (ix3 1 k j) = (m ((c : Thread nD τ).loc main_arg4) (ix3 1 k ⟨j.val / 128 * 192 + j.val % 128, by omega⟩) : EReal) := by
  simp only [V, hostOps0]
  entry_read
  pointwise

theorem qpe (c : Dev nD) (k : Fin 512) (j : Fin 1024) : V m c main_v11 (ix3 1 k j) = (m ((c : Thread nD τ).loc main_arg4) (ix3 1 k ⟨j.val / 64 * 192 + (128 + j.val % 64), by omega⟩) : EReal) := by
  simp only [V, hostOps0]
  entry_read
  pointwise

theorem qpesw (c : Dev nD) (k : Fin 512) (j : Fin 1024) : V m c main_v15 (ix3 1 k j) = (m ((c : Thread nD τ).loc main_arg4) (ix3 1 k ⟨j.val / 64 * 192 + (128 + (j.val + 32) % 64), by omega⟩) : EReal) := by
  simp only [V, hostOps0]
  entry_read
  pointwise
  have hj := j.isLt
  by_cases h : j.val % 64 < 32
  · rw [dif_pos h]
    exact congrArg (m ((c : Thread nD τ).loc main_arg4)) (by congr 1; exact Fin.ext (by simp only; omega))
  · rw [dif_neg h]
    exact congrArg (m ((c : Thread nD τ).loc main_arg4)) (by congr 1; exact Fin.ext (by simp only; omega))

theorem cat3 (A : FVec Ideal S2x512x2048 .f32) (B C : FVec Ideal S2x512x1024 .f32) (k : Fin 512) (f : Fin 4096) :
    concatenate S2x512x4096 2 [⟨S2x512x2048, A⟩, ⟨S2x512x1024, B⟩, ⟨S2x512x1024, C⟩] concatenates_S2x512x2048_S2x512x1024_S2x512x1024_S2x512x4096_d2 (ix3 1 k f)
      = @dite EReal (f.val < 2048) (Nat.decLt _ _) (fun h => A (ix3 1 k ⟨f.val, h⟩)) fun _ => if f.val < 3072 then B (ix3 1 k ⟨f.val % 1024, by omega⟩) else C (ix3 1 k ⟨f.val % 1024, by omega⟩) := by
  have hf := f.isLt
  pointwise
  repeat' split
  all_goals first
    | rfl
    | exact congrArg B (by congr 1; exact Fin.ext (by simp only; omega))
    | exact congrArg C (by congr 1; exact Fin.ext (by simp only; omega))
    | (exfalso; omega)

theorem v17 (c : Dev nD) : V m c main_v17 = (truncf .bf16 (concatenate S2x512x4096 2 [⟨S2x512x2048, (V m c main_v10 : FVec Ideal S2x512x2048 .f32)⟩, ⟨S2x512x1024, (V m c main_v11 : FVec Ideal S2x512x1024 .f32)⟩, ⟨S2x512x1024, (V m c main_v15 : FVec Ideal S2x512x1024 .f32)⟩] concatenates_S2x512x2048_S2x512x1024_S2x512x1024_S2x512x4096_d2) bitsLt_bf16_f32 : FVec Ideal S2x512x4096 .bf16) := by
  simp only [V]
  after_reads_simp
  rfl

theorem v17_at (c : Dev nD) (k : Fin 512) (f : Fin 4096) : V m c main_v17 (ix3 1 k f)
    = @dite EReal (f.val < 2048) (Nat.decLt _ _) (fun h => V m c main_v10 (ix3 1 k ⟨f.val, h⟩)) fun _ => @ite EReal (f.val < 3072) (Nat.decLt _ _) (V m c main_v11 (ix3 1 k ⟨f.val % 1024, by omega⟩)) (V m c main_v15 (ix3 1 k ⟨f.val % 1024, by omega⟩)) :=
  (congrFun (v17 m c) _).trans (cat3 _ _ _ k f)

/-- The widened query projection's columns: every head's plain lanes, then every head's rotary lanes, then
    those with their halves swapped. -/
theorem wq_nope (c : Dev nD) (k : Fin 512) (f : Fin 2048) : V m c main_v17 (ix3 1 k ⟨f.val, by omega⟩) = (m ((c : Thread nD τ).loc main_arg4) (ix3 1 k ⟨f.val / 128 * 192 + f.val % 128, by omega⟩) : EReal) :=
  ((v17_at m c k _).trans (dif_pos f.isLt)).trans (nope m c k f)

theorem wq_pe (c : Dev nD) (k : Fin 512) (f : Fin 1024) : V m c main_v17 (ix3 1 k ⟨2048 + f.val, by omega⟩) = (m ((c : Thread nD τ).loc main_arg4) (ix3 1 k ⟨f.val / 64 * 192 + (128 + f.val % 64), by omega⟩) : EReal) := by
  have hf := f.isLt
  have e : (⟨(2048 + f.val) % 1024, by omega⟩ : Fin 1024) = f := Fin.ext (by simp only; omega)
  refine ((v17_at m c k _).trans ((dif_neg (by simp only; omega)).trans (if_pos (by simp only; omega)))).trans ?_
  simp only [e]
  exact qpe m c k f

theorem wq_sw (c : Dev nD) (k : Fin 512) (f : Fin 1024) : V m c main_v17 (ix3 1 k ⟨3072 + f.val, by omega⟩) = (m ((c : Thread nD τ).loc main_arg4) (ix3 1 k ⟨f.val / 64 * 192 + (128 + (f.val + 32) % 64), by omega⟩) : EReal) := by
  have hf := f.isLt
  have e : (⟨(3072 + f.val) % 1024, by omega⟩ : Fin 1024) = f := Fin.ext (by simp only; omega)
  refine ((v17_at m c k _).trans ((dif_neg (by simp only; omega)).trans (if_neg (by simp only; omega)))).trans ?_
  simp only [e]
  exact qpesw m c k f

theorem gq (c : Dev nD) (d : Fin 512) : V m c main_v47 (ix2 0 d) = (m ((c : Thread nD τ).loc main_arg2) (ix2 1 d) : EReal) := by
  simp only [V, hostOps0]
  entry_read
  pointwise

theorem gk (c : Dev nD) (d : Fin 512) : V m c main_v50 (ix2 0 d) = (m ((c : Thread nD τ).loc main_arg3) (ix2 1 d) : EReal) := by
  simp only [V, hostOps0]
  entry_read
  pointwise

theorem cos (c : Dev nD) (p : Fin 4) (j : Fin 32) : V m c main_v33 (ix2 p j) = (cosT ((8192#32 + BitVec.ofNat 32 p.val)) j : EReal) := by
  simp only [V, hostOps0]
  entry_read
  unfold cosT angle
  pointwise
  rfl

theorem sin (c : Dev nD) (p : Fin 4) (j : Fin 32) : V m c main_v34 (ix2 p j) = (sinT ((8192#32 + BitVec.ofNat 32 p.val)) j : EReal) := by
  simp only [V, hostOps0]
  entry_read
  unfold sinT angle
  pointwise
  rfl

theorem nsin (c : Dev nD) (p : Fin 4) (j : Fin 32) : V m c main_v36 (ix2 p j) = (-sinT ((8192#32 + BitVec.ofNat 32 p.val)) j : EReal) := by
  simp only [V, hostOps0]
  entry_read
  unfold sinT angle
  pointwise
  rfl

theorem nsin' (c : Dev nD) (p : Fin 4) (j : Fin 32) : V m c main_v37 (ix2 p j) = (-sinT ((8192#32 + BitVec.ofNat 32 p.val)) j : EReal) := by
  simp only [V, hostOps0]
  entry_read
  unfold sinT angle
  pointwise
  rfl

theorem cat4 (A B C : FVec Ideal S4x32 .f32) (p : Fin 4) (f : Fin 128) :
    concatenate S4x128 1 [⟨S4x32, A⟩, ⟨S4x32, B⟩, ⟨S4x32, C⟩, ⟨S4x32, B⟩] concatenates_S4x32_S4x32_S4x32_S4x32_S4x128_d1 (ix2 p f)
      = if f.val < 32 then A (ix2 p ⟨f.val % 32, by omega⟩) else if f.val < 64 then B (ix2 p ⟨f.val % 32, by omega⟩) else if f.val < 96 then C (ix2 p ⟨f.val % 32, by omega⟩) else B (ix2 p ⟨f.val % 32, by omega⟩) := by
  have hf := f.isLt
  pointwise
  repeat' split
  all_goals first
    | exact congrArg A (by congr 1; exact Fin.ext (by simp only; omega))
    | exact congrArg B (by congr 1; exact Fin.ext (by simp only; omega))
    | exact congrArg C (by congr 1; exact Fin.ext (by simp only; omega))
    | (exfalso; omega)

theorem cos4 (c : Dev nD) (p : Fin 4) (f : Fin 128) : V m c main_v35 (ix2 p f) = (cosT ((8192#32 + BitVec.ofNat 32 p.val)) ⟨f.val % 32, by omega⟩ : EReal) := by
  have h : V m c main_v35 = (concatenate S4x128 1 [⟨S4x32, (V m c main_v33 : FVec Ideal S4x32 .f32)⟩, ⟨S4x32, (V m c main_v33 : FVec Ideal S4x32 .f32)⟩, ⟨S4x32, (V m c main_v33 : FVec Ideal S4x32 .f32)⟩, ⟨S4x32, (V m c main_v33 : FVec Ideal S4x32 .f32)⟩] concatenates_S4x32_S4x32_S4x32_S4x32_S4x128_d1 : FVec Ideal S4x128 .f32) := by
    simp only [V]
    after_reads_simp
    rfl
  refine ((congrFun h _).trans (cat4 _ _ _ p f)).trans ?_
  repeat' split
  all_goals exact cos m c p _

theorem sin4 (c : Dev nD) (p : Fin 4) (f : Fin 128) : V m c main_v38 (ix2 p f)
    = (if f.val % 64 < 32 then -sinT ((8192#32 + BitVec.ofNat 32 p.val)) ⟨f.val % 32, by omega⟩ else sinT ((8192#32 + BitVec.ofNat 32 p.val)) ⟨f.val % 32, by omega⟩ : EReal) := by
  have h : V m c main_v38 = (concatenate S4x128 1 [⟨S4x32, (V m c main_v36 : FVec Ideal S4x32 .f32)⟩, ⟨S4x32, (V m c main_v34 : FVec Ideal S4x32 .f32)⟩, ⟨S4x32, (V m c main_v37 : FVec Ideal S4x32 .f32)⟩, ⟨S4x32, (V m c main_v34 : FVec Ideal S4x32 .f32)⟩] concatenates_S4x32_S4x32_S4x32_S4x32_S4x128_d1 : FVec Ideal S4x128 .f32) := by
    simp only [V]
    after_reads_simp
    rfl
  have hf := f.isLt
  refine ((congrFun h _).trans (cat4 _ _ _ p f)).trans ?_
  by_cases h1 : f.val < 32
  · rw [if_pos h1, if_pos (by omega)]
    exact nsin m c p _
  · rw [if_neg h1]
    by_cases h2 : f.val < 64
    · rw [if_pos h2, if_neg (by omega)]
      exact sin m c p _
    · rw [if_neg h2]
      by_cases h3 : f.val < 96
      · rw [if_pos h3, if_pos (by omega)]
        exact nsin' m c p _
      · rw [if_neg h3, if_neg (by omega)]
        exact sin m c p _

theorem tcos (c : Dev nD) (r : Fin 512) (f : Fin 128) : V m c main_v40 (ix2 r f) = V m c main_v35 (ix2 ⟨r.val / 128, by omega⟩ f) := by
  have h : V m c main_v40 = (shapeCast S512x128 (broadcastInDim S4x128x128 ![0, 2] bcast_S4x128_S4x128x128_0_2 (V m c main_v35 : FVec Ideal S4x128 .f32)) shapeCasts_S4x128x128_S512x128 : FVec Ideal S512x128 .f32) := by
    simp only [V]
    after_reads_simp
    rfl
  refine (congrFun h _).trans ?_
  pointwise

theorem tsin (c : Dev nD) (r : Fin 512) (f : Fin 128) : V m c main_v42 (ix2 r f) = V m c main_v38 (ix2 ⟨r.val / 128, by omega⟩ f) := by
  have h : V m c main_v42 = (shapeCast S512x128 (broadcastInDim S4x128x128 ![0, 2] bcast_S4x128_S4x128x128_0_2 (V m c main_v38 : FVec Ideal S4x128 .f32)) shapeCasts_S4x128x128_S512x128 : FVec Ideal S512x128 .f32) := by
    simp only [V]
    after_reads_simp
    rfl
  refine (congrFun h _).trans ?_
  pointwise

end Cert.MlasHost
-- ==== Proof.MlasRef.lean ====
module

public import proofs.«01_k».proof.Proof.Gen.MlasReferenceIdeal.Read
public import proofs.«01_k».proof.Proof.MlaSpec
public import Idealize.ShloMosaic.Lib.Pipeline.ValueKit

/- What the sampling projection reference's arrays hold at an index. -/

@[expose] public section

set_option maxRecDepth 16384

noncomputable section

namespace Cert.MlasRef

open Idealize.ShloMosaic Idealize.SL.Sem Cert.MlasReferenceIdeal Cert.MlasReferenceIdeal.Read Cert.MlaSpec

theorem projected (x0 : (⟨S128x4x2048, .f32⟩ : BufTy).Contents (Elt Ideal)) (x1 : (⟨S2x2048x1088, .f32⟩ : BufTy).Contents (Elt Ideal)) (b : Fin 128) (s : Fin 4) (f : Fin 1088) :
    val_main_v11 x0 x1 (ix3 b s f) = proj (fun k => x0 (ix3 b s k)) (fun k f => x1 (ix3 1 k f)) f := by
  unfold proj
  pointwise [val_main_v11, val_main_v4, val_main_v3]

theorem qnorm (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (b : Fin 128) (s : Fin 4) (d : Fin 512) :
    val_main_v25 x0 x1 x2 (ix3 b s d) = rms (fun j => proj (fun k => x0 (ix3 b s k)) (fun k f => x1 (ix3 1 k f)) ⟨j.val, by omega⟩) (fun j => x2 (ix2 1 j)) d := by
  unfold rms
  simp only [← projected]
  pointwise [val_main_v25, val_main_v24, val_main_v23, val_main_v22, val_main_v21, val_main_v20, val_main_v19, val_main_v18, val_main_v17, val_main_v16, val_main_v15, val_main_v14, val_main_v13, val_main_v12, val_main_v6, val_main_v5, val_main_cst, val_main_cst_0, val_main_cst_1, val_main_cst_2, val_main_cst_3, val_main_cst_4]

theorem knorm (x0 : (⟨S128x4x2048, .f32⟩ : BufTy).Contents (Elt Ideal)) (x1 : (⟨S2x2048x1088, .f32⟩ : BufTy).Contents (Elt Ideal)) (x3 : (⟨S2x512, .f32⟩ : BufTy).Contents (Elt Ideal)) (b : Fin 128) (s : Fin 4) (d : Fin 512) :
    val_main_v39 x0 x1 x3 (ix3 b s d) = latent (fun k => x0 (ix3 b s k)) (fun k f => x1 (ix3 1 k f)) (fun j => x3 (ix2 1 j)) d := by
  unfold latent rms
  simp only [← projected]
  pointwise [val_main_v39, val_main_v38, val_main_v37, val_main_v36, val_main_v35, val_main_v34, val_main_v33, val_main_v32, val_main_v31, val_main_v30, val_main_v29, val_main_v28, val_main_v27, val_main_v26, val_main_v8, val_main_v7, val_main_cst, val_main_cst_0, val_main_cst_1, val_main_cst_2, val_main_cst_3, val_main_cst_4]

theorem queried (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 128) (s : Fin 4) (f : Fin 3072) :
    val_main_v72 x0 x1 x2 x4 (ix3 b s f) = query (fun k => x0 (ix3 b s k)) (fun k f => x1 (ix3 1 k f)) (fun j => x2 (ix2 1 j)) (fun k f => x4 (ix3 1 k f)) f := by
  unfold query
  simp only [← qnorm]
  pointwise [val_main_v72, val_main_v10, val_main_v9]

theorem cos_k (s : Fin 4) (j : Fin 32) : val_main_v53 (F := Ideal) (ix2 s j) = cosT (8192#32 + BitVec.ofNat 32 s.val) j := by
  unfold cosT angle
  pointwise [val_main_v41, val_main_v42, val_main_v43, val_main_v44, val_main_v45, val_main_v46, val_main_v47, val_main_v48, val_main_v49, val_main_v50, val_main_v51, val_main_v52, val_main_v53, val_main_cst_5, val_main_cst_6, val_main_cst_7, val_main_cst_8, val_main_v0, val_main_v1, val_main_v2, val_main_c]
  rfl

theorem sin_k (s : Fin 4) (j : Fin 32) : val_main_v54 (F := Ideal) (ix2 s j) = sinT (8192#32 + BitVec.ofNat 32 s.val) j := by
  unfold sinT angle
  pointwise [val_main_v41, val_main_v42, val_main_v43, val_main_v44, val_main_v45, val_main_v46, val_main_v47, val_main_v48, val_main_v49, val_main_v50, val_main_v51, val_main_v52, val_main_v54, val_main_cst_5, val_main_cst_6, val_main_cst_7, val_main_cst_8, val_main_v0, val_main_v1, val_main_v2, val_main_c]
  rfl

theorem cos_q (s : Fin 4) (j : Fin 32) : val_main_v88 (F := Ideal) (ix2 s j) = cosT (8192#32 + BitVec.ofNat 32 s.val) j := by
  unfold cosT angle
  pointwise [val_main_v76, val_main_v77, val_main_v78, val_main_v79, val_main_v80, val_main_v81, val_main_v82, val_main_v83, val_main_v84, val_main_v85, val_main_v86, val_main_v87, val_main_v88, val_main_cst_5, val_main_cst_6, val_main_cst_7, val_main_cst_8, val_main_v0, val_main_v1, val_main_v2, val_main_c]
  rfl

theorem sin_q (s : Fin 4) (j : Fin 32) : val_main_v90 (F := Ideal) (ix2 s j) = sinT (8192#32 + BitVec.ofNat 32 s.val) j := by
  unfold sinT angle
  pointwise [val_main_v76, val_main_v77, val_main_v78, val_main_v79, val_main_v80, val_main_v81, val_main_v82, val_main_v83, val_main_v84, val_main_v85, val_main_v86, val_main_v87, val_main_v90, val_main_cst_5, val_main_cst_6, val_main_cst_7, val_main_cst_8, val_main_v0, val_main_v1, val_main_v2, val_main_c]
  rfl

theorem krot (x0 : (⟨S128x4x2048, .f32⟩ : BufTy).Contents (Elt Ideal)) (x1 : (⟨S2x2048x1088, .f32⟩ : BufTy).Contents (Elt Ideal)) (b : Fin 128) (s : Fin 4) (f : Fin 64) :
    val_main_v71 x0 x1 (ix3 b s f) = rot (fun j => proj (fun k => x0 (ix3 b s k)) (fun k f => x1 (ix3 1 k f)) ⟨1024 + j.val, by omega⟩) (cosT (8192#32 + BitVec.ofNat 32 s.val)) (sinT (8192#32 + BitVec.ofNat 32 s.val)) f := by
  unfold rot
  simp only [← projected, ← cos_k, ← sin_k]
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v40]
  split
  · rfl
  · have e : 32 + (f.val - 32) = f.val := by omega
    simp only [e]

theorem qrot (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 128) (s : Fin 4) (h : Fin 16) (f : Fin 64) :
    val_main_v108 x0 x1 x2 x4 (ix4 b s h f) = rot (fun j => query (fun k => x0 (ix3 b s k)) (fun k f => x1 (ix3 1 k f)) (fun j => x2 (ix2 1 j)) (fun k f => x4 (ix3 1 k f)) ⟨h.val * 192 + (128 + j.val), by omega⟩) (cosT (8192#32 + BitVec.ofNat 32 s.val)) (sinT (8192#32 + BitVec.ofNat 32 s.val)) f := by
  unfold rot
  simp only [← queried, ← cos_q, ← sin_q]
  pointwise [val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v89, val_main_v75, val_main_v73]
  split
  · rfl
  · have e : 32 + (f.val - 32) = f.val := by omega
    simp only [e]

theorem kk (x0 : (⟨S128x4x2048, .f32⟩ : BufTy).Contents (Elt Ideal)) (x1 : (⟨S2x2048x1088, .f32⟩ : BufTy).Contents (Elt Ideal)) (b : Fin 128) (s : Fin 4) (f : Fin 128) :
    val_main_v109 x0 x1 (ix3 b s f) = val_main_v71 x0 x1 (ix3 b s ⟨f.val % 64, by omega⟩) := by
  have hf := f.isLt
  pointwise [val_main_v109]
  split
  all_goals exact congrArg (fun q => val_main_v71 x0 x1 (ix3 b s q)) (Fin.ext (by simp only; omega))

theorem qn (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 128) (s : Fin 4) (f : Fin 2048) :
    val_main_v111 x0 x1 x2 x4 (ix3 b s f) = query (fun k => x0 (ix3 b s k)) (fun k f => x1 (ix3 1 k f)) (fun j => x2 (ix2 1 j)) (fun k f => x4 (ix3 1 k f)) ⟨f.val / 128 * 192 + f.val % 128, by omega⟩ := by
  rw [← queried]
  pointwise [val_main_v111, val_main_v110, val_main_v74, val_main_v73]

theorem qp (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (b : Fin 128) (s : Fin 4) (f : Fin 1024) :
    val_main_v113 x0 x1 x2 x4 (ix3 b s f) = val_main_v108 x0 x1 x2 x4 (ix4 b s ⟨f.val / 64, by omega⟩ ⟨f.val % 64, by omega⟩) := by
  rw [val_main_v113_apply, val_main_v112_apply]
  refine congrArg (val_main_v108 x0 x1 x2 x4) (funext fun a => ?_)
  have hb := b.isLt
  have hs := s.isLt
  have hf := f.isLt
  fin_cases a
  · exact Fin.ext (show ((b.val * 4 + s.val) * 1024 + f.val) / 4096 = b.val by omega)
  · exact Fin.ext (show ((b.val * 4 + s.val) * 1024 + f.val) / 1024 % 4 = s.val by omega)
  · exact Fin.ext (show ((b.val * 4 + s.val) * 1024 + f.val) / 64 % 16 = f.val / 64 by omega)
  · exact Fin.ext (show ((b.val * 4 + s.val) * 1024 + f.val) % 64 = f.val % 64 by omega)

theorem res_ckv (x0 : (⟨S128x4x2048, .f32⟩ : BufTy).Contents (Elt Ideal)) (x1 : (⟨S2x2048x1088, .f32⟩ : BufTy).Contents (Elt Ideal)) (x3 : (⟨S2x512, .f32⟩ : BufTy).Contents (Elt Ideal)) (r : Fin 512) (d : Fin 512) :
    val_main_v115 x0 x1 x3 (ix2 r d) = val_main_v39 x0 x1 x3 (ix3 ⟨r.val % 128, Nat.mod_lt _ (by decide)⟩ ⟨r.val / 128, by omega⟩ d) := by
  pointwise [val_main_v115, val_main_v114]

theorem res_kk (x0 : (⟨S128x4x2048, .f32⟩ : BufTy).Contents (Elt Ideal)) (x1 : (⟨S2x2048x1088, .f32⟩ : BufTy).Contents (Elt Ideal)) (r : Fin 512) (d : Fin 128) :
    val_main_v117 x0 x1 (ix2 r d) = val_main_v109 x0 x1 (ix3 ⟨r.val % 128, Nat.mod_lt _ (by decide)⟩ ⟨r.val / 128, by omega⟩ d) := by
  pointwise [val_main_v117, val_main_v116]

theorem res_qn (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (r : Fin 512) (d : Fin 2048) :
    val_main_v119 x0 x1 x2 x4 (ix2 r d) = val_main_v111 x0 x1 x2 x4 (ix3 ⟨r.val % 128, Nat.mod_lt _ (by decide)⟩ ⟨r.val / 128, by omega⟩ d) := by
  pointwise [val_main_v119, val_main_v118]

theorem res_qp (x0 : (⟨S128x4x2048, .f32⟩ : BufTy).Contents (Elt Ideal)) (x1 : (⟨S2x2048x1088, .f32⟩ : BufTy).Contents (Elt Ideal)) (x2 : (⟨S2x512, .f32⟩ : BufTy).Contents (Elt Ideal)) (x4 : (⟨S2x512x3072, .f32⟩ : BufTy).Contents (Elt Ideal)) (r : Fin 512) (d : Fin 1024) :
    val_main_v121 x0 x1 x2 x4 (ix2 r d) = val_main_v113 x0 x1 x2 x4 (ix3 ⟨r.val % 128, Nat.mod_lt _ (by decide)⟩ ⟨r.val / 128, by omega⟩ d) := by
  pointwise [val_main_v121, val_main_v120]

end Cert.MlasRef
-- ==== Proof.MlasMatch.lean ====
module

public import proofs.«01_k».proof.Proof.MlasPay
public import proofs.«01_k».proof.Proof.MlasHost
public import proofs.«01_k».proof.Proof.MlasRef
public import Idealize.ShloMosaic.Lib.Pipeline.ValueKit

/- The sampling projection kernel's result arrays are the reference's. -/

@[expose] public section

set_option maxRecDepth 16384

noncomputable section

namespace Cert.MlasMatch

open Idealize.ShloMosaic Idealize.ShloMosaic.TcCoe Idealize.SL.Sem Cert.MlasKernelIdeal Cert.MlasKernelIdeal.Gen Cert.MlaSpec

variable (m : (ℓ : Loc nD τ sig) → Buf (Elt Ideal) ℓ)

theorem idx : ∀ t : Fin cfg0.N, win0_0.index t = ![t.val, 0] ∧ win0_1.index t = ![1, 0, 0] ∧ win0_2.index t = ![0, 0] ∧ win0_3.index t = ![0, 0] ∧ win0_4.index t = ![1, 0, 0]
    ∧ win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ t.val < 2 :=
  (by decide +kernel : ∀ t : Fin grid0.N, _)

theorem lt (t : Fin cfg0.N) : t.val < 2 := (idx t).2.2.2.2.2.2.2.2.2.2.2

/-- Layer 1's rows of each weight. -/
abbrev argW (c : Dev nD) : Fin 2048 → Fin 1088 → EReal := fun k f => m ((c : Thread nD τ).loc main_arg1) (ix3 1 k f)
abbrev argQ (c : Dev nD) : Fin 512 → EReal := fun d => m ((c : Thread nD τ).loc main_arg2) (ix2 1 d)
abbrev argK (c : Dev nD) : Fin 512 → EReal := fun d => m ((c : Thread nD τ).loc main_arg3) (ix2 1 d)
abbrev argU (c : Dev nD) : Fin 512 → Fin 3072 → EReal := fun k f => m ((c : Thread nD τ).loc main_arg4) (ix3 1 k f)

/-- The input at row `r` of the flattened batch. -/
abbrev row (c : Dev nD) (r : Fin 512) : Fin 2048 → EReal := fun k => V m c main_v44 (ix2 r k)

/-- Row `r`'s rotation tables. -/
abbrev tc (r : ℕ) : Fin 32 → EReal := cosT (8192#32 + BitVec.ofNat 32 (r / 128))
abbrev ts (r : ℕ) : Fin 32 → EReal := sinT (8192#32 + BitVec.ofNat 32 (r / 128))

/-- Point `t`'s row `r` in the flattened batch. -/
abbrev at_ (t : Fin cfg0.N) (r : Fin 256) : Fin 512 := ⟨t.val * 256 + r.val, by have := lt t; omega⟩

theorem blk0 (c : Dev nD) (t : Fin cfg0.N) (r : Fin 256) (k : Fin 2048) : iblk m c 0 t (ix2 r k) = row m c (at_ t r) k := by
  have := lt t
  blk_simp [iblk]
  exact congrArg (V m c main_v44) (by blk_ext [idx t])

theorem blk1 (c : Dev nD) (t : Fin cfg0.N) (k : Fin 2048) (f : Fin 1280) : iblk m c 1 t (ix3 0 k f) = V m c main_v6 (ix3 1 k f) := by
  blk_simp [iblk]
  exact congrArg (V m c main_v6) (by blk_ext [idx t])

theorem blk2 (c : Dev nD) (t : Fin cfg0.N) (d : Fin 512) : iblk m c 2 t (ix2 0 d) = argQ m c d := by
  blk_simp [iblk]
  exact (congrArg (V m c main_v47) (by blk_ext [idx t])).trans (MlasHost.gq m c d)

theorem blk3 (c : Dev nD) (t : Fin cfg0.N) (d : Fin 512) : iblk m c 3 t (ix2 0 d) = argK m c d := by
  blk_simp [iblk]
  exact (congrArg (V m c main_v50) (by blk_ext [idx t])).trans (MlasHost.gk m c d)

theorem blk4 (c : Dev nD) (t : Fin cfg0.N) (k : Fin 512) (f : Fin 4096) : iblk m c 4 t (ix3 0 k f) = V m c main_v17 (ix3 1 k f) := by
  blk_simp [iblk]
  exact congrArg (V m c main_v17) (by blk_ext [idx t])

theorem blk5 (c : Dev nD) (t : Fin cfg0.N) (r : Fin 256) (f : Fin 128) : iblk m c 5 t (ix2 r f) = tc (at_ t r).val ⟨f.val % 32, by omega⟩ := by
  have := lt t
  refine Eq.trans ?_ ((MlasHost.tcos m c (at_ t r) f).trans (MlasHost.cos4 m c _ f))
  blk_simp [iblk]
  exact congrArg (V m c main_v40) (by blk_ext [idx t])

theorem blk6 (c : Dev nD) (t : Fin cfg0.N) (r : Fin 256) (f : Fin 128) : iblk m c 6 t (ix2 r f)
    = if f.val % 64 < 32 then -ts (at_ t r).val ⟨f.val % 32, by omega⟩ else ts (at_ t r).val ⟨f.val % 32, by omega⟩ := by
  have := lt t
  refine Eq.trans ?_ ((MlasHost.tsin m c (at_ t r) f).trans (MlasHost.sin4 m c _ f))
  blk_simp [iblk]
  exact congrArg (V m c main_v42) (by blk_ext [idx t])

theorem in_lo (c : Dev nD) (t : Fin cfg0.N) (r : Fin 256) (f : Fin 1024) :
    k0_pay7 (iblk m c 0 t) (iblk m c 1 t) (ix2 r ⟨f.val, by omega⟩) = proj (row m c (at_ t r)) (argW m c) ⟨f.val, by omega⟩ := by
  rw [MlasPay.pay7]
  unfold proj
  refine Finset.sum_congr rfl fun k _ => ?_
  rw [blk0, blk1, MlasHost.win_lo m c k f]

theorem in_pe (c : Dev nD) (t : Fin cfg0.N) (r : Fin 256) (f : Fin 128) :
    k0_pay7 (iblk m c 0 t) (iblk m c 1 t) (ix2 r ⟨1024 + f.val, by omega⟩) = proj (row m c (at_ t r)) (argW m c) ⟨1024 + f.val % 64, by omega⟩ := by
  rw [MlasPay.pay7]
  unfold proj
  refine Finset.sum_congr rfl fun k _ => ?_
  rw [blk0, blk1, MlasHost.win_pe m c k f]

theorem in_sw (c : Dev nD) (t : Fin cfg0.N) (r : Fin 256) (f : Fin 128) :
    k0_pay7 (iblk m c 0 t) (iblk m c 1 t) (ix2 r ⟨1152 + f.val, by omega⟩) = proj (row m c (at_ t r)) (argW m c) ⟨1024 + (f.val + 32) % 64, by omega⟩ := by
  rw [MlasPay.pay7]
  unfold proj
  refine Finset.sum_congr rfl fun k _ => ?_
  rw [blk0, blk1, MlasHost.win_sw m c k f]

theorem lat (c : Dev nD) (t : Fin cfg0.N) (r : Fin 256) (d : Fin 512) :
    k0_pay9 (iblk m c 0 t) (iblk m c 1 t) (iblk m c 3 t) (ix2 r d) = latent (row m c (at_ t r)) (argW m c) (argK m c) d := by
  rw [MlasPay.pay9]
  unfold latent
  congr 1
  · funext j
    exact in_lo m c t r ⟨512 + j.val, by omega⟩
  · funext j
    exact blk3 m c t j

theorem qlat (c : Dev nD) (t : Fin cfg0.N) (r : Fin 256) (d : Fin 512) :
    k0_pay8 (iblk m c 0 t) (iblk m c 1 t) (iblk m c 2 t) (ix2 r d) = rms (fun j => proj (row m c (at_ t r)) (argW m c) ⟨j.val, by omega⟩) (argQ m c) d := by
  rw [MlasPay.pay8]
  congr 1
  · funext j
    exact in_lo m c t r ⟨j.val, by omega⟩
  · funext j
    exact blk2 m c t j

/-- A query projection through one lane `f` of the widened weight, which holds lane `g` of the weight. -/
theorem q_of (c : Dev nD) (t : Fin cfg0.N) (r : Fin 256) (f : Fin 4096) (g : Fin 3072) (h : ∀ k : Fin 512, V m c main_v17 (ix3 1 k f) = argU m c k g) :
    k0_pay4 (k0_pay8 (iblk m c 0 t) (iblk m c 1 t) (iblk m c 2 t)) (iblk m c 4 t) (ix2 r f) = query (row m c (at_ t r)) (argW m c) (argQ m c) (argU m c) g := by
  rw [MlasPay.pay4]
  unfold query
  refine Finset.sum_congr rfl fun k _ => ?_
  rw [qlat, blk4, h]

theorem krot (c : Dev nD) (t : Fin cfg0.N) (r : Fin 256) (f : Fin 128) :
    k0_pay3 (k0_pay7 (iblk m c 0 t) (iblk m c 1 t)) (iblk m c 5 t) (iblk m c 6 t) (ix2 r f)
      = rot (fun j => proj (row m c (at_ t r)) (argW m c) ⟨1024 + j.val, by omega⟩) (tc (at_ t r).val) (ts (at_ t r).val) ⟨f.val % 64, by omega⟩ := by
  have hf := f.isLt
  have e : (⟨f.val % 64 % 32, by omega⟩ : Fin 32) = ⟨f.val % 32, by omega⟩ := Fin.ext (by simp only; omega)
  have e' : (f.val % 64 + 32) % 64 = (f.val + 32) % 64 := by omega
  rw [rot_of_tables, MlasPay.pay3, in_pe, in_sw, blk5, blk6]
  simp only [e, e']

theorem qrot (c : Dev nD) (t : Fin cfg0.N) (r : Fin 256) (f : Fin 1024) :
    k0_pay6 (k0_pay8 (iblk m c 0 t) (iblk m c 1 t) (iblk m c 2 t)) (iblk m c 5 t) (iblk m c 6 t) (iblk m c 4 t) (ix2 r f)
      = rot (fun j => query (row m c (at_ t r)) (argW m c) (argQ m c) (argU m c) ⟨f.val / 64 * 192 + (128 + j.val), by omega⟩) (tc (at_ t r).val) (ts (at_ t r).val) ⟨f.val % 64, by omega⟩ := by
  have hf := f.isLt
  have e : (⟨f.val % 64 % 32, by omega⟩ : Fin 32) = ⟨f.val % 32, by omega⟩ := Fin.ext (by simp only; omega)
  have e2 : (⟨f.val % 128 % 32, by omega⟩ : Fin 32) = ⟨f.val % 32, by omega⟩ := Fin.ext (by simp only; omega)
  have e3 : f.val % 128 % 64 = f.val % 64 := by omega
  have e' : (f.val % 64 + 32) % 64 = (f.val + 32) % 64 := by omega
  rw [rot_of_tables, MlasPay.pay6, q_of m c t r _ _ (fun k => MlasHost.wq_pe m c k f), q_of m c t r _ _ (fun k => MlasHost.wq_sw m c k f), blk5, blk6]
  simp only [e, e2, e3, e']

theorem qnope (c : Dev nD) (t : Fin cfg0.N) (r : Fin 256) (f : Fin 2048) :
    k0_pay5 (k0_pay8 (iblk m c 0 t) (iblk m c 1 t) (iblk m c 2 t)) (iblk m c 4 t) (ix2 r f)
      = query (row m c (at_ t r)) (argW m c) (argQ m c) (argU m c) ⟨f.val / 128 * 192 + f.val % 128, by omega⟩ := by
  rw [MlasPay.pay5, q_of m c t r _ _ (fun k => MlasHost.wq_nope m c k f)]

theorem row_at (c : Dev nD) (r : Fin 512) : row m c r = fun k => m ((c : Thread nD τ).loc main_arg0) (ix3 ⟨r.val % 128, Nat.mod_lt _ (by decide)⟩ ⟨r.val / 128, by omega⟩ k) :=
  funext fun k => MlasHost.x m c r k

theorem ref_ckv (c : Dev nD) (r : Fin 512) (d : Fin 512) : Cert.MlasReferenceIdeal.Read.val_main_v115 (m ((c : Thread nD τ).loc main_arg0)) (m ((c : Thread nD τ).loc main_arg1)) (m ((c : Thread nD τ).loc main_arg3)) (ix2 r d) = latent (row m c r) (argW m c) (argK m c) d := by
  rw [MlasRef.res_ckv, row_at m c r, MlasRef.knorm]

theorem ref_kk (c : Dev nD) (r : Fin 512) (d : Fin 128) : Cert.MlasReferenceIdeal.Read.val_main_v117 (m ((c : Thread nD τ).loc main_arg0)) (m ((c : Thread nD τ).loc main_arg1)) (ix2 r d) = rot (fun j => proj (row m c r) (argW m c) ⟨1024 + j.val, by omega⟩) (tc r.val) (ts r.val) ⟨d.val % 64, by omega⟩ := by
  rw [MlasRef.res_kk, row_at m c r, MlasRef.kk, MlasRef.krot]

theorem ref_qn (c : Dev nD) (r : Fin 512) (d : Fin 2048) : Cert.MlasReferenceIdeal.Read.val_main_v119 (m ((c : Thread nD τ).loc main_arg0)) (m ((c : Thread nD τ).loc main_arg1)) (m ((c : Thread nD τ).loc main_arg2)) (m ((c : Thread nD τ).loc main_arg4)) (ix2 r d) = query (row m c r) (argW m c) (argQ m c) (argU m c) ⟨d.val / 128 * 192 + d.val % 128, by omega⟩ := by
  rw [MlasRef.res_qn, row_at m c r, MlasRef.qn]

theorem ref_qp (c : Dev nD) (r : Fin 512) (d : Fin 1024) : Cert.MlasReferenceIdeal.Read.val_main_v121 (m ((c : Thread nD τ).loc main_arg0)) (m ((c : Thread nD τ).loc main_arg1)) (m ((c : Thread nD τ).loc main_arg2)) (m ((c : Thread nD τ).loc main_arg4)) (ix2 r d) = rot (fun j => query (row m c r) (argW m c) (argQ m c) (argU m c) ⟨d.val / 64 * 192 + (128 + j.val), by omega⟩) (tc r.val) (ts r.val) ⟨d.val % 64, by omega⟩ := by
  rw [MlasRef.res_qp, row_at m c r, MlasRef.qp, MlasRef.qrot]

theorem out_qn (x0 : Vec Ideal S256x2048 .f32) (x1 : Vec Ideal S1x2048x1280 .bf16) (x2 : Vec Ideal S1x512 .f32) (x3 : Vec Ideal S1x512 .f32) (x4 : Vec Ideal S1x512x4096 .bf16) (x5 : Vec Ideal S256x128 .f32) (x6 : Vec Ideal S256x128 .f32) : out0_9 x0 x1 x2 x3 x4 x5 x6 = k0_pay5 (k0_pay8 x0 x1 x2) x4 := by
  frame_out
  unfold k0_pay10
  simp (disch := decide) only [View.ld_unit_lit']

theorem out_qp (x0 : Vec Ideal S256x2048 .f32) (x1 : Vec Ideal S1x2048x1280 .bf16) (x2 : Vec Ideal S1x512 .f32) (x3 : Vec Ideal S1x512 .f32) (x4 : Vec Ideal S1x512x4096 .bf16) (x5 : Vec Ideal S256x128 .f32) (x6 : Vec Ideal S256x128 .f32) : out0_10 x0 x1 x2 x3 x4 x5 x6 = k0_pay6 (k0_pay8 x0 x1 x2) x5 x6 x4 := by
  frame_out
  unfold k0_pay10
  simp (disch := decide) only [View.ld_unit_lit']

theorem final_ckv (c : Dev nD) : (dats m 0 c).arrAt 7 cfg0.N = Cert.MlasReferenceIdeal.Read.val_main_v115 (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := lt t
  blk_simp
  rw [after0_7]
  frame_out
  obtain ⟨r, z, rfl⟩ : ∃ (r : Fin 256) (z : Fin 512), y = ix2 r z := ⟨y 0, y 1, by blk_ext⟩
  refine (lat m c t r z).trans ?_
  refine Eq.trans ?_ (congrArg (Cert.MlasReferenceIdeal.Read.val_main_v115 (m ((c : Thread nD τ).loc main_arg0)) (m ((c : Thread nD τ).loc main_arg1)) (m ((c : Thread nD τ).loc main_arg3))) (show ix2 (at_ t r) z = _ by blk_ext [idx t]))
  rw [ref_ckv]

theorem final_kk (c : Dev nD) : (dats m 0 c).arrAt 8 cfg0.N = Cert.MlasReferenceIdeal.Read.val_main_v117 (m ((c : Thread nD τ).loc main_arg0)) (m ((c : Thread nD τ).loc main_arg1)) := by
  refine (dats m 0 c).arrAt_eq_of_covers 8 _ (by decide +kernel) fun t hf y => ?_
  have ht := lt t
  blk_simp
  rw [after0_8]
  frame_out
  obtain ⟨r, z, rfl⟩ : ∃ (r : Fin 256) (z : Fin 128), y = ix2 r z := ⟨y 0, y 1, by blk_ext⟩
  refine (krot m c t r z).trans ?_
  refine Eq.trans ?_ (congrArg (Cert.MlasReferenceIdeal.Read.val_main_v117 (m ((c : Thread nD τ).loc main_arg0)) (m ((c : Thread nD τ).loc main_arg1))) (show ix2 (at_ t r) z = _ by blk_ext [idx t]))
  rw [ref_kk]

theorem final_qn (c : Dev nD) : (dats m 0 c).arrAt 9 cfg0.N = Cert.MlasReferenceIdeal.Read.val_main_v119 (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  have ht := lt t
  blk_simp
  rw [after0_9]
  rw [out_qn]
  obtain ⟨r, z, rfl⟩ : ∃ (r : Fin 256) (z : Fin 2048), y = ix2 r z := ⟨y 0, y 1, by blk_ext⟩
  refine (qnope m c t r z).trans ?_
  refine Eq.trans ?_ (congrArg (Cert.MlasReferenceIdeal.Read.val_main_v119 (m ((c : Thread nD τ).loc main_arg0)) (m ((c : Thread nD τ).loc main_arg1)) (m ((c : Thread nD τ).loc main_arg2)) (m ((c : Thread nD τ).loc main_arg4))) (show ix2 (at_ t r) z = _ by blk_ext [idx t]))
  rw [ref_qn]

theorem final_qp (c : Dev nD) : (dats m 0 c).arrAt 10 cfg0.N = Cert.MlasReferenceIdeal.Read.val_main_v121 (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  have ht := lt t
  blk_simp
  rw [after0_10]
  rw [out_qp]
  obtain ⟨r, z, rfl⟩ : ∃ (r : Fin 256) (z : Fin 1024), y = ix2 r z := ⟨y 0, y 1, by blk_ext⟩
  refine (qrot m c t r z).trans ?_
  refine Eq.trans ?_ (congrArg (Cert.MlasReferenceIdeal.Read.val_main_v121 (m ((c : Thread nD τ).loc main_arg0)) (m ((c : Thread nD τ).loc main_arg1)) (m ((c : Thread nD τ).loc main_arg2)) (m ((c : Thread nD τ).loc main_arg4))) (show ix2 (at_ t r) z = _ by blk_ext [idx t]))
  rw [ref_qp]

end Cert.MlasMatch
-- ==== Proof.MlasClaims.lean ====
module

public import proofs.«01_k».proof.Defs
public import proofs.«01_k».proof.Proof.MlasMatch
public import proofs.«01_k».proof.Proof.Gen.MlasKernel.Frame
public import proofs.«01_k».proof.Proof.Gen.MlasKernelIdeal.Value
public import proofs.«01_k».proof.Proof.Gen.MlasReferenceIdeal.Run
public import proofs.«01_k».proof.Proof.Gen.MlasReferenceIdeal.Read
public import Idealize.ShloMosaic.Adequacy

/- The five claims about the pair `MlasKernel`, `MlasReference`. -/

@[expose] public section

noncomputable section

namespace Cert.MlasClaims

open Idealize.ShloMosaic Idealize.ShloMosaic.TcCoe Idealize.SL.Sem

/-- The kernel runs, keeps its arguments and ends quiet, over the reals and over the bits. -/
theorem frame_bits : Cert.quiescent_MlasKernel := fun m ρ _ => Cert.MlasKernel.Gen.frame m ρ
theorem frame_ideal : Cert.quiescent_MlasKernelIdeal := fun m ρ _ => Cert.MlasKernelIdeal.Gen.frame m ρ
/-- The reference keeps its arguments and declares no semaphore. -/
theorem frame_reference : Cert.quiescent_MlasReferenceIdeal := fun m ρ _ =>
  (θ_run Cert.MlasReferenceIdeal.defs _ _).mono (fun r h => ⟨fun c => (h c).2.2.2.2, sem_eq_zero_of_no_sems (by decide) r.2⟩)
    (Cert.MlasReferenceIdeal.Value.run (F := Ideal) m ρ)

theorem preserves : Cert.preserves_MlasKernel_MlasKernelIdeal := trivial

/-- Over the reals the kernel's arrays are the reference's. -/
theorem algebraic : Cert.algebraic_MlasKernelIdeal_MlasReferenceIdeal := by
  intro m ρ m' ρ' _ hag
  refine ⟨fun c => Cert.MlasReferenceIdeal.Read.val_main_v115 (F := Ideal) (m ((c : Thread Cert.MlasKernelIdeal.nD Cert.MlasKernelIdeal.τ).loc Cert.MlasKernelIdeal.main_arg0)) (m ((c : Thread Cert.MlasKernelIdeal.nD Cert.MlasKernelIdeal.τ).loc Cert.MlasKernelIdeal.main_arg1)) (m ((c : Thread Cert.MlasKernelIdeal.nD Cert.MlasKernelIdeal.τ).loc Cert.MlasKernelIdeal.main_arg3)),
    fun c => Cert.MlasReferenceIdeal.Read.val_main_v117 (F := Ideal) (m ((c : Thread Cert.MlasKernelIdeal.nD Cert.MlasKernelIdeal.τ).loc Cert.MlasKernelIdeal.main_arg0)) (m ((c : Thread Cert.MlasKernelIdeal.nD Cert.MlasKernelIdeal.τ).loc Cert.MlasKernelIdeal.main_arg1)),
    fun c => Cert.MlasReferenceIdeal.Read.val_main_v119 (F := Ideal) (m ((c : Thread Cert.MlasKernelIdeal.nD Cert.MlasKernelIdeal.τ).loc Cert.MlasKernelIdeal.main_arg0)) (m ((c : Thread Cert.MlasKernelIdeal.nD Cert.MlasKernelIdeal.τ).loc Cert.MlasKernelIdeal.main_arg1)) (m ((c : Thread Cert.MlasKernelIdeal.nD Cert.MlasKernelIdeal.τ).loc Cert.MlasKernelIdeal.main_arg2)) (m ((c : Thread Cert.MlasKernelIdeal.nD Cert.MlasKernelIdeal.τ).loc Cert.MlasKernelIdeal.main_arg4)),
    fun c => Cert.MlasReferenceIdeal.Read.val_main_v121 (F := Ideal) (m ((c : Thread Cert.MlasKernelIdeal.nD Cert.MlasKernelIdeal.τ).loc Cert.MlasKernelIdeal.main_arg0)) (m ((c : Thread Cert.MlasKernelIdeal.nD Cert.MlasKernelIdeal.τ).loc Cert.MlasKernelIdeal.main_arg1)) (m ((c : Thread Cert.MlasKernelIdeal.nD Cert.MlasKernelIdeal.τ).loc Cert.MlasKernelIdeal.main_arg2)) (m ((c : Thread Cert.MlasKernelIdeal.nD Cert.MlasKernelIdeal.τ).loc Cert.MlasKernelIdeal.main_arg4)), ?_, ?_⟩
  · exact (θ_run Cert.MlasKernelIdeal.defs _ _).mono (fun r h c => ⟨(h c).1.trans (Cert.MlasMatch.final_ckv m c), (h c).2.1.trans (Cert.MlasMatch.final_kk m c), (h c).2.2.1.trans (Cert.MlasMatch.final_qn m c), (h c).2.2.2.1.trans (Cert.MlasMatch.final_qp m c), (h c).2.2.2.2⟩)
      (Cert.MlasKernelIdeal.Value.run_blocks (F := Ideal) m ρ)
  · refine (θ_run Cert.MlasReferenceIdeal.defs _ _).mono (fun r h c => ⟨(h c).1.trans ?_, (h c).2.1.trans ?_, (h c).2.2.1.trans ?_, (h c).2.2.2.1.trans ?_, (h c).2.2.2.2⟩)
      (Cert.MlasReferenceIdeal.Value.run (F := Ideal) m' ρ')
    · refine (Cert.MlasReferenceIdeal.Read.val_main_v115_eq _ _ _ ).trans ?_
      rw [(hag c).1, (hag c).2.1, (hag c).2.2.2.1]
    · refine (Cert.MlasReferenceIdeal.Read.val_main_v117_eq m' c).trans ?_
      rw [(hag c).1, (hag c).2.1]
    · refine (Cert.MlasReferenceIdeal.Read.val_main_v119_eq _ _ _ _ ).trans ?_
      rw [(hag c).1, (hag c).2.1, (hag c).2.2.1, (hag c).2.2.2.2]
    · refine (Cert.MlasReferenceIdeal.Read.val_main_v121_eq m' c).trans ?_
      rw [(hag c).1, (hag c).2.1, (hag c).2.2.1, (hag c).2.2.2.2]

end Cert.MlasClaims
-- ==== Proof.GluRef.lean ====
module

public import proofs.«01_k».proof.Proof.Gen.GluReferenceIdeal.Read
public import Idealize.ShloMosaic.Lib.Pipeline.ValueKit

/- The gated unit's activation and its reference's result, read at an index. -/

@[expose] public section

set_option maxRecDepth 16384

noncomputable section

namespace Cert.GluRef

open Idealize.ShloMosaic Idealize.SL.Sem Cert.GluReferenceIdeal Cert.GluReferenceIdeal.Read

/-- The smooth rectifier, by its hyperbolic tangent form. -/
def gelu (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * y * y)))))

/-- A gated row `Y` at lane `f`. -/
def glu (Y : Fin 1024 → EReal) (w : Fin 1024 → Fin 1024 → EReal) (b : Fin 1024 → EReal) (f : Fin 1024) : EReal :=
  gelu (Y f) * Ideal.div 1 (1 + Ideal.exp (-(∑ k, gelu (Y k) * w k f + b f)))

variable (x0 : Vec Ideal S8448x1024 .f32) (x1 : Vec Ideal S2x1024x1024 .f32) (x2 : Vec Ideal S2x1024 .f32)

theorem act (r : Fin 8448) (k : Fin 1024) : val_main_v12 (F := Ideal) x0 (ix2 r k) = gelu (x0 (ix2 r k)) := by
  unfold gelu
  pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem out (r : Fin 8448) (f : Fin 1024) :
    val_main_v28 (F := Ideal) x0 x1 x2 (ix2 r f) = glu (fun k => x0 (ix2 r k)) (fun k f => x1 (ix3 1 k f)) (fun f => x2 (ix2 1 f)) f := by
  unfold glu
  simp only [← act]
  pointwise [val_main_v28, val_main_v27, val_main_v26, val_main_v25, val_main_v24, val_main_v23, val_main_v22, val_main_v21, val_main_v20, val_main_v19, val_main_v18, val_main_v17, val_main_v16, val_main_v15, val_main_v14, val_main_v13, val_main_cst_3, val_main_cst_4]

end Cert.GluRef
-- ==== Proof.GluMatch.lean ====
module

public import proofs.«01_k».proof.Proof.Gen.GluKernelIdeal.Frame
public import proofs.«01_k».proof.Proof.GluRef
public import Idealize.ShloMosaic.Lib.Pipeline.ValueKit
public import Idealize.ShloMosaic.Lib.StableHlo.RunRead

/- The gated unit kernel's result is the reference's. -/

@[expose] public section

set_option maxRecDepth 16384

noncomputable section

namespace Cert.GluMatch

open Idealize.ShloMosaic Idealize.ShloMosaic.TcCoe Idealize.SL.Sem Cert.GluKernelIdeal Cert.GluKernelIdeal.Gen Cert.GluRef

variable (m : (ℓ : Loc nD τ sig) → Buf (Elt Ideal) ℓ)

/-- The kernel multiplies the half in first. -/
theorem gelu_half (y : EReal) :
    Ideal.ofBits .f32 0x3F000000#32 * y * (Ideal.ofBits .f32 0x3F800000#32 + Ideal.tanh (Ideal.ofBits .f32 0x3F4C422A#32 * (y + Ideal.ofBits .f32 0x3D372713#32 * (y * y * y)))) = gelu y := by
  unfold gelu
  rw [mul_comm (Ideal.ofBits .f32 0x3F000000#32) y, mul_assoc]

theorem pay1 (y : Vec Ideal S704x1024 .f32) (w : Vec Ideal S1x1024x1024 .bf16) (b : Vec Ideal S1x1024 .f32) (r : Fin 704) (f : Fin 1024) :
    k0_pay1 y w b (ix2 r f) = glu (fun k => y (ix2 r k)) (fun k f => w (ix3 0 k f)) (fun f => b (ix2 0 f)) f := by
  unfold glu
  simp only [← gelu_half]
  pointwise [k0_pay1]
  rw [zero_sub]

theorem weight (c : Dev nD) (k f : Fin 1024) : V m c main_v0 (ix3 1 k f) = (m ((c : Thread nD τ).loc main_arg1) (ix3 1 k f) : EReal) := by
  simp only [V, hostOps0]
  entry_read
  pointwise

theorem bias (c : Dev nD) (f : Fin 1024) : V m c main_v3 (ix2 0 f) = (m ((c : Thread nD τ).loc main_arg2) (ix2 1 f) : EReal) := by
  simp only [V, hostOps0]
  entry_read
  pointwise

theorem idx : ∀ t : Fin cfg0.N, win0_0.index t = ![t.val, 0] ∧ win0_1.index t = ![1, 0, 0] ∧ win0_2.index t = ![0, 0] ∧ win0_3.index t = ![t.val, 0] ∧ t.val < 12 :=
  (by decide +kernel : ∀ t : Fin grid0.N, _)

theorem lt (t : Fin cfg0.N) : t.val < 12 := (idx t).2.2.2.2

/-- Point `t`'s row `r` in the whole array. -/
abbrev at_ (t : Fin cfg0.N) (r : Fin 704) : Fin 8448 := ⟨t.val * 704 + r.val, by have := lt t; omega⟩

theorem blk0 (c : Dev nD) (t : Fin cfg0.N) (r : Fin 704) (k : Fin 1024) : iblk m c 0 t (ix2 r k) = (m ((c : Thread nD τ).loc main_arg0)) (ix2 (at_ t r) k) := by
  have := lt t
  blk_simp [iblk]
  exact (congrArg (V m c main_arg0) (by blk_ext [idx t])).trans (congrFun (V_main_arg0 m c) _)

theorem blk1 (c : Dev nD) (t : Fin cfg0.N) (k f : Fin 1024) : iblk m c 1 t (ix3 0 k f) = (m ((c : Thread nD τ).loc main_arg1) (ix3 1 k f) : EReal) := by
  blk_simp [iblk]
  exact (congrArg (V m c main_v0) (by blk_ext [idx t])).trans (weight m c k f)

theorem blk2 (c : Dev nD) (t : Fin cfg0.N) (f : Fin 1024) : iblk m c 2 t (ix2 0 f) = (m ((c : Thread nD τ).loc main_arg2) (ix2 1 f) : EReal) := by
  blk_simp [iblk]
  exact (congrArg (V m c main_v3) (by blk_ext [idx t])).trans (bias m c f)

theorem out (c : Dev nD) (t : Fin cfg0.N) (r : Fin 704) (z : Fin 1024) :
    k0_pay1 (iblk m c 0 t) (iblk m c 1 t) (iblk m c 2 t) (ix2 r z) = Cert.GluReferenceIdeal.Read.val_main_v28 (F := Ideal) (m ((c : Thread nD τ).loc main_arg0)) (m ((c : Thread nD τ).loc main_arg1)) (m ((c : Thread nD τ).loc main_arg2)) (ix2 (at_ t r) z) := by
  rw [pay1, Cert.GluRef.out]
  simp only [blk0, blk1, blk2]

theorem final (c : Dev nD) : (dats m 0 c).arrAt 3 cfg0.N = Cert.GluReferenceIdeal.Read.val_main_v28 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := lt t
  blk_simp
  rw [after0_3]
  frame_out
  obtain ⟨r, z, rfl⟩ : ∃ (r : Fin 704) (z : Fin 1024), y = ix2 r z := ⟨y 0, y 1, by blk_ext⟩
  refine (out m c t r z).trans ?_
  exact (congrArg (Cert.GluReferenceIdeal.Read.val_main_v28 (F := Ideal) (m ((c : Thread nD τ).loc main_arg0)) (m ((c : Thread nD τ).loc main_arg1)) (m ((c : Thread nD τ).loc main_arg2))) (show ix2 (at_ t r) z = _ by blk_ext [idx t]))

end Cert.GluMatch
-- ==== Proof.GluClaims.lean ====
module

public import proofs.«01_k».proof.Defs
public import proofs.«01_k».proof.Proof.GluMatch
public import proofs.«01_k».proof.Proof.Gen.GluKernel.Frame
public import proofs.«01_k».proof.Proof.Gen.GluKernelIdeal.Value
public import proofs.«01_k».proof.Proof.Gen.GluReferenceIdeal.Run
public import proofs.«01_k».proof.Proof.Gen.GluReferenceIdeal.Read
public import Idealize.ShloMosaic.Adequacy

/- The five claims about the pair `GluKernel`, `GluReference`. -/

@[expose] public section

noncomputable section

namespace Cert.GluClaims

open Idealize.ShloMosaic Idealize.ShloMosaic.TcCoe Idealize.SL.Sem

/-- The kernel runs, keeps its arguments and ends quiet, over the reals and over the bits. -/
theorem frame_bits : Cert.quiescent_GluKernel := fun m ρ _ => Cert.GluKernel.Gen.frame m ρ
theorem frame_ideal : Cert.quiescent_GluKernelIdeal := fun m ρ _ => Cert.GluKernelIdeal.Gen.frame m ρ
/-- The reference keeps its arguments and declares no semaphore. -/
theorem frame_reference : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

theorem preserves : Cert.preserves_GluKernel_GluKernelIdeal := trivial

/-- Over the reals the kernel's arrays are the reference's. -/
theorem algebraic : Cert.algebraic_GluKernelIdeal_GluReferenceIdeal := by
  intro m ρ m' ρ' _ hag
  refine ⟨fun c => Cert.GluReferenceIdeal.Read.val_main_v28 (F := Ideal) (m ((c : Thread Cert.GluKernelIdeal.nD Cert.GluKernelIdeal.τ).loc Cert.GluKernelIdeal.main_arg0)) (m ((c : Thread Cert.GluKernelIdeal.nD Cert.GluKernelIdeal.τ).loc Cert.GluKernelIdeal.main_arg1)) (m ((c : Thread Cert.GluKernelIdeal.nD Cert.GluKernelIdeal.τ).loc Cert.GluKernelIdeal.main_arg2)), ?_, ?_⟩
  · exact (θ_run Cert.GluKernelIdeal.defs _ _).mono (fun r h c => ⟨(h c).1.trans (Cert.GluMatch.final m c), (h c).2⟩)
      (Cert.GluKernelIdeal.Value.run_blocks (F := Ideal) m ρ)
  · refine (θ_run Cert.GluReferenceIdeal.defs _ _).mono (fun r h c => ⟨(h c).1.trans ?_, (h c).2⟩)
      (Cert.GluReferenceIdeal.Value.run (F := Ideal) m' ρ')
    · refine (Cert.GluReferenceIdeal.Read.val_main_v28_eq _ _ _ ).trans ?_
      rw [(hag c).1, (hag c).2.1, (hag c).2.2]

end Cert.GluClaims
-- ==== Proof.MixOutRef.lean ====
module

public import proofs.«01_k».proof.Proof.Gen.MixOutReferenceIdeal.Read
public import proofs.«01_k».proof.Proof.FfnSpec
public import Idealize.ShloMosaic.Lib.Pipeline.ValueKit

/- The mixers' output projection reference, read at an index. -/

@[expose] public section

set_option maxRecDepth 16384

noncomputable section

namespace Cert.MixOutRef

open Idealize.ShloMosaic Idealize.SL.Sem Cert.MixOutReferenceIdeal Cert.MixOutReferenceIdeal.Read Cert.FfnSpec

variable (x0 x1 : Vec Ideal S8448x1024 .bf16) (x2 : Vec Ideal S2x2048x2048 .f32) (x3 : Vec Ideal S8448x2048 .f32) (x4 x5 : Vec Ideal S4x2048 .f32)

theorem left (r : Fin 8448) (k : Fin 1024) : val_main_v1 (F := Ideal) x0 x1 (ix2 r ⟨k.val, by omega⟩) = x0 (ix2 r k) := by
  pointwise [val_main_v1, val_main_v0]

theorem right (r : Fin 8448) (k : Fin 1024) : val_main_v1 (F := Ideal) x0 x1 (ix2 r ⟨1024 + k.val, by omega⟩) = x1 (ix2 r k) := by
  pointwise [val_main_v1, val_main_v0]

/-- The concatenated rows' product, split between the two. -/
theorem dot (r : Fin 8448) (d : Fin 2048) : val_main_v4 (F := Ideal) x0 x1 x2 (ix2 r d) = (∑ k : Fin 1024, x0 (ix2 r k) * x2 (ix3 1 ⟨k.val, by omega⟩ d) + ∑ k : Fin 1024, x1 (ix2 r k) * x2 (ix3 1 ⟨1024 + k.val, by omega⟩ d)) := by
  have e : val_main_v4 (F := Ideal) x0 x1 x2 (ix2 r d) = ∑ k : Fin 2048, val_main_v1 (F := Ideal) x0 x1 (ix2 r k) * x2 (ix3 1 k d) := by
    pointwise [val_main_v4, val_main_v3, val_main_v2]
  rw [e, Fin.sum_univ_add (a := 1024) (b := 1024) (fun k : Fin (1024 + 1024) => (val_main_v1 (F := Ideal) x0 x1 (ix2 r k) * x2 (ix3 1 k d) : EReal))]
  simp only [← left x0 x1 r, ← right x0 x1 r]
  rfl

theorem pre (r : Fin 8448) (d : Fin 2048) :
    val_main_v7 (F := Ideal) x0 x1 x2 x3 (ix2 r d) = alpha * x3 (ix2 r d) + (∑ k : Fin 1024, x0 (ix2 r k) * x2 (ix3 1 ⟨k.val, by omega⟩ d) + ∑ k : Fin 1024, x1 (ix2 r k) * x2 (ix3 1 ⟨1024 + k.val, by omega⟩ d)) := by
  unfold alpha
  rw [← dot]
  pointwise [val_main_v7, val_main_v6, val_main_v5, val_main_cst]

theorem out (r : Fin 8448) (d : Fin 2048) :
    val_main_v35 (F := Ideal) x0 x1 x2 x3 x4 x5 (ix2 r d) = norm (fun j => alpha * x3 (ix2 r j) + (∑ k : Fin 1024, x0 (ix2 r k) * x2 (ix3 1 ⟨k.val, by omega⟩ j) + ∑ k : Fin 1024, x1 (ix2 r k) * x2 (ix3 1 ⟨1024 + k.val, by omega⟩ j))) (x4 (ix2 2 d)) (x5 (ix2 2 d)) d := by
  unfold FfnSpec.norm
  simp only [← pre x0 x1 x2 x3]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_0, val_main_cst_1, val_main_cst_2, val_main_cst_3, val_main_cst_4]

end Cert.MixOutRef
-- ==== Proof.MixOutMatch.lean ====
module

public import proofs.«01_k».proof.Proof.Gen.MixOutKernelIdeal.Frame
public import proofs.«01_k».proof.Proof.MixOutRef
public import Idealize.ShloMosaic.Lib.Pipeline.ValueKit
public import Idealize.ShloMosaic.Lib.StableHlo.RunRead

/- The mixers' output projection kernel's result is the reference's. -/

@[expose] public section

set_option maxRecDepth 16384

noncomputable section

namespace Cert.MixOutMatch

open Idealize.ShloMosaic Idealize.ShloMosaic.TcCoe Idealize.SL.Sem Cert.MixOutKernelIdeal Cert.MixOutKernelIdeal.Gen Cert.FfnSpec

variable (m : (ℓ : Loc nD τ sig) → Buf (Elt Ideal) ℓ)

theorem pay1 (x0 x1 : Vec Ideal S352x1024 .bf16) (x2 x3 : Vec Ideal S1x1024x2048 .bf16) (x4 : Vec Ideal S352x2048 .f32) (x5 x6 : Vec Ideal S1x2048 .f32) (r : Fin 352) (d : Fin 2048) :
    k0_pay1 (k0_pay2 x6) (k0_pay3 x0 x2 x1 x3 x4 x5) (ix2 r d) = norm (fun j => alpha * x4 (ix2 r j) + (∑ k : Fin 1024, x0 (ix2 r k) * x2 (ix3 0 k j) + ∑ k : Fin 1024, x1 (ix2 r k) * x3 (ix3 0 k j))) (x5 (ix2 0 d)) (x6 (ix2 0 d)) d := by
  unfold FfnSpec.norm alpha
  pointwise [k0_pay1, k0_pay2, k0_pay3]

theorem weight (c : Dev nD) (k d : Fin 2048) : V m c main_v0 (ix3 1 k d) = (m ((c : Thread nD τ).loc main_arg2) (ix3 1 k d) : EReal) := by
  simp only [V, hostOps0]
  entry_read
  pointwise

theorem gain (c : Dev nD) (d : Fin 2048) : V m c main_v3 (ix2 0 d) = (m ((c : Thread nD τ).loc main_arg4) (ix2 2 d) : EReal) := by
  simp only [V, hostOps0]
  entry_read
  pointwise

theorem offset (c : Dev nD) (d : Fin 2048) : V m c main_v6 (ix2 0 d) = (m ((c : Thread nD τ).loc main_arg5) (ix2 2 d) : EReal) := by
  simp only [V, hostOps0]
  entry_read
  pointwise

theorem idx : ∀ t : Fin cfg0.N, win0_0.index t = ![t.val, 0] ∧ win0_1.index t = ![t.val, 0] ∧ win0_2.index t = ![1, 0, 0] ∧ win0_3.index t = ![1, 1, 0] ∧ win0_4.index t = ![t.val, 0] ∧ win0_5.index t = ![0, 0] ∧ win0_6.index t = ![0, 0] ∧ win0_7.index t = ![t.val, 0] ∧ t.val < 24 :=
  (by decide +kernel : ∀ t : Fin grid0.N, _)

theorem lt (t : Fin cfg0.N) : t.val < 24 := (idx t).2.2.2.2.2.2.2.2

/-- Point `t`'s row `r` in the whole array. -/
abbrev at_ (t : Fin cfg0.N) (r : Fin 352) : Fin 8448 := ⟨t.val * 352 + r.val, by have := lt t; omega⟩

theorem blk0 (c : Dev nD) (t : Fin cfg0.N) (r : Fin 352) (k : Fin 1024) : iblk m c 0 t (ix2 r k) = (m ((c : Thread nD τ).loc main_arg0)) (ix2 (at_ t r) k) := by
  have := lt t
  blk_simp [iblk]
  exact (congrArg (V m c main_arg0) (by blk_ext [idx t])).trans (congrFun (V_main_arg0 m c) _)

theorem blk1 (c : Dev nD) (t : Fin cfg0.N) (r : Fin 352) (k : Fin 1024) : iblk m c 1 t (ix2 r k) = (m ((c : Thread nD τ).loc main_arg1)) (ix2 (at_ t r) k) := by
  have := lt t
  blk_simp [iblk]
  exact (congrArg (V m c main_arg1) (by blk_ext [idx t])).trans (congrFun (V_main_arg1 m c) _)

theorem blk2 (c : Dev nD) (t : Fin cfg0.N) (k : Fin 1024) (d : Fin 2048) : iblk m c 2 t (ix3 0 k d) = (m ((c : Thread nD τ).loc main_arg2) (ix3 1 ⟨k.val, by omega⟩ d) : EReal) := by
  blk_simp [iblk]
  exact (congrArg (V m c main_v0) (by blk_ext [idx t])).trans (weight m c ⟨k.val, by omega⟩ d)

theorem blk3 (c : Dev nD) (t : Fin cfg0.N) (k : Fin 1024) (d : Fin 2048) : iblk m c 3 t (ix3 0 k d) = (m ((c : Thread nD τ).loc main_arg2) (ix3 1 ⟨1024 + k.val, by omega⟩ d) : EReal) := by
  blk_simp [iblk]
  exact (congrArg (V m c main_v0) (by blk_ext [idx t])).trans (weight m c ⟨1024 + k.val, by omega⟩ d)

theorem blk4 (c : Dev nD) (t : Fin cfg0.N) (r : Fin 352) (k : Fin 2048) : iblk m c 4 t (ix2 r k) = (m ((c : Thread nD τ).loc main_arg3)) (ix2 (at_ t r) k) := by
  have := lt t
  blk_simp [iblk]
  exact (congrArg (V m c main_arg3) (by blk_ext [idx t])).trans (congrFun (V_main_arg3 m c) _)

theorem blk5 (c : Dev nD) (t : Fin cfg0.N) (d : Fin 2048) : iblk m c 5 t (ix2 0 d) = (m ((c : Thread nD τ).loc main_arg4) (ix2 2 d) : EReal) := by
  blk_simp [iblk]
  exact (congrArg (V m c main_v3) (by blk_ext [idx t])).trans (gain m c d)

theorem blk6 (c : Dev nD) (t : Fin cfg0.N) (d : Fin 2048) : iblk m c 6 t (ix2 0 d) = (m ((c : Thread nD τ).loc main_arg5) (ix2 2 d) : EReal) := by
  blk_simp [iblk]
  exact (congrArg (V m c main_v6) (by blk_ext [idx t])).trans (offset m c d)

theorem out (c : Dev nD) (t : Fin cfg0.N) (r : Fin 352) (z : Fin 2048) :
    k0_pay1 (k0_pay2 (iblk m c 6 t)) (k0_pay3 (iblk m c 0 t) (iblk m c 2 t) (iblk m c 1 t) (iblk m c 3 t) (iblk m c 4 t) (iblk m c 5 t)) (ix2 r z) = Cert.MixOutReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (at_ t r) z) := by
  rw [pay1, Cert.MixOutRef.out]
  simp only [blk0, blk1, blk2, blk3, blk4, blk5, blk6]

theorem final (c : Dev nD) : (dats m 0 c).arrAt 7 cfg0.N = Cert.MixOutReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht := lt t
  blk_simp
  rw [after0_7]
  frame_out
  obtain ⟨r, z, rfl⟩ : ∃ (r : Fin 352) (z : Fin 2048), y = ix2 r z := ⟨y 0, y 1, by blk_ext⟩
  refine (out m c t r z).trans ?_
  exact (congrArg (Cert.MixOutReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (show ix2 (at_ t r) z = _ by blk_ext [idx t]))

end Cert.MixOutMatch
-- ==== Proof.MixOutClaims.lean ====
module

public import proofs.«01_k».proof.Defs
public import proofs.«01_k».proof.Proof.MixOutMatch
public import proofs.«01_k».proof.Proof.Gen.MixOutKernel.Frame
public import proofs.«01_k».proof.Proof.Gen.MixOutKernelIdeal.Value
public import proofs.«01_k».proof.Proof.Gen.MixOutReferenceIdeal.Run
public import proofs.«01_k».proof.Proof.Gen.MixOutReferenceIdeal.Read
public import Idealize.ShloMosaic.Adequacy

/- The five claims about the pair `MixOutKernel`, `MixOutReference`. -/

@[expose] public section

noncomputable section

namespace Cert.MixOutClaims

open Idealize.ShloMosaic Idealize.ShloMosaic.TcCoe Idealize.SL.Sem

/-- The kernel runs, keeps its arguments and ends quiet, over the reals and over the bits. -/
theorem frame_bits : Cert.quiescent_MixOutKernel := fun m ρ _ => Cert.MixOutKernel.Gen.frame m ρ
theorem frame_ideal : Cert.quiescent_MixOutKernelIdeal := fun m ρ _ => Cert.MixOutKernelIdeal.Gen.frame m ρ
/-- The reference keeps its arguments and declares no semaphore. -/
theorem frame_reference : Cert.quiescent_MixOutReferenceIdeal := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

theorem preserves : Cert.preserves_MixOutKernel_MixOutKernelIdeal := trivial

/-- Over the reals the kernel's arrays are the reference's. -/
theorem algebraic : Cert.algebraic_MixOutKernelIdeal_MixOutReferenceIdeal := by
  intro m ρ m' ρ' _ hag
  refine ⟨fun c => Cert.MixOutReferenceIdeal.Read.val_main_v35 (F := Ideal) (m ((c : Thread Cert.MixOutKernelIdeal.nD Cert.MixOutKernelIdeal.τ).loc Cert.MixOutKernelIdeal.main_arg0)) (m ((c : Thread Cert.MixOutKernelIdeal.nD Cert.MixOutKernelIdeal.τ).loc Cert.MixOutKernelIdeal.main_arg1)) (m ((c : Thread Cert.MixOutKernelIdeal.nD Cert.MixOutKernelIdeal.τ).loc Cert.MixOutKernelIdeal.main_arg2)) (m ((c : Thread Cert.MixOutKernelIdeal.nD Cert.MixOutKernelIdeal.τ).loc Cert.MixOutKernelIdeal.main_arg3)) (m ((c : Thread Cert.MixOutKernelIdeal.nD Cert.MixOutKernelIdeal.τ).loc Cert.MixOutKernelIdeal.main_arg4)) (m ((c : Thread Cert.MixOutKernelIdeal.nD Cert.MixOutKernelIdeal.τ).loc Cert.MixOutKernelIdeal.main_arg5)), ?_, ?_⟩
  · exact (θ_run Cert.MixOutKernelIdeal.defs _ _).mono (fun r h c => ⟨(h c).1.trans (Cert.MixOutMatch.final m c), (h c).2⟩)
      (Cert.MixOutKernelIdeal.Value.run_blocks (F := Ideal) m ρ)
  · refine (θ_run Cert.MixOutReferenceIdeal.defs _ _).mono (fun r h c => ⟨(h c).1.trans ?_, (h c).2⟩)
      (Cert.MixOutReferenceIdeal.Value.run (F := Ideal) m' ρ')
    · refine (Cert.MixOutReferenceIdeal.Read.val_main_v35_eq m' c).trans ?_
      rw [(hag c).1, (hag c).2.1, (hag c).2.2.1, (hag c).2.2.2.1, (hag c).2.2.2.2.1, (hag c).2.2.2.2.2]

end Cert.MixOutClaims
-- ==== Proof.KvRef.lean ====
module

public import proofs.«01_k».proof.Proof.Gen.KvReferenceIdeal.Read
public import Idealize.ShloMosaic.Lib.Pipeline.ValueKit

/- The key and value projection reference's result, read at an index. -/

@[expose] public section

set_option maxRecDepth 16384

noncomputable section

namespace Cert.KvRef

open Idealize.ShloMosaic Idealize.SL.Sem Cert.KvReferenceIdeal Cert.KvReferenceIdeal.Read

theorem weight (x1 : Vec Ideal S2x512x16x128 .f32) (k : Fin 512) (h : Fin 16) (n : Fin 128) :
    val_main_v1 (F := Ideal) x1 (ix3 k h n) = x1 (ix4 1 k h n) := by
  rw [val_main_v1_apply, val_main_v0_apply]
  have := h.isLt
  have := n.isLt
  exact congrArg x1 (funext fun a => by fin_cases a <;> exact Fin.ext (by simp; try omega))

theorem out (x0 : Vec Ideal S8448x512 .f32) (x1 : Vec Ideal S2x512x16x128 .f32) (r : Fin 8448) (f : Fin 2048) :
    val_main_v4 (F := Ideal) x0 x1 (ix2 r f) = ∑ k : Fin 512, x0 (ix2 r k) * x1 (ix4 1 k ⟨f.val / 128, by omega⟩ ⟨f.val % 128, by omega⟩) := by
  rw [val_main_v4_apply, val_main_v3_apply, val_main_v2_apply]
  refine Finset.sum_congr rfl fun k _ => ?_
  rw [← weight x1]
  have := f.isLt
  refine congrArg₂ (fun a b : EReal => a * b) (congrArg x0 (funext fun a => ?_)) (congrArg (val_main_v1 (F := Ideal) x1) (funext fun a => ?_))
  · fin_cases a <;> exact Fin.ext (by simp; try omega)
  · fin_cases a <;> exact Fin.ext (by simp; try omega)

end Cert.KvRef
-- ==== Proof.KvMatch.lean ====
module

public import proofs.«01_k».proof.Proof.Gen.KvKernelIdeal.Frame
public import proofs.«01_k».proof.Proof.KvRef
public import Idealize.ShloMosaic.Lib.Pipeline.ValueKit
public import Idealize.ShloMosaic.Lib.StableHlo.RunRead

/- The key and value projection kernel's result is the reference's. -/

@[expose] public section

set_option maxRecDepth 16384

noncomputable section

namespace Cert.KvMatch

open Idealize.ShloMosaic Idealize.ShloMosaic.TcCoe Idealize.SL.Sem Cert.KvKernelIdeal Cert.KvKernelIdeal.Gen

variable (m : (ℓ : Loc nD τ sig) → Buf (Elt Ideal) ℓ)

theorem pay1 (x : Vec Ideal S384x512 .f32) (w : Vec Ideal S1x512x2048 .bf16) (r : Fin 384) (f : Fin 2048) :
    k0_pay1 x w (ix2 r f) = ∑ k : Fin 512, x (ix2 r k) * w (ix3 0 k f) := by
  pointwise [k0_pay1]

theorem weight (c : Dev nD) (k : Fin 512) (f : Fin 2048) : V m c main_v1 (ix3 1 k f) = (m ((c : Thread nD τ).loc main_arg1) (ix4 1 k ⟨f.val / 128, by omega⟩ ⟨f.val % 128, by omega⟩) : EReal) := by
  simp only [V, hostOps0]
  entry_read
  pointwise

theorem idx : ∀ t : Fin cfg0.N, win0_0.index t = ![t.val, 0] ∧ win0_1.index t = ![1, 0, 0] ∧ win0_2.index t = ![t.val, 0] ∧ t.val < 22 :=
  (by decide +kernel : ∀ t : Fin grid0.N, _)

theorem lt (t : Fin cfg0.N) : t.val < 22 := (idx t).2.2.2

/-- Point `t`'s row `r` in the whole array. -/
abbrev at_ (t : Fin cfg0.N) (r : Fin 384) : Fin 8448 := ⟨t.val * 384 + r.val, by have := lt t; omega⟩

theorem blk0 (c : Dev nD) (t : Fin cfg0.N) (r : Fin 384) (k : Fin 512) : iblk m c 0 t (ix2 r k) = (m ((c : Thread nD τ).loc main_arg0)) (ix2 (at_ t r) k) := by
  have := lt t
  blk_simp [iblk]
  exact (congrArg (V m c main_arg0) (by blk_ext [idx t])).trans (congrFun (V_main_arg0 m c) _)

theorem blk1 (c : Dev nD) (t : Fin cfg0.N) (k : Fin 512) (f : Fin 2048) : iblk m c 1 t (ix3 0 k f) = (m ((c : Thread nD τ).loc main_arg1) (ix4 1 k ⟨f.val / 128, by omega⟩ ⟨f.val % 128, by omega⟩) : EReal) := by
  blk_simp [iblk]
  exact (congrArg (V m c main_v1) (by blk_ext [idx t])).trans (weight m c k f)

theorem out (c : Dev nD) (t : Fin cfg0.N) (r : Fin 384) (z : Fin 2048) :
    k0_pay1 (iblk m c 0 t) (iblk m c 1 t) (ix2 r z) = Cert.KvReferenceIdeal.Read.val_main_v4 (F := Ideal) (m ((c : Thread nD τ).loc main_arg0)) (m ((c : Thread nD τ).loc main_arg1)) (ix2 (at_ t r) z) := by
  rw [pay1, Cert.KvRef.out]
  simp only [blk0, blk1]

theorem final (c : Dev nD) : (dats m 0 c).arrAt 2 cfg0.N = Cert.KvReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  have ht := lt t
  blk_simp
  rw [after0_2]
  frame_out
  obtain ⟨r, z, rfl⟩ : ∃ (r : Fin 384) (z : Fin 2048), y = ix2 r z := ⟨y 0, y 1, by blk_ext⟩
  refine (out m c t r z).trans ?_
  exact (congrArg (Cert.KvReferenceIdeal.Read.val_main_v4 (F := Ideal) (m ((c : Thread nD τ).loc main_arg0)) (m ((c : Thread nD τ).loc main_arg1))) (show ix2 (at_ t r) z = _ by blk_ext [idx t]))

end Cert.KvMatch
-- ==== Proof.KvClaims.lean ====
module

public import proofs.«01_k».proof.Defs
public import proofs.«01_k».proof.Proof.KvMatch
public import proofs.«01_k».proof.Proof.Gen.KvKernel.Frame
public import proofs.«01_k».proof.Proof.Gen.KvKernelIdeal.Value
public import proofs.«01_k».proof.Proof.Gen.KvReferenceIdeal.Run
public import proofs.«01_k».proof.Proof.Gen.KvReferenceIdeal.Read
public import Idealize.ShloMosaic.Adequacy

/- The five claims about the pair `KvKernel`, `KvReference`. -/

@[expose] public section

noncomputable section

namespace Cert.KvClaims

open Idealize.ShloMosaic Idealize.ShloMosaic.TcCoe Idealize.SL.Sem

/-- The kernel runs, keeps its arguments and ends quiet, over the reals and over the bits. -/
theorem frame_bits : Cert.quiescent_KvKernel := fun m ρ _ => Cert.KvKernel.Gen.frame m ρ
theorem frame_ideal : Cert.quiescent_KvKernelIdeal := fun m ρ _ => Cert.KvKernelIdeal.Gen.frame m ρ
/-- The reference keeps its arguments and declares no semaphore. -/
theorem frame_reference : Cert.quiescent_KvReferenceIdeal := fun m ρ _ =>
  (θ_run Cert.KvReferenceIdeal.defs _ _).mono (fun r h => ⟨fun c => (h c).2, sem_eq_zero_of_no_sems (by decide) r.2⟩)
    (Cert.KvReferenceIdeal.Value.run (F := Ideal) m ρ)

theorem preserves : Cert.preserves_KvKernel_KvKernelIdeal := trivial

/-- Over the reals the kernel's arrays are the reference's. -/
theorem algebraic : Cert.algebraic_KvKernelIdeal_KvReferenceIdeal := by
  intro m ρ m' ρ' _ hag
  refine ⟨fun c => Cert.KvReferenceIdeal.Read.val_main_v4 (F := Ideal) (m ((c : Thread Cert.KvKernelIdeal.nD Cert.KvKernelIdeal.τ).loc Cert.KvKernelIdeal.main_arg0)) (m ((c : Thread Cert.KvKernelIdeal.nD Cert.KvKernelIdeal.τ).loc Cert.KvKernelIdeal.main_arg1)), ?_, ?_⟩
  · exact (θ_run Cert.KvKernelIdeal.defs _ _).mono (fun r h c => ⟨(h c).1.trans (Cert.KvMatch.final m c), (h c).2⟩)
      (Cert.KvKernelIdeal.Value.run_blocks (F := Ideal) m ρ)
  · refine (θ_run Cert.KvReferenceIdeal.defs _ _).mono (fun r h c => ⟨(h c).1.trans ?_, (h c).2⟩)
      (Cert.KvReferenceIdeal.Value.run (F := Ideal) m' ρ')
    · refine (Cert.KvReferenceIdeal.Read.val_main_v4_eq _ _ ).trans ?_
      rw [(hag c).1, (hag c).2]

end Cert.KvClaims
-- ==== Proof.MlaOutRef.lean ====
module

public import proofs.«01_k».proof.Proof.Gen.MlaOutReferenceIdeal.Read
public import proofs.«01_k».proof.Proof.FfnSpec
public import Idealize.ShloMosaic.Lib.Pipeline.ValueKit

/- The attention's output projection reference, read at an index. -/

@[expose] public section

set_option maxRecDepth 16384

noncomputable section

namespace Cert.MlaOutRef

open Idealize.ShloMosaic Idealize.SL.Sem Cert.MlaOutReferenceIdeal Cert.MlaOutReferenceIdeal.Read Cert.FfnSpec

variable (x0 : Vec Ideal S8448x2048 .bf16) (x1 : Vec Ideal S2x2048x2048 .f32) (x2 : Vec Ideal S8448x2048 .f32) (x3 x4 : Vec Ideal S4x2048 .f32)

theorem dot (r : Fin 8448) (d : Fin 2048) : val_main_v3 (F := Ideal) x0 x1 (ix2 r d) = ∑ k : Fin 2048, x0 (ix2 r k) * x1 (ix3 1 k d) := by
  pointwise [val_main_v3, val_main_v2, val_main_v1, val_main_v0]

theorem pre (r : Fin 8448) (d : Fin 2048) :
    val_main_v6 (F := Ideal) x0 x1 x2 (ix2 r d) = alpha * x2 (ix2 r d) + ∑ k : Fin 2048, x0 (ix2 r k) * x1 (ix3 1 k d) := by
  unfold alpha
  rw [← dot]
  pointwise [val_main_v6, val_main_v5, val_main_v4, val_main_cst]

theorem out (r : Fin 8448) (d : Fin 2048) :
    val_main_v34 (F := Ideal) x0 x1 x2 x3 x4 (ix2 r d) = norm (fun j => alpha * x2 (ix2 r j) + ∑ k : Fin 2048, x0 (ix2 r k) * x1 (ix3 1 k j)) (x3 (ix2 3 d)) (x4 (ix2 3 d)) d := by
  unfold FfnSpec.norm
  simp only [← pre x0 x1 x2]
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst_0, val_main_cst_1, val_main_cst_2, val_main_cst_3, val_main_cst_4]

end Cert.MlaOutRef
-- ==== Proof.MlaOutMatch.lean ====
module

public import proofs.«01_k».proof.Proof.Gen.MlaOutKernelIdeal.Frame
public import proofs.«01_k».proof.Proof.MlaOutRef
public import Idealize.ShloMosaic.Lib.Pipeline.ValueKit
public import Idealize.ShloMosaic.Lib.StableHlo.RunRead

/- The attention's output projection kernel's result is the reference's. -/

@[expose] public section

set_option maxRecDepth 16384

noncomputable section

namespace Cert.MlaOutMatch

open Idealize.ShloMosaic Idealize.ShloMosaic.TcCoe Idealize.SL.Sem Cert.MlaOutKernelIdeal Cert.MlaOutKernelIdeal.Gen Cert.FfnSpec

variable (m : (ℓ : Loc nD τ sig) → Buf (Elt Ideal) ℓ)

theorem pay1 (x0 : Vec Ideal S352x2048 .bf16) (x1 : Vec Ideal S1x2048x2048 .bf16) (x2 : Vec Ideal S352x2048 .f32) (x3 x4 : Vec Ideal S1x2048 .f32) (r : Fin 352) (d : Fin 2048) :
    k0_pay1 x0 x1 x2 x3 x4 (ix2 r d) = norm (fun j => alpha * x2 (ix2 r j) + ∑ k : Fin 2048, x0 (ix2 r k) * x1 (ix3 0 k j)) (x3 (ix2 0 d)) (x4 (ix2 0 d)) d := by
  unfold FfnSpec.norm alpha
  pointwise [k0_pay1]

theorem weight (c : Dev nD) (k d : Fin 2048) : V m c main_v0 (ix3 1 k d) = (m ((c : Thread nD τ).loc main_arg1) (ix3 1 k d) : EReal) := by
  simp only [V, hostOps0]
  entry_read
  pointwise

theorem gain (c : Dev nD) (d : Fin 2048) : V m c main_v3 (ix2 0 d) = (m ((c : Thread nD τ).loc main_arg3) (ix2 3 d) : EReal) := by
  simp only [V, hostOps0]
  entry_read
  pointwise

theorem offset (c : Dev nD) (d : Fin 2048) : V m c main_v6 (ix2 0 d) = (m ((c : Thread nD τ).loc main_arg4) (ix2 3 d) : EReal) := by
  simp only [V, hostOps0]
  entry_read
  pointwise

theorem idx : ∀ t : Fin cfg0.N, win0_0.index t = ![t.val, 0] ∧ win0_1.index t = ![1, 0, 0] ∧ win0_2.index t = ![t.val, 0] ∧ win0_3.index t = ![0, 0] ∧ win0_4.index t = ![0, 0] ∧ win0_5.index t = ![t.val, 0] ∧ t.val < 24 :=
  (by decide +kernel : ∀ t : Fin grid0.N, _)

theorem lt (t : Fin cfg0.N) : t.val < 24 := (idx t).2.2.2.2.2.2

/-- Point `t`'s row `r` in the whole array. -/
abbrev at_ (t : Fin cfg0.N) (r : Fin 352) : Fin 8448 := ⟨t.val * 352 + r.val, by have := lt t; omega⟩

theorem blk0 (c : Dev nD) (t : Fin cfg0.N) (r : Fin 352) (k : Fin 2048) : iblk m c 0 t (ix2 r k) = (m ((c : Thread nD τ).loc main_arg0)) (ix2 (at_ t r) k) := by
  have := lt t
  blk_simp [iblk]
  exact (congrArg (V m c main_arg0) (by blk_ext [idx t])).trans (congrFun (V_main_arg0 m c) _)

theorem blk1 (c : Dev nD) (t : Fin cfg0.N) (k d : Fin 2048) : iblk m c 1 t (ix3 0 k d) = (m ((c : Thread nD τ).loc main_arg1) (ix3 1 k d) : EReal) := by
  blk_simp [iblk]
  exact (congrArg (V m c main_v0) (by blk_ext [idx t])).trans (weight m c k d)

theorem blk2 (c : Dev nD) (t : Fin cfg0.N) (r : Fin 352) (k : Fin 2048) : iblk m c 2 t (ix2 r k) = (m ((c : Thread nD τ).loc main_arg2)) (ix2 (at_ t r) k) := by
  have := lt t
  blk_simp [iblk]
  exact (congrArg (V m c main_arg2) (by blk_ext [idx t])).trans (congrFun (V_main_arg2 m c) _)

theorem blk3 (c : Dev nD) (t : Fin cfg0.N) (d : Fin 2048) : iblk m c 3 t (ix2 0 d) = (m ((c : Thread nD τ).loc main_arg3) (ix2 3 d) : EReal) := by
  blk_simp [iblk]
  exact (congrArg (V m c main_v3) (by blk_ext [idx t])).trans (gain m c d)

theorem blk4 (c : Dev nD) (t : Fin cfg0.N) (d : Fin 2048) : iblk m c 4 t (ix2 0 d) = (m ((c : Thread nD τ).loc main_arg4) (ix2 3 d) : EReal) := by
  blk_simp [iblk]
  exact (congrArg (V m c main_v6) (by blk_ext [idx t])).trans (offset m c d)

theorem out (c : Dev nD) (t : Fin cfg0.N) (r : Fin 352) (z : Fin 2048) :
    k0_pay1 (iblk m c 0 t) (iblk m c 1 t) (iblk m c 2 t) (iblk m c 3 t) (iblk m c 4 t) (ix2 r z) = Cert.MlaOutReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) z) := by
  rw [pay1, Cert.MlaOutRef.out]
  simp only [blk0, blk1, blk2, blk3, blk4]

theorem final (c : Dev nD) : (dats m 0 c).arrAt 5 cfg0.N = Cert.MlaOutReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := lt t
  blk_simp
  rw [after0_5]
  frame_out
  obtain ⟨r, z, rfl⟩ : ∃ (r : Fin 352) (z : Fin 2048), y = ix2 r z := ⟨y 0, y 1, by blk_ext⟩
  refine (out m c t r z).trans ?_
  exact (congrArg (Cert.MlaOutReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (show ix2 (at_ t r) z = _ by blk_ext [idx t]))

end Cert.MlaOutMatch
-- ==== Proof.MlaOutClaims.lean ====
module

public import proofs.«01_k».proof.Defs
public import proofs.«01_k».proof.Proof.MlaOutMatch
public import proofs.«01_k».proof.Proof.Gen.MlaOutKernel.Frame
public import proofs.«01_k».proof.Proof.Gen.MlaOutKernelIdeal.Value
public import proofs.«01_k».proof.Proof.Gen.MlaOutReferenceIdeal.Run
public import proofs.«01_k».proof.Proof.Gen.MlaOutReferenceIdeal.Read
public import Idealize.ShloMosaic.Adequacy

/- The five claims about the pair `MlaOutKernel`, `MlaOutReference`. -/

@[expose] public section

noncomputable section

namespace Cert.MlaOutClaims

open Idealize.ShloMosaic Idealize.ShloMosaic.TcCoe Idealize.SL.Sem

/-- The kernel runs, keeps its arguments and ends quiet, over the reals and over the bits. -/
theorem frame_bits : Cert.quiescent_MlaOutKernel := fun m ρ _ => Cert.MlaOutKernel.Gen.frame m ρ
theorem frame_ideal : Cert.quiescent_MlaOutKernelIdeal := fun m ρ _ => Cert.MlaOutKernelIdeal.Gen.frame m ρ
/-- The reference keeps its arguments and declares no semaphore. -/
theorem frame_reference : Cert.quiescent_MlaOutReferenceIdeal := fun m ρ _ =>
  (θ_run Cert.MlaOutReferenceIdeal.defs _ _).mono (fun r h => ⟨fun c => (h c).2, sem_eq_zero_of_no_sems (by decide) r.2⟩)
    (Cert.MlaOutReferenceIdeal.Value.run (F := Ideal) m ρ)

theorem preserves : Cert.preserves_MlaOutKernel_MlaOutKernelIdeal := trivial

/-- Over the reals the kernel's arrays are the reference's. -/
theorem algebraic : Cert.algebraic_MlaOutKernelIdeal_MlaOutReferenceIdeal := by
  intro m ρ m' ρ' _ hag
  refine ⟨fun c => Cert.MlaOutReferenceIdeal.Read.val_main_v34 (F := Ideal) (m ((c : Thread Cert.MlaOutKernelIdeal.nD Cert.MlaOutKernelIdeal.τ).loc Cert.MlaOutKernelIdeal.main_arg0)) (m ((c : Thread Cert.MlaOutKernelIdeal.nD Cert.MlaOutKernelIdeal.τ).loc Cert.MlaOutKernelIdeal.main_arg1)) (m ((c : Thread Cert.MlaOutKernelIdeal.nD Cert.MlaOutKernelIdeal.τ).loc Cert.MlaOutKernelIdeal.main_arg2)) (m ((c : Thread Cert.MlaOutKernelIdeal.nD Cert.MlaOutKernelIdeal.τ).loc Cert.MlaOutKernelIdeal.main_arg3)) (m ((c : Thread Cert.MlaOutKernelIdeal.nD Cert.MlaOutKernelIdeal.τ).loc Cert.MlaOutKernelIdeal.main_arg4)), ?_, ?_⟩
  · exact (θ_run Cert.MlaOutKernelIdeal.defs _ _).mono (fun r h c => ⟨(h c).1.trans (Cert.MlaOutMatch.final m c), (h c).2⟩)
      (Cert.MlaOutKernelIdeal.Value.run_blocks (F := Ideal) m ρ)
  · refine (θ_run Cert.MlaOutReferenceIdeal.defs _ _).mono (fun r h c => ⟨(h c).1.trans ?_, (h c).2⟩)
      (Cert.MlaOutReferenceIdeal.Value.run (F := Ideal) m' ρ')
    · refine (Cert.MlaOutReferenceIdeal.Read.val_main_v34_eq m' c).trans ?_
      rw [(hag c).1, (hag c).2.1, (hag c).2.2.1, (hag c).2.2.2.1, (hag c).2.2.2.2]

end Cert.MlaOutClaims
-- ==== Proof.lean ====
/- The proof of the certificate: for each pair of a kernel and its reference, the frames, that idealizing the kernel
   preserves it, and that over the reals the two write the same arrays. -/
module

public import proofs.«01_k».proof.Defs
public import proofs.«01_k».proof.Proof.Gen.ParamsKernel
public import proofs.«01_k».proof.Proof.Gen.ParamsKernel.Skeleton
public import proofs.«01_k».proof.Proof.Gen.ParamsKernel.Launch
public import proofs.«01_k».proof.Proof.Gen.ParamsKernel.Points
public import proofs.«01_k».proof.Proof.Gen.ParamsKernel.Frame
public import proofs.«01_k».proof.Proof.Gen.ParamsKernelIdeal
public import proofs.«01_k».proof.Proof.Gen.ParamsKernelIdeal.Skeleton
public import proofs.«01_k».proof.Proof.Gen.ParamsKernelIdeal.Launch
public import proofs.«01_k».proof.Proof.Gen.ParamsKernelIdeal.Points
public import proofs.«01_k».proof.Proof.Gen.ParamsKernelIdeal.Frame
public import proofs.«01_k».proof.Proof.Gen.ParamsReferenceIdeal
public import proofs.«01_k».proof.Proof.Gen.S5Kernel
public import proofs.«01_k».proof.Proof.Gen.S5Kernel.Skeleton
public import proofs.«01_k».proof.Proof.Gen.S5Kernel.Launch
public import proofs.«01_k».proof.Proof.Gen.S5Kernel.Points
public import proofs.«01_k».proof.Proof.Gen.S5Kernel.Frame
public import proofs.«01_k».proof.Proof.Gen.S5KernelIdeal
public import proofs.«01_k».proof.Proof.Gen.S5KernelIdeal.Skeleton
public import proofs.«01_k».proof.Proof.Gen.S5KernelIdeal.Launch
public import proofs.«01_k».proof.Proof.Gen.S5KernelIdeal.Points
public import proofs.«01_k».proof.Proof.Gen.S5KernelIdeal.Frame
public import proofs.«01_k».proof.Proof.Gen.S5ReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnsKernel
public import proofs.«01_k».proof.Proof.Gen.FfnsKernel.Skeleton
public import proofs.«01_k».proof.Proof.Gen.FfnsKernel.Launch
public import proofs.«01_k».proof.Proof.Gen.FfnsKernel.Points
public import proofs.«01_k».proof.Proof.Gen.FfnsKernel.Frame
public import proofs.«01_k».proof.Proof.Gen.FfnsKernelIdeal
public import proofs.«01_k».proof.Proof.Gen.FfnsKernelIdeal.Skeleton
public import proofs.«01_k».proof.Proof.Gen.FfnsKernelIdeal.Launch
public import proofs.«01_k».proof.Proof.Gen.FfnsKernelIdeal.Points
public import proofs.«01_k».proof.Proof.Gen.FfnsKernelIdeal.Frame
public import proofs.«01_k».proof.Proof.Gen.FfnsReferenceIdeal
public import proofs.«01_k».proof.Proof.Gen.MlapKernel
public import proofs.«01_k».proof.Proof.Gen.MlapKernel.Skeleton
public import proofs.«01_k».proof.Proof.Gen.MlapKernel.Launch
public import proofs.«01_k».proof.Proof.Gen.MlapKernel.Points
public import proofs.«01_k».proof.Proof.Gen.MlapKernel.Frame
public import proofs.«01_k».proof.Proof.Gen.MlasKernel
public import proofs.«01_k».proof.Proof.Gen.MlasKernel.Skeleton
public import proofs.«01_k».proof.Proof.Gen.MlasKernel.Launch
public import proofs.«01_k».proof.Proof.Gen.MlasKernel.Points
public import proofs.«01_k».proof.Proof.Gen.MlasKernel.Frame
public import proofs.«01_k».proof.Proof.Gen.On_real_rows
public import proofs.«01_k».proof.Proof.Gen.ParamsKernelIdeal.Value
public import proofs.«01_k».proof.Proof.Gen.ParamsReferenceIdeal.Run
public import proofs.«01_k».proof.Proof.Gen.ParamsReferenceIdeal.Read
public import proofs.«01_k».proof.Proof.Gen.S5KernelIdeal.Value
public import proofs.«01_k».proof.Proof.Gen.S5ReferenceIdeal.Run
public import proofs.«01_k».proof.Proof.Gen.S5ReferenceIdeal.Read
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.FfnsReferenceIdeal.Run
public import proofs.«01_k».proof.Proof.Gen.FfnsReferenceIdeal.Read
public import proofs.«01_k».proof.Proof.ParamsClaims
public import proofs.«01_k».proof.Proof.S5Claims
public import proofs.«01_k».proof.Proof.FfnClaims
public import proofs.«01_k».proof.Proof.FfnsClaims
public import proofs.«01_k».proof.Proof.Gen.MlapKernelIdeal.Value
public import proofs.«01_k».proof.Proof.Gen.MlapReferenceIdeal.Run
public import proofs.«01_k».proof.Proof.Gen.MlapReferenceIdeal.Read
public import proofs.«01_k».proof.Proof.Gen.MlasKernelIdeal.Value
public import proofs.«01_k».proof.Proof.Gen.MlasReferenceIdeal.Run
public import proofs.«01_k».proof.Proof.Gen.MlasReferenceIdeal.Read
public import proofs.«01_k».proof.Proof.MlapClaims
public import proofs.«01_k».proof.Proof.MlasClaims
public import proofs.«01_k».proof.Proof.Gen.GluKernel
public import proofs.«01_k».proof.Proof.Gen.GluKernelIdeal
public import proofs.«01_k».proof.Proof.Gen.GluKernel.Skeleton
public import proofs.«01_k».proof.Proof.Gen.GluKernelIdeal.Skeleton
public import proofs.«01_k».proof.Proof.Gen.GluKernel.Launch
public import proofs.«01_k».proof.Proof.Gen.GluKernelIdeal.Launch
public import proofs.«01_k».proof.Proof.Gen.GluKernel.Points
public import proofs.«01_k».proof.Proof.Gen.GluKernelIdeal.Points
public import proofs.«01_k».proof.Proof.Gen.GluKernel.Frame
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Gen.MixOutKernel
public import proofs.«01_k».proof.Proof.Gen.MixOutKernelIdeal
public import proofs.«01_k».proof.Proof.Gen.MixOutKernel.Skeleton
public import proofs.«01_k».proof.Proof.Gen.MixOutKernelIdeal.Skeleton
public import proofs.«01_k».proof.Proof.Gen.MixOutKernel.Launch
public import proofs.«01_k».proof.Proof.Gen.MixOutKernelIdeal.Launch
public import proofs.«01_k».proof.Proof.Gen.MixOutKernel.Points
public import proofs.«01_k».proof.Proof.Gen.MixOutKernelIdeal.Points
public import proofs.«01_k».proof.Proof.Gen.MixOutKernel.Frame
public import proofs.«01_k».proof.Proof.Gen.MixOutKernelIdeal.Frame
public import proofs.«01_k».proof.Proof.Gen.MixOutKernelIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.KvKernel
public import proofs.«01_k».proof.Proof.Gen.KvKernelIdeal
public import proofs.«01_k».proof.Proof.Gen.KvKernel.Skeleton
public import proofs.«01_k».proof.Proof.Gen.KvKernelIdeal.Skeleton
public import proofs.«01_k».proof.Proof.Gen.KvKernel.Launch
public import proofs.«01_k».proof.Proof.Gen.KvKernelIdeal.Launch
public import proofs.«01_k».proof.Proof.Gen.KvKernel.Points
public import proofs.«01_k».proof.Proof.Gen.KvKernelIdeal.Points
public import proofs.«01_k».proof.Proof.Gen.KvKernel.Frame
public import proofs.«01_k».proof.Proof.Gen.KvKernelIdeal.Frame
public import proofs.«01_k».proof.Proof.Gen.KvKernelIdeal.Value
public import proofs.«01_k».proof.Proof.Gen.KvReferenceIdeal
public import proofs.«01_k».proof.Proof.Gen.KvReferenceIdeal.Run
public import proofs.«01_k».proof.Proof.Gen.KvReferenceIdeal.Read
public import proofs.«01_k».proof.Proof.Gen.MlaOutKernel
public import proofs.«01_k».proof.Proof.Gen.MlaOutKernelIdeal
public import proofs.«01_k».proof.Proof.Gen.MlaOutKernel.Skeleton
public import proofs.«01_k».proof.Proof.Gen.MlaOutKernelIdeal.Skeleton
public import proofs.«01_k».proof.Proof.Gen.MlaOutKernel.Launch
public import proofs.«01_k».proof.Proof.Gen.MlaOutKernelIdeal.Launch
public import proofs.«01_k».proof.Proof.Gen.MlaOutKernel.Points
public import proofs.«01_k».proof.Proof.Gen.MlaOutKernelIdeal.Points
public import proofs.«01_k».proof.Proof.Gen.MlaOutKernel.Frame
public import proofs.«01_k».proof.Proof.Gen.MlaOutKernelIdeal.Frame
public import proofs.«01_k».proof.Proof.Gen.MlaOutKernelIdeal.Value
public import proofs.«01_k».proof.Proof.Gen.MlaOutReferenceIdeal
public import proofs.«01_k».proof.Proof.Gen.MlaOutReferenceIdeal.Run
public import proofs.«01_k».proof.Proof.Gen.MlaOutReferenceIdeal.Read
public import proofs.«01_k».proof.Proof.GluClaims
public import proofs.«01_k».proof.Proof.MixOutClaims
public import proofs.«01_k».proof.Proof.KvClaims
public import proofs.«01_k».proof.Proof.MlaOutClaims
public import Idealize.ShloMosaic.Adequacy
public import Idealize.ShloMosaic.Init

@[expose] public section

noncomputable section

namespace Cert.Proof

open Idealize.ShloMosaic Idealize.SL.Sem Cert.ParamsKernel

/-- Every claim of the certificate: the programs' facts, the frames, then the value claims. -/
theorem claim : Cert.Claim :=
  ⟨Cert.ParamsKernel.Gen.facts,
    Cert.ParamsKernelIdeal.Gen.facts,
    Cert.ParamsReferenceIdeal.Gen.facts,
    Cert.S5Kernel.Gen.facts,
    Cert.S5KernelIdeal.Gen.facts,
    Cert.S5ReferenceIdeal.Gen.facts,
    Cert.FfnKernel.Gen.facts,
    Cert.FfnKernelIdeal.Gen.facts,
    Cert.FfnReferenceIdeal.Gen.facts,
    Cert.FfnsKernel.Gen.facts,
    Cert.FfnsKernelIdeal.Gen.facts,
    Cert.FfnsReferenceIdeal.Gen.facts,
    Cert.MlapKernel.Gen.facts,
    Cert.MlapKernelIdeal.Gen.facts,
    Cert.MlapReferenceIdeal.Gen.facts,
    Cert.MlasKernel.Gen.facts,
    Cert.MlasKernelIdeal.Gen.facts,
    Cert.MlasReferenceIdeal.Gen.facts,
    Cert.GluKernel.Gen.facts,
    Cert.GluKernelIdeal.Gen.facts,
    Cert.GluReferenceIdeal.Gen.facts,
    Cert.MixOutKernel.Gen.facts,
    Cert.MixOutKernelIdeal.Gen.facts,
    Cert.MixOutReferenceIdeal.Gen.facts,
    Cert.KvKernel.Gen.facts,
    Cert.KvKernelIdeal.Gen.facts,
    Cert.KvReferenceIdeal.Gen.facts,
    Cert.MlaOutKernel.Gen.facts,
    Cert.MlaOutKernelIdeal.Gen.facts,
    Cert.MlaOutReferenceIdeal.Gen.facts,
    Cert.On_real_rows.Gen.facts,
    Cert.ParamsClaims.frame_bits,
    Cert.ParamsClaims.frame_ideal,
    Cert.ParamsClaims.frame_reference,
    Cert.S5Claims.frame_bits,
    Cert.S5Claims.frame_ideal,
    Cert.S5Claims.frame_reference,
    Cert.FfnClaims.frame_bits,
    Cert.FfnClaims.frame_ideal,
    Cert.FfnClaims.frame_reference,
    Cert.FfnsClaims.frame_bits,
    Cert.FfnsClaims.frame_ideal,
    Cert.FfnsClaims.frame_reference,
    Cert.MlapClaims.frame_bits,
    Cert.MlapClaims.frame_ideal,
    Cert.MlapClaims.frame_reference,
    Cert.MlasClaims.frame_bits,
    Cert.MlasClaims.frame_ideal,
    Cert.MlasClaims.frame_reference,
    Cert.GluClaims.frame_bits,
    Cert.GluClaims.frame_ideal,
    Cert.GluClaims.frame_reference,
    Cert.MixOutClaims.frame_bits,
    Cert.MixOutClaims.frame_ideal,
    Cert.MixOutClaims.frame_reference,
    Cert.KvClaims.frame_bits,
    Cert.KvClaims.frame_ideal,
    Cert.KvClaims.frame_reference,
    Cert.MlaOutClaims.frame_bits,
    Cert.MlaOutClaims.frame_ideal,
    Cert.MlaOutClaims.frame_reference,
    Cert.ParamsClaims.preserves,
    Cert.ParamsClaims.algebraic,
    Cert.S5Claims.preserves,
    Cert.S5Claims.algebraic,
    Cert.FfnClaims.preserves,
    Cert.FfnClaims.algebraic,
    Cert.FfnsClaims.preserves,
    Cert.FfnsClaims.algebraic,
    Cert.MlapClaims.preserves,
    Cert.MlapClaims.algebraic,
    Cert.MlasClaims.preserves,
    Cert.MlasClaims.algebraic,
    Cert.GluClaims.preserves,
    Cert.GluClaims.algebraic,
    Cert.MixOutClaims.preserves,
    Cert.MixOutClaims.algebraic,
    Cert.KvClaims.preserves,
    Cert.KvClaims.algebraic,
    Cert.MlaOutClaims.preserves,
    Cert.MlaOutClaims.algebraic⟩

end Cert.Proof

end
